-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5)
      ∧ r.2.mem ((c.tc : Thread Cert.Kernel16.nD Cert.Kernel16.τ).loc Cert.Kernel16.main_arg6) = m ((c.tc : Thread Cert.Kernel16.nD Cert.Kernel16.τ).loc Cert.Kernel16.main_arg6)
      ∧ r.2.mem ((c.tc : Thread Cert.Kernel16.nD Cert.Kernel16.τ).loc Cert.Kernel16.main_arg7) = m ((c.tc : Thread Cert.Kernel16.nD Cert.Kernel16.τ).loc Cert.Kernel16.main_arg7)
      ∧ r.2.mem ((c.tc : Thread Cert.Kernel16.nD Cert.Kernel16.τ).loc Cert.Kernel16.main_arg8) = m ((c.tc : Thread Cert.Kernel16.nD Cert.Kernel16.τ).loc Cert.Kernel16.main_arg8)
      ∧ r.2.mem ((c.tc : Thread Cert.Kernel16.nD Cert.Kernel16.τ).loc Cert.Kernel16.main_arg9) = m ((c.tc : Thread Cert.Kernel16.nD Cert.Kernel16.τ).loc Cert.Kernel16.main_arg9))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
      ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6)
      ∧ r.2.mem ((c.tc : Thread Cert.Kernel16Ideal.nD Cert.Kernel16Ideal.τ).loc Cert.Kernel16Ideal.main_arg7) = m ((c.tc : Thread Cert.Kernel16Ideal.nD Cert.Kernel16Ideal.τ).loc Cert.Kernel16Ideal.main_arg7)
      ∧ r.2.mem ((c.tc : Thread Cert.Kernel16Ideal.nD Cert.Kernel16Ideal.τ).loc Cert.Kernel16Ideal.main_arg8) = m ((c.tc : Thread Cert.Kernel16Ideal.nD Cert.Kernel16Ideal.τ).loc Cert.Kernel16Ideal.main_arg8)
      ∧ r.2.mem ((c.tc : Thread Cert.Kernel16Ideal.nD Cert.Kernel16Ideal.τ).loc Cert.Kernel16Ideal.main_arg9) = m ((c.tc : Thread Cert.Kernel16Ideal.nD Cert.Kernel16Ideal.τ).loc Cert.Kernel16Ideal.main_arg9))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5)
      ∧ r.2.mem ((c.tc : Thread Cert.Reference16Ideal.nD Cert.Reference16Ideal.τ).loc Cert.Reference16Ideal.main_arg6) = m ((c.tc : Thread Cert.Reference16Ideal.nD Cert.Reference16Ideal.τ).loc Cert.Reference16Ideal.main_arg6)
      ∧ r.2.mem ((c.tc : Thread Cert.Reference16Ideal.nD Cert.Reference16Ideal.τ).loc Cert.Reference16Ideal.main_arg7) = m ((c.tc : Thread Cert.Reference16Ideal.nD Cert.Reference16Ideal.τ).loc Cert.Reference16Ideal.main_arg7)
      ∧ r.2.mem ((c.tc : Thread Cert.Reference16Ideal.nD Cert.Reference16Ideal.τ).loc Cert.Reference16Ideal.main_arg8) = m ((c.tc : Thread Cert.Reference16Ideal.nD Cert.Reference16Ideal.τ).loc Cert.Reference16Ideal.main_arg8)
      ∧ r.2.mem ((c.tc : Thread Cert.Reference16Ideal.nD Cert.Reference16Ideal.τ).loc Cert.Reference16Ideal.main_arg9) = m ((c.tc : Thread Cert.Reference16Ideal.nD Cert.Reference16Ideal.τ).loc Cert.Reference16Ideal.main_arg9))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v43_0)) (v1 : (c : Dev Cert.KernelIdeal.nD) → Buf (Elt Ideal) ((c.tc : Thread Cert.KernelIdeal.nD Cert.KernelIdeal.τ).loc Cert.KernelIdeal.main_v43_1)) (v2 : (c : Dev Cert.KernelIdeal.nD) → Buf (Elt Ideal) ((c.tc : Thread Cert.KernelIdeal.nD Cert.KernelIdeal.τ).loc Cert.KernelIdeal.main_v43_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43_0) = v0 c
          ∧ r.2.mem ((c.tc : Thread Cert.KernelIdeal.nD Cert.KernelIdeal.τ).loc Cert.KernelIdeal.main_v43_1) = v1 c
          ∧ r.2.mem ((c.tc : Thread Cert.KernelIdeal.nD Cert.KernelIdeal.τ).loc Cert.KernelIdeal.main_v43_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_v62) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v2_0)) (v1 : (c : Dev Cert.Kernel13Ideal.nD) → Buf (Elt Ideal) ((c.tc : Thread Cert.Kernel13Ideal.nD Cert.Kernel13Ideal.τ).loc Cert.Kernel13Ideal.main_v2_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2_0) = v0 c
          ∧ r.2.mem ((c.tc : Thread Cert.Kernel13Ideal.nD Cert.Kernel13Ideal.τ).loc Cert.Kernel13Ideal.main_v2_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v14) = v0 c
          ∧ r.2.mem ((c.tc : Thread Cert.Reference13Ideal.nD Cert.Reference13Ideal.τ).loc Cert.Reference13Ideal.main_v15) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v2_0)) (v1 : (c : Dev Cert.Kernel14Ideal.nD) → Buf (Elt Ideal) ((c.tc : Thread Cert.Kernel14Ideal.nD Cert.Kernel14Ideal.τ).loc Cert.Kernel14Ideal.main_v2_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2_0) = v0 c
          ∧ r.2.mem ((c.tc : Thread Cert.Kernel14Ideal.nD Cert.Kernel14Ideal.τ).loc Cert.Kernel14Ideal.main_v2_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v14) = v0 c
          ∧ r.2.mem ((c.tc : Thread Cert.Reference14Ideal.nD Cert.Reference14Ideal.τ).loc Cert.Reference14Ideal.main_v15) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)
      ∧ m' ((c.tc : Thread Cert.Reference16Ideal.nD Cert.Reference16Ideal.τ).loc Cert.Reference16Ideal.main_arg6) = m ((c.tc : Thread Cert.Kernel16Ideal.nD Cert.Kernel16Ideal.τ).loc Cert.Kernel16Ideal.main_arg6)
      ∧ m' ((c.tc : Thread Cert.Reference16Ideal.nD Cert.Reference16Ideal.τ).loc Cert.Reference16Ideal.main_arg7) = m ((c.tc : Thread Cert.Kernel16Ideal.nD Cert.Kernel16Ideal.τ).loc Cert.Kernel16Ideal.main_arg7)
      ∧ m' ((c.tc : Thread Cert.Reference16Ideal.nD Cert.Reference16Ideal.τ).loc Cert.Reference16Ideal.main_arg8) = m ((c.tc : Thread Cert.Kernel16Ideal.nD Cert.Kernel16Ideal.τ).loc Cert.Kernel16Ideal.main_arg8)
      ∧ m' ((c.tc : Thread Cert.Reference16Ideal.nD Cert.Reference16Ideal.τ).loc Cert.Reference16Ideal.main_arg9) = m ((c.tc : Thread Cert.Kernel16Ideal.nD Cert.Kernel16Ideal.τ).loc Cert.Kernel16Ideal.main_arg9)) →
    ∃ (v0 : (c : Dev Cert.Kernel16Ideal.nD) → Buf (Elt Ideal) ((c.tc : Thread Cert.Kernel16Ideal.nD Cert.Kernel16Ideal.τ).loc Cert.Kernel16Ideal.main_v5_0)) (v1 : (c : Dev Cert.Kernel16Ideal.nD) → Buf (Elt Ideal) ((c.tc : Thread Cert.Kernel16Ideal.nD Cert.Kernel16Ideal.τ).loc Cert.Kernel16Ideal.main_v5_1)) (v2 : (c : Dev Cert.Kernel16Ideal.nD) → Buf (Elt Ideal) ((c.tc : Thread Cert.Kernel16Ideal.nD Cert.Kernel16Ideal.τ).loc Cert.Kernel16Ideal.main_v5_2)) (v3 : (c : Dev Cert.Kernel16Ideal.nD) → Buf (Elt Ideal) ((c.tc : Thread Cert.Kernel16Ideal.nD Cert.Kernel16Ideal.τ).loc Cert.Kernel16Ideal.main_v5_3)) (v4 : (c : Dev Cert.Kernel16Ideal.nD) → Buf (Elt Ideal) ((c.tc : Thread Cert.Kernel16Ideal.nD Cert.Kernel16Ideal.τ).loc Cert.Kernel16Ideal.main_v5_4)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v5_0) = v0 c
          ∧ r.2.mem ((c.tc : Thread Cert.Kernel16Ideal.nD Cert.Kernel16Ideal.τ).loc Cert.Kernel16Ideal.main_v5_1) = v1 c
          ∧ r.2.mem ((c.tc : Thread Cert.Kernel16Ideal.nD Cert.Kernel16Ideal.τ).loc Cert.Kernel16Ideal.main_v5_2) = v2 c
          ∧ r.2.mem ((c.tc : Thread Cert.Kernel16Ideal.nD Cert.Kernel16Ideal.τ).loc Cert.Kernel16Ideal.main_v5_3) = v3 c
          ∧ r.2.mem ((c.tc : Thread Cert.Kernel16Ideal.nD Cert.Kernel16Ideal.τ).loc Cert.Kernel16Ideal.main_v5_4) = v4 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
          ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6)
          ∧ r.2.mem ((c.tc : Thread Cert.Kernel16Ideal.nD Cert.Kernel16Ideal.τ).loc Cert.Kernel16Ideal.main_arg7) = m ((c.tc : Thread Cert.Kernel16Ideal.nD Cert.Kernel16Ideal.τ).loc Cert.Kernel16Ideal.main_arg7)
          ∧ r.2.mem ((c.tc : Thread Cert.Kernel16Ideal.nD Cert.Kernel16Ideal.τ).loc Cert.Kernel16Ideal.main_arg8) = m ((c.tc : Thread Cert.Kernel16Ideal.nD Cert.Kernel16Ideal.τ).loc Cert.Kernel16Ideal.main_arg8)
          ∧ r.2.mem ((c.tc : Thread Cert.Kernel16Ideal.nD Cert.Kernel16Ideal.τ).loc Cert.Kernel16Ideal.main_arg9) = m ((c.tc : Thread Cert.Kernel16Ideal.nD Cert.Kernel16Ideal.τ).loc Cert.Kernel16Ideal.main_arg9))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v24) = v0 c
          ∧ r.2.mem ((c.tc : Thread Cert.Reference16Ideal.nD Cert.Reference16Ideal.τ).loc Cert.Reference16Ideal.main_v25) = v1 c
          ∧ r.2.mem ((c.tc : Thread Cert.Reference16Ideal.nD Cert.Reference16Ideal.τ).loc Cert.Reference16Ideal.main_v26) = v2 c
          ∧ r.2.mem ((c.tc : Thread Cert.Reference16Ideal.nD Cert.Reference16Ideal.τ).loc Cert.Reference16Ideal.main_v27) = v3 c
          ∧ r.2.mem ((c.tc : Thread Cert.Reference16Ideal.nD Cert.Reference16Ideal.τ).loc Cert.Reference16Ideal.main_v28) = v4 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5)
          ∧ r.2.mem ((c.tc : Thread Cert.Reference16Ideal.nD Cert.Reference16Ideal.τ).loc Cert.Reference16Ideal.main_arg6) = m' ((c.tc : Thread Cert.Reference16Ideal.nD Cert.Reference16Ideal.τ).loc Cert.Reference16Ideal.main_arg6)
          ∧ r.2.mem ((c.tc : Thread Cert.Reference16Ideal.nD Cert.Reference16Ideal.τ).loc Cert.Reference16Ideal.main_arg7) = m' ((c.tc : Thread Cert.Reference16Ideal.nD Cert.Reference16Ideal.τ).loc Cert.Reference16Ideal.main_arg7)
          ∧ r.2.mem ((c.tc : Thread Cert.Reference16Ideal.nD Cert.Reference16Ideal.τ).loc Cert.Reference16Ideal.main_arg8) = m' ((c.tc : Thread Cert.Reference16Ideal.nD Cert.Reference16Ideal.τ).loc Cert.Reference16Ideal.main_arg8)
          ∧ r.2.mem ((c.tc : Thread Cert.Reference16Ideal.nD Cert.Reference16Ideal.τ).loc Cert.Reference16Ideal.main_arg9) = m' ((c.tc : Thread Cert.Reference16Ideal.nD Cert.Reference16Ideal.τ).loc Cert.Reference16Ideal.main_arg9))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v31) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v1) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v32) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
-- ==== Pre_finite.lean ====
abbrev S2048x7680 : Shape := ⟨2, ![2048, 7680]⟩
abbrev S2048x512 : Shape := ⟨2, ![2048, 512]⟩
abbrev S2048x1536 : Shape := ⟨2, ![2048, 1536]⟩
abbrev S2048x2048 : Shape := ⟨2, ![2048, 2048]⟩
abbrev S_ : Shape := ⟨0, ![]⟩

class Facts : Prop where
  slices_S2048x7680_S2048x1536_0_6144 : S2048x7680.Slices ![0, 6144] S2048x1536
  concatenates_S2048x1536_S2048x512_S2048x2048_d1 : Shape.Concatenates [S2048x1536, S2048x512] S2048x2048 1
  bitsLt_bf16_f32 : FTy.bits .bf16 < FTy.bits .f32
  bcast_S_S2048x2048 : S_.BroadcastsInDim S2048x2048 (![] : Fin 0 → Fin S2048x2048.rank)

variable [Facts]

def fn {F : FTy → Type} [FloatOps F] (main_arg0 : FVec F S2048x7680 .bf16) (main_arg1 : FVec F S2048x512 .bf16) : IVec S2048x2048 1 :=
  let main_v0 : FVec F S2048x1536 .bf16 := (extractStridedSlice S2048x1536 ![0, 6144] · slices_S2048x7680_S2048x1536_0_6144) main_arg0
  let main_v1 : FVec F S2048x2048 .bf16 := (fun a b => concatenate S2048x2048 1 [⟨S2048x1536, a⟩, ⟨S2048x512, b⟩] concatenates_S2048x1536_S2048x512_S2048x2048_d1) main_v0 main_arg1
  let main_v2 : FVec F S2048x2048 .f32 := (extf .f32 · bitsLt_bf16_f32) main_v1
  let main_v3 : FVec F S2048x2048 .f32 := Host.absf main_v2
  let main_cst : FVec F S_ .f32 := constant S_ .f32 0x7F800000#32
  let main_v4 : FVec F S2048x2048 .f32 := broadcastInDim S2048x2048 ![] bcast_S_S2048x2048 main_cst
  let main_v5 : IVec S2048x2048 1 := cmpf .olt main_v3 main_v4
  main_v5
-- ==== Kernel.lean ====
abbrev S2048x7680 : Shape := ⟨2, ![2048, 7680]⟩
abbrev S2048x512 : Shape := ⟨2, ![2048, 512]⟩
abbrev S20 : Shape := ⟨1, ![20]⟩
abbrev S2048x8x64 : Shape := ⟨3, ![2048, 8, 64]⟩
abbrev S8x2048x64 : Shape := ⟨3, ![8, 2048, 64]⟩
abbrev S2048 : Shape := ⟨1, ![2048]⟩
abbrev S8x2048x2048 : Shape := ⟨3, ![8, 2048, 2048]⟩
abbrev S_ : Shape := ⟨0, ![]⟩
abbrev S1x2048 : Shape := ⟨2, ![1, 2048]⟩
abbrev S2048x1 : Shape := ⟨2, ![2048, 1]⟩
abbrev S2048x2048 : Shape := ⟨2, ![2048, 2048]⟩
abbrev S2048x8 : Shape := ⟨2, ![2048, 8]⟩
abbrev S2048x4x128 : Shape := ⟨3, ![2048, 4, 128]⟩
abbrev S4x2048x128 : Shape := ⟨3, ![4, 2048, 128]⟩
abbrev S512x128 : Shape := ⟨2, ![512, 128]⟩
abbrev S1 : Shape := ⟨1, ![1]⟩
abbrev S256x128 : Shape := ⟨2, ![256, 128]⟩
abbrev S1x512x128 : Shape := ⟨3, ![1, 512, 128]⟩
abbrev S2048x128 : Shape := ⟨2, ![2048, 128]⟩
abbrev S2x512x1 : Shape := ⟨3, ![2, 512, 1]⟩
abbrev S512x256 : Shape := ⟨2, ![512, 256]⟩
abbrev S256x256 : Shape := ⟨2, ![256, 256]⟩
abbrev S1x512x1 : Shape := ⟨3, ![1, 512, 1]⟩
abbrev S512x1 : Shape := ⟨2, ![512, 1]⟩
abbrev S512 : Shape := ⟨1, ![512]⟩

abbrev nBuf : Space → Nat
  | .hbm => 90
  | .vmem => 21
  | .smem => 2
  | _ => 0

abbrev bufTy : (tb : Table) → Fin (tcTables nBuf tb) → BufTy
  | .hbm, ⟨0, _⟩ => ⟨S2048x7680, .bf16⟩
  | .hbm, ⟨1, _⟩ => ⟨S2048x512, .bf16⟩
  | .hbm, ⟨2, _⟩ => ⟨S2048x512, .bf16⟩
  | .hbm, ⟨3, _⟩ => ⟨S2048x512, .bf16⟩
  | .hbm, ⟨4, _⟩ => ⟨S2048x512, .bf16⟩
  | .hbm, ⟨5, _⟩ => ⟨S2048x8x64, .bf16⟩
  | .hbm, ⟨6, _⟩ => ⟨S8x2048x64, .bf16⟩
  | .hbm, ⟨7, _⟩ => ⟨S2048x8x64, .bf16⟩
  | .hbm, ⟨8, _⟩ => ⟨S8x2048x64, .bf16⟩
  | .hbm, ⟨9, _⟩ => ⟨S2048x8x64, .bf16⟩
  | .hbm, ⟨10, _⟩ => ⟨S8x2048x64, .bf16⟩
  | .hbm, ⟨11, _⟩ => ⟨S2048, .i32⟩
  | .hbm, ⟨12, _⟩ => ⟨S8x2048x2048, .f32⟩
  | .hbm, ⟨13, _⟩ => ⟨S8x2048x2048, .bf16⟩
  | .hbm, ⟨14, _⟩ => ⟨S8x2048x2048, .f32⟩
  | .hbm, ⟨15, _⟩ => ⟨S_, .f32⟩
  | .hbm, ⟨16, _⟩ => ⟨S8x2048x2048, .f32⟩
  | .hbm, ⟨17, _⟩ => ⟨S8x2048x2048, .f32⟩
  | .hbm, ⟨18, _⟩ => ⟨S1x2048, .i32⟩
  | .hbm, ⟨19, _⟩ => ⟨S2048x1, .i32⟩
  | .hbm, ⟨20, _⟩ => ⟨S2048x2048, .i32⟩
  | .hbm, ⟨21, _⟩ => ⟨S2048x2048, .i32⟩
  | .hbm, ⟨22, _⟩ => ⟨S2048x2048, .i1⟩
  | .hbm, ⟨23, _⟩ => ⟨S8x2048x2048, .f32⟩
  | .hbm, ⟨24, _⟩ => ⟨S8x2048x2048, .f32⟩
  | .hbm, ⟨25, _⟩ => ⟨S_, .f32⟩
  | .hbm, ⟨26, _⟩ => ⟨S8x2048x2048, .f32⟩
  | .hbm, ⟨27, _⟩ => ⟨S8x2048x2048, .f32⟩
  | .hbm, ⟨28, _⟩ => ⟨S8x2048x2048, .f32⟩
  | .hbm, ⟨29, _⟩ => ⟨S8x2048x2048, .f32⟩
  | .hbm, ⟨30, _⟩ => ⟨S8x2048x2048, .i1⟩
  | .hbm, ⟨31, _⟩ => ⟨S8x2048x2048, .f32⟩
  | .hbm, ⟨32, _⟩ => ⟨S8x2048x2048, .f32⟩
  | .hbm, ⟨33, _⟩ => ⟨S8x2048x2048, .f32⟩
  | .hbm, ⟨34, _⟩ => ⟨S8x2048x2048, .f32⟩
  | .hbm, ⟨35, _⟩ => ⟨S8x2048x2048, .f32⟩
  | .hbm, ⟨36, _⟩ => ⟨S8x2048x2048, .f32⟩
  | .hbm, ⟨37, _⟩ => ⟨S8x2048x2048, .f32⟩
  | .hbm, ⟨38, _⟩ => ⟨S8x2048x2048, .f32⟩
  | .hbm, ⟨39, _⟩ => ⟨S8x2048x2048, .f32⟩
  | .hbm, ⟨40, _⟩ => ⟨S_, .f32⟩
  | .hbm, ⟨41, _⟩ => ⟨S_, .f32⟩
  | .hbm, ⟨42, _⟩ => ⟨S8x2048x2048, .i1⟩
  | .hbm, ⟨43, _⟩ => ⟨S8x2048x2048, .f32⟩
  | .hbm, ⟨44, _⟩ => ⟨S8x2048x2048, .f32⟩
  | .hbm, ⟨45, _⟩ => ⟨S_, .f32⟩
  | .hbm, ⟨46, _⟩ => ⟨S_, .f32⟩
  | .hbm, ⟨47, _⟩ => ⟨S8x2048x2048, .f32⟩
  | .hbm, ⟨48, _⟩ => ⟨S8x2048x2048, .f32⟩
  | .hbm, ⟨49, _⟩ => ⟨S8x2048x2048, .f32⟩
  | .hbm, ⟨50, _⟩ => ⟨S_, .f32⟩
  | .hbm, ⟨51, _⟩ => ⟨S8x2048x2048, .f32⟩
  | .hbm, ⟨52, _⟩ => ⟨S8x2048x2048, .f32⟩
  | .hbm, ⟨53, _⟩ => ⟨S8x2048x2048, .f32⟩
  | .hbm, ⟨54, _⟩ => ⟨S8x2048x2048, .f32⟩
  | .hbm, ⟨55, _⟩ => ⟨S8x2048x2048, .i1⟩
  | .hbm, ⟨56, _⟩ => ⟨S8x2048x2048, .f32⟩
  | .hbm, ⟨57, _⟩ => ⟨S8x2048x2048, .f32⟩
  | .hbm, ⟨58, _⟩ => ⟨S8x2048x2048, .f32⟩
  | .hbm, ⟨59, _⟩ => ⟨S8x2048x2048, .f32⟩
  | .hbm, ⟨60, _⟩ => ⟨S8x2048x2048, .f32⟩
  | .hbm, ⟨61, _⟩ => ⟨S8x2048x2048, .f32⟩
  | .hbm, ⟨62, _⟩ => ⟨S8x2048x2048, .f32⟩
  | .hbm, ⟨63, _⟩ => ⟨S8x2048x2048, .f32⟩
  | .hbm, ⟨64, _⟩ => ⟨S8x2048x2048, .f32⟩
  | .hbm, ⟨65, _⟩ => ⟨S8x2048x2048, .f32⟩
  | .hbm, ⟨66, _⟩ => ⟨S8x2048x2048, .f32⟩
  | .hbm, ⟨67, _⟩ => ⟨S_, .f32⟩
  | .hbm, ⟨68, _⟩ => ⟨S_, .f32⟩
  | .hbm, ⟨69, _⟩ => ⟨S8x2048x2048, .i1⟩
  | .hbm, ⟨70, _⟩ => ⟨S8x2048x2048, .f32⟩
  | .hbm, ⟨71, _⟩ => ⟨S8x2048x2048, .f32⟩
  | .hbm, ⟨72, _⟩ => ⟨S8x2048x2048, .bf16⟩
  | .hbm, ⟨73, _⟩ => ⟨S8x2048x64, .f32⟩
  | .hbm, ⟨74, _⟩ => ⟨S8x2048x64, .bf16⟩
  | .hbm, ⟨75, _⟩ => ⟨S2048x8x64, .bf16⟩
  | .hbm, ⟨76, _⟩ => ⟨S2048x512, .bf16⟩
  | .hbm, ⟨77, _⟩ => ⟨S2048x512, .f32⟩
  | .hbm, ⟨78, _⟩ => ⟨S2048x512, .f32⟩
  | .hbm, ⟨79, _⟩ => ⟨S2048x512, .f32⟩
  | .hbm, ⟨80, _⟩ => ⟨S2048x8x64, .f32⟩
  | .hbm, ⟨81, _⟩ => ⟨S_, .f32⟩
  | .hbm, ⟨82, _⟩ => ⟨S2048x8, .f32⟩
  | .hbm, ⟨83, _⟩ => ⟨S2048x8x64, .f32⟩
  | .hbm, ⟨84, _⟩ => ⟨S2048x512, .f32⟩
  | .hbm, ⟨85, _⟩ => ⟨S2048x4x128, .f32⟩
  | .hbm, ⟨86, _⟩ => ⟨S4x2048x128, .f32⟩
  | .hbm, ⟨87, _⟩ => ⟨S2048x512, .bf16⟩
  | .hbm, ⟨88, _⟩ => ⟨S2048x512, .bf16⟩
  | .hbm, ⟨89, _⟩ => ⟨S2048x512, .bf16⟩
  | .local _ .vmem, ⟨0, _⟩ => ⟨S512x128, .bf16⟩
  | .local _ .vmem, ⟨1, _⟩ => ⟨S512x128, .bf16⟩
  | .local _ .vmem, ⟨2, _⟩ => ⟨S256x128, .bf16⟩
  | .local _ .vmem, ⟨3, _⟩ => ⟨S256x128, .bf16⟩
  | .local _ .vmem, ⟨4, _⟩ => ⟨S256x128, .bf16⟩
  | .local _ .vmem, ⟨5, _⟩ => ⟨S256x128, .bf16⟩
  | .local _ .vmem, ⟨6, _⟩ => ⟨S512x128, .bf16⟩
  | .local _ .vmem, ⟨7, _⟩ => ⟨S512x128, .bf16⟩
  | .local _ .vmem, ⟨8, _⟩ => ⟨S1x512x128, .f32⟩
  | .local _ .vmem, ⟨9, _⟩ => ⟨S1x512x128, .f32⟩
  | .local _ .vmem, ⟨10, _⟩ => ⟨S512x128, .bf16⟩
  | .local _ .vmem, ⟨11, _⟩ => ⟨S512x128, .bf16⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S512x128, .f32⟩
  | .local _ .vmem, ⟨17, _⟩ => ⟨S2048x128, .f32⟩
  | .local _ .vmem, ⟨18, _⟩ => ⟨S2048x128, .f32⟩
  | .local _ .vmem, ⟨19, _⟩ => ⟨S2x512x1, .f32⟩
  | .local _ .vmem, ⟨20, _⟩ => ⟨S2x512x1, .f32⟩
  | .local _ .smem, ⟨0, _⟩ => ⟨S20, .i32⟩
  | .local _ .smem, ⟨1, _⟩ => ⟨S20, .i32⟩
  | _, _ => ⟨S2048x7680, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_call0_v0 : Ref sig .tc := ⟨.hbm, 24, rfl⟩
abbrev main_call0_call0_cst : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_v1 : Ref sig .tc := ⟨.hbm, 38, rfl⟩
abbrev main_v21 : Ref sig .tc := ⟨.hbm, 39, rfl⟩
abbrev main_cst_1 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v22 : Ref sig .tc := ⟨.hbm, 44, rfl⟩
abbrev main_call2_cst : Ref sig .tc := ⟨.hbm, 45, rfl⟩
abbrev main_call2_v0 : Ref sig .tc := ⟨.hbm, 46, rfl⟩
abbrev main_v23 : Ref sig .tc := ⟨.hbm, 47, rfl⟩
abbrev main_v24 : Ref sig .tc := ⟨.hbm, 48, rfl⟩
abbrev main_call3_v0 : Ref sig .tc := ⟨.hbm, 49, rfl⟩
abbrev main_call3_call0_cst : Ref sig .tc := ⟨.hbm, 50, rfl⟩
abbrev main_call3_call0_v0 : Ref sig .tc := ⟨.hbm, 51, rfl⟩
abbrev main_call3_call0_v1 : Ref sig .tc := ⟨.hbm, 52, rfl⟩
abbrev main_call3_call0_v2 : Ref sig .tc := ⟨.hbm, 53, rfl⟩
abbrev main_call3_call0_v3 : Ref sig .tc := ⟨.hbm, 54, rfl⟩
abbrev main_call3_call0_v4 : Ref sig .tc := ⟨.hbm, 55, rfl⟩
abbrev main_call3_call0_v5 : Ref sig .tc := ⟨.hbm, 56, rfl⟩
abbrev main_call3_call0_v6 : Ref sig .tc := ⟨.hbm, 57, rfl⟩
abbrev main_call3_call0_v7 : Ref sig .tc := ⟨.hbm, 58, rfl⟩
abbrev main_call3_call0_v8 : Ref sig .tc := ⟨.hbm, 59, rfl⟩
abbrev main_call3_call0_v9 : Ref sig .tc := ⟨.hbm, 60, rfl⟩
abbrev main_call3_call0_v10 : Ref sig .tc := ⟨.hbm, 61, rfl⟩
abbrev main_call3_call0_v11 : Ref sig .tc := ⟨.hbm, 62, rfl⟩
abbrev main_call3_v1 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_cst_2 : Ref sig .tc := ⟨.hbm, 67, rfl⟩
abbrev main_call4_v0 : Ref sig .tc := ⟨.hbm, 68, rfl⟩
abbrev main_call4_v1 : Ref sig .tc := ⟨.hbm, 69, rfl⟩
abbrev main_call4_v2 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_cst_3 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43_0 : Ref sig .tc := ⟨.hbm, 87, rfl⟩
abbrev main_v43_1 : Ref sig .tc := ⟨.hbm, 88, rfl⟩
abbrev main_v43_2 : Ref sig .tc := ⟨.hbm, 89, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 20], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (v3 : BitVec 32) : BitVec 32 :=
  let c256_i32_116 : BitVec 32 := 256#32
  let v248 : BitVec 32 := Scalar.muli v3 c256_i32_116
  v248

def k0_off2 (v3 : BitVec 32) : Fin 2 → Nat :=
  let c256_i32_116 : BitVec 32 := 256#32
  let v248 : BitVec 32 := Scalar.muli v3 c256_i32_116
  let v249 : BitVec 32 := v248
  let v250 : Index := Scalar.indexCast v249
  let c0_117 : Index := 0#32
  ![v250.toNat, 0]

def k0_chk1 (v3 : BitVec 32) : Prop :=
  (256 ∣ (k0_mult1 v3).toNat) ∧
  (∀ a, (k0_off2 v3) a + S256x128.size a ≤ S2048x128.size a)
theorem k0_mult1_dvd : ∀ (v3 : BitVec 32) (k0_hw1 : k0_chk1 v3), 256 ∣ (k0_mult1 v3).toNat := fun v3 k0_hw1 => k0_hw1.1
theorem k0_off2_inb : ∀ (v3 : BitVec 32) (k0_hw1 : k0_chk1 v3), ∀ a, (k0_off2 v3) a + S256x128.size a ≤ S2048x128.size a := fun v3 k0_hw1 => k0_hw1.2

def k0_cond3 (v3 : BitVec 32) : BitVec 1 :=
  let c0_i32_121 : BitVec 32 := 0#32
  let v264 : BitVec 1 := Scalar.cmpi .eq v3 c0_i32_121
  let v265 : BitVec 32 := Scalar.extui v264
  let c0_i32_122 : BitVec 32 := 0#32
  let v266 : BitVec 1 := Scalar.cmpi .ne v265 c0_i32_122
  v266

def k0_cond4 (i : grid0.Coords) : BitVec 1 :=
  let arg1 : BitVec 32 := BitVec.ofNat 32 (i 1).val
  let c19_i32 : BitVec 32 := 19#32
  let v267 : BitVec 1 := Scalar.cmpi .eq arg1 c19_i32
  let v268 : BitVec 32 := Scalar.extui v267
  let c0_i32_123 : BitVec 32 := 0#32
  let v269 : BitVec 1 := Scalar.cmpi .ne v268 c0_i32_123
  v269

def cc0_transform_0 (k0_off1_inb : ∀ i : grid0.Coords, ∀ a, (k0_off1 i) a + S1.size a ≤ S20.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S20) ![v0.toNat] S1.size (k0_off1_inb i)) numel1_S1
  let c48_i32 : BitVec 32 := 48#32
  let v2 : BitVec 32 := Scalar.addi c48_i32 arg0
  let c0_i32 : BitVec 32 := 0#32
  ![v1.toNat, v2.toNat]

def cc0_transform_1 (k0_off1_inb : ∀ i : grid0.Coords, ∀ a, (k0_off1 i) a + S1.size a ≤ S20.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S20) ![v0.toNat] S1.size (k0_off1_inb i)) numel1_S1
  let c52_i32 : BitVec 32 := 52#32
  let v2 : BitVec 32 := Scalar.addi c52_i32 arg0
  let c0_i32 : BitVec 32 := 0#32
  ![v1.toNat, v2.toNat]

def cc0_transform_2 (k0_off1_inb : ∀ i : grid0.Coords, ∀ a, (k0_off1 i) a + S1.size a ≤ S20.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S20) ![v0.toNat] S1.size (k0_off1_inb i)) numel1_S1
  let c56_i32 : BitVec 32 := 56#32
  let v2 : BitVec 32 := Scalar.addi c56_i32 arg0
  let c0_i32 : BitVec 32 := 0#32
  ![v1.toNat, v2.toNat]

def cc0_transform_3 (k0_off1_inb : ∀ i : grid0.Coords, ∀ a, (k0_off1 i) a + S1.size a ≤ S20.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S20) ![v0.toNat] S1.size (k0_off1_inb i)) numel1_S1
  let c0_i32 : BitVec 32 := 0#32
  ![v1.toNat, arg0.toNat]

def cc0_transform_4 (k0_off1_inb : ∀ i : grid0.Coords, ∀ a, (k0_off1 i) a + S1.size a ≤ S20.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S20) ![v0.toNat] S1.size (k0_off1_inb i)) numel1_S1
  let c0_i32 : BitVec 32 := 0#32
  let c0_i32_0 : BitVec 32 := 0#32
  ![arg0.toNat, v1.toNat, c0_i32.toNat]

def cc0_transform_5 (k0_off1_inb : ∀ i : grid0.Coords, ∀ a, (k0_off1 i) a + S1.size a ≤ S20.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S20) ![v0.toNat] S1.size (k0_off1_inb i)) numel1_S1
  let c0_i32 : BitVec 32 := 0#32
  ![v1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S2048x7680 : Shape := ⟨2, ![2048, 7680]⟩
abbrev S2048x512 : Shape := ⟨2, ![2048, 512]⟩
abbrev S2048x8x64 : Shape := ⟨3, ![2048, 8, 64]⟩
abbrev S8x2048x64 : Shape := ⟨3, ![8, 2048, 64]⟩
abbrev S2048 : Shape := ⟨1, ![2048]⟩
abbrev S8x2048x2048 : Shape := ⟨3, ![8, 2048, 2048]⟩
abbrev S_ : Shape := ⟨0, ![]⟩
abbrev S1x2048 : Shape := ⟨2, ![1, 2048]⟩
abbrev S2048x1 : Shape := ⟨2, ![2048, 1]⟩
abbrev S2048x2048 : Shape := ⟨2, ![2048, 2048]⟩
abbrev S8x64x2048 : Shape := ⟨3, ![8, 64, 2048]⟩

abbrev nBuf : Space → Nat
  | .hbm => 189
  | .vmem => 0
  | .smem => 0
  | _ => 0

abbrev hbmTy0_0 (i : Nat) : BufTy := match i % 128 with
  | 0 => ⟨S2048x7680, .bf16⟩
  | 1 => ⟨S2048x512, .bf16⟩
  | 2 => ⟨S2048x512, .bf16⟩
  | 3 => ⟨S2048x512, .bf16⟩
  | 4 => ⟨S2048x512, .bf16⟩
  | 5 => ⟨S2048x8x64, .bf16⟩
  | 6 => ⟨S8x2048x64, .bf16⟩
  | 7 => ⟨S2048x8x64, .bf16⟩
  | 8 => ⟨S8x2048x64, .bf16⟩
  | 9 => ⟨S2048x8x64, .bf16⟩
  | 10 => ⟨S8x2048x64, .bf16⟩
  | 11 => ⟨S2048, .i32⟩
  | 12 => ⟨S8x2048x2048, .f32⟩
  | 13 => ⟨S8x2048x2048, .bf16⟩
  | 14 => ⟨S8x2048x2048, .f32⟩
  | 15 => ⟨S_, .f32⟩
  | 16 => ⟨S8x2048x2048, .f32⟩
  | 17 => ⟨S8x2048x2048, .f32⟩
  | 18 => ⟨S1x2048, .i32⟩
  | 19 => ⟨S2048x1, .i32⟩
  | 20 => ⟨S2048x2048, .i32⟩
  | 21 => ⟨S2048x2048, .i32⟩
  | 22 => ⟨S2048x2048, .i1⟩
  | 23 => ⟨S8x2048x2048, .f32⟩
  | 24 => ⟨S8x2048x2048, .f32⟩
  | 25 => ⟨S_, .f32⟩
  | 26 => ⟨S8x2048x2048, .f32⟩
  | 27 => ⟨S8x2048x2048, .f32⟩
  | 28 => ⟨S8x2048x2048, .f32⟩
  | 29 => ⟨S8x2048x2048, .f32⟩
  | 30 => ⟨S8x2048x2048, .i1⟩
  | 31 => ⟨S8x2048x2048, .f32⟩
  | 32 => ⟨S8x2048x2048, .f32⟩
  | 33 => ⟨S8x2048x2048, .f32⟩
  | 34 => ⟨S8x2048x2048, .f32⟩
  | 35 => ⟨S8x2048x2048, .f32⟩
  | 36 => ⟨S8x2048x2048, .f32⟩
  | 37 => ⟨S8x2048x2048, .f32⟩
  | 38 => ⟨S8x2048x2048, .f32⟩
  | 39 => ⟨S_, .f32⟩
  | 40 => ⟨S8x2048x2048, .f32⟩
  | 41 => ⟨S8x2048x2048, .i1⟩
  | 42 => ⟨S_, .f32⟩
  | 43 => ⟨S8x2048x2048, .f32⟩
  | 44 => ⟨S8x2048x2048, .f32⟩
  | 45 => ⟨S_, .f32⟩
  | 46 => ⟨S8x2048x2048, .f32⟩
  | 47 => ⟨S8x2048x2048, .i1⟩
  | 48 => ⟨S_, .f32⟩
  | 49 => ⟨S8x2048x2048, .f32⟩
  | 50 => ⟨S8x2048x2048, .f32⟩
  | 51 => ⟨S8x2048x2048, .f32⟩
  | 52 => ⟨S8x2048x2048, .f32⟩
  | 53 => ⟨S_, .f32⟩
  | 54 => ⟨S_, .f32⟩
  | 55 => ⟨S_, .i1⟩
  | 56 => ⟨S_, .f32⟩
  | 57 => ⟨S_, .f32⟩
  | 58 => ⟨S_, .f32⟩
  | 59 => ⟨S_, .f32⟩
  | 60 => ⟨S8x2048x2048, .f32⟩
  | 61 => ⟨S8x2048x2048, .i1⟩
  | 62 => ⟨S_, .f32⟩
  | 63 => ⟨S8x2048x2048, .f32⟩
  | 64 => ⟨S8x2048x2048, .f32⟩
  | 65 => ⟨S8x2048x2048, .f32⟩
  | 66 => ⟨S8x2048x2048, .f32⟩
  | 67 => ⟨S8x2048x2048, .f32⟩
  | 68 => ⟨S_, .f32⟩
  | 69 => ⟨S8x2048x2048, .f32⟩
  | 70 => ⟨S8x2048x2048, .f32⟩
  | 71 => ⟨S8x2048x2048, .f32⟩
  | 72 => ⟨S_, .f32⟩
  | 73 => ⟨S_, .f32⟩
  | 74 => ⟨S8x2048x2048, .i1⟩
  | 75 => ⟨S8x2048x2048, .f32⟩
  | 76 => ⟨S8x2048x2048, .f32⟩
  | 77 => ⟨S_, .f32⟩
  | 78 => ⟨S8x2048x2048, .f32⟩
  | 79 => ⟨S_, .f32⟩
  | 80 => ⟨S_, .f32⟩
  | 81 => ⟨S8x2048x2048, .f32⟩
  | 82 => ⟨S8x2048x2048, .f32⟩
  | 83 => ⟨S8x2048x2048, .f32⟩
  | 84 => ⟨S_, .f32⟩
  | 85 => ⟨S8x2048x2048, .f32⟩
  | 86 => ⟨S8x2048x2048, .f32⟩
  | 87 => ⟨S8x2048x2048, .f32⟩
  | 88 => ⟨S8x2048x2048, .f32⟩
  | 89 => ⟨S8x2048x2048, .i1⟩
  | 90 => ⟨S8x2048x2048, .f32⟩
  | 91 => ⟨S8x2048x2048, .f32⟩
  | 92 => ⟨S8x2048x2048, .f32⟩
  | 93 => ⟨S8x2048x2048, .f32⟩
  | 94 => ⟨S8x2048x2048, .f32⟩
  | 95 => ⟨S8x2048x2048, .f32⟩
  | 96 => ⟨S8x2048x2048, .f32⟩
  | 97 => ⟨S8x2048x2048, .f32⟩
  | 98 => ⟨S_, .f32⟩
  | 99 => ⟨S8x2048x2048, .f32⟩
  | 100 => ⟨S8x2048x2048, .i1⟩
  | 101 => ⟨S_, .f32⟩
  | 102 => ⟨S8x2048x2048, .f32⟩
  | 103 => ⟨S8x2048x2048, .f32⟩
  | 104 => ⟨S_, .f32⟩
  | 105 => ⟨S8x2048x2048, .f32⟩
  | 106 => ⟨S8x2048x2048, .i1⟩
  | 107 => ⟨S_, .f32⟩
  | 108 => ⟨S8x2048x2048, .f32⟩
  | 109 => ⟨S8x2048x2048, .f32⟩
  | 110 => ⟨S8x2048x2048, .f32⟩
  | 111 => ⟨S8x2048x2048, .f32⟩
  | 112 => ⟨S_, .f32⟩
  | 113 => ⟨S_, .f32⟩
  | 114 => ⟨S_, .i1⟩
  | 115 => ⟨S_, .f32⟩
  | 116 => ⟨S_, .f32⟩
  | 117 => ⟨S_, .f32⟩
  | 118 => ⟨S_, .f32⟩
  | 119 => ⟨S8x2048x2048, .f32⟩
  | 120 => ⟨S8x2048x2048, .i1⟩
  | 121 => ⟨S_, .f32⟩
  | 122 => ⟨S8x2048x2048, .f32⟩
  | 123 => ⟨S8x2048x2048, .f32⟩
  | 124 => ⟨S8x2048x2048, .f32⟩
  | 125 => ⟨S8x2048x2048, .f32⟩
  | 126 => ⟨S8x2048x2048, .f32⟩
  | 127 => ⟨S_, .f32⟩
  | _ => ⟨S2048x7680, .bf16⟩

abbrev hbmTy0_1 (i : Nat) : BufTy := match i % 128 with
  | 0 => ⟨S8x2048x2048, .f32⟩
  | 1 => ⟨S8x2048x2048, .f32⟩
  | 2 => ⟨S8x2048x2048, .f32⟩
  | 3 => ⟨S8x2048x2048, .f32⟩
  | 4 => ⟨S8x2048x2048, .f32⟩
  | 5 => ⟨S_, .f32⟩
  | 6 => ⟨S_, .f32⟩
  | 7 => ⟨S8x2048x2048, .i1⟩
  | 8 => ⟨S8x2048x2048, .f32⟩
  | 9 => ⟨S8x2048x2048, .f32⟩
  | 10 => ⟨S_, .f32⟩
  | 11 => ⟨S8x2048x2048, .f32⟩
  | 12 => ⟨S8x2048x2048, .bf16⟩
  | 13 => ⟨S8x2048x64, .f32⟩
  | 14 => ⟨S8x2048x64, .bf16⟩
  | 15 => ⟨S2048x8x64, .bf16⟩
  | 16 => ⟨S2048x512, .bf16⟩
  | 17 => ⟨S2048x8x64, .bf16⟩
  | 18 => ⟨S8x2048x64, .bf16⟩
  | 19 => ⟨S8x2048x64, .f32⟩
  | 20 => ⟨S8x64x2048, .f32⟩
  | 21 => ⟨S8x2048x64, .f32⟩
  | 22 => ⟨S8x2048x64, .bf16⟩
  | 23 => ⟨S8x2048x2048, .f32⟩
  | 24 => ⟨S8x2048x2048, .bf16⟩
  | 25 => ⟨S8x2048x2048, .f32⟩
  | 26 => ⟨S_, .f32⟩
  | 27 => ⟨S8x2048x2048, .f32⟩
  | 28 => ⟨S8x2048x2048, .f32⟩
  | 29 => ⟨S8x2048x2048, .f32⟩
  | 30 => ⟨S8x2048x2048, .f32⟩
  | 31 => ⟨S8x2048x2048, .f32⟩
  | 32 => ⟨S8x2048x2048, .f32⟩
  | 33 => ⟨S8x2048x2048, .f32⟩
  | 34 => ⟨S_, .f32⟩
  | 35 => ⟨S_, .f32⟩
  | 36 => ⟨S8x2048x2048, .f32⟩
  | 37 => ⟨S8x2048x2048, .f32⟩
  | 38 => ⟨S_, .f32⟩
  | 39 => ⟨S8x2048x2048, .f32⟩
  | 40 => ⟨S8x2048x2048, .f32⟩
  | 41 => ⟨S8x2048x2048, .f32⟩
  | 42 => ⟨S8x2048x2048, .f32⟩
  | 43 => ⟨S8x2048x2048, .f32⟩
  | 44 => ⟨S8x2048x2048, .f32⟩
  | 45 => ⟨S8x2048x2048, .f32⟩
  | 46 => ⟨S_, .f32⟩
  | 47 => ⟨S8x2048x2048, .f32⟩
  | 48 => ⟨S8x2048x2048, .f32⟩
  | 49 => ⟨S8x2048x2048, .bf16⟩
  | 50 => ⟨S8x2048x2048, .f32⟩
  | 51 => ⟨S8x2048x64, .f32⟩
  | 52 => ⟨S8x2048x64, .bf16⟩
  | 53 => ⟨S8x2048x64, .f32⟩
  | 54 => ⟨S8x2048x64, .bf16⟩
  | 55 => ⟨S2048x8x64, .bf16⟩
  | 56 => ⟨S2048x512, .bf16⟩
  | 57 => ⟨S2048x8x64, .bf16⟩
  | 58 => ⟨S2048x512, .bf16⟩
  | 59 => ⟨S2048x8x64, .bf16⟩
  | 60 => ⟨S2048x512, .bf16⟩
  | _ => ⟨S2048x7680, .bf16⟩

abbrev hbmTy (i : Nat) : BufTy := match i / 128 with
  | 0 => hbmTy0_0 i
  | 1 => hbmTy0_1 i
  | _ => ⟨S2048x7680, .bf16⟩

abbrev bufTy : (tb : Table) → Fin (tcTables nBuf tb) → BufTy
  | .hbm, ⟨i, _⟩ => hbmTy i
  | _, _ => ⟨S2048x7680, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_call0_v0 : Ref sig .tc := ⟨.hbm, 24, rfl⟩
abbrev main_call0_call0_cst : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_v1_0 : Ref sig .tc := ⟨.hbm, 38, rfl⟩
abbrev main_call0_call0_cst_0 : Ref sig .tc := ⟨.hbm, 39, rfl⟩
abbrev main_call0_call0_v13 : Ref sig .tc := ⟨.hbm, 40, rfl⟩
abbrev main_call0_call0_v14 : Ref sig .tc := ⟨.hbm, 41, rfl⟩
abbrev main_call0_call0_cst_1 : Ref sig .tc := ⟨.hbm, 42, rfl⟩
abbrev main_call0_call0_v15 : Ref sig .tc := ⟨.hbm, 43, rfl⟩
abbrev main_call0_call0_v16 : Ref sig .tc := ⟨.hbm, 44, rfl⟩
abbrev main_call0_call0_cst_2 : Ref sig .tc := ⟨.hbm, 45, rfl⟩
abbrev main_call0_call0_v17 : Ref sig .tc := ⟨.hbm, 46, rfl⟩
abbrev main_call0_call0_v18 : Ref sig .tc := ⟨.hbm, 47, rfl⟩
abbrev main_call0_call0_cst_3 : Ref sig .tc := ⟨.hbm, 48, rfl⟩
abbrev main_call0_call0_v19 : Ref sig .tc := ⟨.hbm, 49, rfl⟩
abbrev main_call0_call0_v20 : Ref sig .tc := ⟨.hbm, 50, rfl⟩
abbrev main_call0_call0_v21 : Ref sig .tc := ⟨.hbm, 51, rfl⟩
abbrev main_v21_1 : Ref sig .tc := ⟨.hbm, 52, rfl⟩
abbrev main_call0_call0_cst_4 : Ref sig .tc := ⟨.hbm, 53, rfl⟩
abbrev main_call0_call0_cst_5 : Ref sig .tc := ⟨.hbm, 54, rfl⟩
abbrev main_call0_call0_v23 : Ref sig .tc := ⟨.hbm, 55, rfl⟩
abbrev main_call0_call0_cst_6 : Ref sig .tc := ⟨.hbm, 56, rfl⟩
abbrev main_call0_call0_cst_7 : Ref sig .tc := ⟨.hbm, 57, rfl⟩
abbrev main_call0_call0_v24 : Ref sig .tc := ⟨.hbm, 58, rfl⟩
abbrev main_call0_call0_cst_8 : Ref sig .tc := ⟨.hbm, 59, rfl⟩
abbrev main_call0_call0_v25 : Ref sig .tc := ⟨.hbm, 60, rfl⟩
abbrev main_call0_call0_v26 : Ref sig .tc := ⟨.hbm, 61, rfl⟩
abbrev main_call0_call0_cst_9 : Ref sig .tc := ⟨.hbm, 62, rfl⟩
abbrev main_call0_call0_v27 : Ref sig .tc := ⟨.hbm, 63, rfl⟩
abbrev main_call0_call0_v28 : Ref sig .tc := ⟨.hbm, 64, rfl⟩
abbrev main_call0_call0_v29 : Ref sig .tc := ⟨.hbm, 65, rfl⟩
abbrev main_call0_call0_v30 : Ref sig .tc := ⟨.hbm, 66, rfl⟩
abbrev main_call0_call0_v31 : Ref sig .tc := ⟨.hbm, 67, rfl⟩
abbrev main_call0_call0_cst_10 : Ref sig .tc := ⟨.hbm, 68, rfl⟩
abbrev main_call0_call0_v32 : Ref sig .tc := ⟨.hbm, 69, rfl⟩
abbrev main_v21_2 : Ref sig .tc := ⟨.hbm, 70, rfl⟩
abbrev main_v21_0 : Ref sig .tc := ⟨.hbm, 71, rfl⟩
abbrev main_cst_0 : Ref sig .tc := ⟨.hbm, 72, rfl⟩
abbrev main_call1_v0 : Ref sig .tc := ⟨.hbm, 73, rfl⟩
abbrev main_v22_1 : Ref sig .tc := ⟨.hbm, 74, rfl⟩
abbrev main_call1_v2 : Ref sig .tc := ⟨.hbm, 75, rfl⟩
abbrev main_v22_0 : Ref sig .tc := ⟨.hbm, 76, rfl⟩
abbrev main_call1_cst : Ref sig .tc := ⟨.hbm, 77, rfl⟩
abbrev main_v22_2 : Ref sig .tc := ⟨.hbm, 78, rfl⟩
abbrev main_call2_cst : Ref sig .tc := ⟨.hbm, 79, rfl⟩
abbrev main_call2_v0 : Ref sig .tc := ⟨.hbm, 80, rfl⟩
abbrev main_v23 : Ref sig .tc := ⟨.hbm, 81, rfl⟩
abbrev main_v24 : Ref sig .tc := ⟨.hbm, 82, rfl⟩
abbrev main_call3_v0 : Ref sig .tc := ⟨.hbm, 83, rfl⟩
abbrev main_call3_call0_cst : Ref sig .tc := ⟨.hbm, 84, rfl⟩
abbrev main_call3_call0_v0 : Ref sig .tc := ⟨.hbm, 85, rfl⟩
abbrev main_call3_call0_v1 : Ref sig .tc := ⟨.hbm, 86, rfl⟩
abbrev main_call3_call0_v2 : Ref sig .tc := ⟨.hbm, 87, rfl⟩
abbrev main_call3_call0_v3 : Ref sig .tc := ⟨.hbm, 88, rfl⟩
abbrev main_call3_call0_v4 : Ref sig .tc := ⟨.hbm, 89, rfl⟩
abbrev main_call3_call0_v5 : Ref sig .tc := ⟨.hbm, 90, rfl⟩
abbrev main_call3_call0_v6 : Ref sig .tc := ⟨.hbm, 91, rfl⟩
abbrev main_call3_call0_v7 : Ref sig .tc := ⟨.hbm, 92, rfl⟩
abbrev main_call3_call0_v8 : Ref sig .tc := ⟨.hbm, 93, rfl⟩
abbrev main_call3_call0_v9 : Ref sig .tc := ⟨.hbm, 94, rfl⟩
abbrev main_call3_call0_v10 : Ref sig .tc := ⟨.hbm, 95, rfl⟩
abbrev main_call3_call0_v11 : Ref sig .tc := ⟨.hbm, 96, rfl⟩
abbrev main_call3_v1_0 : Ref sig .tc := ⟨.hbm, 97, rfl⟩
abbrev main_call3_call0_cst_0 : Ref sig .tc := ⟨.hbm, 98, rfl⟩
abbrev main_call3_call0_v13 : Ref sig .tc := ⟨.hbm, 99, rfl⟩
abbrev main_call3_call0_v14 : Ref sig .tc := ⟨.hbm, 100, rfl⟩
abbrev main_call3_call0_cst_1 : Ref sig .tc := ⟨.hbm, 101, rfl⟩
abbrev main_call3_call0_v15 : Ref sig .tc := ⟨.hbm, 102, rfl⟩
abbrev main_call3_call0_v16 : Ref sig .tc := ⟨.hbm, 103, rfl⟩
abbrev main_call3_call0_cst_2 : Ref sig .tc := ⟨.hbm, 104, rfl⟩
abbrev main_call3_call0_v17 : Ref sig .tc := ⟨.hbm, 105, rfl⟩
abbrev main_call3_call0_v18 : Ref sig .tc := ⟨.hbm, 106, rfl⟩
abbrev main_call3_call0_cst_3 : Ref sig .tc := ⟨.hbm, 107, rfl⟩
abbrev main_call3_call0_v19 : Ref sig .tc := ⟨.hbm, 108, rfl⟩
abbrev main_call3_call0_v20 : Ref sig .tc := ⟨.hbm, 109, rfl⟩
abbrev main_call3_call0_v21 : Ref sig .tc := ⟨.hbm, 110, rfl⟩
abbrev main_v25_1 : Ref sig .tc := ⟨.hbm, 111, rfl⟩
abbrev main_call3_call0_cst_4 : Ref sig .tc := ⟨.hbm, 112, rfl⟩
abbrev main_call3_call0_cst_5 : Ref sig .tc := ⟨.hbm, 113, rfl⟩
abbrev main_call3_call0_v23 : Ref sig .tc := ⟨.hbm, 114, rfl⟩
abbrev main_call3_call0_cst_6 : Ref sig .tc := ⟨.hbm, 115, rfl⟩
abbrev main_call3_call0_cst_7 : Ref sig .tc := ⟨.hbm, 116, rfl⟩
abbrev main_call3_call0_v24 : Ref sig .tc := ⟨.hbm, 117, rfl⟩
abbrev main_call3_call0_cst_8 : Ref sig .tc := ⟨.hbm, 118, rfl⟩
abbrev main_call3_call0_v25 : Ref sig .tc := ⟨.hbm, 119, rfl⟩
abbrev main_call3_call0_v26 : Ref sig .tc := ⟨.hbm, 120, rfl⟩
abbrev main_call3_call0_cst_9 : Ref sig .tc := ⟨.hbm, 121, rfl⟩
abbrev main_call3_call0_v27 : Ref sig .tc := ⟨.hbm, 122, rfl⟩
abbrev main_call3_call0_v28 : Ref sig .tc := ⟨.hbm, 123, rfl⟩
abbrev main_call3_call0_v29 : Ref sig .tc := ⟨.hbm, 124, rfl⟩
abbrev main_call3_call0_v30 : Ref sig .tc := ⟨.hbm, 125, rfl⟩
abbrev main_call3_call0_v31 : Ref sig .tc := ⟨.hbm, 126, rfl⟩
abbrev main_call3_call0_cst_10 : Ref sig .tc := ⟨.hbm, 127, rfl⟩
abbrev main_call3_call0_v32 : Ref sig .tc := ⟨.hbm, 128, rfl⟩
abbrev main_v25_2 : Ref sig .tc := ⟨.hbm, 129, rfl⟩
abbrev main_v25_0 : Ref sig .tc := ⟨.hbm, 130, rfl⟩
abbrev main_v26 : Ref sig .tc := ⟨.hbm, 131, rfl⟩
abbrev main_v27 : Ref sig .tc := ⟨.hbm, 132, rfl⟩
abbrev main_cst_1 : Ref sig .tc := ⟨.hbm, 133, rfl⟩
abbrev main_call4_v0 : Ref sig .tc := ⟨.hbm, 134, rfl⟩
abbrev main_v28_1 : Ref sig .tc := ⟨.hbm, 135, rfl⟩
abbrev main_call4_v2 : Ref sig .tc := ⟨.hbm, 136, rfl⟩
abbrev main_v28_0 : Ref sig .tc := ⟨.hbm, 137, rfl⟩
abbrev main_call4_cst : Ref sig .tc := ⟨.hbm, 138, rfl⟩
abbrev main_v28_2 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_v35 : Ref sig .tc := ⟨.hbm, 146, rfl⟩
abbrev main_v36 : Ref sig .tc := ⟨.hbm, 147, rfl⟩
abbrev main_v37 : Ref sig .tc := ⟨.hbm, 148, rfl⟩
abbrev main_v38 : Ref sig .tc := ⟨.hbm, 149, rfl⟩
abbrev main_v39 : Ref sig .tc := ⟨.hbm, 150, rfl⟩
abbrev main_v40 : Ref sig .tc := ⟨.hbm, 151, rfl⟩
abbrev main_v41 : Ref sig .tc := ⟨.hbm, 152, rfl⟩
abbrev main_v42 : Ref sig .tc := ⟨.hbm, 153, rfl⟩
abbrev main_call5_cst : Ref sig .tc := ⟨.hbm, 154, rfl⟩
abbrev main_call5_v0 : Ref sig .tc := ⟨.hbm, 155, rfl⟩
abbrev main_v43 : Ref sig .tc := ⟨.hbm, 156, rfl⟩
abbrev main_v44 : Ref sig .tc := ⟨.hbm, 157, rfl⟩
abbrev main_call6_v0 : Ref sig .tc := ⟨.hbm, 158, rfl⟩
abbrev main_call6_v1 : Ref sig .tc := ⟨.hbm, 159, rfl⟩
abbrev main_v45 : Ref sig .tc := ⟨.hbm, 160, rfl⟩
abbrev main_v46 : Ref sig .tc := ⟨.hbm, 161, rfl⟩
abbrev main_call7_cst : Ref sig .tc := ⟨.hbm, 162, rfl⟩
abbrev main_call7_v0 : Ref sig .tc := ⟨.hbm, 163, rfl⟩
abbrev main_v47 : Ref sig .tc := ⟨.hbm, 164, rfl⟩
abbrev main_v48 : Ref sig .tc := ⟨.hbm, 165, rfl⟩
abbrev main_call8_cst : Ref sig .tc := ⟨.hbm, 166, rfl⟩
abbrev main_call8_v0 : Ref sig .tc := ⟨.hbm, 167, rfl⟩
abbrev main_v49 : Ref sig .tc := ⟨.hbm, 168, rfl⟩
abbrev main_call9_v0 : Ref sig .tc := ⟨.hbm, 169, rfl⟩
abbrev main_call9_v1 : Ref sig .tc := ⟨.hbm, 170, rfl⟩
abbrev main_v50 : Ref sig .tc := ⟨.hbm, 171, rfl⟩
abbrev main_v51 : Ref sig .tc := ⟨.hbm, 172, rfl⟩
abbrev main_v52 : Ref sig .tc := ⟨.hbm, 173, rfl⟩
abbrev main_cst_2 : Ref sig .tc := ⟨.hbm, 174, rfl⟩
abbrev main_v53 : Ref sig .tc := ⟨.hbm, 175, rfl⟩
abbrev main_v54 : Ref sig .tc := ⟨.hbm, 176, rfl⟩
abbrev main_v55 : Ref sig .tc := ⟨.hbm, 177, rfl⟩
abbrev main_v56 : Ref sig .tc := ⟨.hbm, 178, rfl⟩
abbrev main_v57 : Ref sig .tc := ⟨.hbm, 179, rfl⟩
abbrev main_v58 : Ref sig .tc := ⟨.hbm, 180, rfl⟩
abbrev main_v59 : Ref sig .tc := ⟨.hbm, 181, rfl⟩
abbrev main_v60 : Ref sig .tc := ⟨.hbm, 182, rfl⟩
abbrev main_v61 : Ref sig .tc := ⟨.hbm, 183, rfl⟩
abbrev main_v62 : Ref sig .tc := ⟨.hbm, 184, rfl⟩
abbrev main_v63 : Ref sig .tc := ⟨.hbm, 185, rfl⟩
abbrev main_v64 : Ref sig .tc := ⟨.hbm, 186, rfl⟩
abbrev main_v65 : Ref sig .tc := ⟨.hbm, 187, rfl⟩
abbrev main_v66 : Ref sig .tc := ⟨.hbm, 188, rfl⟩

abbrev nD : Nat := 1
abbrev τ : Topo := Topo.v7x

variable {F : FTy → Type} [FloatOps F]
-- ==== Kernel2.lean ====
abbrev S2048x1024 : Shape := ⟨2, ![2048, 1024]⟩
abbrev S1024x7680 : Shape := ⟨2, ![1024, 7680]⟩
abbrev S2048x7680 : Shape := ⟨2, ![2048, 7680]⟩
abbrev S2048x768 : Shape := ⟨2, ![2048, 768]⟩
abbrev S1024x768 : Shape := ⟨2, ![1024, 768]⟩
abbrev S8x128 : Shape := ⟨2, ![8, 128]⟩

abbrev nBuf : Space → Nat
  | .hbm => 5
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x7680, .f32⟩
  | .hbm, ⟨2, _⟩ => ⟨S2048x7680, .bf16⟩
  | .hbm, ⟨3, _⟩ => ⟨S2048x1024, .bf16⟩
  | .hbm, ⟨4, _⟩ => ⟨S1024x7680, .f32⟩
  | .local _ .vmem, ⟨0, _⟩ => ⟨S2048x1024, .bf16⟩
  | .local _ .vmem, ⟨1, _⟩ => ⟨S2048x768, .bf16⟩
  | .local _ .vmem, ⟨2, _⟩ => ⟨S2048x768, .bf16⟩
  | .local _ .vmem, ⟨3, _⟩ => ⟨S1024x768, .f32⟩
  | .local _ .vmem, ⟨4, _⟩ => ⟨S1024x768, .f32⟩
  | .local _ .vmem, ⟨5, _⟩ => ⟨S8x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 10, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S2048x1024 : Shape := ⟨2, ![2048, 1024]⟩
abbrev S1024x7680 : Shape := ⟨2, ![1024, 7680]⟩
abbrev S2048x7680 : Shape := ⟨2, ![2048, 7680]⟩
abbrev S7680x1024 : Shape := ⟨2, ![7680, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x7680, .f32⟩
  | .hbm, ⟨2, _⟩ => ⟨S2048x7680, .bf16⟩
  | .hbm, ⟨3, _⟩ => ⟨S2048x7680, .f32⟩
  | .hbm, ⟨4, _⟩ => ⟨S2048x7680, .f32⟩
  | .hbm, ⟨5, _⟩ => ⟨S7680x1024, .f32⟩
  | .hbm, ⟨6, _⟩ => ⟨S1024x7680, .f32⟩
  | .hbm, ⟨7, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel3.lean ====
abbrev S2048x1024 : Shape := ⟨2, ![2048, 1024]⟩
abbrev S1024x5632 : Shape := ⟨2, ![1024, 5632]⟩
abbrev S2048x5632 : Shape := ⟨2, ![2048, 5632]⟩
abbrev S2048x1408 : Shape := ⟨2, ![2048, 1408]⟩
abbrev S1024x1408 : Shape := ⟨2, ![1024, 1408]⟩
abbrev S8x128 : Shape := ⟨2, ![8, 128]⟩

abbrev nBuf : Space → Nat
  | .hbm => 5
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x5632, .f32⟩
  | .hbm, ⟨2, _⟩ => ⟨S2048x5632, .bf16⟩
  | .hbm, ⟨3, _⟩ => ⟨S2048x1024, .bf16⟩
  | .hbm, ⟨4, _⟩ => ⟨S1024x5632, .f32⟩
  | .local _ .vmem, ⟨0, _⟩ => ⟨S2048x1024, .bf16⟩
  | .local _ .vmem, ⟨1, _⟩ => ⟨S2048x1408, .bf16⟩
  | .local _ .vmem, ⟨2, _⟩ => ⟨S2048x1408, .bf16⟩
  | .local _ .vmem, ⟨3, _⟩ => ⟨S1024x1408, .f32⟩
  | .local _ .vmem, ⟨4, _⟩ => ⟨S1024x1408, .f32⟩
  | .local _ .vmem, ⟨5, _⟩ => ⟨S8x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2048x1024 : Shape := ⟨2, ![2048, 1024]⟩
abbrev S1024x5632 : Shape := ⟨2, ![1024, 5632]⟩
abbrev S2048x5632 : Shape := ⟨2, ![2048, 5632]⟩
abbrev S5632x1024 : Shape := ⟨2, ![5632, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x5632, .f32⟩
  | .hbm, ⟨2, _⟩ => ⟨S2048x5632, .bf16⟩
  | .hbm, ⟨3, _⟩ => ⟨S2048x5632, .f32⟩
  | .hbm, ⟨4, _⟩ => ⟨S2048x5632, .f32⟩
  | .hbm, ⟨5, _⟩ => ⟨S5632x1024, .f32⟩
  | .hbm, ⟨6, _⟩ => ⟨S1024x5632, .f32⟩
  | .hbm, ⟨7, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S2048x2816 : Shape := ⟨2, ![2048, 2816]⟩
abbrev S2816x1024 : Shape := ⟨2, ![2816, 1024]⟩
abbrev S2048x1024 : Shape := ⟨2, ![2048, 1024]⟩
abbrev S2048x256 : Shape := ⟨2, ![2048, 256]⟩
abbrev S256x1024 : Shape := ⟨2, ![256, 1024]⟩
abbrev S8x128 : Shape := ⟨2, ![8, 128]⟩

abbrev nBuf : Space → Nat
  | .hbm => 4
  | .vmem => 6
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .f32⟩
  | .hbm, ⟨2, _⟩ => ⟨S2048x1024, .f32⟩
  | .hbm, ⟨3, _⟩ => ⟨S2816x1024, .f32⟩
  | .local _ .vmem, ⟨0, _⟩ => ⟨S2048x256, .bf16⟩
  | .local _ .vmem, ⟨1, _⟩ => ⟨S2048x256, .bf16⟩
  | .local _ .vmem, ⟨2, _⟩ => ⟨S2048x1024, .f32⟩
  | .local _ .vmem, ⟨3, _⟩ => ⟨S256x1024, .f32⟩
  | .local _ .vmem, ⟨4, _⟩ => ⟨S256x1024, .f32⟩
  | .local _ .vmem, ⟨5, _⟩ => ⟨S8x128, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2048x2816 : Shape := ⟨2, ![2048, 2816]⟩
abbrev S2816x1024 : Shape := ⟨2, ![2816, 1024]⟩
abbrev S2048x1024 : Shape := ⟨2, ![2048, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .f32⟩
  | .hbm, ⟨2, _⟩ => ⟨S2048x1024, .f32⟩
  | .hbm, ⟨3, _⟩ => ⟨S2048x2816, .f32⟩
  | .hbm, ⟨4, _⟩ => ⟨S2048x1024, .f32⟩
  | .hbm, ⟨5, _⟩ => ⟨S1024x2816, .f32⟩
  | .hbm, ⟨6, _⟩ => ⟨S2816x1024, .f32⟩
  | .hbm, ⟨7, _⟩ => ⟨S2048x2816, .f32⟩
  | .hbm, ⟨8, _⟩ => ⟨S2048x2816, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S2048x1024 : Shape := ⟨2, ![2048, 1024]⟩
abbrev S1024x1024 : Shape := ⟨2, ![1024, 1024]⟩
abbrev S2048x512 : Shape := ⟨2, ![2048, 512]⟩
abbrev S1024x512 : Shape := ⟨2, ![1024, 512]⟩
abbrev S8x128 : Shape := ⟨2, ![8, 128]⟩

abbrev nBuf : Space → Nat
  | .hbm => 4
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .f32⟩
  | .hbm, ⟨2, _⟩ => ⟨S2048x1024, .f32⟩
  | .hbm, ⟨3, _⟩ => ⟨S1024x1024, .f32⟩
  | .local _ .vmem, ⟨0, _⟩ => ⟨S2048x1024, .bf16⟩
  | .local _ .vmem, ⟨1, _⟩ => ⟨S2048x512, .f32⟩
  | .local _ .vmem, ⟨2, _⟩ => ⟨S2048x512, .f32⟩
  | .local _ .vmem, ⟨3, _⟩ => ⟨S1024x512, .f32⟩
  | .local _ .vmem, ⟨4, _⟩ => ⟨S1024x512, .f32⟩
  | .local _ .vmem, ⟨5, _⟩ => ⟨S8x128, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2048x1024 : Shape := ⟨2, ![2048, 1024]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S1024x1024, .f32⟩
  | .hbm, ⟨6, _⟩ => ⟨S1024x1024, .f32⟩
  | .hbm, ⟨7, _⟩ => ⟨S2048x1024, .f32⟩
  | .hbm, ⟨8, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S2048x512 : Shape := ⟨2, ![2048, 512]⟩
abbrev S512x1024 : Shape := ⟨2, ![512, 1024]⟩
abbrev S2048x1024 : Shape := ⟨2, ![2048, 1024]⟩
abbrev S8x128 : Shape := ⟨2, ![8, 128]⟩

abbrev nBuf : Space → Nat
  | .hbm => 4
  | .vmem => 4
  | .smem => 0
  | _ => 0

abbrev bufTy : (tb : Table) → Fin (tcTables nBuf tb) → BufTy
  | .hbm, ⟨0, _⟩ => ⟨S2048x512, .bf16⟩
  | .hbm, ⟨1, _⟩ => ⟨S512x1024, .f32⟩
  | .hbm, ⟨2, _⟩ => ⟨S2048x1024, .bf16⟩
  | .hbm, ⟨3, _⟩ => ⟨S512x1024, .f32⟩
  | .local _ .vmem, ⟨0, _⟩ => ⟨S2048x512, .bf16⟩
  | .local _ .vmem, ⟨1, _⟩ => ⟨S2048x1024, .bf16⟩
  | .local _ .vmem, ⟨2, _⟩ => ⟨S512x1024, .f32⟩
  | .local _ .vmem, ⟨3, _⟩ => ⟨S8x128, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference6Ideal.lean ====
abbrev S2048x512 : Shape := ⟨2, ![2048, 512]⟩
abbrev S512x1024 : Shape := ⟨2, ![512, 1024]⟩
abbrev S2048x1024 : Shape := ⟨2, ![2048, 1024]⟩
abbrev S1024x512 : Shape := ⟨2, ![1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S512x1024, .f32⟩
  | .hbm, ⟨2, _⟩ => ⟨S2048x1024, .bf16⟩
  | .hbm, ⟨3, _⟩ => ⟨S2048x512, .f32⟩
  | .hbm, ⟨4, _⟩ => ⟨S2048x1024, .f32⟩
  | .hbm, ⟨5, _⟩ => ⟨S2048x1024, .f32⟩
  | .hbm, ⟨6, _⟩ => ⟨S1024x512, .f32⟩
  | .hbm, ⟨7, _⟩ => ⟨S512x1024, .f32⟩
  | .hbm, ⟨8, _⟩ => ⟨S2048x512, .f32⟩
  | .hbm, ⟨9, _⟩ => ⟨S2048x512, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S2048x2816 : Shape := ⟨2, ![2048, 2816]⟩
abbrev S2816x1024 : Shape := ⟨2, ![2816, 1024]⟩
abbrev S2048x1024 : Shape := ⟨2, ![2048, 1024]⟩
abbrev S1024x1024 : Shape := ⟨2, ![1024, 1024]⟩
abbrev S1408x1024 : Shape := ⟨2, ![1408, 1024]⟩
abbrev S1024x1408 : Shape := ⟨2, ![1024, 1408]⟩
abbrev S8x128 : Shape := ⟨2, ![8, 128]⟩

abbrev nBuf : Space → Nat
  | .hbm => 5
  | .vmem => 7
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .f32⟩
  | .hbm, ⟨2, _⟩ => ⟨S2048x1024, .f32⟩
  | .hbm, ⟨3, _⟩ => ⟨S2816x1024, .bf16⟩
  | .hbm, ⟨4, _⟩ => ⟨S2048x2816, .bf16⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | .local _ .vmem, ⟨6, _⟩ => ⟨S8x128, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S2048x2816 : Shape := ⟨2, ![2048, 2816]⟩
abbrev S2816x1024 : Shape := ⟨2, ![2816, 1024]⟩
abbrev S2048x1024 : Shape := ⟨2, ![2048, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .f32⟩
  | .hbm, ⟨2, _⟩ => ⟨S2048x1024, .f32⟩
  | .hbm, ⟨3, _⟩ => ⟨S2048x2816, .f32⟩
  | .hbm, ⟨4, _⟩ => ⟨S2048x1024, .f32⟩
  | .hbm, ⟨5, _⟩ => ⟨S1024x2816, .f32⟩
  | .hbm, ⟨6, _⟩ => ⟨S2816x1024, .f32⟩
  | .hbm, ⟨7, _⟩ => ⟨S2048x2816, .f32⟩
  | .hbm, ⟨8, _⟩ => ⟨S2048x2816, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S2048x1024 : Shape := ⟨2, ![2048, 1024]⟩
abbrev S1024x1024 : Shape := ⟨2, ![1024, 1024]⟩
abbrev S8x128 : Shape := ⟨2, ![8, 128]⟩

abbrev nBuf : Space → Nat
  | .hbm => 5
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .f32⟩
  | .hbm, ⟨2, _⟩ => ⟨S2048x1024, .f32⟩
  | .hbm, ⟨3, _⟩ => ⟨S1024x1024, .bf16⟩
  | .hbm, ⟨4, _⟩ => ⟨S2048x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S8x128, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S2048x1024 : Shape := ⟨2, ![2048, 1024]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S1024x1024, .f32⟩
  | .hbm, ⟨6, _⟩ => ⟨S1024x1024, .f32⟩
  | .hbm, ⟨7, _⟩ => ⟨S2048x1024, .f32⟩
  | .hbm, ⟨8, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel9.lean ====
abbrev S2048x512 : Shape := ⟨2, ![2048, 512]⟩
abbrev S512x1024 : Shape := ⟨2, ![512, 1024]⟩
abbrev S2048x1024 : Shape := ⟨2, ![2048, 1024]⟩
abbrev S1024x1024 : Shape := ⟨2, ![1024, 1024]⟩
abbrev S1024x512 : Shape := ⟨2, ![1024, 512]⟩
abbrev S8x128 : Shape := ⟨2, ![8, 128]⟩

abbrev nBuf : Space → Nat
  | .hbm => 5
  | .vmem => 6
  | .smem => 0
  | _ => 0

abbrev bufTy : (tb : Table) → Fin (tcTables nBuf tb) → BufTy
  | .hbm, ⟨0, _⟩ => ⟨S2048x512, .bf16⟩
  | .hbm, ⟨1, _⟩ => ⟨S512x1024, .f32⟩
  | .hbm, ⟨2, _⟩ => ⟨S2048x1024, .bf16⟩
  | .hbm, ⟨3, _⟩ => ⟨S512x1024, .bf16⟩
  | .hbm, ⟨4, _⟩ => ⟨S2048x512, .bf16⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .bf16⟩
  | .local _ .vmem, ⟨4, _⟩ => ⟨S1024x512, .bf16⟩
  | .local _ .vmem, ⟨5, _⟩ => ⟨S8x128, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S2048x512 : Shape := ⟨2, ![2048, 512]⟩
abbrev S512x1024 : Shape := ⟨2, ![512, 1024]⟩
abbrev S2048x1024 : Shape := ⟨2, ![2048, 1024]⟩
abbrev S1024x512 : Shape := ⟨2, ![1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S512x1024, .f32⟩
  | .hbm, ⟨2, _⟩ => ⟨S2048x1024, .bf16⟩
  | .hbm, ⟨3, _⟩ => ⟨S2048x512, .f32⟩
  | .hbm, ⟨4, _⟩ => ⟨S2048x1024, .f32⟩
  | .hbm, ⟨5, _⟩ => ⟨S2048x1024, .f32⟩
  | .hbm, ⟨6, _⟩ => ⟨S1024x512, .f32⟩
  | .hbm, ⟨7, _⟩ => ⟨S512x1024, .f32⟩
  | .hbm, ⟨8, _⟩ => ⟨S2048x512, .f32⟩
  | .hbm, ⟨9, _⟩ => ⟨S2048x512, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S2048x1024 : Shape := ⟨2, ![2048, 1024]⟩
abbrev S1024x5632 : Shape := ⟨2, ![1024, 5632]⟩
abbrev S2048x5632 : Shape := ⟨2, ![2048, 5632]⟩
abbrev S1024x1408 : Shape := ⟨2, ![1024, 1408]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1024x5632, .f32⟩
  | .hbm, ⟨2, _⟩ => ⟨S2048x5632, .bf16⟩
  | .hbm, ⟨3, _⟩ => ⟨S1024x5632, .bf16⟩
  | .hbm, ⟨4, _⟩ => ⟨S2048x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S2048x1024 : Shape := ⟨2, ![2048, 1024]⟩
abbrev S1024x5632 : Shape := ⟨2, ![1024, 5632]⟩
abbrev S2048x5632 : Shape := ⟨2, ![2048, 5632]⟩
abbrev S5632x1024 : Shape := ⟨2, ![5632, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x5632, .f32⟩
  | .hbm, ⟨2, _⟩ => ⟨S2048x5632, .bf16⟩
  | .hbm, ⟨3, _⟩ => ⟨S2048x5632, .f32⟩
  | .hbm, ⟨4, _⟩ => ⟨S2048x5632, .f32⟩
  | .hbm, ⟨5, _⟩ => ⟨S5632x1024, .f32⟩
  | .hbm, ⟨6, _⟩ => ⟨S1024x5632, .f32⟩
  | .hbm, ⟨7, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S2048x1024 : Shape := ⟨2, ![2048, 1024]⟩
abbrev S1024x7680 : Shape := ⟨2, ![1024, 7680]⟩
abbrev S2048x7680 : Shape := ⟨2, ![2048, 7680]⟩
abbrev S1024x1536 : Shape := ⟨2, ![1024, 1536]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S1024x7680, .f32⟩
  | .hbm, ⟨2, _⟩ => ⟨S2048x7680, .bf16⟩
  | .hbm, ⟨3, _⟩ => ⟨S2048x1024, .f32⟩
  | .hbm, ⟨4, _⟩ => ⟨S1024x7680, .bf16⟩
  | .hbm, ⟨5, _⟩ => ⟨S2048x1024, .f32⟩
  | .local _ .vmem, ⟨0, _⟩ => ⟨S1024x1536, .bf16⟩
  | .local _ .vmem, ⟨1, _⟩ => ⟨S1024x1536, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 1, 5], ![false, false, false]⟩

def k0_cond3 (i : grid0.Coords) : BitVec 1 :=
  let arg2 : BitVec 32 := BitVec.ofNat 32 (i 2).val
  let c4_i32 : BitVec 32 := 4#32
  let v10 : BitVec 1 := Scalar.cmpi .eq arg2 c4_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference11Ideal.lean ====
abbrev S2048x1024 : Shape := ⟨2, ![2048, 1024]⟩
abbrev S1024x7680 : Shape := ⟨2, ![1024, 7680]⟩
abbrev S2048x7680 : Shape := ⟨2, ![2048, 7680]⟩
abbrev S7680x1024 : Shape := ⟨2, ![7680, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x7680, .f32⟩
  | .hbm, ⟨2, _⟩ => ⟨S2048x7680, .bf16⟩
  | .hbm, ⟨3, _⟩ => ⟨S2048x1024, .f32⟩
  | .hbm, ⟨4, _⟩ => ⟨S2048x7680, .f32⟩
  | .hbm, ⟨5, _⟩ => ⟨S2048x7680, .f32⟩
  | .hbm, ⟨6, _⟩ => ⟨S7680x1024, .f32⟩
  | .hbm, ⟨7, _⟩ => ⟨S1024x7680, .f32⟩
  | .hbm, ⟨8, _⟩ => ⟨S2048x1024, .f32⟩
  | .hbm, ⟨9, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel12.lean ====
abbrev S2048x2816 : Shape := ⟨2, ![2048, 2816]⟩
abbrev S2816x1024 : Shape := ⟨2, ![2816, 1024]⟩
abbrev S2048x1024 : Shape := ⟨2, ![2048, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 5
  | .vmem => 9
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .f32⟩
  | .hbm, ⟨2, _⟩ => ⟨S2048x1024, .f32⟩
  | .hbm, ⟨3, _⟩ => ⟨S2816x1024, .bf16⟩
  | .hbm, ⟨4, _⟩ => ⟨S2048x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference12Ideal.lean ====
abbrev S2048x2816 : Shape := ⟨2, ![2048, 2816]⟩
abbrev S2816x1024 : Shape := ⟨2, ![2816, 1024]⟩
abbrev S2048x1024 : Shape := ⟨2, ![2048, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .f32⟩
  | .hbm, ⟨2, _⟩ => ⟨S2048x1024, .f32⟩
  | .hbm, ⟨3, _⟩ => ⟨S2048x2816, .f32⟩
  | .hbm, ⟨4, _⟩ => ⟨S2048x1024, .f32⟩
  | .hbm, ⟨5, _⟩ => ⟨S2048x1024, .f32⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel13.lean ====
abbrev S2048x1024 : Shape := ⟨2, ![2048, 1024]⟩
abbrev S1024 : Shape := ⟨1, ![1024]⟩
abbrev S1024x7680 : Shape := ⟨2, ![1024, 7680]⟩
abbrev S1x1024 : Shape := ⟨2, ![1, 1024]⟩
abbrev S2048x7680 : Shape := ⟨2, ![2048, 7680]⟩
abbrev S1024x1024 : Shape := ⟨2, ![1024, 1024]⟩
abbrev S1024x1536 : Shape := ⟨2, ![1024, 1536]⟩
abbrev S1024x1 : Shape := ⟨2, ![1024, 1]⟩

abbrev nBuf : Space → Nat
  | .hbm => 7
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x7680, .f32⟩
  | .hbm, ⟨3, _⟩ => ⟨S1024x7680, .bf16⟩
  | .hbm, ⟨4, _⟩ => ⟨S1x1024, .f32⟩
  | .hbm, ⟨5, _⟩ => ⟨S2048x7680, .bf16⟩
  | .hbm, ⟨6, _⟩ => ⟨S2048x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1536, .bf16⟩
  | .local _ .vmem, ⟨4, _⟩ => ⟨S1024x1536, .bf16⟩
  | .local _ .vmem, ⟨5, _⟩ => ⟨S1024x1536, .bf16⟩
  | .local _ .vmem, ⟨6, _⟩ => ⟨S1024x1536, .bf16⟩
  | .local _ .vmem, ⟨7, _⟩ => ⟨S1024x1024, .bf16⟩
  | .local _ .vmem, ⟨8, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 5], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference13Ideal.lean ====
abbrev S2048x1024 : Shape := ⟨2, ![2048, 1024]⟩
abbrev S1024 : Shape := ⟨1, ![1024]⟩
abbrev S1024x7680 : Shape := ⟨2, ![1024, 7680]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x7680 : Shape := ⟨2, ![2048, 7680]⟩

abbrev nBuf : Space → Nat
  | .hbm => 22
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x7680, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S1x1024, .f32⟩
  | .hbm, ⟨17, _⟩ => ⟨S2048x1024, .f32⟩
  | .hbm, ⟨18, _⟩ => ⟨S2048x1024, .f32⟩
  | .hbm, ⟨19, _⟩ => ⟨S2048x7680, .f32⟩
  | .hbm, ⟨20, _⟩ => ⟨S2048x7680, .bf16⟩
  | .hbm, ⟨21, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel14.lean ====
abbrev S2048x1024 : Shape := ⟨2, ![2048, 1024]⟩
abbrev S1024 : Shape := ⟨1, ![1024]⟩
abbrev S1024x5632 : Shape := ⟨2, ![1024, 5632]⟩
abbrev S1x1024 : Shape := ⟨2, ![1, 1024]⟩
abbrev S2048x5632 : Shape := ⟨2, ![2048, 5632]⟩
abbrev S1024x1024 : Shape := ⟨2, ![1024, 1024]⟩
abbrev S1024x1408 : Shape := ⟨2, ![1024, 1408]⟩
abbrev S1024x1 : Shape := ⟨2, ![1024, 1]⟩

abbrev nBuf : Space → Nat
  | .hbm => 7
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x5632, .f32⟩
  | .hbm, ⟨3, _⟩ => ⟨S1024x5632, .bf16⟩
  | .hbm, ⟨4, _⟩ => ⟨S1x1024, .f32⟩
  | .hbm, ⟨5, _⟩ => ⟨S2048x5632, .bf16⟩
  | .hbm, ⟨6, _⟩ => ⟨S2048x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1024, .bf16⟩
  | .local _ .vmem, ⟨8, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference14Ideal.lean ====
abbrev S2048x1024 : Shape := ⟨2, ![2048, 1024]⟩
abbrev S1024 : Shape := ⟨1, ![1024]⟩
abbrev S1024x5632 : Shape := ⟨2, ![1024, 5632]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x5632 : Shape := ⟨2, ![2048, 5632]⟩

abbrev nBuf : Space → Nat
  | .hbm => 22
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x5632, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S1x1024, .f32⟩
  | .hbm, ⟨17, _⟩ => ⟨S2048x1024, .f32⟩
  | .hbm, ⟨18, _⟩ => ⟨S2048x1024, .f32⟩
  | .hbm, ⟨19, _⟩ => ⟨S2048x5632, .f32⟩
  | .hbm, ⟨20, _⟩ => ⟨S2048x5632, .bf16⟩
  | .hbm, ⟨21, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel15.lean ====
abbrev S2048x512 : Shape := ⟨2, ![2048, 512]⟩
abbrev S512x1024 : Shape := ⟨2, ![512, 1024]⟩
abbrev S2048x1024 : Shape := ⟨2, ![2048, 1024]⟩
abbrev S8x128 : Shape := ⟨2, ![8, 128]⟩

abbrev nBuf : Space → Nat
  | .hbm => 4
  | .vmem => 4
  | .smem => 0
  | _ => 0

abbrev bufTy : (tb : Table) → Fin (tcTables nBuf tb) → BufTy
  | .hbm, ⟨0, _⟩ => ⟨S2048x512, .f32⟩
  | .hbm, ⟨1, _⟩ => ⟨S512x1024, .f32⟩
  | .hbm, ⟨2, _⟩ => ⟨S2048x1024, .bf16⟩
  | .hbm, ⟨3, _⟩ => ⟨S512x1024, .f32⟩
  | .local _ .vmem, ⟨0, _⟩ => ⟨S2048x512, .f32⟩
  | .local _ .vmem, ⟨1, _⟩ => ⟨S2048x1024, .bf16⟩
  | .local _ .vmem, ⟨2, _⟩ => ⟨S512x1024, .f32⟩
  | .local _ .vmem, ⟨3, _⟩ => ⟨S8x128, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference15Ideal.lean ====
abbrev S2048x512 : Shape := ⟨2, ![2048, 512]⟩
abbrev S512x1024 : Shape := ⟨2, ![512, 1024]⟩
abbrev S2048x1024 : Shape := ⟨2, ![2048, 1024]⟩
abbrev S1024x512 : Shape := ⟨2, ![1024, 512]⟩

abbrev nBuf : Space → Nat
  | .hbm => 8
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512x1024, .f32⟩
  | .hbm, ⟨2, _⟩ => ⟨S2048x1024, .bf16⟩
  | .hbm, ⟨3, _⟩ => ⟨S2048x1024, .f32⟩
  | .hbm, ⟨4, _⟩ => ⟨S2048x1024, .f32⟩
  | .hbm, ⟨5, _⟩ => ⟨S1024x512, .f32⟩
  | .hbm, ⟨6, _⟩ => ⟨S512x1024, .f32⟩
  | .hbm, ⟨7, _⟩ => ⟨S2048x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel16.lean ====
abbrev S2048x1024 : Shape := ⟨2, ![2048, 1024]⟩
abbrev S2048x512 : Shape := ⟨2, ![2048, 512]⟩
abbrev S512x1024 : Shape := ⟨2, ![512, 1024]⟩
abbrev S2048x7680 : Shape := ⟨2, ![2048, 7680]⟩
abbrev S3072 : Shape := ⟨1, ![3072]⟩
abbrev S1024x1024 : Shape := ⟨2, ![1024, 1024]⟩
abbrev S1x3072 : Shape := ⟨2, ![1, 3072]⟩
abbrev S256x1024 : Shape := ⟨2, ![256, 1024]⟩
abbrev S256x512 : Shape := ⟨2, ![256, 512]⟩
abbrev S1x1024 : Shape := ⟨2, ![1, 1024]⟩

abbrev nBuf : Space → Nat
  | .hbm => 20
  | .vmem => 29
  | .smem => 0
  | _ => 0

abbrev bufTy : (tb : Table) → Fin (tcTables nBuf tb) → BufTy
  | .hbm, ⟨0, _⟩ => ⟨S2048x1024, .f32⟩
  | .hbm, ⟨1, _⟩ => ⟨S2048x512, .bf16⟩
  | .hbm, ⟨2, _⟩ => ⟨S2048x512, .f32⟩
  | .hbm, ⟨3, _⟩ => ⟨S2048x512, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S2048x7680, .bf16⟩
  | .hbm, ⟨8, _⟩ => ⟨S3072, .f32⟩
  | .hbm, ⟨9, _⟩ => ⟨S1024x1024, .f32⟩
  | .hbm, ⟨10, _⟩ => ⟨S512x1024, .bf16⟩
  | .hbm, ⟨11, _⟩ => ⟨S512x1024, .bf16⟩
  | .hbm, ⟨12, _⟩ => ⟨S512x1024, .bf16⟩
  | .hbm, ⟨13, _⟩ => ⟨S1024x1024, .bf16⟩
  | .hbm, ⟨14, _⟩ => ⟨S1x3072, .f32⟩
  | .hbm, ⟨15, _⟩ => ⟨S2048x1024, .f32⟩
  | .hbm, ⟨16, _⟩ => ⟨S2048x1024, .bf16⟩
  | .hbm, ⟨17, _⟩ => ⟨S2048x1024, .bf16⟩
  | .hbm, ⟨18, _⟩ => ⟨S2048x1024, .bf16⟩
  | .hbm, ⟨19, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S1x3072, .f32⟩
  | .local _ .vmem, ⟨18, _⟩ => ⟨S1024x1024, .bf16⟩
  | .local _ .vmem, ⟨19, _⟩ => ⟨S256x1024, .f32⟩
  | .local _ .vmem, ⟨20, _⟩ => ⟨S256x1024, .f32⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S256x1024, .bf16⟩
  | .local _ .vmem, ⟨28, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev main_v5_2 : Ref sig .tc := ⟨.hbm, 17, rfl⟩
abbrev main_v5_3 : Ref sig .tc := ⟨.hbm, 18, rfl⟩
abbrev main_v5_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_9 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x3072 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference16Ideal.lean ====
abbrev S2048x1024 : Shape := ⟨2, ![2048, 1024]⟩
abbrev S2048x512 : Shape := ⟨2, ![2048, 512]⟩
abbrev S512x1024 : Shape := ⟨2, ![512, 1024]⟩
abbrev S2048x7680 : Shape := ⟨2, ![2048, 7680]⟩
abbrev S3072 : Shape := ⟨1, ![3072]⟩
abbrev S1024x1024 : Shape := ⟨2, ![1024, 1024]⟩
abbrev S2048x3072 : Shape := ⟨2, ![2048, 3072]⟩
abbrev S1x3072 : Shape := ⟨2, ![1, 3072]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x512, .bf16⟩
  | .hbm, ⟨2, _⟩ => ⟨S2048x512, .f32⟩
  | .hbm, ⟨3, _⟩ => ⟨S2048x512, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S2048x7680, .bf16⟩
  | .hbm, ⟨8, _⟩ => ⟨S3072, .f32⟩
  | .hbm, ⟨9, _⟩ => ⟨S1024x1024, .f32⟩
  | .hbm, ⟨10, _⟩ => ⟨S2048x512, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S2048x3072, .bf16⟩
  | .hbm, ⟨15, _⟩ => ⟨S2048x3072, .f32⟩
  | .hbm, ⟨16, _⟩ => ⟨S1x3072, .f32⟩
  | .hbm, ⟨17, _⟩ => ⟨S2048x3072, .f32⟩
  | .hbm, ⟨18, _⟩ => ⟨S2048x3072, .f32⟩
  | .hbm, ⟨19, _⟩ => ⟨S2048x3072, .f32⟩
  | .hbm, ⟨20, _⟩ => ⟨S2048x3072, .f32⟩
  | .hbm, ⟨21, _⟩ => ⟨S_, .f32⟩
  | .hbm, ⟨22, _⟩ => ⟨S2048x3072, .f32⟩
  | .hbm, ⟨23, _⟩ => ⟨S2048x3072, .f32⟩
  | .hbm, ⟨24, _⟩ => ⟨S_, .f32⟩
  | .hbm, ⟨25, _⟩ => ⟨S2048x3072, .f32⟩
  | .hbm, ⟨26, _⟩ => ⟨S2048x3072, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .bf16⟩
  | .hbm, ⟨38, _⟩ => ⟨S2048x1024, .bf16⟩
  | .hbm, ⟨39, _⟩ => ⟨S2048x1024, .bf16⟩
  | .hbm, ⟨40, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== Kernel17.lean ====
abbrev S2048x7680 : Shape := ⟨2, ![2048, 7680]⟩
abbrev S3x512 : Shape := ⟨2, ![3, 512]⟩
abbrev S2048x512 : Shape := ⟨2, ![2048, 512]⟩
abbrev S2048x256 : Shape := ⟨2, ![2048, 256]⟩
abbrev S3x256 : Shape := ⟨2, ![3, 256]⟩
abbrev S1x256 : Shape := ⟨2, ![1, 256]⟩

abbrev nBuf : Space → Nat
  | .hbm => 3
  | .vmem => 10
  | .smem => 0
  | _ => 0

abbrev bufTy : (tb : Table) → Fin (tcTables nBuf tb) → BufTy
  | .hbm, ⟨0, _⟩ => ⟨S2048x7680, .bf16⟩
  | .hbm, ⟨1, _⟩ => ⟨S3x512, .f32⟩
  | .hbm, ⟨2, _⟩ => ⟨S2048x512, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S3x256, .f32⟩
  | .local _ .vmem, ⟨7, _⟩ => ⟨S3x256, .f32⟩
  | .local _ .vmem, ⟨8, _⟩ => ⟨S2048x256, .bf16⟩
  | .local _ .vmem, ⟨9, _⟩ => ⟨S2048x256, .bf16⟩
  | _, _ => ⟨S2048x7680, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c14_i32 : BitVec 32 := 14#32
  let v0 : BitVec 32 := Scalar.addi c14_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference17Ideal.lean ====
abbrev S2048x7680 : Shape := ⟨2, ![2048, 7680]⟩
abbrev S3x512 : Shape := ⟨2, ![3, 512]⟩
abbrev S2048x1536 : Shape := ⟨2, ![2048, 1536]⟩
abbrev S2048x512 : Shape := ⟨2, ![2048, 512]⟩
abbrev S_ : Shape := ⟨0, ![]⟩
abbrev S2x512 : Shape := ⟨2, ![2, 512]⟩
abbrev S2050x512 : Shape := ⟨2, ![2050, 512]⟩
abbrev S1x512 : Shape := ⟨2, ![1, 512]⟩
abbrev S512 : Shape := ⟨1, ![512]⟩

abbrev nBuf : Space → Nat
  | .hbm => 36
  | .vmem => 0
  | .smem => 0
  | _ => 0

abbrev bufTy : (tb : Table) → Fin (tcTables nBuf tb) → BufTy
  | .hbm, ⟨0, _⟩ => ⟨S2048x7680, .bf16⟩
  | .hbm, ⟨1, _⟩ => ⟨S3x512, .f32⟩
  | .hbm, ⟨2, _⟩ => ⟨S2048x1536, .bf16⟩
  | .hbm, ⟨3, _⟩ => ⟨S2048x1536, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x512, .f32⟩
  | .hbm, ⟨8, _⟩ => ⟨S_, .f32⟩
  | .hbm, ⟨9, _⟩ => ⟨S2x512, .f32⟩
  | .hbm, ⟨10, _⟩ => ⟨S2050x512, .f32⟩
  | .hbm, ⟨11, _⟩ => ⟨S1x512, .f32⟩
  | .hbm, ⟨12, _⟩ => ⟨S512, .f32⟩
  | .hbm, ⟨13, _⟩ => ⟨S2048x512, .f32⟩
  | .hbm, ⟨14, _⟩ => ⟨S1x512, .f32⟩
  | .hbm, ⟨15, _⟩ => ⟨S2048x512, .f32⟩
  | .hbm, ⟨16, _⟩ => ⟨S2048x512, .f32⟩
  | .hbm, ⟨17, _⟩ => ⟨S_, .f32⟩
  | .hbm, ⟨18, _⟩ => ⟨S2048x512, .f32⟩
  | .hbm, ⟨19, _⟩ => ⟨S2048x512, .f32⟩
  | .hbm, ⟨20, _⟩ => ⟨S1x512, .f32⟩
  | .hbm, ⟨21, _⟩ => ⟨S512, .f32⟩
  | .hbm, ⟨22, _⟩ => ⟨S2048x512, .f32⟩
  | .hbm, ⟨23, _⟩ => ⟨S1x512, .f32⟩
  | .hbm, ⟨24, _⟩ => ⟨S2048x512, .f32⟩
  | .hbm, ⟨25, _⟩ => ⟨S2048x512, .f32⟩
  | .hbm, ⟨26, _⟩ => ⟨S2048x512, .f32⟩
  | .hbm, ⟨27, _⟩ => ⟨S1x512, .f32⟩
  | .hbm, ⟨28, _⟩ => ⟨S512, .f32⟩
  | .hbm, ⟨29, _⟩ => ⟨S2048x512, .f32⟩
  | .hbm, ⟨30, _⟩ => ⟨S1x512, .f32⟩
  | .hbm, ⟨31, _⟩ => ⟨S2048x512, .f32⟩
  | .hbm, ⟨32, _⟩ => ⟨S2048x512, .f32⟩
  | .hbm, ⟨33, _⟩ => ⟨S2048x512, .f32⟩
  | .hbm, ⟨34, _⟩ => ⟨S2048x512, .f32⟩
  | .hbm, ⟨35, _⟩ => ⟨S2048x512, .bf16⟩
  | _, _ => ⟨S2048x7680, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩

abbrev nD : Nat := 1
abbrev τ : Topo := Topo.v7x

variable {F : FTy → Type} [FloatOps F]
-- ==== Kernel18.lean ====
abbrev S2048x5632 : Shape := ⟨2, ![2048, 5632]⟩
abbrev S3x2816 : Shape := ⟨2, ![3, 2816]⟩
abbrev S2816 : Shape := ⟨1, ![2816]⟩
abbrev S1x2816 : Shape := ⟨2, ![1, 2816]⟩
abbrev S2048x2816 : Shape := ⟨2, ![2048, 2816]⟩
abbrev S2048x256 : Shape := ⟨2, ![2048, 256]⟩
abbrev S3x256 : Shape := ⟨2, ![3, 256]⟩
abbrev S1x256 : Shape := ⟨2, ![1, 256]⟩

abbrev nBuf : Space → Nat
  | .hbm => 5
  | .vmem => 10
  | .smem => 0
  | _ => 0

abbrev bufTy : (tb : Table) → Fin (tcTables nBuf tb) → BufTy
  | .hbm, ⟨0, _⟩ => ⟨S2048x5632, .bf16⟩
  | .hbm, ⟨1, _⟩ => ⟨S3x2816, .f32⟩
  | .hbm, ⟨2, _⟩ => ⟨S2816, .f32⟩
  | .hbm, ⟨3, _⟩ => ⟨S1x2816, .f32⟩
  | .hbm, ⟨4, _⟩ => ⟨S2048x2816, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S3x256, .f32⟩
  | .local _ .vmem, ⟨5, _⟩ => ⟨S3x256, .f32⟩
  | .local _ .vmem, ⟨6, _⟩ => ⟨S1x256, .f32⟩
  | .local _ .vmem, ⟨7, _⟩ => ⟨S1x256, .f32⟩
  | .local _ .vmem, ⟨8, _⟩ => ⟨S2048x256, .bf16⟩
  | .local _ .vmem, ⟨9, _⟩ => ⟨S2048x256, .bf16⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference18Ideal.lean ====
abbrev S2048x5632 : Shape := ⟨2, ![2048, 5632]⟩
abbrev S3x2816 : Shape := ⟨2, ![3, 2816]⟩
abbrev S2816 : Shape := ⟨1, ![2816]⟩
abbrev S2048x2816 : Shape := ⟨2, ![2048, 2816]⟩
abbrev S_ : Shape := ⟨0, ![]⟩
abbrev S2x2816 : Shape := ⟨2, ![2, 2816]⟩
abbrev S2050x2816 : Shape := ⟨2, ![2050, 2816]⟩
abbrev S1x2816 : Shape := ⟨2, ![1, 2816]⟩

abbrev nBuf : Space → Nat
  | .hbm => 46
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S3x2816, .f32⟩
  | .hbm, ⟨2, _⟩ => ⟨S2816, .f32⟩
  | .hbm, ⟨3, _⟩ => ⟨S2048x5632, .f32⟩
  | .hbm, ⟨4, _⟩ => ⟨S2048x2816, .f32⟩
  | .hbm, ⟨5, _⟩ => ⟨S2048x2816, .f32⟩
  | .hbm, ⟨6, _⟩ => ⟨S_, .f32⟩
  | .hbm, ⟨7, _⟩ => ⟨S2x2816, .f32⟩
  | .hbm, ⟨8, _⟩ => ⟨S2050x2816, .f32⟩
  | .hbm, ⟨9, _⟩ => ⟨S1x2816, .f32⟩
  | .hbm, ⟨10, _⟩ => ⟨S2816, .f32⟩
  | .hbm, ⟨11, _⟩ => ⟨S2048x2816, .f32⟩
  | .hbm, ⟨12, _⟩ => ⟨S1x2816, .f32⟩
  | .hbm, ⟨13, _⟩ => ⟨S2048x2816, .f32⟩
  | .hbm, ⟨14, _⟩ => ⟨S2048x2816, .f32⟩
  | .hbm, ⟨15, _⟩ => ⟨S_, .f32⟩
  | .hbm, ⟨16, _⟩ => ⟨S2048x2816, .f32⟩
  | .hbm, ⟨17, _⟩ => ⟨S2048x2816, .f32⟩
  | .hbm, ⟨18, _⟩ => ⟨S1x2816, .f32⟩
  | .hbm, ⟨19, _⟩ => ⟨S2816, .f32⟩
  | .hbm, ⟨20, _⟩ => ⟨S2048x2816, .f32⟩
  | .hbm, ⟨21, _⟩ => ⟨S1x2816, .f32⟩
  | .hbm, ⟨22, _⟩ => ⟨S2048x2816, .f32⟩
  | .hbm, ⟨23, _⟩ => ⟨S2048x2816, .f32⟩
  | .hbm, ⟨24, _⟩ => ⟨S2048x2816, .f32⟩
  | .hbm, ⟨25, _⟩ => ⟨S1x2816, .f32⟩
  | .hbm, ⟨26, _⟩ => ⟨S2816, .f32⟩
  | .hbm, ⟨27, _⟩ => ⟨S2048x2816, .f32⟩
  | .hbm, ⟨28, _⟩ => ⟨S1x2816, .f32⟩
  | .hbm, ⟨29, _⟩ => ⟨S2048x2816, .f32⟩
  | .hbm, ⟨30, _⟩ => ⟨S2048x2816, .f32⟩
  | .hbm, ⟨31, _⟩ => ⟨S2048x2816, .f32⟩
  | .hbm, ⟨32, _⟩ => ⟨S1x2816, .f32⟩
  | .hbm, ⟨33, _⟩ => ⟨S2048x2816, .f32⟩
  | .hbm, ⟨34, _⟩ => ⟨S2048x2816, .f32⟩
  | .hbm, ⟨35, _⟩ => ⟨S2048x2816, .f32⟩
  | .hbm, ⟨36, _⟩ => ⟨S2048x2816, .f32⟩
  | .hbm, ⟨37, _⟩ => ⟨S_, .f32⟩
  | .hbm, ⟨38, _⟩ => ⟨S2048x2816, .f32⟩
  | .hbm, ⟨39, _⟩ => ⟨S2048x2816, .f32⟩
  | .hbm, ⟨40, _⟩ => ⟨S_, .f32⟩
  | .hbm, ⟨41, _⟩ => ⟨S2048x2816, .f32⟩
  | .hbm, ⟨42, _⟩ => ⟨S2048x2816, .f32⟩
  | .hbm, ⟨43, _⟩ => ⟨S2048x2816, .f32⟩
  | .hbm, ⟨44, _⟩ => ⟨S2048x2816, .f32⟩
  | .hbm, ⟨45, _⟩ => ⟨S2048x2816, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]
-- ==== Proof.Setup.lean ====
/- The launch of the stick-breaking backward kernel: what the host operations before the region leave (`V`), the
   two prefetched tables read as literals (`tables`), and the pipeline at them (`cfg`). -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.Frame
public import Idealize.ShloMosaic.Lib.Ring
public import Idealize.ShloMosaic.Lib.Tactic
public import Idealize.ShloMosaic.Lib.WordCmp
public import Idealize.ShloMosaic.Lib.StableHlo.RunRead

@[expose] public section

set_option maxRecDepth 16384

noncomputable section

namespace Cert.KernelIdeal.SB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- The stretches of host operations before the region, in order. -/
abbrev stretches : List (List (HloOp τ sig (Elt F))) :=
  [hostOps0, hostOps0_1, hostOps0_2, hostOps0_3, hostOps0_4, hostOps0_5, hostOps0_6, hostOps0_7, hostOps0_8, hostOps0_9]

/-- All of them as one list. -/
abbrev hostAll : List (HloOp τ sig (Elt F)) := (stretches (F := F)).flatten

/-- Core `c`'s buffers when the region is entered. -/
abbrev V (c : Dev nD) (b : Ref sig .tc) : Buf (Elt F) ((c : Thread nD τ).loc b) :=
  StableHlo.after hostAll (fun b => m (c, b)) b

theorem stretches_sub : (stretches (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub,
    hostOps0_7_sub, hostOps0_8_sub, hostOps0_9_sub⟩

theorem stretches_fresh : (stretches (F := F)).Forall fun ops => ops.Forall fun op => op.fresh = ∅ := by
  simp only [List.Forall]; repeat' constructor

set_option maxHeartbeats 800000 in
/-- `@main` up to the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main stretches stretches_sub stretches_fresh main_chain

set_option maxHeartbeats 800000 in
/-- No host operation writes the first argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 800000 in
/-- No host operation writes the second argument. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The host operations after the two tables' literals. -/
abbrev hostRest : List (HloOp τ sig (Elt F)) := (hostAll (F := F)).drop 2

/-- The contents after the two tables' literals. -/
abbrev V₂ (c : Dev nD) : Valuation τ sig (Elt F) :=
  (StableHlo.nullary main_c_0 (fun i => lit1 (S20.rowMajor i))).result
    ((StableHlo.nullary main_c (fun i => lit0 (S20.rowMajor i))).result (fun b => m (c, b)))

set_option maxHeartbeats 800000 in
theorem V_main_c (c : Dev nD) : V m c main_c = (fun i => lit0 (S20.rowMajor i)) := by
  show StableHlo.after hostRest (V₂ m c) (Proc.devRef .tc main_c) = _
  refine (StableHlo.after_of_forall_not_mem (b := Proc.devRef .tc main_c) _ _ (List.forall_iff_forall_mem.mp ?_)).trans ?_
  · simp only [hostRest, List.flatten_cons, List.flatten_nil, List.append_nil, List.cons_append, List.drop_succ_cons, List.drop_zero,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)
  · unfold V₂
    rw [HloOp.result_of_not_mem _ _ (by rw [StableHlo.nullary_writes, Finset.mem_singleton]; exact StableHlo.devRef_ne_of_ne (by decide))]
    rw [StableHlo.nullary_result']; rfl

set_option maxHeartbeats 800000 in
theorem V_main_c_0 (c : Dev nD) : V m c main_c_0 = (fun i => lit1 (S20.rowMajor i)) := by
  show StableHlo.after hostRest (V₂ m c) (Proc.devRef .tc main_c_0) = _
  refine (StableHlo.after_of_forall_not_mem (b := Proc.devRef .tc main_c_0) _ _ (List.forall_iff_forall_mem.mp ?_)).trans ?_
  · simp only [hostRest, List.flatten_cons, List.flatten_nil, List.append_nil, List.cons_append, List.drop_succ_cons, List.drop_zero,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)
  · unfold V₂
    rw [StableHlo.nullary_result']; rfl

/-- The tables' contents. -/
def tables : pre0.Contents (Elt F) := fun
  | 0 => (fun i => lit0 (S20.rowMajor i) : S20.Idx → BitVec 32)
  | 1 => (fun i => lit1 (S20.rowMajor i) : S20.Idx → BitVec 32)
  | ⟨_ + 2, h⟩ => absurd h (Nat.not_lt.2 (Nat.le_add_left _ _))

/-- The tile of query rows of a grid point, and its tile of keys, as the tables' words. -/
abbrev wq (i : grid0.Coords) : BitVec 32 := lit0 (i 1)
abbrev wk (i : grid0.Coords) : BitVec 32 := lit1 (i 1)

theorem row_major_S20 (x : S20.Idx) : S20.rowMajor x = x 0 := by
  apply Fin.ext
  show (Shape.rowMajorPi _ x).val = _
  rw [Shape.rowMajorPi_succ_val, Shape.rowMajorPi_zero]
  simp

theorem off_word (i : grid0.Coords) : (Scalar.indexCast (BitVec.ofNat 32 (i 1).val) : Index).toNat = (i 1).val := by
  have h : ∀ j : Fin 20, (Scalar.indexCast (BitVec.ofNat 32 j.val) : Index).toNat = j.val := by decide
  exact h (i 1)

/-- The element a point's table read meets. -/
theorem table_pos (i : grid0.Coords) (x : (Rect.unit (s := S20) (k0_off1 i) S1.size (k0_off1_inb i)).shape.Idx) :
    S20.rowMajor ((Rect.unit (s := S20) (k0_off1 i) S1.size (k0_off1_inb i)).emb x) = i 1 := by
  have hi : (i 1).val < 20 := (i 1).isLt
  have hx : (x 0).val < 1 := (x 0).isLt
  rw [row_major_S20]
  apply Fin.ext
  rw [Rect.emb_apply]
  show (Scalar.indexCast (BitVec.ofNat 32 (i 1).val) : Index).toNat + 1 * (x 0).val = (i 1).val
  rw [off_word i]; omega

theorem tables_at0 (i : grid0.Coords) : (tables (F := F)).at 0 (Rect.unit (s := S20) (k0_off1 i) S1.size (k0_off1_inb i)) numel1_S1 = wq i := by
  show lit0 _ = _
  exact congrArg lit0 (table_pos i _)
theorem tables_at1 (i : grid0.Coords) : (tables (F := F)).at 1 (Rect.unit (s := S20) (k0_off1 i) S1.size (k0_off1_inb i)) numel1_S1 = wk i := by
  show lit1 _ = _
  exact congrArg lit1 (table_pos i _)
theorem tables_atD1 (i : grid0.Coords) : (tables (F := F)).atD 1 (k0_off1 i) = wk i := by
  unfold Pipeline.Prefetch.Contents.atD
  split
  · show lit1 _ = _
    refine congrArg lit1 ((row_major_S20 _).trans (Fin.ext ?_))
    exact off_word i
  · next hn => refine absurd ?_ hn; exact fun a => by fin_cases a; exact k0_off1_inb i 0

theorem ix_0 (i : grid0.Coords) : cc0_transform_0 k0_off1_inb numel1_S1 (tables (F := F)) i = ![(wq i).toNat, (Scalar.addi 48#32 (BitVec.ofNat 32 (i 0).val)).toNat] := by
  show ![((tables (F := F)).at 0 (Rect.unit (s := S20) (k0_off1 i) S1.size (k0_off1_inb i)) numel1_S1).toNat, _] = _
  rw [tables_at0]
theorem ix_1 (i : grid0.Coords) : cc0_transform_1 k0_off1_inb numel1_S1 (tables (F := F)) i = ![(wk i).toNat, (Scalar.addi 52#32 (BitVec.ofNat 32 (i 0).val)).toNat] := by
  show ![((tables (F := F)).at 1 (Rect.unit (s := S20) (k0_off1 i) S1.size (k0_off1_inb i)) numel1_S1).toNat, _] = _
  rw [tables_at1]
theorem ix_2 (i : grid0.Coords) : cc0_transform_2 k0_off1_inb numel1_S1 (tables (F := F)) i = ![(wk i).toNat, (Scalar.addi 56#32 (BitVec.ofNat 32 (i 0).val)).toNat] := by
  show ![((tables (F := F)).at 1 (Rect.unit (s := S20) (k0_off1 i) S1.size (k0_off1_inb i)) numel1_S1).toNat, _] = _
  rw [tables_at1]
theorem ix_3 (i : grid0.Coords) : cc0_transform_3 k0_off1_inb numel1_S1 (tables (F := F)) i = ![(wq i).toNat, (BitVec.ofNat 32 (i 0).val).toNat] := by
  show ![((tables (F := F)).at 0 (Rect.unit (s := S20) (k0_off1 i) S1.size (k0_off1_inb i)) numel1_S1).toNat, _] = _
  rw [tables_at0]
theorem ix_4 (i : grid0.Coords) : cc0_transform_4 k0_off1_inb numel1_S1 (tables (F := F)) i = ![(BitVec.ofNat 32 (i 0).val).toNat, (wq i).toNat, (0#32).toNat] := by
  show ![_, ((tables (F := F)).at 0 (Rect.unit (s := S20) (k0_off1 i) S1.size (k0_off1_inb i)) numel1_S1).toNat, _] = _
  rw [tables_at0]
theorem ix_5 (i : grid0.Coords) : cc0_transform_5 k0_off1_inb numel1_S1 (tables (F := F)) i = ![(wq i).toNat, (BitVec.ofNat 32 (i 0).val).toNat] := by
  show ![((tables (F := F)).at 0 (Rect.unit (s := S20) (k0_off1 i) S1.size (k0_off1_inb i)) numel1_S1).toNat, _] = _
  rw [tables_at0]

theorem tables_ok : ok0 (F := F) tables := by
  refine ⟨fun i => ⟨?_, .inr (Affine.block_words_dvd (of_decide_eq_true rfl) (by decide))⟩, fun i => ⟨?_, .inr (Affine.block_words_dvd (of_decide_eq_true rfl) (by decide))⟩, fun i => ⟨?_, .inr (Affine.block_words_dvd (of_decide_eq_true rfl) (by decide))⟩, fun i => ⟨?_, .inr (Affine.block_words_dvd (of_decide_eq_true rfl) (by decide))⟩, fun i => ⟨?_, .inl rfl⟩, fun i => ⟨?_, .inr (Affine.block_words_dvd (of_decide_eq_true rfl) (by decide))⟩⟩
  · rw [ix_0]; revert i; decide +kernel
  · rw [ix_1]; revert i; decide +kernel
  · rw [ix_2]; revert i; decide +kernel
  · rw [ix_3]; revert i; decide +kernel
  · rw [ix_4]; revert i; decide +kernel
  · rw [ix_5]; revert i; decide +kernel

/-- On every device the tables hold those contents when the region is entered. -/
theorem V_pre (c : Dev nD) (j : Fin 2) : V m c (pre0.ref j) = tables (F := F) j := by
  fin_cases j
  · exact V_main_c m c
  · exact V_main_c_0 m c

/-- The pipeline at the tables. -/
abbrev adm : (pcfg0 (F := F)).Adm := ⟨tables, tables_ok⟩
abbrev cfgT (F : FTy → Type) [FloatOps F] : Pipeline.Cfg sig Λ₀ := cfg0 (adm (F := F))

/-- The body's offset check holds of every word of the key table. -/
theorem chk_ok (i : grid0.Coords) : k0_chk1 (wk i) := by
  have h : ∀ j : Fin 20, k0_chk1 (lit1 j) := by decide +kernel
  exact h (i 1)

/-! ## The body's conditions -/

/-- The point is the first of its pair of heads. -/
abbrev condA (i : grid0.Coords) : Prop := (Scalar.cmpi .ne (Scalar.extui (Scalar.cmpi .eq (BitVec.ofNat 32 (i 1).val) 0#32)) 0#32) = 1#1
/-- The point is the first of its tile of query rows. -/
abbrev condB (v1 v3 : BitVec 32) : Prop := (Scalar.cmpi .ne (Scalar.extui (Scalar.cmpi .eq v3 (Scalar.subi (Scalar.muli (Scalar.addi v1 1#32) 2#32) 1#32))) 0#32) = 1#1
/-- The point is the last of its tile of query rows. -/
abbrev condC (v3 : BitVec 32) : Prop := k0_cond3 v3 = 1#1
/-- The point is the last of its pair of heads. -/
abbrev condD (i : grid0.Coords) : Prop := k0_cond4 i = 1#1

/-- The first point of a pair is the first of a tile; the last of a pair is the last of a tile; no point is both
    first and last of a tile. -/
theorem condA_B (i : grid0.Coords) : condA i → condB (wq i) (wk i) := by
  have h : ∀ i : grid0.Coords, condA i → condB (wq i) (wk i) := by decide +kernel
  exact h i
theorem condD_C (i : grid0.Coords) : condD i → condC (wk i) := by
  have h : ∀ i : grid0.Coords, condD i → condC (wk i) := by decide +kernel
  exact h i
theorem condB_C (i : grid0.Coords) : condB (wq i) (wk i) → ¬ condC (wk i) := by
  have h : ∀ i : grid0.Coords, condB (wq i) (wk i) → ¬ condC (wk i) := by decide +kernel
  exact h i

end Cert.KernelIdeal.SB

end
-- ==== Proof.Step.lean ====
/- What one grid point of the stick-breaking backward kernel does to its scratch: the state `St` and the step on it,
   written over the body's own payload functions. -/
module

public import proofs.«01_k».proof.Proof.Setup
public import Idealize.ShloMosaic.Lib.VecWindow

@[expose] public section

noncomputable section

namespace Cert.KernelIdeal.SB

open Idealize.ShloMosaic Idealize.ShloMosaic.TcCoe
open Cert.KernelIdeal.Gen

variable {F : FTy → Type} [FloatOps F]

/-- The scratch: the gradient of the current tile of queries; of all keys and values of the pair of heads; per head and
    query row the sum of the log-remainders and of the weighted gradients of the tiles of keys already seen. -/
structure St (F : FTy → Type) [FloatOps F] where
  dq : Vec F S512x128 .f32
  dk : Vec F S2048x128 .f32
  dv : Vec F S2048x128 .f32
  r : Vec F S2x512x1 .f32
  rd : Vec F S2x512x1 .f32

/-- The blocks a point reads: queries, keys, values, the output's gradient, and the row sums `delta`. -/
structure Ins (F : FTy → Type) [FloatOps F] where
  q : Vec F S512x128 .bf16
  k : Vec F S256x128 .bf16
  v : Vec F S256x128 .bf16
  dO : Vec F S512x128 .bf16
  dl : Vec F S1x512x128 .f32

/-- One head's rows of a running sum. -/
def row0 (y : Vec F S2x512x1 .f32) : Vec F S1x512x1 .f32 := VecWindow.window y ![0, 0, 0] S1x512x1.size inb_S2x512x1_S1x512x1_0_0_0
def row1 (y : Vec F S2x512x1 .f32) : Vec F S1x512x1 .f32 := VecWindow.window y ![1, 0, 0] S1x512x1.size inb_S2x512x1_S1x512x1_1_0_0

/-- The state a point starts from: at the first point of a pair the keys' and values' gradients are cleared, at the
    first of a tile of queries the rest. -/
def St.clearA (s : St F) : St F := { s with dk := k0_pay3, dv := k0_pay4 }
def St.clearB (s : St F) : St F := { s with dq := k0_pay5, r := k0_pay6, rd := k0_pay7 }

/-- The rows of the running sums a point reads, head by head. -/
structure Rows (F : FTy → Type) [FloatOps F] where
  r0 : Vec F S1x512x1 .f32
  r1 : Vec F S1x512x1 .f32
  d0 : Vec F S1x512x1 .f32
  d1 : Vec F S1x512x1 .f32

def St.rows (s : St F) : Rows F := ⟨row0 s.r, row1 s.r, row0 s.rd, row1 s.rd⟩

section Head0
variable (w1 w3 : BitVec 32) (X : Ins F) (Y : Rows F)

abbrev zero12 : F .f32 := Scalar.ofBits .f32 0x00000000#32
abbrev zero70 : FVec F S512x256 .f32 := constant S512x256 .f32 0x00000000#32

/-- The mask of the keys strictly below the query. -/
abbrev msk : IVec S512x256 1 := k0_pay9 (F := F) w1 w3
abbrev Ins.q8 : FVec F S512x128 .bf16 := k0_pay8 X.q
def z0 : FVec F S512x256 .f32 := k0_pay17 X.q8 X.k
def lg0 : FVec F S512x256 .f32 := k0_pay18 X.q8 X.k (msk (F := F) w1 w3)
def a0 : FVec F S512x256 .bf16 :=
  k0_pay23 (msk (F := F) w1 w3) (k0_pay16 Y.r0) (z0 X) (lg0 w1 w3 X) k0_pay19 (k0_pay21 X.q8 X.k (msk (F := F) w1 w3)) (k0_pay22 X.q8 X.k (msk (F := F) w1 w3))
def da0 : FVec F S512x256 .f32 :=
  k0_pay24 X.v (msk (F := F) w1 w3) (k0_pay15 X.dO) (k0_pay16 Y.r0) (z0 X) (lg0 w1 w3 X) k0_pay19 (k0_pay21 X.q8 X.k (msk (F := F) w1 w3)) (k0_pay22 X.q8 X.k (msk (F := F) w1 w3))
def dq0 : FVec F S512x128 .f32 :=
  k0_pay26 X.k X.v (msk (F := F) w1 w3) k0_pay10 (k0_pay11 zero12) (k0_pay15 X.dO) (k0_pay16 Y.r0) (z0 X) (lg0 w1 w3 X) k0_pay19 (k0_pay21 X.q8 X.k (msk (F := F) w1 w3)) (k0_pay22 X.q8 X.k (msk (F := F) w1 w3)) X.dl Y.d0
def dk0 : FVec F S256x128 .f32 :=
  k0_pay28 k0_pay12 (k0_pay27 X.v (msk (F := F) w1 w3) k0_pay10 (k0_pay14 X.q8) (k0_pay15 X.dO) (k0_pay16 Y.r0) (z0 X) (lg0 w1 w3 X) k0_pay19 (k0_pay21 X.q8 X.k (msk (F := F) w1 w3)) (k0_pay22 X.q8 X.k (msk (F := F) w1 w3)) X.dl Y.d0)
def dv0 : FVec F S256x128 .f32 := k0_pay29 k0_pay13 (k0_pay15 X.dO) (a0 w1 w3 X Y)

abbrev Ins.q1 : FVec F S512x128 .bf16 := k0_pay32 X.q8
def z1 : FVec F S512x256 .f32 := k0_pay35 X.k X.q1 zero70
def lg1 : FVec F S512x256 .f32 := k0_pay36 X.k (msk (F := F) w1 w3) X.q1 zero70
def a1 : FVec F S512x256 .bf16 := k0_pay37 X.k (msk (F := F) w1 w3) X.q1 (k0_pay34 Y.r1) zero70
def da1 : FVec F S512x256 .f32 := k0_pay38 X.k X.v (msk (F := F) w1 w3) X.q1 (k0_pay33 X.dO) (k0_pay34 Y.r1) zero70
def sd1 : FVec F S512x256 .f32 := k0_pay39 X.k X.v (msk (F := F) w1 w3) k0_pay10 X.q1 (k0_pay33 X.dO) (k0_pay34 Y.r1) zero70

/-- What the point adds to the gradients of its queries, keys and values. -/
def dqAdd : FVec F S512x128 .f32 :=
  k0_pay41 X.k (msk (F := F) w1 w3) (dq0 w1 w3 X Y) (z1 X) (lg1 w1 w3 X) (da1 w1 w3 X Y) (sd1 w1 w3 X Y) X.dl Y.d1
def dkAdd : FVec F S256x128 .f32 :=
  k0_pay42 (msk (F := F) w1 w3) (dk0 w1 w3 X Y) X.q1 (z1 X) (lg1 w1 w3 X) (da1 w1 w3 X Y) (sd1 w1 w3 X Y) X.dl Y.d1
def dvAdd : FVec F S256x128 .f32 := k0_pay43 (dv0 w1 w3 X Y) (k0_pay33 X.dO) (a1 w1 w3 X Y)

/-- The rows of a point's keys in the gradients of all keys. -/
def rowsOf (h : k0_chk1 w3) (y : Vec F S2048x128 .f32) : Vec F S256x128 .f32 := VecWindow.window y (k0_off2 w3) S256x128.size (k0_off2_inb w3 h)

/-- One point's step, after the clearing. -/
def step (s : St F) (h : k0_chk1 w3) : St F where
  dq := k0_pay46 (dqAdd w1 w3 X s.rows) s.dq
  dk := VecWindow.put s.dk (k0_off2 w3) S256x128.size (k0_pay47 (dkAdd w1 w3 X s.rows) (rowsOf w3 h s.dk))
  dv := VecWindow.put s.dv (k0_off2 w3) S256x128.size (k0_pay48 (dvAdd w1 w3 X s.rows) (rowsOf w3 h s.dv))
  r := VecWindow.put (VecWindow.put s.r ![0, 0, 0] S1x512x1.size (k0_pay30 (lg0 w1 w3 X) s.rows.r0)) ![1, 0, 0] S1x512x1.size (k0_pay44 (lg1 w1 w3 X) s.rows.r1)
  rd := VecWindow.put (VecWindow.put s.rd ![0, 0, 0] S1x512x1.size (k0_pay31 (da0 w1 w3 X s.rows) s.rows.d0)) ![1, 0, 0] S1x512x1.size (k0_pay45 (da1 w1 w3 X s.rows) s.rows.d1)

end Head0

end Cert.KernelIdeal.SB

end
-- ==== Proof.RunLemmas.lean ====
/- What the body's stores leave in the scratch, read back as the step's fields. -/
module

public import proofs.«01_k».proof.Proof.Step

@[expose] public section

set_option maxRecDepth 16384

noncomputable section

namespace Cert.KernelIdeal.SB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

abbrev tb0 : Memref sig .tc .smem S20 .i32 := Memref.whole main_c
abbrev htb0 : tb0.IsWhole := Memref.isWhole_whole _
abbrev tb1 : Memref sig .tc .smem S20 .i32 := Memref.whole main_c_0
abbrev htb1 : tb1.IsWhole := Memref.isWhole_whole _

/-- A table's buffer, and that buffer held at half the full share. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

/-- The word a table load of the body reads at a point. -/
abbrev rd0 (c : Dev nD) (i : grid0.Coords) (M : Memref sig .tc .smem S20 .i32) (xt : TbBuf (F := F) c M) : BitVec 32 :=
  M.view.readAt (Elt F) (Rect.unit (s := S20) (k0_off1 i) S1.size (k0_off1_inb i)).toLoadRect xt (Shape.Idx.first (numel1_S1.symm ▸ Nat.one_pos))

/-- A load at a unit-stride rectangle reads a window of what the view reads. -/
theorem readAt_window {sp : Space} {S : Shape} {e : EltTy} (v : View sig .tc sp S e) (f : v.ty.Contents (Elt F)) {off size : Fin S.rank → ℕ} (inb : ∀ a, off a + size a ≤ S.size a) :
    v.readAt (Elt F) (Rect.unit off size inb).toLoadRect f = VecWindow.window (v.read (Elt F) f) off size inb := rfl

/-- A store at a unit-stride rectangle puts its payload over what the earlier stores left. -/
theorem read_writes_put {sp : Space} {S : Shape} {e : EltTy} (v : View sig .tc sp S e) (f : v.ty.Contents (Elt F)) {off size : Fin S.rank → ℕ} (inb : ∀ a, off a + size a ≤ S.size a)
    (w : (Rect.unit off size inb).shape.Idx → Elt F e) (L : List (View.Piece (Elt F) S e)) :
    v.read (Elt F) (v.writes (Elt F) f (⟨Rect.unit off size inb, w⟩ :: L)) = VecWindow.put (v.read (Elt F) (v.writes (Elt F) f L)) off size w :=
  View.read_writes_cons_put v f inb w L rfl

/-- The second head's rows are not under a store of the first's. -/
theorem window_put_row (y : Vec F S2x512x1 .f32) (w : Vec F S1x512x1 .f32) :
    VecWindow.window (VecWindow.put y ![0, 0, 0] S1x512x1.size w) ![1, 0, 0] S1x512x1.size inb_S2x512x1_S1x512x1_1_0_0
      = VecWindow.window y ![1, 0, 0] S1x512x1.size inb_S2x512x1_S1x512x1_1_0_0 := by
  funext x
  unfold VecWindow.window VecWindow.put
  rw [dif_neg]
  intro h
  have h0 := (h 0).2
  exact absurd h0 (by rw [Rect.emb_apply]; show ¬ (1 + 1 * (x 0).val < 0 + 1); omega)

/-- A load of a whole buffer reads what it holds. -/
theorem load_full {S : Shape} {e : EltTy} {m : Memref sig .tc .vmem S e} (h : m.IsWhole) (x : Vec F S e) {off : Fin S.rank → ℕ} (inb : ∀ a, off a + S.size a ≤ S.size a) :
    m.view.readAt (Elt F) (Rect.unit off S.size inb).toLoadRect (h.unread x) = x :=
  (View.readAt_full _ _ _).trans (h.read_unread _)

/-- The rows of the running sums as a point loads them, when it finds the sums of the points before; -/
def lds (v : View sig .tc .vmem S2x512x1 .f32) (w : View sig .tc .vmem S2x512x1 .f32) (f : v.ty.Contents (Elt F)) (g : w.ty.Contents (Elt F)) : Rows F :=
  ⟨v.readAt (Elt F) (Rect.unit (s := S2x512x1) ![0, 0, 0] S1x512x1.size inb_S2x512x1_S1x512x1_0_0_0).toLoadRect f, v.readAt (Elt F) (Rect.unit (s := S2x512x1) ![1, 0, 0] S1x512x1.size inb_S2x512x1_S1x512x1_1_0_0).toLoadRect f,
   w.readAt (Elt F) (Rect.unit (s := S2x512x1) ![0, 0, 0] S1x512x1.size inb_S2x512x1_S1x512x1_0_0_0).toLoadRect g, w.readAt (Elt F) (Rect.unit (s := S2x512x1) ![1, 0, 0] S1x512x1.size inb_S2x512x1_S1x512x1_1_0_0).toLoadRect g⟩

theorem lds_eq (v : View sig .tc .vmem S2x512x1 .f32) (w : View sig .tc .vmem S2x512x1 .f32) (f : v.ty.Contents (Elt F)) (g : w.ty.Contents (Elt F)) (s : St F)
    (hf : v.read (Elt F) f = s.r) (hg : w.read (Elt F) g = s.rd) : lds v w f g = s.rows := by
  unfold lds St.rows row0 row1; rw [← hf, ← hg]; rfl

/-- and when it has just cleared them: the second head's rows are loaded after the first's are stored. -/
def ldsB (v : View sig .tc .vmem S2x512x1 .f32) (w : View sig .tc .vmem S2x512x1 .f32) (w1 w3 : BitVec 32) (X : Ins F) : Rows F :=
  have r0 : Vec F S1x512x1 .f32 := v.readAt (Elt F) (Rect.unit (s := S2x512x1) ![0, 0, 0] S1x512x1.size inb_S2x512x1_S1x512x1_0_0_0).toLoadRect (v.writes (Elt F) v.junk [⟨Rect.unit (s := S2x512x1) ![0, 0, 0] S2x512x1.size inb_S2x512x1_S2x512x1_0_0_0, k0_pay6⟩])
  have d0 : Vec F S1x512x1 .f32 := w.readAt (Elt F) (Rect.unit (s := S2x512x1) ![0, 0, 0] S1x512x1.size inb_S2x512x1_S1x512x1_0_0_0).toLoadRect (w.writes (Elt F) w.junk [⟨Rect.unit (s := S2x512x1) ![0, 0, 0] S2x512x1.size inb_S2x512x1_S2x512x1_0_0_0, k0_pay7⟩])
  ⟨r0, v.readAt (Elt F) (Rect.unit (s := S2x512x1) ![1, 0, 0] S1x512x1.size inb_S2x512x1_S1x512x1_1_0_0).toLoadRect (v.writes (Elt F) v.junk [⟨Rect.unit (s := S2x512x1) ![0, 0, 0] S1x512x1.size inb_S2x512x1_S1x512x1_0_0_0, k0_pay30 (lg0 w1 w3 X) r0⟩, ⟨Rect.unit (s := S2x512x1) ![0, 0, 0] S2x512x1.size inb_S2x512x1_S2x512x1_0_0_0, k0_pay6⟩]),
   d0, w.readAt (Elt F) (Rect.unit (s := S2x512x1) ![1, 0, 0] S1x512x1.size inb_S2x512x1_S1x512x1_1_0_0).toLoadRect (w.writes (Elt F) w.junk [⟨Rect.unit (s := S2x512x1) ![0, 0, 0] S1x512x1.size inb_S2x512x1_S1x512x1_0_0_0, k0_pay31 (da0 w1 w3 X ⟨r0, r0, d0, d0⟩) d0⟩, ⟨Rect.unit (s := S2x512x1) ![0, 0, 0] S2x512x1.size inb_S2x512x1_S2x512x1_0_0_0, k0_pay7⟩])⟩

theorem ldsB_eq (v : View sig .tc .vmem S2x512x1 .f32) (w : View sig .tc .vmem S2x512x1 .f32) (w1 w3 : BitVec 32) (X : Ins F) (s : St F) : ldsB v w w1 w3 X = s.clearB.rows := by
  have e3 : ∀ {off size : Fin 3 → ℕ} (inb : ∀ a, off a + size a ≤ S2x512x1.size a), v.readAt (Elt F) (Rect.unit (s := S2x512x1) off size inb).toLoadRect (v.writes (Elt F) v.junk [⟨Rect.unit (s := S2x512x1) ![0, 0, 0] S2x512x1.size inb_S2x512x1_S2x512x1_0_0_0, k0_pay6⟩]) = VecWindow.window s.clearB.r off size inb := fun inb => by
    rw [readAt_window, View.read_writes_full]; rfl
  have e4 : ∀ {off size : Fin 3 → ℕ} (inb : ∀ a, off a + size a ≤ S2x512x1.size a), w.readAt (Elt F) (Rect.unit (s := S2x512x1) off size inb).toLoadRect (w.writes (Elt F) w.junk [⟨Rect.unit (s := S2x512x1) ![0, 0, 0] S2x512x1.size inb_S2x512x1_S2x512x1_0_0_0, k0_pay7⟩]) = VecWindow.window s.clearB.rd off size inb := fun inb => by
    rw [readAt_window, View.read_writes_full]; rfl
  have e5 : ∀ p, v.readAt (Elt F) (Rect.unit (s := S2x512x1) ![1, 0, 0] S1x512x1.size inb_S2x512x1_S1x512x1_1_0_0).toLoadRect (v.writes (Elt F) v.junk [⟨Rect.unit (s := S2x512x1) ![0, 0, 0] S1x512x1.size inb_S2x512x1_S1x512x1_0_0_0, p⟩, ⟨Rect.unit (s := S2x512x1) ![0, 0, 0] S2x512x1.size inb_S2x512x1_S2x512x1_0_0_0, k0_pay6⟩]) = row1 s.clearB.r := fun p => by
    rw [readAt_window, read_writes_put]; refine (window_put_row _ _).trans ?_; rw [View.read_writes_full]; rfl
  have e6 : ∀ p, w.readAt (Elt F) (Rect.unit (s := S2x512x1) ![1, 0, 0] S1x512x1.size inb_S2x512x1_S1x512x1_1_0_0).toLoadRect (w.writes (Elt F) w.junk [⟨Rect.unit (s := S2x512x1) ![0, 0, 0] S1x512x1.size inb_S2x512x1_S1x512x1_0_0_0, p⟩, ⟨Rect.unit (s := S2x512x1) ![0, 0, 0] S2x512x1.size inb_S2x512x1_S2x512x1_0_0_0, k0_pay7⟩]) = row1 s.clearB.rd := fun p => by
    rw [readAt_window, read_writes_put]; refine (window_put_row _ _).trans ?_; rw [View.read_writes_full]; rfl
  unfold ldsB St.rows
  rw [Rows.mk.injEq]
  exact ⟨e3 _, e5 _, e4 _, e6 _⟩

section Fields
variable (w1 w3 : BitVec 32) {X X1 : Ins F} {Y1 : Rows F} {s : St F} (hX : X1 = X) (hY : Y1 = s.rows) (h : k0_chk1 w3)

include hX hY

theorem fin_dq (ld : Vec F S512x128 .f32) (hl : ld = s.dq) : k0_pay46 (dqAdd w1 w3 X1 Y1) ld = (step w1 w3 X s h).dq := by
  subst hX hY hl; rfl

theorem fin_dk (v : View sig .tc .vmem S2048x128 .f32) (f g : v.ty.Contents (Elt F)) (hf : v.read (Elt F) f = s.dk) (hg : v.read (Elt F) g = s.dk) :
    v.read (Elt F) (v.writes (Elt F) f [⟨Rect.unit (s := S2048x128) (k0_off2 w3) S256x128.size (k0_off2_inb w3 h), k0_pay47 (dkAdd w1 w3 X1 Y1) (v.readAt (Elt F) (Rect.unit (s := S2048x128) (k0_off2 w3) S256x128.size (k0_off2_inb w3 h)).toLoadRect g)⟩])
      = (step w1 w3 X s h).dk := by
  subst hX hY
  rw [read_writes_put, View.writes_nil, readAt_window, hf, hg]; rfl

theorem fin_dv (v : View sig .tc .vmem S2048x128 .f32) (f g : v.ty.Contents (Elt F)) (hf : v.read (Elt F) f = s.dv) (hg : v.read (Elt F) g = s.dv) :
    v.read (Elt F) (v.writes (Elt F) f [⟨Rect.unit (s := S2048x128) (k0_off2 w3) S256x128.size (k0_off2_inb w3 h), k0_pay48 (dvAdd w1 w3 X1 Y1) (v.readAt (Elt F) (Rect.unit (s := S2048x128) (k0_off2 w3) S256x128.size (k0_off2_inb w3 h)).toLoadRect g)⟩])
      = (step w1 w3 X s h).dv := by
  subst hX hY
  rw [read_writes_put, View.writes_nil, readAt_window, hf, hg]; rfl

theorem fin_r (v : View sig .tc .vmem S2x512x1 .f32) (f : v.ty.Contents (Elt F)) (hf : v.read (Elt F) f = s.r) :
    v.read (Elt F) (v.writes (Elt F) f [⟨Rect.unit (s := S2x512x1) ![1, 0, 0] S1x512x1.size inb_S2x512x1_S1x512x1_1_0_0, k0_pay44 (lg1 w1 w3 X1) Y1.r1⟩, ⟨Rect.unit (s := S2x512x1) ![0, 0, 0] S1x512x1.size inb_S2x512x1_S1x512x1_0_0_0, k0_pay30 (lg0 w1 w3 X1) Y1.r0⟩]) = (step w1 w3 X s h).r := by
  subst hX hY
  rw [read_writes_put, read_writes_put, View.writes_nil, hf]; rfl

theorem fin_rd (v : View sig .tc .vmem S2x512x1 .f32) (f : v.ty.Contents (Elt F)) (hf : v.read (Elt F) f = s.rd) :
    v.read (Elt F) (v.writes (Elt F) f [⟨Rect.unit (s := S2x512x1) ![1, 0, 0] S1x512x1.size inb_S2x512x1_S1x512x1_1_0_0, k0_pay45 (da1 w1 w3 X1 Y1) Y1.d1⟩, ⟨Rect.unit (s := S2x512x1) ![0, 0, 0] S1x512x1.size inb_S2x512x1_S1x512x1_0_0_0, k0_pay31 (da0 w1 w3 X1 Y1) Y1.d0⟩]) = (step w1 w3 X s h).rd := by
  subst hX hY
  rw [read_writes_put, read_writes_put, View.writes_nil, hf]; rfl

end Fields

end Cert.KernelIdeal.SB

end
-- ==== Proof.RunNone.lean ====
/- The body at the points of one kind, run to its end. -/
module

public import proofs.«01_k».proof.Proof.RunLemmas

@[expose] public section

set_option maxRecDepth 16384

noncomputable section

namespace Cert.KernelIdeal.SB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 2000000 in
theorem run_none (c : Dev nD) (i : grid0.Coords) (arg4 : Memref sig .tc .vmem S512x128 .bf16) (harg4 : arg4.IsWhole) (arg5 : Memref sig .tc .vmem S256x128 .bf16) (harg5 : arg5.IsWhole) (arg6 : Memref sig .tc .vmem S256x128 .bf16) (harg6 : arg6.IsWhole) (arg7 : Memref sig .tc .vmem S512x128 .bf16) (harg7 : arg7.IsWhole) (arg8 : Memref sig .tc .vmem S1x512x128 .f32) (harg8 : arg8.IsWhole) (arg9 : Memref sig .tc .vmem S512x128 .bf16) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S512x128 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2x512x1 .f32) (harg15 : arg15.IsWhole) (arg16 : Memref sig .tc .vmem S2x512x1 .f32) (harg16 : arg16.IsWhole)
    (X : Ins F) (s : St F) (xt0 : TbBuf (F := F) c tb0) (xt1 : TbBuf (F := F) c tb1)
    (hchk : k0_chk1 (rd0 c i tb1 xt1)) (hcA : ¬condA i) (hcB : ¬condB (rd0 c i tb0 xt0) (rd0 c i tb1 xt1)) (hcC : ¬condC (rd0 c i tb1 xt1)) (hcD : ¬condD i)
    (E : Set ℕ) (K : PUnit → sProp 𝕄) :
    iprop(owns (c : Thread nD τ) arg4 fullShare X.q ∗ owns (c : Thread nD τ) arg5 fullShare X.k ∗ owns (c : Thread nD τ) arg6 fullShare X.v ∗ owns (c : Thread nD τ) arg7 fullShare X.dO ∗ owns (c : Thread nD τ) arg8 fullShare X.dl
        ∗ owns (c : Thread nD τ) arg12 fullShare s.dq ∗ owns (c : Thread nD τ) arg13 fullShare s.dk ∗ owns (c : Thread nD τ) arg14 fullShare s.dv ∗ owns (c : Thread nD τ) arg15 fullShare s.r ∗ owns (c : Thread nD τ) arg16 fullShare s.rd
        ∗ tbPt c tb0 xt0 ∗ tbPt c tb1 xt1
        ∗ (iprop(owns (c : Thread nD τ) arg4 fullShare X.q ∗ owns (c : Thread nD τ) arg5 fullShare X.k ∗ owns (c : Thread nD τ) arg6 fullShare X.v ∗ owns (c : Thread nD τ) arg7 fullShare X.dO ∗ owns (c : Thread nD τ) arg8 fullShare X.dl
        ∗ owns (c : Thread nD τ) arg12 fullShare (step (rd0 c i tb0 xt0) (rd0 c i tb1 xt1) X (s) hchk).dq ∗ owns (c : Thread nD τ) arg13 fullShare (step (rd0 c i tb0 xt0) (rd0 c i tb1 xt1) X (s) hchk).dk ∗ owns (c : Thread nD τ) arg14 fullShare (step (rd0 c i tb0 xt0) (rd0 c i tb1 xt1) X (s) hchk).dv ∗ owns (c : Thread nD τ) arg15 fullShare (step (rd0 c i tb0 xt0) (rd0 c i tb1 xt1) X (s) hchk).r ∗ owns (c : Thread nD τ) arg16 fullShare (step (rd0 c i tb0 xt0) (rd0 c i tb1 xt1) X (s) hchk).rd
        ∗ tbPt c tb0 xt0 ∗ tbPt c tb1 xt1) -∗ K ⟨⟩))
      ⊢ wp frame (wpE (defs₀ (F := F)) Variants.none c none) E (cc0_sb_bwd i tb0 htb0 tb1 htb1 arg4 harg4 arg5 harg5 arg6 harg6 arg7 harg7 arg8 harg8 arg9 harg9 arg10 harg10 arg11 harg11 arg12 harg12 arg13 harg13 arg14 harg14 arg15 harg15 arg16 harg16) K := by
  obtain ⟨x0, x1, x2, x3, x4⟩ := X
  obtain ⟨y0, y1, y2, y3, y4⟩ := s
  simp only [cc0_sb_bwd_eq_skeleton]; unfold cc0_sb_bwd_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%fs0, %hs0, HS0⟩, ⟨%fs1, %hs1, HS1⟩, ⟨%fs2, %hs2, HS2⟩, ⟨%fs3, %hs3, HS3⟩, ⟨%fs4, %hs4, HS4⟩, HT0, HT1, Hk⟩
  obtain rfl := harg4.eq_unread hf0; obtain rfl := harg5.eq_unread hf1; obtain rfl := harg6.eq_unread hf2; obtain rfl := harg7.eq_unread hf3; obtain rfl := harg8.eq_unread hf4
  obtain rfl := harg12.eq_unread hs0; obtain rfl := harg13.eq_unread hs1; obtain rfl := harg14.eq_unread hs2; obtain rfl := harg15.eq_unread hs3; obtain rfl := harg16.eq_unread hs4
  sl_exec (disch := first | sl_exact hchk | sl_exact hcA | sl_exact hcB | sl_exact hcC | sl_exact hcD)
  sl_step
  have hX : (⟨(arg4.view.readAt (Elt F) (Rect.unit (s := S512x128) ![0, 0] S512x128.size inb_S512x128_S512x128_0_0).toLoadRect (harg4.unread x0)), (arg5.view.readAt (Elt F) (Rect.unit (s := S256x128) ![0, 0] S256x128.size inb_S256x128_S256x128_0_0).toLoadRect (harg5.unread x1)), (arg6.view.readAt (Elt F) (Rect.unit (s := S256x128) ![0, 0] S256x128.size inb_S256x128_S256x128_0_0).toLoadRect (harg6.unread x2)), (arg7.view.readAt (Elt F) (Rect.unit (s := S512x128) ![0, 0] S512x128.size inb_S512x128_S512x128_0_0).toLoadRect (harg7.unread x3)), (arg8.view.readAt (Elt F) (Rect.unit (s := S1x512x128) ![0, 0, 0] S1x512x128.size inb_S1x512x128_S1x512x128_0_0_0).toLoadRect (harg8.unread x4))⟩ : Ins F) = ⟨x0, x1, x2, x3, x4⟩ :=
    Ins.mk.injEq .. |>.mpr ⟨load_full harg4 _ _, load_full harg5 _ _, load_full harg6 _ _, load_full harg7 _ _, load_full harg8 _ _⟩
  have hY : (lds arg15.view arg16.view (harg15.unread y3) (harg16.unread y4)) = (⟨y0, y1, y2, y3, y4⟩ : St F).rows := lds_eq _ _ _ _ _ (harg15.read_unread _) (harg16.read_unread _)
  have eq := fin_dq (rd0 c i tb0 xt0) (rd0 c i tb1 xt1) hX hY hchk (arg12.view.readAt (Elt F) (Rect.unit (s := S512x128) ![0, 0] S512x128.size inb_S512x128_S512x128_0_0).toLoadRect (harg12.unread y0)) (by rw [View.readAt_full, harg12.read_unread])
  have ek := fin_dk (rd0 c i tb0 xt0) (rd0 c i tb1 xt1) hX hY hchk arg13.view (harg13.unread y1) (harg13.unread y1) (harg13.read_unread _) (harg13.read_unread _)
  have ev := fin_dv (rd0 c i tb0 xt0) (rd0 c i tb1 xt1) hX hY hchk arg14.view (harg14.unread y2) (harg14.unread y2) (harg14.read_unread _) (harg14.read_unread _)
  have er := fin_r (rd0 c i tb0 xt0) (rd0 c i tb1 xt1) hX hY hchk arg15.view (harg15.unread y3) (harg15.read_unread _)
  have ed := fin_rd (rd0 c i tb0 xt0) (rd0 c i tb1 xt1) hX hY hchk arg16.view (harg16.unread y4) (harg16.read_unread _)
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [HS0]
  · iexists _; isplitr; swap; · iexact HS0
    ipureintro
    refine (View.read_writes_full _ _ _ _ _).trans ?_; exact eq
  isplitl [HS1]
  · iexists _; isplitr; swap; · iexact HS1
    ipureintro
    exact ek
  isplitl [HS2]
  · iexists _; isplitr; swap; · iexact HS2
    ipureintro
    exact ev
  isplitl [HS3]
  · iexists _; isplitr; swap; · iexact HS3
    ipureintro
    exact er
  isplitl [HS4]
  · iexists _; isplitr; swap; · iexact HS4
    ipureintro
    exact ed
  isplitl [HT0]; · iexact HT0
  iexact HT1

end Cert.KernelIdeal.SB

end
-- ==== Proof.RunB.lean ====
/- The body at the points of one kind, run to its end. -/
module

public import proofs.«01_k».proof.Proof.RunLemmas

@[expose] public section

set_option maxRecDepth 16384

noncomputable section

namespace Cert.KernelIdeal.SB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 2000000 in
theorem run_B (c : Dev nD) (i : grid0.Coords) (arg4 : Memref sig .tc .vmem S512x128 .bf16) (harg4 : arg4.IsWhole) (arg5 : Memref sig .tc .vmem S256x128 .bf16) (harg5 : arg5.IsWhole) (arg6 : Memref sig .tc .vmem S256x128 .bf16) (harg6 : arg6.IsWhole) (arg7 : Memref sig .tc .vmem S512x128 .bf16) (harg7 : arg7.IsWhole) (arg8 : Memref sig .tc .vmem S1x512x128 .f32) (harg8 : arg8.IsWhole) (arg9 : Memref sig .tc .vmem S512x128 .bf16) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S512x128 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2x512x1 .f32) (harg15 : arg15.IsWhole) (arg16 : Memref sig .tc .vmem S2x512x1 .f32) (harg16 : arg16.IsWhole)
    (X : Ins F) (s : St F) (xt0 : TbBuf (F := F) c tb0) (xt1 : TbBuf (F := F) c tb1)
    (hchk : k0_chk1 (rd0 c i tb1 xt1)) (hcA : ¬condA i) (hcB : condB (rd0 c i tb0 xt0) (rd0 c i tb1 xt1)) (hcC : ¬condC (rd0 c i tb1 xt1)) (hcD : ¬condD i)
    (E : Set ℕ) (K : PUnit → sProp 𝕄) :
    iprop(owns (c : Thread nD τ) arg4 fullShare X.q ∗ owns (c : Thread nD τ) arg5 fullShare X.k ∗ owns (c : Thread nD τ) arg6 fullShare X.v ∗ owns (c : Thread nD τ) arg7 fullShare X.dO ∗ owns (c : Thread nD τ) arg8 fullShare X.dl
        ∗ owns (c : Thread nD τ) arg12 fullShare s.dq ∗ owns (c : Thread nD τ) arg13 fullShare s.dk ∗ owns (c : Thread nD τ) arg14 fullShare s.dv ∗ owns (c : Thread nD τ) arg15 fullShare s.r ∗ owns (c : Thread nD τ) arg16 fullShare s.rd
        ∗ tbPt c tb0 xt0 ∗ tbPt c tb1 xt1
        ∗ (iprop(owns (c : Thread nD τ) arg4 fullShare X.q ∗ owns (c : Thread nD τ) arg5 fullShare X.k ∗ owns (c : Thread nD τ) arg6 fullShare X.v ∗ owns (c : Thread nD τ) arg7 fullShare X.dO ∗ owns (c : Thread nD τ) arg8 fullShare X.dl
        ∗ owns (c : Thread nD τ) arg12 fullShare (step (rd0 c i tb0 xt0) (rd0 c i tb1 xt1) X (s.clearB) hchk).dq ∗ owns (c : Thread nD τ) arg13 fullShare (step (rd0 c i tb0 xt0) (rd0 c i tb1 xt1) X (s.clearB) hchk).dk ∗ owns (c : Thread nD τ) arg14 fullShare (step (rd0 c i tb0 xt0) (rd0 c i tb1 xt1) X (s.clearB) hchk).dv ∗ owns (c : Thread nD τ) arg15 fullShare (step (rd0 c i tb0 xt0) (rd0 c i tb1 xt1) X (s.clearB) hchk).r ∗ owns (c : Thread nD τ) arg16 fullShare (step (rd0 c i tb0 xt0) (rd0 c i tb1 xt1) X (s.clearB) hchk).rd
        ∗ tbPt c tb0 xt0 ∗ tbPt c tb1 xt1) -∗ K ⟨⟩))
      ⊢ wp frame (wpE (defs₀ (F := F)) Variants.none c none) E (cc0_sb_bwd i tb0 htb0 tb1 htb1 arg4 harg4 arg5 harg5 arg6 harg6 arg7 harg7 arg8 harg8 arg9 harg9 arg10 harg10 arg11 harg11 arg12 harg12 arg13 harg13 arg14 harg14 arg15 harg15 arg16 harg16) K := by
  obtain ⟨x0, x1, x2, x3, x4⟩ := X
  obtain ⟨y0, y1, y2, y3, y4⟩ := s
  simp only [cc0_sb_bwd_eq_skeleton]; unfold cc0_sb_bwd_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%fs0, %hs0, HS0⟩, ⟨%fs1, %hs1, HS1⟩, ⟨%fs2, %hs2, HS2⟩, ⟨%fs3, %hs3, HS3⟩, ⟨%fs4, %hs4, HS4⟩, HT0, HT1, Hk⟩
  obtain rfl := harg4.eq_unread hf0; obtain rfl := harg5.eq_unread hf1; obtain rfl := harg6.eq_unread hf2; obtain rfl := harg7.eq_unread hf3; obtain rfl := harg8.eq_unread hf4
  obtain rfl := harg12.eq_unread hs0; obtain rfl := harg13.eq_unread hs1; obtain rfl := harg14.eq_unread hs2; obtain rfl := harg15.eq_unread hs3; obtain rfl := harg16.eq_unread hs4
  sl_exec (disch := first | sl_exact hchk | sl_exact hcA | sl_exact hcB | sl_exact hcC | sl_exact hcD)
  sl_step
  have hX : (⟨(arg4.view.readAt (Elt F) (Rect.unit (s := S512x128) ![0, 0] S512x128.size inb_S512x128_S512x128_0_0).toLoadRect (harg4.unread x0)), (arg5.view.readAt (Elt F) (Rect.unit (s := S256x128) ![0, 0] S256x128.size inb_S256x128_S256x128_0_0).toLoadRect (harg5.unread x1)), (arg6.view.readAt (Elt F) (Rect.unit (s := S256x128) ![0, 0] S256x128.size inb_S256x128_S256x128_0_0).toLoadRect (harg6.unread x2)), (arg7.view.readAt (Elt F) (Rect.unit (s := S512x128) ![0, 0] S512x128.size inb_S512x128_S512x128_0_0).toLoadRect (harg7.unread x3)), (arg8.view.readAt (Elt F) (Rect.unit (s := S1x512x128) ![0, 0, 0] S1x512x128.size inb_S1x512x128_S1x512x128_0_0_0).toLoadRect (harg8.unread x4))⟩ : Ins F) = ⟨x0, x1, x2, x3, x4⟩ :=
    Ins.mk.injEq .. |>.mpr ⟨load_full harg4 _ _, load_full harg5 _ _, load_full harg6 _ _, load_full harg7 _ _, load_full harg8 _ _⟩
  have hY : (ldsB arg15.view arg16.view (rd0 c i tb0 xt0) (rd0 c i tb1 xt1) (⟨(arg4.view.readAt (Elt F) (Rect.unit (s := S512x128) ![0, 0] S512x128.size inb_S512x128_S512x128_0_0).toLoadRect (harg4.unread x0)), (arg5.view.readAt (Elt F) (Rect.unit (s := S256x128) ![0, 0] S256x128.size inb_S256x128_S256x128_0_0).toLoadRect (harg5.unread x1)), (arg6.view.readAt (Elt F) (Rect.unit (s := S256x128) ![0, 0] S256x128.size inb_S256x128_S256x128_0_0).toLoadRect (harg6.unread x2)), (arg7.view.readAt (Elt F) (Rect.unit (s := S512x128) ![0, 0] S512x128.size inb_S512x128_S512x128_0_0).toLoadRect (harg7.unread x3)), (arg8.view.readAt (Elt F) (Rect.unit (s := S1x512x128) ![0, 0, 0] S1x512x128.size inb_S1x512x128_S1x512x128_0_0_0).toLoadRect (harg8.unread x4))⟩ : Ins F)) = ((⟨y0, y1, y2, y3, y4⟩ : St F).clearB).rows := ldsB_eq _ _ _ _ _ _
  have eq := fin_dq (rd0 c i tb0 xt0) (rd0 c i tb1 xt1) hX hY hchk (arg12.view.readAt (Elt F) (Rect.unit (s := S512x128) ![0, 0] S512x128.size inb_S512x128_S512x128_0_0).toLoadRect ((arg12.view.writes (Elt F) (arg12.view.junk) [⟨Rect.unit (s := S512x128) ![0, 0] S512x128.size inb_S512x128_S512x128_0_0, k0_pay5⟩]))) (by rw [View.readAt_full, View.read_writes_full]; rfl)
  have ek := fin_dk (rd0 c i tb0 xt0) (rd0 c i tb1 xt1) hX hY hchk arg13.view (harg13.unread y1) (harg13.unread y1) (harg13.read_unread _) (harg13.read_unread _)
  have ev := fin_dv (rd0 c i tb0 xt0) (rd0 c i tb1 xt1) hX hY hchk arg14.view (harg14.unread y2) (harg14.unread y2) (harg14.read_unread _) (harg14.read_unread _)
  have er := fin_r (rd0 c i tb0 xt0) (rd0 c i tb1 xt1) hX hY hchk arg15.view ((arg15.view.writes (Elt F) (harg15.unread y3) [⟨Rect.unit (s := S2x512x1) ![0, 0, 0] S2x512x1.size inb_S2x512x1_S2x512x1_0_0_0, k0_pay6⟩])) (View.read_writes_full _ _ _ _ _)
  have ed := fin_rd (rd0 c i tb0 xt0) (rd0 c i tb1 xt1) hX hY hchk arg16.view ((arg16.view.writes (Elt F) (harg16.unread y4) [⟨Rect.unit (s := S2x512x1) ![0, 0, 0] S2x512x1.size inb_S2x512x1_S2x512x1_0_0_0, k0_pay7⟩])) (View.read_writes_full _ _ _ _ _)
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [HS0]
  · iexists _; isplitr; swap; · iexact HS0
    ipureintro
    refine (View.read_writes_full _ _ _ _ _).trans ?_; exact eq
  isplitl [HS1]
  · iexists _; isplitr; swap; · iexact HS1
    ipureintro
    exact ek
  isplitl [HS2]
  · iexists _; isplitr; swap; · iexact HS2
    ipureintro
    exact ev
  isplitl [HS3]
  · iexists _; isplitr; swap; · iexact HS3
    ipureintro
    exact er
  isplitl [HS4]
  · iexists _; isplitr; swap; · iexact HS4
    ipureintro
    exact ed
  isplitl [HT0]; · iexact HT0
  iexact HT1

end Cert.KernelIdeal.SB

end
-- ==== Proof.RunAb.lean ====
/- The body at the points of one kind, run to its end. -/
module

public import proofs.«01_k».proof.Proof.RunLemmas

@[expose] public section

set_option maxRecDepth 16384

noncomputable section

namespace Cert.KernelIdeal.SB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

section First
variable (w1 w3 : BitVec 32) {X X1 : Ins F} {Y1 : Rows F} {s : St F} (hX : X1 = X) (hY : Y1 = s.rows) (h : k0_chk1 w3)

include hX hY

/-- At the first point the keys' and values' gradients are cleared before the tile's rows are added to. -/
theorem fin_dk_first (v : View sig .tc .vmem S2048x128 .f32) (f : v.ty.Contents (Elt F)) (p : Vec F S2048x128 .f32) (hp : p = s.dk) :
    v.read (Elt F) (v.writes (Elt F) f [⟨Rect.unit (s := S2048x128) (k0_off2 w3) S256x128.size (k0_off2_inb w3 h), k0_pay47 (dkAdd w1 w3 X1 Y1) (v.readAt (Elt F) (Rect.unit (s := S2048x128) (k0_off2 w3) S256x128.size (k0_off2_inb w3 h)).toLoadRect (v.writes (Elt F) f [⟨Rect.unit (s := S2048x128) ![0, 0] S2048x128.size inb_S2048x128_S2048x128_0_0, p⟩]))⟩, ⟨Rect.unit (s := S2048x128) ![0, 0] S2048x128.size inb_S2048x128_S2048x128_0_0, p⟩])
      = (step w1 w3 X s h).dk := by
  subst hX hY hp
  rw [read_writes_put, readAt_window, View.read_writes_full]; rfl

theorem fin_dv_first (v : View sig .tc .vmem S2048x128 .f32) (f : v.ty.Contents (Elt F)) (p : Vec F S2048x128 .f32) (hp : p = s.dv) :
    v.read (Elt F) (v.writes (Elt F) f [⟨Rect.unit (s := S2048x128) (k0_off2 w3) S256x128.size (k0_off2_inb w3 h), k0_pay48 (dvAdd w1 w3 X1 Y1) (v.readAt (Elt F) (Rect.unit (s := S2048x128) (k0_off2 w3) S256x128.size (k0_off2_inb w3 h)).toLoadRect (v.writes (Elt F) f [⟨Rect.unit (s := S2048x128) ![0, 0] S2048x128.size inb_S2048x128_S2048x128_0_0, p⟩]))⟩, ⟨Rect.unit (s := S2048x128) ![0, 0] S2048x128.size inb_S2048x128_S2048x128_0_0, p⟩])
      = (step w1 w3 X s h).dv := by
  subst hX hY hp
  rw [read_writes_put, readAt_window, View.read_writes_full]; rfl

end First

set_option maxHeartbeats 2000000 in
theorem run_AB (c : Dev nD) (i : grid0.Coords) (arg4 : Memref sig .tc .vmem S512x128 .bf16) (harg4 : arg4.IsWhole) (arg5 : Memref sig .tc .vmem S256x128 .bf16) (harg5 : arg5.IsWhole) (arg6 : Memref sig .tc .vmem S256x128 .bf16) (harg6 : arg6.IsWhole) (arg7 : Memref sig .tc .vmem S512x128 .bf16) (harg7 : arg7.IsWhole) (arg8 : Memref sig .tc .vmem S1x512x128 .f32) (harg8 : arg8.IsWhole) (arg9 : Memref sig .tc .vmem S512x128 .bf16) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S512x128 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2x512x1 .f32) (harg15 : arg15.IsWhole) (arg16 : Memref sig .tc .vmem S2x512x1 .f32) (harg16 : arg16.IsWhole)
    (X : Ins F) (s : St F) (xt0 : TbBuf (F := F) c tb0) (xt1 : TbBuf (F := F) c tb1)
    (hchk : k0_chk1 (rd0 c i tb1 xt1)) (hcA : condA i) (hcB : condB (rd0 c i tb0 xt0) (rd0 c i tb1 xt1)) (hcC : ¬condC (rd0 c i tb1 xt1)) (hcD : ¬condD i)
    (E : Set ℕ) (K : PUnit → sProp 𝕄) :
    iprop(owns (c : Thread nD τ) arg4 fullShare X.q ∗ owns (c : Thread nD τ) arg5 fullShare X.k ∗ owns (c : Thread nD τ) arg6 fullShare X.v ∗ owns (c : Thread nD τ) arg7 fullShare X.dO ∗ owns (c : Thread nD τ) arg8 fullShare X.dl
        ∗ owns (c : Thread nD τ) arg12 fullShare s.dq ∗ owns (c : Thread nD τ) arg13 fullShare s.dk ∗ owns (c : Thread nD τ) arg14 fullShare s.dv ∗ owns (c : Thread nD τ) arg15 fullShare s.r ∗ owns (c : Thread nD τ) arg16 fullShare s.rd
        ∗ tbPt c tb0 xt0 ∗ tbPt c tb1 xt1
        ∗ (iprop(owns (c : Thread nD τ) arg4 fullShare X.q ∗ owns (c : Thread nD τ) arg5 fullShare X.k ∗ owns (c : Thread nD τ) arg6 fullShare X.v ∗ owns (c : Thread nD τ) arg7 fullShare X.dO ∗ owns (c : Thread nD τ) arg8 fullShare X.dl
        ∗ owns (c : Thread nD τ) arg12 fullShare (step (rd0 c i tb0 xt0) (rd0 c i tb1 xt1) X ((s.clearA).clearB) hchk).dq ∗ owns (c : Thread nD τ) arg13 fullShare (step (rd0 c i tb0 xt0) (rd0 c i tb1 xt1) X ((s.clearA).clearB) hchk).dk ∗ owns (c : Thread nD τ) arg14 fullShare (step (rd0 c i tb0 xt0) (rd0 c i tb1 xt1) X ((s.clearA).clearB) hchk).dv ∗ owns (c : Thread nD τ) arg15 fullShare (step (rd0 c i tb0 xt0) (rd0 c i tb1 xt1) X ((s.clearA).clearB) hchk).r ∗ owns (c : Thread nD τ) arg16 fullShare (step (rd0 c i tb0 xt0) (rd0 c i tb1 xt1) X ((s.clearA).clearB) hchk).rd
        ∗ tbPt c tb0 xt0 ∗ tbPt c tb1 xt1) -∗ K ⟨⟩))
      ⊢ wp frame (wpE (defs₀ (F := F)) Variants.none c none) E (cc0_sb_bwd i tb0 htb0 tb1 htb1 arg4 harg4 arg5 harg5 arg6 harg6 arg7 harg7 arg8 harg8 arg9 harg9 arg10 harg10 arg11 harg11 arg12 harg12 arg13 harg13 arg14 harg14 arg15 harg15 arg16 harg16) K := by
  obtain ⟨x0, x1, x2, x3, x4⟩ := X
  obtain ⟨y0, y1, y2, y3, y4⟩ := s
  simp only [cc0_sb_bwd_eq_skeleton]; unfold cc0_sb_bwd_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%fs0, %hs0, HS0⟩, ⟨%fs1, %hs1, HS1⟩, ⟨%fs2, %hs2, HS2⟩, ⟨%fs3, %hs3, HS3⟩, ⟨%fs4, %hs4, HS4⟩, HT0, HT1, Hk⟩
  obtain rfl := harg4.eq_unread hf0; obtain rfl := harg5.eq_unread hf1; obtain rfl := harg6.eq_unread hf2; obtain rfl := harg7.eq_unread hf3; obtain rfl := harg8.eq_unread hf4
  obtain rfl := harg12.eq_unread hs0; obtain rfl := harg13.eq_unread hs1; obtain rfl := harg14.eq_unread hs2; obtain rfl := harg15.eq_unread hs3; obtain rfl := harg16.eq_unread hs4
  sl_exec (disch := first | sl_exact hchk | sl_exact hcA | sl_exact hcB | sl_exact hcC | sl_exact hcD)
  sl_step
  have hX : (⟨(arg4.view.readAt (Elt F) (Rect.unit (s := S512x128) ![0, 0] S512x128.size inb_S512x128_S512x128_0_0).toLoadRect (harg4.unread x0)), (arg5.view.readAt (Elt F) (Rect.unit (s := S256x128) ![0, 0] S256x128.size inb_S256x128_S256x128_0_0).toLoadRect (harg5.unread x1)), (arg6.view.readAt (Elt F) (Rect.unit (s := S256x128) ![0, 0] S256x128.size inb_S256x128_S256x128_0_0).toLoadRect (harg6.unread x2)), (arg7.view.readAt (Elt F) (Rect.unit (s := S512x128) ![0, 0] S512x128.size inb_S512x128_S512x128_0_0).toLoadRect (harg7.unread x3)), (arg8.view.readAt (Elt F) (Rect.unit (s := S1x512x128) ![0, 0, 0] S1x512x128.size inb_S1x512x128_S1x512x128_0_0_0).toLoadRect (harg8.unread x4))⟩ : Ins F) = ⟨x0, x1, x2, x3, x4⟩ :=
    Ins.mk.injEq .. |>.mpr ⟨load_full harg4 _ _, load_full harg5 _ _, load_full harg6 _ _, load_full harg7 _ _, load_full harg8 _ _⟩
  have hY : (ldsB arg15.view arg16.view (rd0 c i tb0 xt0) (rd0 c i tb1 xt1) (⟨(arg4.view.readAt (Elt F) (Rect.unit (s := S512x128) ![0, 0] S512x128.size inb_S512x128_S512x128_0_0).toLoadRect (harg4.unread x0)), (arg5.view.readAt (Elt F) (Rect.unit (s := S256x128) ![0, 0] S256x128.size inb_S256x128_S256x128_0_0).toLoadRect (harg5.unread x1)), (arg6.view.readAt (Elt F) (Rect.unit (s := S256x128) ![0, 0] S256x128.size inb_S256x128_S256x128_0_0).toLoadRect (harg6.unread x2)), (arg7.view.readAt (Elt F) (Rect.unit (s := S512x128) ![0, 0] S512x128.size inb_S512x128_S512x128_0_0).toLoadRect (harg7.unread x3)), (arg8.view.readAt (Elt F) (Rect.unit (s := S1x512x128) ![0, 0, 0] S1x512x128.size inb_S1x512x128_S1x512x128_0_0_0).toLoadRect (harg8.unread x4))⟩ : Ins F)) = (((⟨y0, y1, y2, y3, y4⟩ : St F).clearA).clearB).rows := ldsB_eq _ _ _ _ _ _
  have eq := fin_dq (rd0 c i tb0 xt0) (rd0 c i tb1 xt1) hX hY hchk (arg12.view.readAt (Elt F) (Rect.unit (s := S512x128) ![0, 0] S512x128.size inb_S512x128_S512x128_0_0).toLoadRect ((arg12.view.writes (Elt F) (arg12.view.junk) [⟨Rect.unit (s := S512x128) ![0, 0] S512x128.size inb_S512x128_S512x128_0_0, k0_pay5⟩]))) (by rw [View.readAt_full, View.read_writes_full]; rfl)
  have ek := fin_dk_first (rd0 c i tb0 xt0) (rd0 c i tb1 xt1) hX hY hchk arg13.view arg13.view.junk k0_pay3 rfl
  have ev := fin_dv_first (rd0 c i tb0 xt0) (rd0 c i tb1 xt1) hX hY hchk arg14.view arg14.view.junk k0_pay4 rfl
  have er := fin_r (rd0 c i tb0 xt0) (rd0 c i tb1 xt1) hX hY hchk arg15.view ((arg15.view.writes (Elt F) (harg15.unread y3) [⟨Rect.unit (s := S2x512x1) ![0, 0, 0] S2x512x1.size inb_S2x512x1_S2x512x1_0_0_0, k0_pay6⟩])) (View.read_writes_full _ _ _ _ _)
  have ed := fin_rd (rd0 c i tb0 xt0) (rd0 c i tb1 xt1) hX hY hchk arg16.view ((arg16.view.writes (Elt F) (harg16.unread y4) [⟨Rect.unit (s := S2x512x1) ![0, 0, 0] S2x512x1.size inb_S2x512x1_S2x512x1_0_0_0, k0_pay7⟩])) (View.read_writes_full _ _ _ _ _)
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [HS0]
  · iexists _; isplitr; swap; · iexact HS0
    ipureintro
    refine (View.read_writes_full _ _ _ _ _).trans ?_; exact eq
  isplitl [HS1]
  · iexists _; isplitr; swap; · iexact HS1
    ipureintro
    exact ek
  isplitl [HS2]
  · iexists _; isplitr; swap; · iexact HS2
    ipureintro
    exact ev
  isplitl [HS3]
  · iexists _; isplitr; swap; · iexact HS3
    ipureintro
    exact er
  isplitl [HS4]
  · iexists _; isplitr; swap; · iexact HS4
    ipureintro
    exact ed
  isplitl [HT0]; · iexact HT0
  iexact HT1

end Cert.KernelIdeal.SB

end
-- ==== Proof.RunC.lean ====
/- The body at the points of one kind, run to its end. -/
module

public import proofs.«01_k».proof.Proof.RunLemmas

@[expose] public section

set_option maxRecDepth 16384

noncomputable section

namespace Cert.KernelIdeal.SB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 2000000 in
theorem run_C (c : Dev nD) (i : grid0.Coords) (arg4 : Memref sig .tc .vmem S512x128 .bf16) (harg4 : arg4.IsWhole) (arg5 : Memref sig .tc .vmem S256x128 .bf16) (harg5 : arg5.IsWhole) (arg6 : Memref sig .tc .vmem S256x128 .bf16) (harg6 : arg6.IsWhole) (arg7 : Memref sig .tc .vmem S512x128 .bf16) (harg7 : arg7.IsWhole) (arg8 : Memref sig .tc .vmem S1x512x128 .f32) (harg8 : arg8.IsWhole) (arg9 : Memref sig .tc .vmem S512x128 .bf16) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S512x128 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2x512x1 .f32) (harg15 : arg15.IsWhole) (arg16 : Memref sig .tc .vmem S2x512x1 .f32) (harg16 : arg16.IsWhole)
    (X : Ins F) (s : St F) (xt0 : TbBuf (F := F) c tb0) (xt1 : TbBuf (F := F) c tb1)
    (hchk : k0_chk1 (rd0 c i tb1 xt1)) (hcA : ¬condA i) (hcB : ¬condB (rd0 c i tb0 xt0) (rd0 c i tb1 xt1)) (hcC : condC (rd0 c i tb1 xt1)) (hcD : ¬condD i)
    (E : Set ℕ) (K : PUnit → sProp 𝕄) :
    iprop(owns (c : Thread nD τ) arg4 fullShare X.q ∗ owns (c : Thread nD τ) arg5 fullShare X.k ∗ owns (c : Thread nD τ) arg6 fullShare X.v ∗ owns (c : Thread nD τ) arg7 fullShare X.dO ∗ owns (c : Thread nD τ) arg8 fullShare X.dl ∗ (∃ d, owns (c : Thread nD τ) arg9 fullShare d)
        ∗ owns (c : Thread nD τ) arg12 fullShare s.dq ∗ owns (c : Thread nD τ) arg13 fullShare s.dk ∗ owns (c : Thread nD τ) arg14 fullShare s.dv ∗ owns (c : Thread nD τ) arg15 fullShare s.r ∗ owns (c : Thread nD τ) arg16 fullShare s.rd
        ∗ tbPt c tb0 xt0 ∗ tbPt c tb1 xt1
        ∗ (iprop(owns (c : Thread nD τ) arg4 fullShare X.q ∗ owns (c : Thread nD τ) arg5 fullShare X.k ∗ owns (c : Thread nD τ) arg6 fullShare X.v ∗ owns (c : Thread nD τ) arg7 fullShare X.dO ∗ owns (c : Thread nD τ) arg8 fullShare X.dl ∗ owns (c : Thread nD τ) arg9 fullShare (k0_pay49 (step (rd0 c i tb0 xt0) (rd0 c i tb1 xt1) X (s) hchk).dq)
        ∗ owns (c : Thread nD τ) arg12 fullShare (step (rd0 c i tb0 xt0) (rd0 c i tb1 xt1) X (s) hchk).dq ∗ owns (c : Thread nD τ) arg13 fullShare (step (rd0 c i tb0 xt0) (rd0 c i tb1 xt1) X (s) hchk).dk ∗ owns (c : Thread nD τ) arg14 fullShare (step (rd0 c i tb0 xt0) (rd0 c i tb1 xt1) X (s) hchk).dv ∗ owns (c : Thread nD τ) arg15 fullShare (step (rd0 c i tb0 xt0) (rd0 c i tb1 xt1) X (s) hchk).r ∗ owns (c : Thread nD τ) arg16 fullShare (step (rd0 c i tb0 xt0) (rd0 c i tb1 xt1) X (s) hchk).rd
        ∗ tbPt c tb0 xt0 ∗ tbPt c tb1 xt1) -∗ K ⟨⟩))
      ⊢ wp frame (wpE (defs₀ (F := F)) Variants.none c none) E (cc0_sb_bwd i tb0 htb0 tb1 htb1 arg4 harg4 arg5 harg5 arg6 harg6 arg7 harg7 arg8 harg8 arg9 harg9 arg10 harg10 arg11 harg11 arg12 harg12 arg13 harg13 arg14 harg14 arg15 harg15 arg16 harg16) K := by
  obtain ⟨x0, x1, x2, x3, x4⟩ := X
  obtain ⟨y0, y1, y2, y3, y4⟩ := s
  simp only [cc0_sb_bwd_eq_skeleton]; unfold cc0_sb_bwd_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hs0, HS0⟩, ⟨%fs1, %hs1, HS1⟩, ⟨%fs2, %hs2, HS2⟩, ⟨%fs3, %hs3, HS3⟩, ⟨%fs4, %hs4, HS4⟩, HT0, HT1, Hk⟩
  obtain rfl := harg4.eq_unread hf0; obtain rfl := harg5.eq_unread hf1; obtain rfl := harg6.eq_unread hf2; obtain rfl := harg7.eq_unread hf3; obtain rfl := harg8.eq_unread hf4
  obtain rfl := harg12.eq_unread hs0; obtain rfl := harg13.eq_unread hs1; obtain rfl := harg14.eq_unread hs2; obtain rfl := harg15.eq_unread hs3; obtain rfl := harg16.eq_unread hs4
  sl_exec (disch := first | sl_exact hchk | sl_exact hcA | sl_exact hcB | sl_exact hcC | sl_exact hcD)
  sl_step
  have hX : (⟨(arg4.view.readAt (Elt F) (Rect.unit (s := S512x128) ![0, 0] S512x128.size inb_S512x128_S512x128_0_0).toLoadRect (harg4.unread x0)), (arg5.view.readAt (Elt F) (Rect.unit (s := S256x128) ![0, 0] S256x128.size inb_S256x128_S256x128_0_0).toLoadRect (harg5.unread x1)), (arg6.view.readAt (Elt F) (Rect.unit (s := S256x128) ![0, 0] S256x128.size inb_S256x128_S256x128_0_0).toLoadRect (harg6.unread x2)), (arg7.view.readAt (Elt F) (Rect.unit (s := S512x128) ![0, 0] S512x128.size inb_S512x128_S512x128_0_0).toLoadRect (harg7.unread x3)), (arg8.view.readAt (Elt F) (Rect.unit (s := S1x512x128) ![0, 0, 0] S1x512x128.size inb_S1x512x128_S1x512x128_0_0_0).toLoadRect (harg8.unread x4))⟩ : Ins F) = ⟨x0, x1, x2, x3, x4⟩ :=
    Ins.mk.injEq .. |>.mpr ⟨load_full harg4 _ _, load_full harg5 _ _, load_full harg6 _ _, load_full harg7 _ _, load_full harg8 _ _⟩
  have hY : (lds arg15.view arg16.view (harg15.unread y3) (harg16.unread y4)) = (⟨y0, y1, y2, y3, y4⟩ : St F).rows := lds_eq _ _ _ _ _ (harg15.read_unread _) (harg16.read_unread _)
  have eq := fin_dq (rd0 c i tb0 xt0) (rd0 c i tb1 xt1) hX hY hchk (arg12.view.readAt (Elt F) (Rect.unit (s := S512x128) ![0, 0] S512x128.size inb_S512x128_S512x128_0_0).toLoadRect (harg12.unread y0)) (by rw [View.readAt_full, harg12.read_unread])
  have ek := fin_dk (rd0 c i tb0 xt0) (rd0 c i tb1 xt1) hX hY hchk arg13.view (harg13.unread y1) (harg13.unread y1) (harg13.read_unread _) (harg13.read_unread _)
  have ev := fin_dv (rd0 c i tb0 xt0) (rd0 c i tb1 xt1) hX hY hchk arg14.view (harg14.unread y2) (harg14.unread y2) (harg14.read_unread _) (harg14.read_unread _)
  have er := fin_r (rd0 c i tb0 xt0) (rd0 c i tb1 xt1) hX hY hchk arg15.view (harg15.unread y3) (harg15.read_unread _)
  have ed := fin_rd (rd0 c i tb0 xt0) (rd0 c i tb1 xt1) hX hY hchk arg16.view (harg16.unread y4) (harg16.read_unread _)
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr; swap; · iexact H5
    ipureintro
    refine (View.read_writes_full _ _ _ _ _).trans ?_; exact congrArg k0_pay49 ((View.readCov_full _ _ _ _ _).trans eq)
  isplitl [HS0]
  · iexists _; isplitr; swap; · iexact HS0
    ipureintro
    refine (View.read_writes_full _ _ _ _ _).trans ?_; exact eq
  isplitl [HS1]
  · iexists _; isplitr; swap; · iexact HS1
    ipureintro
    exact ek
  isplitl [HS2]
  · iexists _; isplitr; swap; · iexact HS2
    ipureintro
    exact ev
  isplitl [HS3]
  · iexists _; isplitr; swap; · iexact HS3
    ipureintro
    exact er
  isplitl [HS4]
  · iexists _; isplitr; swap; · iexact HS4
    ipureintro
    exact ed
  isplitl [HT0]; · iexact HT0
  iexact HT1

end Cert.KernelIdeal.SB

end
-- ==== Proof.RunCd.lean ====
/- The body at the points of one kind, run to its end. -/
module

public import proofs.«01_k».proof.Proof.RunLemmas

@[expose] public section

set_option maxRecDepth 16384

noncomputable section

namespace Cert.KernelIdeal.SB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 2000000 in
theorem run_CD (c : Dev nD) (i : grid0.Coords) (arg4 : Memref sig .tc .vmem S512x128 .bf16) (harg4 : arg4.IsWhole) (arg5 : Memref sig .tc .vmem S256x128 .bf16) (harg5 : arg5.IsWhole) (arg6 : Memref sig .tc .vmem S256x128 .bf16) (harg6 : arg6.IsWhole) (arg7 : Memref sig .tc .vmem S512x128 .bf16) (harg7 : arg7.IsWhole) (arg8 : Memref sig .tc .vmem S1x512x128 .f32) (harg8 : arg8.IsWhole) (arg9 : Memref sig .tc .vmem S512x128 .bf16) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S512x128 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2x512x1 .f32) (harg15 : arg15.IsWhole) (arg16 : Memref sig .tc .vmem S2x512x1 .f32) (harg16 : arg16.IsWhole)
    (X : Ins F) (s : St F) (xt0 : TbBuf (F := F) c tb0) (xt1 : TbBuf (F := F) c tb1)
    (hchk : k0_chk1 (rd0 c i tb1 xt1)) (hcA : ¬condA i) (hcB : ¬condB (rd0 c i tb0 xt0) (rd0 c i tb1 xt1)) (hcC : condC (rd0 c i tb1 xt1)) (hcD : condD i)
    (E : Set ℕ) (K : PUnit → sProp 𝕄) :
    iprop(owns (c : Thread nD τ) arg4 fullShare X.q ∗ owns (c : Thread nD τ) arg5 fullShare X.k ∗ owns (c : Thread nD τ) arg6 fullShare X.v ∗ owns (c : Thread nD τ) arg7 fullShare X.dO ∗ owns (c : Thread nD τ) arg8 fullShare X.dl ∗ (∃ d, owns (c : Thread nD τ) arg9 fullShare d) ∗ (∃ d, owns (c : Thread nD τ) arg10 fullShare d) ∗ (∃ d, owns (c : Thread nD τ) arg11 fullShare d)
        ∗ owns (c : Thread nD τ) arg12 fullShare s.dq ∗ owns (c : Thread nD τ) arg13 fullShare s.dk ∗ owns (c : Thread nD τ) arg14 fullShare s.dv ∗ owns (c : Thread nD τ) arg15 fullShare s.r ∗ owns (c : Thread nD τ) arg16 fullShare s.rd
        ∗ tbPt c tb0 xt0 ∗ tbPt c tb1 xt1
        ∗ (iprop(owns (c : Thread nD τ) arg4 fullShare X.q ∗ owns (c : Thread nD τ) arg5 fullShare X.k ∗ owns (c : Thread nD τ) arg6 fullShare X.v ∗ owns (c : Thread nD τ) arg7 fullShare X.dO ∗ owns (c : Thread nD τ) arg8 fullShare X.dl ∗ owns (c : Thread nD τ) arg9 fullShare (k0_pay49 (step (rd0 c i tb0 xt0) (rd0 c i tb1 xt1) X (s) hchk).dq) ∗ owns (c : Thread nD τ) arg10 fullShare (k0_pay1 (step (rd0 c i tb0 xt0) (rd0 c i tb1 xt1) X (s) hchk).dk) ∗ owns (c : Thread nD τ) arg11 fullShare (k0_pay2 (step (rd0 c i tb0 xt0) (rd0 c i tb1 xt1) X (s) hchk).dv)
        ∗ owns (c : Thread nD τ) arg12 fullShare (step (rd0 c i tb0 xt0) (rd0 c i tb1 xt1) X (s) hchk).dq ∗ owns (c : Thread nD τ) arg13 fullShare (step (rd0 c i tb0 xt0) (rd0 c i tb1 xt1) X (s) hchk).dk ∗ owns (c : Thread nD τ) arg14 fullShare (step (rd0 c i tb0 xt0) (rd0 c i tb1 xt1) X (s) hchk).dv ∗ owns (c : Thread nD τ) arg15 fullShare (step (rd0 c i tb0 xt0) (rd0 c i tb1 xt1) X (s) hchk).r ∗ owns (c : Thread nD τ) arg16 fullShare (step (rd0 c i tb0 xt0) (rd0 c i tb1 xt1) X (s) hchk).rd
        ∗ tbPt c tb0 xt0 ∗ tbPt c tb1 xt1) -∗ K ⟨⟩))
      ⊢ wp frame (wpE (defs₀ (F := F)) Variants.none c none) E (cc0_sb_bwd i tb0 htb0 tb1 htb1 arg4 harg4 arg5 harg5 arg6 harg6 arg7 harg7 arg8 harg8 arg9 harg9 arg10 harg10 arg11 harg11 arg12 harg12 arg13 harg13 arg14 harg14 arg15 harg15 arg16 harg16) K := by
  obtain ⟨x0, x1, x2, x3, x4⟩ := X
  obtain ⟨y0, y1, y2, y3, y4⟩ := s
  simp only [cc0_sb_bwd_eq_skeleton]; unfold cc0_sb_bwd_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hs0, HS0⟩, ⟨%fs1, %hs1, HS1⟩, ⟨%fs2, %hs2, HS2⟩, ⟨%fs3, %hs3, HS3⟩, ⟨%fs4, %hs4, HS4⟩, HT0, HT1, Hk⟩
  obtain rfl := harg4.eq_unread hf0; obtain rfl := harg5.eq_unread hf1; obtain rfl := harg6.eq_unread hf2; obtain rfl := harg7.eq_unread hf3; obtain rfl := harg8.eq_unread hf4
  obtain rfl := harg12.eq_unread hs0; obtain rfl := harg13.eq_unread hs1; obtain rfl := harg14.eq_unread hs2; obtain rfl := harg15.eq_unread hs3; obtain rfl := harg16.eq_unread hs4
  sl_exec (disch := first | sl_exact hchk | sl_exact hcA | sl_exact hcB | sl_exact hcC | sl_exact hcD)
  sl_step
  have hX : (⟨(arg4.view.readAt (Elt F) (Rect.unit (s := S512x128) ![0, 0] S512x128.size inb_S512x128_S512x128_0_0).toLoadRect (harg4.unread x0)), (arg5.view.readAt (Elt F) (Rect.unit (s := S256x128) ![0, 0] S256x128.size inb_S256x128_S256x128_0_0).toLoadRect (harg5.unread x1)), (arg6.view.readAt (Elt F) (Rect.unit (s := S256x128) ![0, 0] S256x128.size inb_S256x128_S256x128_0_0).toLoadRect (harg6.unread x2)), (arg7.view.readAt (Elt F) (Rect.unit (s := S512x128) ![0, 0] S512x128.size inb_S512x128_S512x128_0_0).toLoadRect (harg7.unread x3)), (arg8.view.readAt (Elt F) (Rect.unit (s := S1x512x128) ![0, 0, 0] S1x512x128.size inb_S1x512x128_S1x512x128_0_0_0).toLoadRect (harg8.unread x4))⟩ : Ins F) = ⟨x0, x1, x2, x3, x4⟩ :=
    Ins.mk.injEq .. |>.mpr ⟨load_full harg4 _ _, load_full harg5 _ _, load_full harg6 _ _, load_full harg7 _ _, load_full harg8 _ _⟩
  have hY : (lds arg15.view arg16.view (harg15.unread y3) (harg16.unread y4)) = (⟨y0, y1, y2, y3, y4⟩ : St F).rows := lds_eq _ _ _ _ _ (harg15.read_unread _) (harg16.read_unread _)
  have eq := fin_dq (rd0 c i tb0 xt0) (rd0 c i tb1 xt1) hX hY hchk (arg12.view.readAt (Elt F) (Rect.unit (s := S512x128) ![0, 0] S512x128.size inb_S512x128_S512x128_0_0).toLoadRect (harg12.unread y0)) (by rw [View.readAt_full, harg12.read_unread])
  have ek := fin_dk (rd0 c i tb0 xt0) (rd0 c i tb1 xt1) hX hY hchk arg13.view (harg13.unread y1) (harg13.unread y1) (harg13.read_unread _) (harg13.read_unread _)
  have ev := fin_dv (rd0 c i tb0 xt0) (rd0 c i tb1 xt1) hX hY hchk arg14.view (harg14.unread y2) (harg14.unread y2) (harg14.read_unread _) (harg14.read_unread _)
  have er := fin_r (rd0 c i tb0 xt0) (rd0 c i tb1 xt1) hX hY hchk arg15.view (harg15.unread y3) (harg15.read_unread _)
  have ed := fin_rd (rd0 c i tb0 xt0) (rd0 c i tb1 xt1) hX hY hchk arg16.view (harg16.unread y4) (harg16.read_unread _)
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr; swap; · iexact H5
    ipureintro
    refine (View.read_writes_full _ _ _ _ _).trans ?_; exact congrArg k0_pay49 ((View.readCov_full _ _ _ _ _).trans eq)
  isplitl [H6]
  · iexists _; isplitr; swap; · iexact H6
    ipureintro
    refine (View.read_writes_full _ _ _ _ _).trans ?_; exact congrArg k0_pay1 ((View.readAt_full _ _ _).trans ek)
  isplitl [H7]
  · iexists _; isplitr; swap; · iexact H7
    ipureintro
    refine (View.read_writes_full _ _ _ _ _).trans ?_; exact congrArg k0_pay2 ((View.readAt_full _ _ _).trans ev)
  isplitl [HS0]
  · iexists _; isplitr; swap; · iexact HS0
    ipureintro
    refine (View.read_writes_full _ _ _ _ _).trans ?_; exact eq
  isplitl [HS1]
  · iexists _; isplitr; swap; · iexact HS1
    ipureintro
    exact ek
  isplitl [HS2]
  · iexists _; isplitr; swap; · iexact HS2
    ipureintro
    exact ev
  isplitl [HS3]
  · iexists _; isplitr; swap; · iexact HS3
    ipureintro
    exact er
  isplitl [HS4]
  · iexists _; isplitr; swap; · iexact HS4
    ipureintro
    exact ed
  isplitl [HT0]; · iexact HT0
  iexact HT1

end Cert.KernelIdeal.SB

end
-- ==== Proof.Frame.lean ====
/- The whole kernel: what its scratch holds point by point, the proof data of the pipeline, the body at every point,
   and the run of the program. -/
module

public import proofs.«01_k».proof.Proof.RunNone
public import proofs.«01_k».proof.Proof.RunB
public import proofs.«01_k».proof.Proof.RunAb
public import proofs.«01_k».proof.Proof.RunC
public import proofs.«01_k».proof.Proof.RunCd

@[expose] public section

set_option maxRecDepth 16384

noncomputable section

namespace Cert.KernelIdeal.SB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The state point by point -/

/-- Window `w`'s block at point `t`, read off its array as the region finds it. -/
def iblk (c : Dev nD) (w : Fin (cfgT F).W) (t : Fin (cfgT F).N) : (((cfgT F).win w).xblock ((cfgT F).grid.coords t)).Idx → Elt F ((cfgT F).win w).elt :=
  (((cfgT F).win w).blk t).view.read (Elt F) (V m c (Pipeline.arrRef spec0 w))

/-- The blocks the body reads at point `t`. -/
def Xat (c : Dev nD) (t : Fin (cfgT F).N) : Ins F := ⟨iblk m c 0 t, iblk m c 1 t, iblk m c 2 t, iblk m c 3 t, iblk m c 4 t⟩

instance (i : grid0.Coords) : Decidable (condA i) := inferInstanceAs (Decidable (_ = _))
instance (v w : BitVec 32) : Decidable (condB v w) := inferInstanceAs (Decidable (_ = _))
instance (w : BitVec 32) : Decidable (condC w) := inferInstanceAs (Decidable (_ = _))
instance (i : grid0.Coords) : Decidable (condD i) := inferInstanceAs (Decidable (_ = _))

/-- The state a point's step starts from. -/
def init (i : grid0.Coords) (s : St F) : St F :=
  if condA i then s.clearA.clearB else if condB (wq i) (wk i) then s.clearB else s

/-- What a point makes of the state it finds. -/
def next (i : grid0.Coords) (X : Ins F) (s : St F) : St F := step (wq i) (wk i) X (init i s) (chk_ok i)

/-- The state after `n` points. -/
def stAt (c : Dev nD) : ℕ → St F
  | 0 => ⟨k0_pay5, k0_pay3, k0_pay4, k0_pay6, k0_pay7⟩
  | n + 1 => if h : n < (cfgT F).N then next ((cfgT F).grid.coords ⟨n, h⟩) (Xat m c ⟨n, h⟩) (stAt c n) else stAt c n

theorem condA_first : ∀ t : Fin grid0.N, t.val = 0 → condA (grid0.coords t) := by decide +kernel

theorem stAt_succ (c : Dev nD) (t : Fin (cfgT F).N) : stAt m c (t.val + 1) = next (grid0.coords t) (Xat m c t) (stAt m c t.val) := by
  show (if h : t.val < (cfgT F).N then _ else _) = _
  rw [dif_pos t.isLt]

theorem next_stAt (c : Dev nD) (t : Fin (cfgT F).N) (s : St F) (hs : t.val ≠ 0 → s = stAt m c t.val) :
    next (grid0.coords t) (Xat m c t) s = stAt m c (t.val + 1) := by
  rw [stAt_succ]
  by_cases h : t.val = 0
  · unfold next init
    rw [if_pos (condA_first t h), if_pos (condA_first t h)]; rfl
  · rw [hs h]

theorem step_congr {w1 w1' w3 w3' : BitVec 32} (h1 : w1 = w1') (h3 : w3 = w3') (X : Ins F) (s : St F) (h : k0_chk1 w3) (h' : k0_chk1 w3') :
    step w1 w3 X s h = step w1' w3' X s h' := by
  subst h1 h3; rfl

/-! ## The words the body reads -/

theorem rd_q (c : Dev nD) (i : grid0.Coords) : rd0 c i tb0 (tables (F := F) 0) = wq i := tables_at0 (F := F) i
theorem rd_k (c : Dev nD) (i : grid0.Coords) : rd0 c i tb1 (tables (F := F) 1) = wk i := tables_at1 (F := F) i

/-! ## The output windows' idle points and write-backs -/

theorem idle_5 (t : Fin (cfgT F).N) : (cfgT F).idle 5 (grid0.coords t) = !(k0_cond3 (wk (grid0.coords t)) == 1#1) := by
  show (!(k0_cond3 ((tables (F := F)).atD 1 (k0_off1 (grid0.coords t))) == 1#1)) = _
  rw [tables_atD1]
theorem idle_6 (t : Fin (cfgT F).N) : (cfgT F).idle 6 (grid0.coords t) = !(k0_cond4 (grid0.coords t) == 1#1) := rfl
theorem idle_7 (t : Fin (cfgT F).N) : (cfgT F).idle 7 (grid0.coords t) = !(k0_cond4 (grid0.coords t) == 1#1) := rfl

theorem flushOf_5 : ∀ t : Fin grid0.N, ¬ condC (wk (grid0.coords t)) →
    Pipeline.Window.flushOf grid0 true (fun i => ![(wq i).toNat, (BitVec.ofNat 32 (i 0).val).toNat]) t = false := by decide +kernel
theorem flushOf_6 : ∀ t : Fin grid0.N, ¬ condD (grid0.coords t) → Pipeline.Window.flushOf grid0 true cc0_transform_6 t = false := by decide +kernel
theorem flushOf_7 : ∀ t : Fin grid0.N, ¬ condD (grid0.coords t) → Pipeline.Window.flushOf grid0 true cc0_transform_7 t = false := by decide +kernel

theorem flush_5 (t : Fin (cfgT F).N) (h : ¬ condC (wk (grid0.coords t))) : ((cfgT F).win 5).flush t = false := by
  rw [Pipeline.Window.flush_eq_flushOf]
  refine Eq.trans ?_ (flushOf_5 t h)
  exact congrArg (fun ix => Pipeline.Window.flushOf grid0 true ix t) (funext fun i => ix_5 i)
theorem flush_6 (t : Fin (cfgT F).N) (h : ¬ condD (grid0.coords t)) : ((cfgT F).win 6).flush t = false :=
  flushOf_6 t h
theorem flush_7 (t : Fin (cfgT F).N) (h : ¬ condD (grid0.coords t)) : ((cfgT F).win 7).flush t = false :=
  flushOf_7 t h

/-! ## The body's operands -/

abbrev ms_0 (t : Fin (cfgT F).N) : Memref sig .tc .vmem S512x128 .bf16 := spec0_0.stage ((cfgT F).slots t 0)
abbrev hs_0 (t : Fin (cfgT F).N) : (ms_0 (F := F) t).IsWhole := hstage0_0 (((cfgT F).slots t 0).cast nbuf0_0)
abbrev ms_1 (t : Fin (cfgT F).N) : Memref sig .tc .vmem S256x128 .bf16 := spec0_1.stage ((cfgT F).slots t 1)
abbrev hs_1 (t : Fin (cfgT F).N) : (ms_1 (F := F) t).IsWhole := hstage0_1 (((cfgT F).slots t 1).cast nbuf0_1)
abbrev ms_2 (t : Fin (cfgT F).N) : Memref sig .tc .vmem S256x128 .bf16 := spec0_2.stage ((cfgT F).slots t 2)
abbrev hs_2 (t : Fin (cfgT F).N) : (ms_2 (F := F) t).IsWhole := hstage0_2 (((cfgT F).slots t 2).cast nbuf0_2)
abbrev ms_3 (t : Fin (cfgT F).N) : Memref sig .tc .vmem S512x128 .bf16 := spec0_3.stage ((cfgT F).slots t 3)
abbrev hs_3 (t : Fin (cfgT F).N) : (ms_3 (F := F) t).IsWhole := hstage0_3 (((cfgT F).slots t 3).cast nbuf0_3)
abbrev ms_4 (t : Fin (cfgT F).N) : Memref sig .tc .vmem S1x512x128 .f32 := spec0_4.stage ((cfgT F).slots t 4)
abbrev hs_4 (t : Fin (cfgT F).N) : (ms_4 (F := F) t).IsWhole := hstage0_4 (((cfgT F).slots t 4).cast nbuf0_4)
abbrev ms_5 (t : Fin (cfgT F).N) : Memref sig .tc .vmem S512x128 .bf16 := spec0_5.stage ((cfgT F).slots t 5)
abbrev hs_5 (t : Fin (cfgT F).N) : (ms_5 (F := F) t).IsWhole := hstage0_5 (((cfgT F).slots t 5).cast nbuf0_5)
abbrev ms_6 (t : Fin (cfgT F).N) : Memref sig .tc .vmem S2048x128 .bf16 := spec0_6.stage ((cfgT F).slots t 6)
abbrev hs_6 (t : Fin (cfgT F).N) : (ms_6 (F := F) t).IsWhole := hstage0_6 (((cfgT F).slots t 6).cast nbuf0_6)
abbrev ms_7 (t : Fin (cfgT F).N) : Memref sig .tc .vmem S2048x128 .bf16 := spec0_7.stage ((cfgT F).slots t 7)
abbrev hs_7 (t : Fin (cfgT F).N) : (ms_7 (F := F) t).IsWhole := hstage0_7 (((cfgT F).slots t 7).cast nbuf0_7)
abbrev scM0_0 : Memref sig .tc .vmem S512x128 .f32 := Memref.whole cc0_scratch0
abbrev scM0_1 : Memref sig .tc .vmem S2048x128 .f32 := Memref.whole cc0_scratch1
abbrev scM0_2 : Memref sig .tc .vmem S2048x128 .f32 := Memref.whole cc0_scratch2
abbrev scM0_3 : Memref sig .tc .vmem S2x512x1 .f32 := Memref.whole cc0_scratch3
abbrev scM0_4 : Memref sig .tc .vmem S2x512x1 .f32 := Memref.whole cc0_scratch4

/-- The body at point `t`. -/
abbrev bodyAt (t : Fin (cfgT F).N) : Prog (TpuEff nD τ sig (Elt F) Λ₀ .tc) PUnit :=
  cc0_sb_bwd (grid0.coords t) tb0 htb0 tb1 htb1 (ms_0 (F := F) t) (hs_0 t) (ms_1 (F := F) t) (hs_1 t) (ms_2 (F := F) t) (hs_2 t) (ms_3 (F := F) t) (hs_3 t) (ms_4 (F := F) t) (hs_4 t) (ms_5 (F := F) t) (hs_5 t) (ms_6 (F := F) t) (hs_6 t) (ms_7 (F := F) t) (hs_7 t) scM0_0 (Memref.isWhole_whole _) scM0_1 (Memref.isWhole_whole _) scM0_2 (Memref.isWhole_whole _) scM0_3 (Memref.isWhole_whole _) scM0_4 (Memref.isWhole_whole _)

theorem defs₀_row (t : Fin (cfgT F).N) :
    defs₀ (F := F) .tc (cfgT F).body ((cfgT F).bodyArgs t ((cfgT F).slots t)) = bodyAt t := by
  unfold defs₀; rw [Defs.onTc_tc]

theorem PhiT0_eq (c : Dev nD) : (Pipeline.ΦT pre0 (tables (F := F)) c : sProp 𝕄) = iprop(tbPt c tb0 (tables 0) ∗ tbPt c tb1 (tables 1)) := by
  unfold Pipeline.ΦT Pipeline.prefHeld
  rw [show (Finset.univ : Finset (Fin 2)) = insert (0 : Fin 2) {(1 : Fin 2)} from by decide,
    bigSep_insert (by decide), bigSep_singleton]
  rfl

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

/-! ## The proof data -/

/-- Between the points: the scratch at the state reached (before the first point at anything), and the tables. -/
def PhiS (c : Dev nD) (n : ℕ) : sProp 𝕄 :=
  iprop(∃ s : St F, ⌜n ≠ 0 → s = stAt m c n⌝ ∗ iprop(owns (c : Thread nD τ) scM0_0 fullShare s.dq ∗ owns (c : Thread nD τ) scM0_1 fullShare s.dk ∗ owns (c : Thread nD τ) scM0_2 fullShare s.dv ∗ owns (c : Thread nD τ) scM0_3 fullShare s.r ∗ owns (c : Thread nD τ) scM0_4 fullShare s.rd) ∗ (∃ r, prngReg c r) ∗ Pipeline.ΦT pre0 (tables (F := F)) c)

def dats (_ : Fin 1) (c : Dev nD) : Dat τ (Elt F) Unit ℕ (UR sig nD τ) ℕ (cfgT F) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay49 (stAt m c (t.val + 1)).dq
    | ⟨6, _⟩ => k0_pay1 (stAt m c (t.val + 1)).dk
    | ⟨7, _⟩ => k0_pay2 (stAt m c (t.val + 1)).dv
  Φ t := PhiS m c t.val
  q w := Pipeline.shareOf spec0 w
  owed _ := 0

theorem A_eq (c : Dev nD) (w : Fin (cfgT F).W) : (dats m 0 c).A w = V m c (Pipeline.arrRef spec0 w) := by
  dsimp only [dats]

theorem Phi_eq (c : Dev nD) (t) : (dats m 0 c).Φ t = PhiS m c t.val := by dsimp only [dats]

theorem after_0 (c : Dev nD) (t : Fin (cfgT F).N) : (dats m 0 c).after 0 t = iblk m c 0 t := by dsimp only [dats]; try rfl
theorem after_1 (c : Dev nD) (t : Fin (cfgT F).N) : (dats m 0 c).after 1 t = iblk m c 1 t := by dsimp only [dats]; try rfl
theorem after_2 (c : Dev nD) (t : Fin (cfgT F).N) : (dats m 0 c).after 2 t = iblk m c 2 t := by dsimp only [dats]; try rfl
theorem after_3 (c : Dev nD) (t : Fin (cfgT F).N) : (dats m 0 c).after 3 t = iblk m c 3 t := by dsimp only [dats]; try rfl
theorem after_4 (c : Dev nD) (t : Fin (cfgT F).N) : (dats m 0 c).after 4 t = iblk m c 4 t := by dsimp only [dats]; try rfl
theorem after_5 (c : Dev nD) (t : Fin (cfgT F).N) : (dats m 0 c).after 5 t = k0_pay49 (stAt m c (t.val + 1)).dq := by dsimp only [dats]; try rfl
theorem after_6 (c : Dev nD) (t : Fin (cfgT F).N) : (dats m 0 c).after 6 t = k0_pay1 (stAt m c (t.val + 1)).dk := by dsimp only [dats]; try rfl
theorem after_7 (c : Dev nD) (t : Fin (cfgT F).N) : (dats m 0 c).after 7 t = k0_pay2 (stAt m c (t.val + 1)).dv := by dsimp only [dats]; try rfl
theorem before_0 (c : Dev nD) (t : Fin (cfgT F).N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin (cfgT F).N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin (cfgT F).N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin (cfgT F).N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin (cfgT F).N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

/-! ## The body at every point -/

/-- What the body leaves in output window 5's buffer. -/
def left_5 (c : Dev nD) (t : Fin (cfgT F).N) : sProp 𝕄 :=
  match (cfgT F).idle 5 (grid0.coords t) with
  | true =>
    match ((cfgT F).win 5).flush t with
    | false => iprop(∃ d, owns (c : Thread nD τ) (ms_5 (F := F) t) fullShare ((dats m 0 c).before 5 t d))
    | true => owns (c : Thread nD τ) (ms_5 (F := F) t) fullShare ((dats m 0 c).after 5 t)
  | false => owns (c : Thread nD τ) (ms_5 (F := F) t) fullShare ((dats m 0 c).after 5 t)
/-- What the body leaves in output window 6's buffer. -/
def left_6 (c : Dev nD) (t : Fin (cfgT F).N) : sProp 𝕄 :=
  match (cfgT F).idle 6 (grid0.coords t) with
  | true =>
    match ((cfgT F).win 6).flush t with
    | false => iprop(∃ d, owns (c : Thread nD τ) (ms_6 (F := F) t) fullShare ((dats m 0 c).before 6 t d))
    | true => owns (c : Thread nD τ) (ms_6 (F := F) t) fullShare ((dats m 0 c).after 6 t)
  | false => owns (c : Thread nD τ) (ms_6 (F := F) t) fullShare ((dats m 0 c).after 6 t)
/-- What the body leaves in output window 7's buffer. -/
def left_7 (c : Dev nD) (t : Fin (cfgT F).N) : sProp 𝕄 :=
  match (cfgT F).idle 7 (grid0.coords t) with
  | true =>
    match ((cfgT F).win 7).flush t with
    | false => iprop(∃ d, owns (c : Thread nD τ) (ms_7 (F := F) t) fullShare ((dats m 0 c).before 7 t d))
    | true => owns (c : Thread nD τ) (ms_7 (F := F) t) fullShare ((dats m 0 c).after 7 t)
  | false => owns (c : Thread nD τ) (ms_7 (F := F) t) fullShare ((dats m 0 c).after 7 t)
theorem left_5_idle (c : Dev nD) (t : Fin (cfgT F).N) (h : ¬ condC (wk (grid0.coords t))) : left_5 m c t = iprop(∃ d, owns (c : Thread nD τ) (ms_5 (F := F) t) fullShare ((dats m 0 c).before 5 t d)) := by
  have hi : (cfgT F).idle 5 (grid0.coords t) = true := by rw [idle_5]; simpa using h
  unfold left_5; rw [hi]; dsimp only; rw [flush_5 t h]
theorem left_5_live (c : Dev nD) (t : Fin (cfgT F).N) (h : condC (wk (grid0.coords t))) : left_5 m c t = owns (c : Thread nD τ) (ms_5 (F := F) t) fullShare ((dats m 0 c).after 5 t) := by
  have hi : (cfgT F).idle 5 (grid0.coords t) = false := by rw [idle_5]; simpa using h
  unfold left_5; rw [hi]
theorem left_6_idle (c : Dev nD) (t : Fin (cfgT F).N) (h : ¬ condD (grid0.coords t)) : left_6 m c t = iprop(∃ d, owns (c : Thread nD τ) (ms_6 (F := F) t) fullShare ((dats m 0 c).before 6 t d)) := by
  have hi : (cfgT F).idle 6 (grid0.coords t) = true := by rw [idle_6]; simpa using h
  unfold left_6; rw [hi]; dsimp only; rw [flush_6 t h]
theorem left_6_live (c : Dev nD) (t : Fin (cfgT F).N) (h : condD (grid0.coords t)) : left_6 m c t = owns (c : Thread nD τ) (ms_6 (F := F) t) fullShare ((dats m 0 c).after 6 t) := by
  have hi : (cfgT F).idle 6 (grid0.coords t) = false := by rw [idle_6]; simpa using h
  unfold left_6; rw [hi]
theorem left_7_idle (c : Dev nD) (t : Fin (cfgT F).N) (h : ¬ condD (grid0.coords t)) : left_7 m c t = iprop(∃ d, owns (c : Thread nD τ) (ms_7 (F := F) t) fullShare ((dats m 0 c).before 7 t d)) := by
  have hi : (cfgT F).idle 7 (grid0.coords t) = true := by rw [idle_7]; simpa using h
  unfold left_7; rw [hi]; dsimp only; rw [flush_7 t h]
theorem left_7_live (c : Dev nD) (t : Fin (cfgT F).N) (h : condD (grid0.coords t)) : left_7 m c t = owns (c : Thread nD τ) (ms_7 (F := F) t) fullShare ((dats m 0 c).after 7 t) := by
  have hi : (cfgT F).idle 7 (grid0.coords t) = false := by rw [idle_7]; simpa using h
  unfold left_7; rw [hi]

def bodyPre (c : Dev nD) (t : Fin (cfgT F).N) : sProp 𝕄 :=
  iprop((dats m 0 c).Φ t.castSucc ∗ (dats m 0 c).owesAt () t.castSucc
    ∗ (∃ d, owns (c : Thread nD τ) (ms_0 (F := F) t) fullShare ((dats m 0 c).before 0 t d))
    ∗ (∃ d, owns (c : Thread nD τ) (ms_1 (F := F) t) fullShare ((dats m 0 c).before 1 t d))
    ∗ (∃ d, owns (c : Thread nD τ) (ms_2 (F := F) t) fullShare ((dats m 0 c).before 2 t d))
    ∗ (∃ d, owns (c : Thread nD τ) (ms_3 (F := F) t) fullShare ((dats m 0 c).before 3 t d))
    ∗ (∃ d, owns (c : Thread nD τ) (ms_4 (F := F) t) fullShare ((dats m 0 c).before 4 t d))
    ∗ (∃ d, owns (c : Thread nD τ) (ms_5 (F := F) t) fullShare ((dats m 0 c).before 5 t d))
    ∗ (∃ d, owns (c : Thread nD τ) (ms_6 (F := F) t) fullShare ((dats m 0 c).before 6 t d))
    ∗ (∃ d, owns (c : Thread nD τ) (ms_7 (F := F) t) fullShare ((dats m 0 c).before 7 t d)))

def bodyPost (c : Dev nD) (t : Fin (cfgT F).N) : sProp 𝕄 :=
  iprop((dats m 0 c).Φ t.succ ∗ (dats m 0 c).owesAt () t.succ
    ∗ owns (c : Thread nD τ) (ms_0 (F := F) t) fullShare ((dats m 0 c).after 0 t)
    ∗ owns (c : Thread nD τ) (ms_1 (F := F) t) fullShare ((dats m 0 c).after 1 t)
    ∗ owns (c : Thread nD τ) (ms_2 (F := F) t) fullShare ((dats m 0 c).after 2 t)
    ∗ owns (c : Thread nD τ) (ms_3 (F := F) t) fullShare ((dats m 0 c).after 3 t)
    ∗ owns (c : Thread nD τ) (ms_4 (F := F) t) fullShare ((dats m 0 c).after 4 t)
    ∗ left_5 m c t ∗ left_6 m c t ∗ left_7 m c t)

set_option maxHeartbeats 4000000 in
theorem sound_body (c : Dev nD) (t : Fin (cfgT F).N) :
    bodyPre m c t ⊢ wp frame (wpE (defs₀ (F := F)) Variants.none c none) Set.univ (bodyAt t) (fun _ => bodyPost m c t) := by
  unfold bodyPre bodyPost bodyAt
  simp only [before_0, before_1, before_2, before_3, before_4]
  rw [show (dats m 0 c).owesAt () t.succ = (dats m 0 c).owesAt () t.castSucc from rfl,
    after_0, after_1, after_2, after_3, after_4]
  rw [Phi_eq, Phi_eq, Fin.val_succ, Fin.val_castSucc]
  unfold PhiS
  rw [PhiT0_eq]
  iintro ⟨⟨%s, %hs, ⟨HS0, HS1, HS2, HS3, HS4⟩, Hg, ⟨HT0, HT1⟩⟩, Ho, ⟨%d0, H0⟩, ⟨%d1, H1⟩, ⟨%d2, H2⟩, ⟨%d3, H3⟩, ⟨%d4, H4⟩, H5, H6, H7⟩
  have hn := next_stAt m c t s hs
  have hchk : k0_chk1 (rd0 c (grid0.coords t) tb1 (tables (F := F) 1)) := by rw [rd_k]; exact chk_ok _
  have eB : condB (rd0 c (grid0.coords t) tb0 (tables (F := F) 0)) (rd0 c (grid0.coords t) tb1 (tables (F := F) 1)) ↔ condB (wq (grid0.coords t)) (wk (grid0.coords t)) := by rw [rd_q, rd_k]
  have eC : condC (rd0 c (grid0.coords t) tb1 (tables (F := F) 1)) ↔ condC (wk (grid0.coords t)) := by rw [rd_k]
  by_cases hA : condA (grid0.coords t)
  · have hB := condA_B _ hA
    have hC := condB_C _ hB
    have hD : ¬ condD (grid0.coords t) := fun h => hC (condD_C _ h)
    have hstep : step (rd0 c (grid0.coords t) tb0 (tables (F := F) 0)) (rd0 c (grid0.coords t) tb1 (tables (F := F) 1)) (Xat m c t) (s.clearA.clearB) hchk = stAt m c (t.val + 1) := by
      rw [← hn]; unfold next init; rw [if_pos hA]; exact step_congr (rd_q c _) (rd_k c _) _ _ _ _
    rw [left_5_idle m c t hC, left_6_idle m c t hD, left_7_idle m c t hD]
    iapply (run_AB c (grid0.coords t) _ _ _ _ _ _ _ _ _ _ _ _ _ _ _ _ _ _ _ _ _ _ _ _ _ _ (Xat m c t) s (tables 0) (tables 1) hchk hA (eB.mpr hB) (fun h => hC (eC.mp h)) hD Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    isplitl [HS3]; · iexact HS3
    isplitl [HS4]; · iexact HS4
    isplitl [HT0]; · iexact HT0
    isplitl [HT1]; · iexact HT1
    rw [hstep]
    iintro ⟨H0, H1, H2, H3, H4, HS0, HS1, HS2, HS3, HS4, HT0, HT1⟩
    isplitl [HS0 HS1 HS2 HS3 HS4 Hg HT0 HT1]
    · iexists (stAt m c (t.val + 1)); isplitr; · ipureintro; exact fun _ => rfl
      isplitl [HS0 HS1 HS2 HS3 HS4]
      · isplitl [HS0]; · iexact HS0
        isplitl [HS1]; · iexact HS1
        isplitl [HS2]; · iexact HS2
        isplitl [HS3]; · iexact HS3
        iexact HS4
      isplitl [Hg]; · iexact Hg
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · by_cases hB : condB (wq (grid0.coords t)) (wk (grid0.coords t))
    · have hC := condB_C _ hB
      have hD : ¬ condD (grid0.coords t) := fun h => hC (condD_C _ h)
      have hstep : step (rd0 c (grid0.coords t) tb0 (tables (F := F) 0)) (rd0 c (grid0.coords t) tb1 (tables (F := F) 1)) (Xat m c t) (s.clearB) hchk = stAt m c (t.val + 1) := by
        rw [← hn]; unfold next init; rw [if_neg hA, if_pos hB]; exact step_congr (rd_q c _) (rd_k c _) _ _ _ _
      rw [left_5_idle m c t hC, left_6_idle m c t hD, left_7_idle m c t hD]
      iapply (run_B c (grid0.coords t) _ _ _ _ _ _ _ _ _ _ _ _ _ _ _ _ _ _ _ _ _ _ _ _ _ _ (Xat m c t) s (tables 0) (tables 1) hchk hA (eB.mpr hB) (fun h => hC (eC.mp h)) hD Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      isplitl [HS4]; · iexact HS4
      isplitl [HT0]; · iexact HT0
      isplitl [HT1]; · iexact HT1
      rw [hstep]
      iintro ⟨H0, H1, H2, H3, H4, HS0, HS1, HS2, HS3, HS4, HT0, HT1⟩
      isplitl [HS0 HS1 HS2 HS3 HS4 Hg HT0 HT1]
      · iexists (stAt m c (t.val + 1)); isplitr; · ipureintro; exact fun _ => rfl
        isplitl [HS0 HS1 HS2 HS3 HS4]
        · isplitl [HS0]; · iexact HS0
          isplitl [HS1]; · iexact HS1
          isplitl [HS2]; · iexact HS2
          isplitl [HS3]; · iexact HS3
          iexact HS4
        isplitl [Hg]; · iexact Hg
        isplitl [HT0]; · iexact HT0
        iexact HT1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · by_cases hC : condC (wk (grid0.coords t))
      · by_cases hD : condD (grid0.coords t)
        · skip
          have hstep : step (rd0 c (grid0.coords t) tb0 (tables (F := F) 0)) (rd0 c (grid0.coords t) tb1 (tables (F := F) 1)) (Xat m c t) (s) hchk = stAt m c (t.val + 1) := by
            rw [← hn]; unfold next init; rw [if_neg hA, if_neg hB]; exact step_congr (rd_q c _) (rd_k c _) _ _ _ _
          rw [left_5_live m c t hC, left_6_live m c t hD, left_7_live m c t hD]
          rw [after_5]
          icases H5 with ⟨%d5, H5⟩
          rw [after_6, after_7]
          icases H6 with ⟨%d6, H6⟩
          icases H7 with ⟨%d7, H7⟩
          iapply (run_CD c (grid0.coords t) _ _ _ _ _ _ _ _ _ _ _ _ _ _ _ _ _ _ _ _ _ _ _ _ _ _ (Xat m c t) s (tables 0) (tables 1) hchk hA (fun h => hB (eB.mp h)) (eC.mpr hC) hD Set.univ _)
          isplitl [H0]; · iexact H0
          isplitl [H1]; · iexact H1
          isplitl [H2]; · iexact H2
          isplitl [H3]; · iexact H3
          isplitl [H4]; · iexact H4
          isplitl [H5]; · iexists _; iexact H5
          isplitl [H6]; · iexists _; iexact H6
          isplitl [H7]; · iexists _; iexact H7
          isplitl [HS0]; · iexact HS0
          isplitl [HS1]; · iexact HS1
          isplitl [HS2]; · iexact HS2
          isplitl [HS3]; · iexact HS3
          isplitl [HS4]; · iexact HS4
          isplitl [HT0]; · iexact HT0
          isplitl [HT1]; · iexact HT1
          rw [hstep]
          iintro ⟨H0, H1, H2, H3, H4, H5, H6, H7, HS0, HS1, HS2, HS3, HS4, HT0, HT1⟩
          isplitl [HS0 HS1 HS2 HS3 HS4 Hg HT0 HT1]
          · iexists (stAt m c (t.val + 1)); isplitr; · ipureintro; exact fun _ => rfl
            isplitl [HS0 HS1 HS2 HS3 HS4]
            · isplitl [HS0]; · iexact HS0
              isplitl [HS1]; · iexact HS1
              isplitl [HS2]; · iexact HS2
              isplitl [HS3]; · iexact HS3
              iexact HS4
            isplitl [Hg]; · iexact Hg
            isplitl [HT0]; · iexact HT0
            iexact HT1
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          iexact H7
        · skip
          have hstep : step (rd0 c (grid0.coords t) tb0 (tables (F := F) 0)) (rd0 c (grid0.coords t) tb1 (tables (F := F) 1)) (Xat m c t) (s) hchk = stAt m c (t.val + 1) := by
            rw [← hn]; unfold next init; rw [if_neg hA, if_neg hB]; exact step_congr (rd_q c _) (rd_k c _) _ _ _ _
          rw [left_5_live m c t hC, left_6_idle m c t hD, left_7_idle m c t hD]
          rw [after_5]
          icases H5 with ⟨%d5, H5⟩
          iapply (run_C c (grid0.coords t) _ _ _ _ _ _ _ _ _ _ _ _ _ _ _ _ _ _ _ _ _ _ _ _ _ _ (Xat m c t) s (tables 0) (tables 1) hchk hA (fun h => hB (eB.mp h)) (eC.mpr hC) hD Set.univ _)
          isplitl [H0]; · iexact H0
          isplitl [H1]; · iexact H1
          isplitl [H2]; · iexact H2
          isplitl [H3]; · iexact H3
          isplitl [H4]; · iexact H4
          isplitl [H5]; · iexists _; iexact H5
          isplitl [HS0]; · iexact HS0
          isplitl [HS1]; · iexact HS1
          isplitl [HS2]; · iexact HS2
          isplitl [HS3]; · iexact HS3
          isplitl [HS4]; · iexact HS4
          isplitl [HT0]; · iexact HT0
          isplitl [HT1]; · iexact HT1
          rw [hstep]
          iintro ⟨H0, H1, H2, H3, H4, H5, HS0, HS1, HS2, HS3, HS4, HT0, HT1⟩
          isplitl [HS0 HS1 HS2 HS3 HS4 Hg HT0 HT1]
          · iexists (stAt m c (t.val + 1)); isplitr; · ipureintro; exact fun _ => rfl
            isplitl [HS0 HS1 HS2 HS3 HS4]
            · isplitl [HS0]; · iexact HS0
              isplitl [HS1]; · iexact HS1
              isplitl [HS2]; · iexact HS2
              isplitl [HS3]; · iexact HS3
              iexact HS4
            isplitl [Hg]; · iexact Hg
            isplitl [HT0]; · iexact HT0
            iexact HT1
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          iexact H7
      · have hD : ¬ condD (grid0.coords t) := fun h => hC (condD_C _ h)
        have hstep : step (rd0 c (grid0.coords t) tb0 (tables (F := F) 0)) (rd0 c (grid0.coords t) tb1 (tables (F := F) 1)) (Xat m c t) (s) hchk = stAt m c (t.val + 1) := by
          rw [← hn]; unfold next init; rw [if_neg hA, if_neg hB]; exact step_congr (rd_q c _) (rd_k c _) _ _ _ _
        rw [left_5_idle m c t hC, left_6_idle m c t hD, left_7_idle m c t hD]
        iapply (run_none c (grid0.coords t) _ _ _ _ _ _ _ _ _ _ _ _ _ _ _ _ _ _ _ _ _ _ _ _ _ _ (Xat m c t) s (tables 0) (tables 1) hchk hA (fun h => hB (eB.mp h)) (fun h => hC (eC.mp h)) hD Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        isplitl [HS3]; · iexact HS3
        isplitl [HS4]; · iexact HS4
        isplitl [HT0]; · iexact HT0
        isplitl [HT1]; · iexact HT1
        rw [hstep]
        iintro ⟨H0, H1, H2, H3, H4, HS0, HS1, HS2, HS3, HS4, HT0, HT1⟩
        isplitl [HS0 HS1 HS2 HS3 HS4 Hg HT0 HT1]
        · iexists (stAt m c (t.val + 1)); isplitr; · ipureintro; exact fun _ => rfl
          isplitl [HS0 HS1 HS2 HS3 HS4]
          · isplitl [HS0]; · iexact HS0
            isplitl [HS1]; · iexact HS1
            isplitl [HS2]; · iexact HS2
            isplitl [HS3]; · iexact HS3
            iexact HS4
          isplitl [Hg]; · iexact Hg
          isplitl [HT0]; · iexact HT0
          iexact HT1
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : iprop(Pipeline.ΦA spec0 c ∗ Pipeline.ΦT pre0 (tables (F := F)) c) ⊢ (dats m 0 c).Φ 0 := by
  rw [Phi_eq, PhiA0_eq]
  unfold PhiS
  iintro ⟨⟨⟨⟨%d0, HS0⟩, ⟨%d1, HS1⟩, ⟨%d2, HS2⟩, ⟨%d3, HS3⟩, ⟨%d4, HS4⟩⟩, Hg⟩, HT⟩
  iexists (⟨d0, d1, d2, d3, d4⟩ : St F)
  isplitr; · ipureintro; exact fun h => absurd rfl h
  isplitl [HS0 HS1 HS2 HS3 HS4]
  · isplitl [HS0]; · iexact HS0
    isplitl [HS1]; · iexact HS1
    isplitl [HS2]; · iexact HS2
    isplitl [HS3]; · iexact HS3
    iexact HS4
  isplitl [Hg]; · iexact Hg
  iexact HT

theorem hout (c : Dev nD) : (dats m 0 c).Φ (Fin.last (cfgT F).N) ⊢ Pipeline.ΦA spec0 c := by
  rw [Phi_eq, PhiA0_eq]
  unfold PhiS
  iintro ⟨%s, -, ⟨HS0, HS1, HS2, HS3, HS4⟩, Hg, -⟩
  isplitl [HS0 HS1 HS2 HS3 HS4]
  · isplitl [HS0]; · iexists _; iexact HS0
    isplitl [HS1]; · iexists _; iexact HS1
    isplitl [HS2]; · iexists _; iexact HS2
    isplitl [HS3]; · iexists _; iexact HS3
    iexists _; iexact HS4
  iexact Hg

/-! ## The run -/

set_option backward.isDefEq.respectTransparency.types false in
/-- Every execution of the program ends, the arrays at what the pipeline leaves and every counter at zero. -/
theorem run_main : θ_run defs (onTc (τ := τ) (main (F := F))) (s₀ m ρ)
    (fun r => Pipeline.FramePost (Pipeline.pin pcfgs fun _ => adm) (dats m) 0 (V m) r ∧ r.2.sem = fun _ => 0) :=
  Pipeline.θ_run_frameP_track_shared (Q' := _) pcfgs (fun _ => adm) (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hpf := V_pre m) (hin := hin m) (hout := hout m)

end Cert.KernelIdeal.SB

end
-- ==== Proof.Frames.lean ====
/- The frame of the printed kernel over the reals. -/
module

public import proofs.«01_k».proof.Defs
public import proofs.«01_k».proof.Proof.Gen.Kernel
public import proofs.«01_k».proof.Proof.Gen.KernelIdeal
public import proofs.«01_k».proof.Proof.Frame
public import Idealize.ShloMosaic.Lib.Pipeline.ValueKit

@[expose] public section

noncomputable section

namespace Cert.KernelIdeal.SB

open Idealize.ShloMosaic Idealize.SL.Sem
open Cert.KernelIdeal.Gen

variable {F : FTy → Type} [FloatOps F]

/-- The run leaves the two arguments as they were, and every counter at zero. -/
theorem run_frame (m : (ℓ : Loc nD τ sig) → Buf (Elt F) ℓ) (ρ : Dev nD → PrngReg) :
    θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => ⟨((Pipeline.FramePost.in_eq h.1 c 0 rfl).trans (A_eq m c 0)).trans (V_main_arg0 m c),
    ((Pipeline.FramePost.in_eq h.1 c 3 rfl).trans (A_eq m c 3)).trans (V_main_arg1 m c)⟩, h.2⟩) (run_main m ρ)

theorem frame_ideal : Cert.quiescent_KernelIdeal := fun m ρ _ => run_frame m ρ

end Cert.KernelIdeal.SB

end
-- ==== Proof.Bits.Frames.lean ====
/- The frame of the printed kernel over bit-exact floats. -/
module

public import proofs.«01_k».proof.Defs
public import proofs.«01_k».proof.Proof.Gen.Kernel
public import proofs.«01_k».proof.Proof.Bits.Frame
public import Idealize.ShloMosaic.Lib.Pipeline.ValueKit

@[expose] public section

noncomputable section

namespace Cert.Kernel.SB

open Idealize.ShloMosaic Idealize.SL.Sem
open Cert.Kernel.Gen

variable {F : FTy → Type} [FloatOps F]

/-- The run leaves the two arguments as they were, and every counter at zero. -/
theorem run_frame (m : (ℓ : Loc nD τ sig) → Buf (Elt F) ℓ) (ρ : Dev nD → PrngReg) :
    θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => ⟨((Pipeline.FramePost.in_eq h.1 c 0 rfl).trans (A_eq m c 0)).trans (V_main_arg0 m c),
    ((Pipeline.FramePost.in_eq h.1 c 3 rfl).trans (A_eq m c 3)).trans (V_main_arg1 m c)⟩, h.2⟩) (run_main m ρ)

theorem frame_kernel : Cert.quiescent_Kernel := fun m ρ _ => run_frame m ρ

end Cert.Kernel.SB

end
-- ==== Proof.Lift.lean ====
/- The vector operations of the backward kernel on finite inputs: arrays of real numbers, indexed by naturals, and what
   each operation makes of them. -/
module

public import proofs.«01_k».proof.Proof.Setup
public import Idealize.ShloMosaic.Lib.Pointwise

@[expose] public section

set_option maxRecDepth 16384

noncomputable section

namespace Cert.KernelIdeal.SB

open Idealize.ShloMosaic Idealize.ShloMosaic.TcCoe
open Cert.KernelIdeal.Gen
open Finset (range Ico)

/-- A table of reals as a matrix of extended reals, and as a box. -/
def M2 {φ : FTy} {a b : ℕ} (f : ℕ → ℕ → ℝ) : FVec Ideal ⟨2, ![a, b]⟩ φ := fun i => ((f (i 0).val (i 1).val : ℝ) : EReal)
def M3 {φ : FTy} {a b c : ℕ} (f : ℕ → ℕ → ℕ → ℝ) : FVec Ideal ⟨3, ![a, b, c]⟩ φ := fun i => ((f (i 0).val (i 1).val (i 2).val : ℝ) : EReal)
def M1 {φ : FTy} {a : ℕ} (f : ℕ → ℝ) : FVec Ideal ⟨1, ![a]⟩ φ := fun i => ((f (i 0).val : ℝ) : EReal)
/-- A relation on naturals as a mask. -/
def B2 {a b : ℕ} (p : ℕ → ℕ → Prop) [∀ i j, Decidable (p i j)] : IVec ⟨2, ![a, b]⟩ 1 := fun i => BitVec.ofBool (decide (p (i 0).val (i 1).val))

theorem M2_congr {φ : FTy} {a b : ℕ} {f g : ℕ → ℕ → ℝ} (h : ∀ i < a, ∀ j < b, f i j = g i j) : (M2 f : FVec Ideal ⟨2, ![a, b]⟩ φ) = M2 g := by
  funext i; unfold M2; rw [h _ (i 0).isLt _ (i 1).isLt]

theorem M3_congr {φ : FTy} {a b c : ℕ} {f g : ℕ → ℕ → ℕ → ℝ} (h : ∀ i < a, ∀ j < b, ∀ k < c, f i j k = g i j k) : (M3 f : FVec Ideal ⟨3, ![a, b, c]⟩ φ) = M3 g := by
  funext i; unfold M3; rw [h _ (i 0).isLt _ (i 1).isLt _ (i 2).isLt]

/-- A sum of reals, taken in the extended reals. -/
theorem coe_sum_range (n : ℕ) (f : ℕ → ℝ) : (∑ k : Fin n, ((f k.val : ℝ) : EReal)) = ((∑ k ∈ range n, f k : ℝ) : EReal) := by
  rw [Fin.sum_univ_eq_sum_range (fun k => ((f k : ℝ) : EReal))]
  induction n with
  | zero => simp
  | succ n ih => rw [Finset.sum_range_succ, Finset.sum_range_succ, ih, EReal.coe_add]

section Elementwise
variable {φ ψ : FTy} {a b : ℕ} (f g : ℕ → ℕ → ℝ) (p q : ℕ → ℕ → Prop) [∀ i j, Decidable (p i j)] [∀ i j, Decidable (q i j)]

theorem addf_M2 : addf (M2 f : FVec Ideal ⟨2, ![a, b]⟩ φ) (M2 g) = M2 fun i j => f i j + g i j := by
  funext i; exact (EReal.coe_add _ _).symm
theorem subf_M2 : subf (M2 f : FVec Ideal ⟨2, ![a, b]⟩ φ) (M2 g) = M2 fun i j => f i j - g i j := by
  funext i; exact (EReal.coe_sub _ _).symm
theorem mulf_M2 : mulf (M2 f : FVec Ideal ⟨2, ![a, b]⟩ φ) (M2 g) = M2 fun i j => f i j * g i j := by
  funext i; exact (EReal.coe_mul _ _).symm
theorem max_coe (x y : ℝ) : max (x : EReal) (y : EReal) = ((max x y : ℝ) : EReal) := (EReal.coe_strictMono.monotone.map_max).symm
theorem maximumf_M2 : maximumf (M2 f : FVec Ideal ⟨2, ![a, b]⟩ φ) (M2 g) = M2 fun i j => max (f i j) (g i j) := by
  funext i; exact max_coe _ _
theorem absf_M2 : absf (M2 f : FVec Ideal ⟨2, ![a, b]⟩ φ) = M2 fun i j => |f i j| := by
  funext i; exact max_coe _ _
theorem exp_M2 : exp (M2 f : FVec Ideal ⟨2, ![a, b]⟩ φ) = M2 fun i j => Real.exp (f i j) := by
  funext i; rfl
theorem log_coe {x : ℝ} (h : 0 < x) : Ideal.log (x : EReal) = ((Real.log x : ℝ) : EReal) := by
  show (if x ≤ 0 then (⊥ : EReal) else ((Real.log x : ℝ) : EReal)) = _
  rw [if_neg (not_le.2 h)]
theorem log_M2 (h : ∀ i j, 0 < f i j) : log (M2 f : FVec Ideal ⟨2, ![a, b]⟩ φ) = M2 fun i j => Real.log (f i j) := by
  funext i; exact log_coe (h _ _)
theorem truncf_M2 (h : ψ.bits < φ.bits) : truncf ψ (M2 f : FVec Ideal ⟨2, ![a, b]⟩ φ) h = M2 f := rfl
theorem extf_M2 (h : φ.bits < ψ.bits) : extf ψ (M2 f : FVec Ideal ⟨2, ![a, b]⟩ φ) h = M2 f := rfl
theorem select_M2 : select (B2 p : IVec ⟨2, ![a, b]⟩ 1) (M2 f : FVec Ideal ⟨2, ![a, b]⟩ φ) (M2 g) = M2 fun i j => if p i j then f i j else g i j := by
  funext i
  show (if BitVec.ofBool (decide (p (i 0).val (i 1).val)) = 1#1 then _ else _) = _
  unfold M2
  by_cases h : p (i 0).val (i 1).val <;> simp [h]
theorem not_B2 : xori (B2 p : IVec ⟨2, ![a, b]⟩ 1) (constantI ⟨2, ![a, b]⟩ 1 1#1) = B2 fun i j => ¬ p i j := by
  funext i
  show IntOp.xori (BitVec.ofBool (decide (p (i 0).val (i 1).val))) 1#1 = BitVec.ofBool (decide ¬ p (i 0).val (i 1).val)
  by_cases h : p (i 0).val (i 1).val <;> simp [h] <;> decide

/-! Constants. -/
theorem ofBits_eighth_f32 : (Ideal.ofBits .f32 0x3E000000#32 : EReal) = ((1 / 8 : ℝ) : EReal) := by
  simp [Ideal.ofBits, Ideal.ieee]; rw [← EReal.coe_mul]; norm_num
theorem ofBits_eighth_bf16 : (Ideal.ofBits .bf16 0x3E00#16 : EReal) = ((1 / 8 : ℝ) : EReal) := by
  simp [Ideal.ofBits, Ideal.ieee]; rw [← EReal.coe_mul]; norm_num
theorem bc_zero_f32 : (broadcast ⟨2, ![a, b]⟩ (Scalar.ofBits .f32 0x00000000#32 : Ideal .f32) : FVec Ideal ⟨2, ![a, b]⟩ .f32) = M2 fun _ _ => 0 := by
  funext i; exact Ideal.ofBits_zero_f32
theorem bc_zero_bf16 : (broadcast ⟨2, ![a, b]⟩ (Scalar.ofBits .bf16 0x0000#16 : Ideal .bf16) : FVec Ideal ⟨2, ![a, b]⟩ .bf16) = M2 fun _ _ => 0 := by
  funext i; exact Ideal.ofBits_zero_bf16
theorem bc_one_f32 : (broadcast ⟨2, ![a, b]⟩ (Scalar.ofBits .f32 0x3F800000#32 : Ideal .f32) : FVec Ideal ⟨2, ![a, b]⟩ .f32) = M2 fun _ _ => 1 := by
  funext i; exact Ideal.ofBits_one_f32
theorem bc_eighth_f32 : (broadcast ⟨2, ![a, b]⟩ (Scalar.ofBits .f32 0x3E000000#32 : Ideal .f32) : FVec Ideal ⟨2, ![a, b]⟩ .f32) = M2 fun _ _ => 1 / 8 := by
  funext i; exact ofBits_eighth_f32
theorem bc_eighth_bf16 : (broadcast ⟨2, ![a, b]⟩ (Scalar.ofBits .bf16 0x3E00#16 : Ideal .bf16) : FVec Ideal ⟨2, ![a, b]⟩ .bf16) = M2 fun _ _ => 1 / 8 := by
  funext i; exact ofBits_eighth_bf16
theorem const_zero_f32 : (constant ⟨2, ![a, b]⟩ .f32 0x00000000#32 : FVec Ideal ⟨2, ![a, b]⟩ .f32) = M2 fun _ _ => 0 := by
  funext i; exact Ideal.ofBits_zero_f32

end Elementwise

/-! Masks read off the positions. -/
theorem slt_ofNat {x y : ℕ} (hx : x < 4096) (hy : y < 4096) : IntOp.cmpi .slt (BitVec.ofNat 32 x) (BitVec.ofNat 32 y) = BitVec.ofBool (decide (x < y)) := by
  show BitVec.ofBool ((BitVec.ofNat 32 x).slt (BitVec.ofNat 32 y)) = _
  congr 1
  rw [BitVec.slt_eq_decide, BitVec.toInt_ofNat', BitVec.toInt_ofNat']
  simp only [decide_eq_decide]
  rw [Int.bmod_eq_of_le, Int.bmod_eq_of_le] <;> omega

theorem iota_512 (i : S512x128.Idx) : iota .tc S512x128 32 [1] iota_S512x128_d1_w32 i = BitVec.ofNat 32 (i 1).val := by
  pointwise
theorem lo_512 : cmpi .slt (iota .tc S512x128 32 [1] iota_S512x128_d1_w32) (broadcast S512x128 64#32) = B2 fun _ j => j < 64 := by
  funext i
  have h1 : (i 1).val < 128 := (i 1).isLt
  refine Eq.trans (b := IntOp.cmpi .slt (BitVec.ofNat 32 (i 1).val) (BitVec.ofNat 32 64)) ?_ (slt_ofNat (by omega) (by omega))
  rw [← iota_512]; rfl
theorem iota_256 (i : S256x128.Idx) : iota .tc S256x128 32 [1] iota_S256x128_d1_w32 i = BitVec.ofNat 32 (i 1).val := by
  pointwise
theorem lo_256 : cmpi .slt (iota .tc S256x128 32 [1] iota_S256x128_d1_w32) (broadcast S256x128 64#32) = B2 fun _ j => j < 64 := by
  funext i
  have h1 : (i 1).val < 128 := (i 1).isLt
  refine Eq.trans (b := IntOp.cmpi .slt (BitVec.ofNat 32 (i 1).val) (BitVec.ofNat 32 64)) ?_ (slt_ofNat (by omega) (by omega))
  rw [← iota_256]; rfl
theorem iota_0 (i : S256x256.Idx) : iota .tc S256x256 32 [0] iota_S256x256_d0_w32 i = BitVec.ofNat 32 (i 0).val := by
  pointwise
theorem iota_1 (i : S256x256.Idx) : iota .tc S256x256 32 [1] iota_S256x256_d1_w32 i = BitVec.ofNat 32 (i 1).val := by
  pointwise
theorem sle_ofNat {x y : ℕ} (hx : x < 4096) (hy : y < 4096) : IntOp.cmpi .sge (BitVec.ofNat 32 y) (BitVec.ofNat 32 x) = BitVec.ofBool (decide (x ≤ y)) := by
  show BitVec.ofBool ((BitVec.ofNat 32 x).sle (BitVec.ofNat 32 y)) = _
  congr 1
  rw [BitVec.sle_eq_decide, BitVec.toInt_ofNat', BitVec.toInt_ofNat']
  simp only [decide_eq_decide]
  rw [Int.bmod_eq_of_le, Int.bmod_eq_of_le] <;> omega
theorem sgt_ofNat {x y : ℕ} (hx : x < 4096) (hy : y < 4096) : IntOp.cmpi .sgt (BitVec.ofNat 32 y) (BitVec.ofNat 32 x) = BitVec.ofBool (decide (x < y)) :=
  slt_ofNat hx hy
theorem ge_256 : cmpi .sge (iota .tc S256x256 32 [0] iota_S256x256_d0_w32) (iota .tc S256x256 32 [1] iota_S256x256_d1_w32) = B2 fun i j => j ≤ i := by
  funext i
  have h0 : (i 0).val < 256 := (i 0).isLt
  have h1 : (i 1).val < 256 := (i 1).isLt
  refine Eq.trans (b := IntOp.cmpi .sge (BitVec.ofNat 32 (i 0).val) (BitVec.ofNat 32 (i 1).val)) ?_ (sle_ofNat (by omega) (by omega))
  rw [← iota_0, ← iota_1]; rfl
theorem gt_256 : cmpi .sgt (iota .tc S256x256 32 [0] iota_S256x256_d0_w32) (iota .tc S256x256 32 [1] iota_S256x256_d1_w32) = B2 fun i j => j < i := by
  funext i
  have h0 : (i 0).val < 256 := (i 0).isLt
  have h1 : (i 1).val < 256 := (i 1).isLt
  refine Eq.trans (b := IntOp.cmpi .sgt (BitVec.ofNat 32 (i 0).val) (BitVec.ofNat 32 (i 1).val)) ?_ (sgt_ofNat (by omega) (by omega))
  rw [← iota_0, ← iota_1]; rfl

/-! The products, sums and changes of shape of the body. -/
section Shapes
variable {φ φ' : FTy} (f g h : ℕ → ℕ → ℝ)

theorem mm_nt : matmul dot_S512x128_S256x128_S512x256_1_1_0_0_n_n none (M2 f : FVec Ideal S512x128 .bf16) (M2 g : FVec Ideal S256x128 .bf16) (M2 h : FVec Ideal S512x256 .f32)
    = M2 fun i j => h i j + ∑ k ∈ range 128, f i k * g j k := by
  funext j; pointwise; simp only [M2, ← EReal.coe_mul, coe_sum_range 128 (fun k => f _ k * g _ k), ← EReal.coe_add]; rfl
theorem mm_nn : matmul dot_S512x256_S256x256_S512x256_1_0_0_1_n_n none (M2 f : FVec Ideal S512x256 .bf16) (M2 g : FVec Ideal S256x256 .bf16) (M2 h : FVec Ideal S512x256 .f32)
    = M2 fun i j => h i j + ∑ k ∈ range 256, f i k * g k j := by
  funext j; pointwise; simp only [M2, ← EReal.coe_mul, coe_sum_range 256 (fun k => f _ k * g k _), ← EReal.coe_add]; rfl
theorem mm_nq : matmul dot_S512x256_S256x128_S512x128_1_0_0_1_n_n none (M2 f : FVec Ideal S512x256 .bf16) (M2 g : FVec Ideal S256x128 .bf16) (M2 h : FVec Ideal S512x128 .f32)
    = M2 fun i j => h i j + ∑ k ∈ range 256, f i k * g k j := by
  funext j; pointwise; simp only [M2, ← EReal.coe_mul, coe_sum_range 256 (fun k => f _ k * g k _), ← EReal.coe_add]; rfl
theorem mm_tn : matmul dot_S512x256_S512x128_S256x128_0_0_1_1_n_n none (M2 f : FVec Ideal S512x256 .bf16) (M2 g : FVec Ideal S512x128 .bf16) (M2 h : FVec Ideal S256x128 .f32)
    = M2 fun i j => h i j + ∑ k ∈ range 512, f k i * g k j := by
  funext j; pointwise; simp only [M2, ← EReal.coe_mul, coe_sum_range 512 (fun k => f k _ * g k _), ← EReal.coe_add]; rfl
theorem sum_row : multiReduction .add [1] S512 (M2 f : FVec Ideal S512x256 .f32) 0x00000000#32 reduces_S512x256_S512 (.inl rfl) rfl = M1 fun i => ∑ k ∈ range 256, f i k := by
  funext j; pointwise; simp only [M2, coe_sum_range 256 (fun k => f _ k)]; rfl

theorem sc_512_2 (f : ℕ → ℝ) : shapeCast S512x1 (M1 f : FVec Ideal S512 .f32) shapeCasts_S512_S512x1 = M2 fun i _ => f i := by
  funext j; pointwise; rfl
theorem sc_3_2 (f : ℕ → ℕ → ℕ → ℝ) : shapeCast S512x1 (M3 f : FVec Ideal S1x512x1 .f32) shapeCasts_S1x512x1_S512x1 = M2 fun i _ => f 0 i 0 := by
  funext j; pointwise; rfl
theorem sc_2_3 : shapeCast S1x512x1 (M2 f : FVec Ideal S512x1 .f32) shapeCasts_S512x1_S1x512x1 = M3 fun _ i _ => f i 0 := by
  funext j; pointwise; rfl
theorem sc_dl (f : ℕ → ℕ → ℕ → ℝ) : shapeCast S512x128 (M3 f : FVec Ideal S1x512x128 .f32) shapeCasts_S1x512x128_S512x128 = M2 fun i j => f 0 i j := by
  funext j; pointwise; rfl
theorem sc_id_q : shapeCast S512x128 (M2 f : FVec Ideal S512x128 .f32) shapeCasts_S512x128_S512x128 = M2 f := by
  funext j; pointwise
theorem sc_id_k : shapeCast S256x128 (M2 f : FVec Ideal S256x128 .f32) shapeCasts_S256x128_S256x128 = M2 f := by
  funext j; pointwise
theorem sc_id_s : shapeCast S2048x128 (M2 f : FVec Ideal S2048x128 .f32) shapeCasts_S2048x128_S2048x128 = M2 f := by
  funext j; pointwise
theorem bc_col : broadcastTo S512x256 (M2 f : FVec Ideal S512x1 .f32) broadcasts_S512x1_S512x256 = M2 fun i _ => f i 0 := by
  funext j; pointwise; rfl
theorem sl_0 : extractStridedSlice S512x1 ![0, 0] (M2 f : FVec Ideal S512x128 .f32) slices_S512x128_o0_0_S512x1 = M2 fun i _ => f i 0 := by
  funext j; pointwise; rfl
theorem sl_64 : extractStridedSlice S512x1 ![0, 64] (M2 f : FVec Ideal S512x128 .f32) slices_S512x128_o0_64_S512x1 = M2 fun i _ => f i 64 := by
  funext j; pointwise; rfl

end Shapes

end Cert.KernelIdeal.SB

end
-- ==== Proof.Math.lean ====
/- Stick-breaking attention and its gradients over the reals, entry by entry, and the sums over tiles the kernel makes of
   them. `P` is the projection's table, `g` the output's gradient, `b` the first column of a head. -/
module

public import Mathlib.Analysis.SpecialFunctions.Log.Basic
public import Mathlib.Algebra.BigOperators.Intervals

@[expose] public section

noncomputable section

namespace Cert.SB

open Finset (range Ico)

variable (P g : ℕ → ℕ → ℝ)

/-- The log-remainder `log (1 - sigmoid x)`, as it is computed. -/
def ls (x : ℝ) : ℝ := 0 - (max x 0 + Real.log (1 + Real.exp (0 - |x|)))

/-- The scaled score of query `i` and key `j`. -/
def zR (b i j : ℕ) : ℝ := ∑ c ∈ range 64, P i (6144 + b + c) * (1 / 8) * P j (6656 + b + c)
/-- Its log-remainder, for the keys before the query. -/
def lR (b i j : ℕ) : ℝ := if j < i then ls (zR P b i j) else 0
/-- The weight. -/
def aR (b i j : ℕ) : ℝ := if j < i then Real.exp (lR P b i j + zR P b i j + ∑ k ∈ Ico (j + 1) 2048, lR P b i k) else 0
/-- The weight's gradient times the weight. -/
def daR (b i j : ℕ) : ℝ := (∑ c ∈ range 64, g i (b + c) * P j (7168 + b + c)) * aR P b i j
/-- Its sum over the keys. -/
def DR (b i : ℕ) : ℝ := ∑ j ∈ range 2048, daR P g b i j
/-- The score's gradient. -/
def dzR (b i j : ℕ) : ℝ :=
  if j < i then daR P g b i j * (1 - Real.exp (lR P b i j + zR P b i j))
    - (DR P g b i - ∑ k ∈ Ico j 2048, daR P g b i k) * Real.exp (lR P b i j + zR P b i j) else 0

/-- The first column of the head of column `c`. -/
abbrev hb (c : ℕ) : ℕ := 64 * (c / 64)

/-- The gradients of the queries, keys and values. -/
def dqR (i c : ℕ) : ℝ := (∑ j ∈ range 2048, dzR P g (hb c) i j * P j (6656 + c)) * (1 / 8)
def dkR (j c : ℕ) : ℝ := ∑ i ∈ range 2048, dzR P g (hb c) i j * (P i (6144 + c) * (1 / 8))
def dvR (j c : ℕ) : ℝ := ∑ i ∈ range 2048, aR P (hb c) i j * g i c

variable {P g}

theorem lR_zero {b i j : ℕ} (h : i ≤ j) : lR P b i j = 0 := if_neg (not_lt.2 h)
theorem aR_zero {b i j : ℕ} (h : i ≤ j) : aR P b i j = 0 := if_neg (not_lt.2 h)
theorem daR_zero {b i j : ℕ} (h : i ≤ j) : daR P g b i j = 0 := by unfold daR; rw [aR_zero h, mul_zero]
theorem dzR_zero {b i j : ℕ} (h : i ≤ j) : dzR P g b i j = 0 := if_neg (not_lt.2 h)

/-! A product over the columns of one head of a pair. -/
theorem sum_lo (f k : ℕ → ℝ) : (0 + ∑ c ∈ range 128, (if c < 64 then f c else 0) * k c) = ∑ c ∈ range 64, f c * k c := by
  rw [zero_add, show (128 : ℕ) = 64 + 64 from rfl, Finset.sum_range_add]
  rw [Finset.sum_congr rfl fun c hc => by rw [if_pos (Finset.mem_range.1 hc)]]
  rw [Finset.sum_eq_zero (s := range 64) (f := fun x => (if 64 + x < 64 then f (64 + x) else 0) * k (64 + x)) fun c _ => by rw [if_neg (by omega), zero_mul], add_zero]

theorem sum_hi (f k : ℕ → ℝ) : (0 + ∑ c ∈ range 128, (if ¬ c < 64 then f c else 0) * k c) = ∑ c ∈ range 64, f (64 + c) * k (64 + c) := by
  rw [zero_add, show (128 : ℕ) = 64 + 64 from rfl, Finset.sum_range_add]
  rw [Finset.sum_eq_zero (s := range 64) (f := fun c => (if ¬ c < 64 then f c else 0) * k c) fun c hc => by rw [if_neg (not_not.2 (Finset.mem_range.1 hc)), zero_mul], zero_add]
  exact Finset.sum_congr rfl fun c _ => by rw [if_pos (by omega)]

/-! Sums over a tile of keys and what lies to its right. -/
theorem sum_tile (f : ℕ → ℝ) {T n : ℕ} (h : T + n ≤ 2048) : (∑ k ∈ Ico (T + n) 2048, f k) + ∑ k ∈ range n, f (T + k) = ∑ k ∈ Ico T 2048, f k := by
  rw [← Finset.sum_Ico_consecutive f (Nat.le_add_right T n) h, Finset.sum_Ico_eq_sum_range f T, Nat.add_sub_cancel_left, add_comm]

/-- The keys above one of a tile. -/
theorem sum_above (f : ℕ → ℝ) {n j : ℕ} (h : j < n) (T : ℕ) : (∑ k ∈ range n, f (T + k) * (if j < k then 1 else 0)) = ∑ k ∈ Ico (T + (j + 1)) (T + n), f k := by
  obtain ⟨d, rfl⟩ : ∃ d, n = (j + 1) + d := ⟨n - (j + 1), by omega⟩
  rw [Finset.sum_range_add, Finset.sum_eq_zero (s := range (j + 1)) fun k hk => by rw [if_neg (by have := Finset.mem_range.1 hk; omega), mul_zero], zero_add,
    Finset.sum_Ico_eq_sum_range]
  rw [show T + (j + 1 + d) - (T + (j + 1)) = d by omega]
  exact Finset.sum_congr rfl fun k _ => by rw [if_pos (by omega), mul_one, add_assoc T]

theorem suffix_eq (l : ℕ → ℝ) {T n j : ℕ} (hj : j < n) (h : T + n ≤ 2048) :
    0 + (0 + ∑ k ∈ range n, l (T + k) * (if j < k then 1 else 0)) + (0 + ∑ k ∈ range n, (l (T + k) - l (T + k)) * (if j < k then 1 else 0)) + ∑ k ∈ Ico (T + n) 2048, l k
      = ∑ k ∈ Ico (T + j + 1) 2048, l k := by
  rw [Finset.sum_eq_zero (f := fun k => (l (T + k) - l (T + k)) * (if j < k then (1 : ℝ) else 0)) fun k _ => by rw [sub_self, zero_mul], sum_above l hj]
  rw [zero_add, zero_add, add_zero, add_zero, Finset.sum_Ico_consecutive l (by omega) h, ← add_assoc]

theorem incl_eq (l : ℕ → ℝ) {T n j : ℕ} (hj : j < n) (h : T + n ≤ 2048) (D : ℝ) :
    D - (∑ k ∈ Ico (T + n) 2048, l k) - (0 + ∑ k ∈ range n, l (T + k) * (if j ≤ k then 1 else 0)) = D - ∑ k ∈ Ico (T + j) 2048, l k := by
  have e : (∑ k ∈ range n, l (T + k) * (if j ≤ k then (1 : ℝ) else 0)) = ∑ k ∈ Ico (T + j) (T + n), l k := by
    rcases j with _ | j
    · rw [Finset.sum_Ico_eq_sum_range, Nat.add_zero, Nat.add_sub_cancel_left]
      exact Finset.sum_congr rfl fun k _ => by rw [if_pos (Nat.zero_le k), mul_one]
    · rw [← sum_above l (Nat.lt_of_succ_lt hj)]; rfl
  rw [e, ← Finset.sum_Ico_consecutive l (show T + j ≤ T + n by omega) h]
  ring

/-- The pair's two heads side by side. -/
theorem pair_cols (F : ℕ → ℕ → ℝ) (n b : ℕ) {c : ℕ} (hc : c < 128) (x : ℕ → ℝ) :
    0 + (0 + ∑ j ∈ range n, F b j * (if c < 64 then x j else 0)) + (0 + ∑ j ∈ range n, F (b + 64) j * (if ¬ c < 64 then x j else 0))
      = ∑ j ∈ range n, F (b + hb c) j * x j := by
  by_cases h : c < 64
  · have e : hb c = 0 := by unfold hb; omega
    simp only [h, not_true_eq_false, if_true, if_false, mul_zero, Finset.sum_const_zero, add_zero, zero_add, e]
  · have e : hb c = 64 := by unfold hb; omega
    simp only [h, not_false_eq_true, if_true, if_false, mul_zero, Finset.sum_const_zero, add_zero, zero_add, e]

theorem hb_pair (p : ℕ) {c : ℕ} : hb (128 * p + c) = 128 * p + hb c := by unfold hb; omega

end Cert.SB

end
-- ==== Proof.Tile.lean ====
/- One tile of the backward kernel on finite inputs: what each of the body's values is, entry by entry. -/
module

public import proofs.«01_k».proof.Proof.Step
public import proofs.«01_k».proof.Proof.Lift
public import proofs.«01_k».proof.Proof.Math

@[expose] public section

set_option maxRecDepth 16384

noncomputable section

namespace Cert.KernelIdeal.SB

open Idealize.ShloMosaic Idealize.ShloMosaic.TcCoe
open Cert.KernelIdeal.Gen Cert.SB
open Finset (range Ico)

variable (P g : ℕ → ℕ → ℝ)

/-- The blocks of a point over tables of reals. -/
def XR (p qi kj : ℕ) : Ins Ideal where
  q := M2 (φ := .bf16) (a := 512) (b := 128) fun i c => P (512 * qi + i) (6144 + 128 * p + c)
  k := M2 (φ := .bf16) (a := 256) (b := 128) fun j c => P (256 * kj + j) (6656 + 128 * p + c)
  v := M2 (φ := .bf16) (a := 256) (b := 128) fun j c => P (256 * kj + j) (7168 + 128 * p + c)
  dO := M2 (φ := .bf16) (a := 512) (b := 128) fun i c => g (512 * qi + i) (128 * p + c)
  dl := M3 (φ := .f32) (a := 1) (b := 512) (c := 128) fun _ i c => DR P g (128 * p + hb c) (512 * qi + i)

/-- The rows of the running sums: the sums over the keys from `m` on. -/
def YR (p qi m : ℕ) : Rows Ideal where
  r0 := M3 (φ := .f32) (a := 1) (b := 512) (c := 1) fun _ i _ => ∑ j ∈ Ico m 2048, lR P (128 * p) (512 * qi + i) j
  r1 := M3 (φ := .f32) (a := 1) (b := 512) (c := 1) fun _ i _ => ∑ j ∈ Ico m 2048, lR P (128 * p + 64) (512 * qi + i) j
  d0 := M3 (φ := .f32) (a := 1) (b := 512) (c := 1) fun _ i _ => ∑ j ∈ Ico m 2048, daR P g (128 * p) (512 * qi + i) j
  d1 := M3 (φ := .f32) (a := 1) (b := 512) (c := 1) fun _ i _ => ∑ j ∈ Ico m 2048, daR P g (128 * p + 64) (512 * qi + i) j

section Tile
variable {p qi kj : ℕ} (hq : qi < 4) (hk : kj < 8)

local notation "w1" => BitVec.ofNat 32 qi
local notation "w3" => BitVec.ofNat 32 kj
local notation "X" => XR P g p qi kj
local notation "Y" => YR P g p qi (256 * kj + 256)

theorem X_q : (X).q = M2 (φ := .bf16) (a := 512) (b := 128) fun i c => P (512 * qi + i) (6144 + 128 * p + c) := rfl
theorem X_k : (X).k = M2 (φ := .bf16) (a := 256) (b := 128) fun j c => P (256 * kj + j) (6656 + 128 * p + c) := rfl
theorem X_v : (X).v = M2 (φ := .bf16) (a := 256) (b := 128) fun j c => P (256 * kj + j) (7168 + 128 * p + c) := rfl
theorem X_dO : (X).dO = M2 (φ := .bf16) (a := 512) (b := 128) fun i c => g (512 * qi + i) (128 * p + c) := rfl
theorem X_dl : (X).dl = M3 (φ := .f32) (a := 1) (b := 512) (c := 128) fun _ i c => DR P g (128 * p + hb c) (512 * qi + i) := rfl
theorem Y_r0 : (Y).r0 = M3 (φ := .f32) (a := 1) (b := 512) (c := 1) fun _ i _ => ∑ j ∈ Ico (256 * kj + 256) 2048, lR P (128 * p) (512 * qi + i) j := rfl
theorem Y_r1 : (Y).r1 = M3 (φ := .f32) (a := 1) (b := 512) (c := 1) fun _ i _ => ∑ j ∈ Ico (256 * kj + 256) 2048, lR P (128 * p + 64) (512 * qi + i) j := rfl
theorem Y_d0 : (Y).d0 = M3 (φ := .f32) (a := 1) (b := 512) (c := 1) fun _ i _ => ∑ j ∈ Ico (256 * kj + 256) 2048, daR P g (128 * p) (512 * qi + i) j := rfl
theorem Y_d1 : (Y).d1 = M3 (φ := .f32) (a := 1) (b := 512) (c := 1) fun _ i _ => ∑ j ∈ Ico (256 * kj + 256) 2048, daR P g (128 * p + 64) (512 * qi + i) j := rfl

include hq hk in
theorem msk_eq : msk (F := Ideal) w1 w3 = B2 fun i j => 256 * kj + j < 512 * qi + i := by
  funext i
  have h0 : (i 0).val < 512 := (i 0).isLt
  have h1 : (i 1).val < 256 := (i 1).isLt
  refine Eq.trans (b := IntOp.cmpi .slt (BitVec.ofNat 32 (256 * kj + (i 1).val)) (BitVec.ofNat 32 (512 * qi + (i 0).val))) ?_ (slt_ofNat (by omega) (by omega))
  pointwise [k0_pay9]
  congr 1
  · exact (fun x => by rw [BitVec.ofNat_add, BitVec.ofNat_mul, BitVec.mul_comm] : ∀ x : ℕ, BitVec.ofNat 32 kj * 256#32 + BitVec.ofNat 32 x = BitVec.ofNat 32 (256 * kj + x)) _
  · exact (fun x => by rw [BitVec.ofNat_add, BitVec.ofNat_mul, BitVec.mul_comm] : ∀ x : ℕ, BitVec.ofNat 32 qi * 512#32 + BitVec.ofNat 32 x = BitVec.ofNat 32 (512 * qi + x)) _

theorem q8_eq : (X).q8 = M2 fun i c => P (512 * qi + i) (6144 + 128 * p + c) * (1 / 8) := by
  unfold Ins.q8
  simp only [k0_pay8, X_q, bc_eighth_bf16]
  exact mulf_M2 _ _

theorem q8lo_eq : k0_pay14 (X).q8 = M2 fun i c => if c < 64 then P (512 * qi + i) (6144 + 128 * p + c) * (1 / 8) else 0 := by
  rw [q8_eq]
  unfold k0_pay14; dsimp only; rw [lo_512]
  simp only [bc_zero_bf16, select_M2]
theorem q8hi_eq : (X).q1 = M2 fun i c => if ¬ c < 64 then P (512 * qi + i) (6144 + 128 * p + c) * (1 / 8) else 0 := by
  unfold Ins.q1
  rw [q8_eq]
  unfold k0_pay32; dsimp only; rw [lo_512]
  simp only [not_B2, bc_zero_bf16, select_M2]
theorem dOlo_eq : k0_pay15 (X).dO = M2 (φ := .bf16) fun i c => if c < 64 then g (512 * qi + i) (128 * p + c) else 0 := by
  rw [X_dO]; unfold k0_pay15; dsimp only; rw [lo_512]
  simp only [bc_zero_bf16]
  exact select_M2 _ _ _
theorem dOhi_eq : k0_pay33 (X).dO = M2 (φ := .bf16) fun i c => if ¬ c < 64 then g (512 * qi + i) (128 * p + c) else 0 := by
  rw [X_dO]; unfold k0_pay33; dsimp only; rw [lo_512]
  simp only [not_B2, bc_zero_bf16]
  exact select_M2 _ _ _
theorem klo_eq (K : ℕ → ℕ → ℝ) : select (B2 fun _ j => j < 64 : IVec S256x128 1) (M2 K : FVec Ideal S256x128 .bf16) (M2 fun _ _ => 0) = M2 fun i c => if c < 64 then K i c else 0 := select_M2 _ _ _

theorem above_eq : (k0_pay19 : FVec Ideal S256x256 .bf16) = M2 fun i j => if j < i then 1 else 0 := by
  unfold k0_pay19; dsimp only; rw [gt_256]
  simp only [bc_one_f32, bc_zero_f32, select_M2, truncf_M2]
theorem tri_eq : (k0_pay10 : FVec Ideal S256x256 .bf16) = M2 fun i j => if j ≤ i then 1 else 0 := by
  unfold k0_pay10; dsimp only; rw [ge_256]
  simp only [bc_one_f32, bc_zero_f32, select_M2, truncf_M2]

/-! The first head. -/
theorem z0_eq : k0_pay17 (X).q8 (X).k = M2 fun i j => zR P (128 * p) (512 * qi + i) (256 * kj + j) := by
  unfold k0_pay17
  rw [q8lo_eq, X_k]
  simp only [const_zero_f32]
  refine (mm_nt _ _ _).trans (M2_congr fun i _ j _ => ?_)
  exact sum_lo _ _

theorem lg_arg_pos (f : ℕ → ℕ → ℝ) (i j : ℕ) : 0 < 1 + Real.exp (0 - |f i j|) := by positivity

include hq hk in
theorem lg0_eq : k0_pay18 (X).q8 (X).k (msk (F := Ideal) w1 w3) = M2 fun i j => lR P (128 * p) (512 * qi + i) (256 * kj + j) := by
  simp only [k0_pay18, z0_eq, msk_eq hq hk, bc_zero_f32, bc_one_f32, maximumf_M2, absf_M2, subf_M2, exp_M2, addf_M2, log_M2 _ (lg_arg_pos _), select_M2]
  rfl

include hq hk in
theorem suffix0_eq : k0_pay22 (X).q8 (X).k (msk (F := Ideal) w1 w3) = M2 fun i j => 0 + ∑ k ∈ range 256, lR P (128 * p) (512 * qi + i) (256 * kj + k) * (if j < k then 1 else 0) := by
  simp only [k0_pay22, k0_pay20, lg0_eq P g hq hk, truncf_M2, above_eq, const_zero_f32]
  exact mm_nn _ _ _

include hq hk in
theorem lo0_eq : k0_pay21 (X).q8 (X).k (msk (F := Ideal) w1 w3) = M2 fun i j => lR P (128 * p) (512 * qi + i) (256 * kj + j) - lR P (128 * p) (512 * qi + i) (256 * kj + j) := by
  simp only [k0_pay21, k0_pay20, lg0_eq P g hq hk, truncf_M2, extf_M2, subf_M2]

theorem r0_eq : k0_pay16 (Y).r0 = M2 fun i _ => ∑ j ∈ Ico (256 * kj + 256) 2048, lR P (128 * p) (512 * qi + i) j := by
  unfold k0_pay16; rw [Y_r0]; exact sc_3_2 _

include hq hk in
theorem a0_eq : a0 w1 w3 X Y = M2 fun i j => aR P (128 * p) (512 * qi + i) (256 * kj + j) := by
  unfold a0 z0 lg0
  simp only [k0_pay23, z0_eq, lg0_eq P g hq hk, suffix0_eq P g hq hk, lo0_eq P g hq hk, r0_eq, above_eq]
  simp only [msk_eq hq hk, bc_zero_f32, const_zero_f32, mm_nn, bc_col, addf_M2, exp_M2, select_M2, truncf_M2]
  refine M2_congr fun i _ j hj => ?_
  unfold aR
  rw [suffix_eq (lR P (128 * p) (512 * qi + i)) hj (by omega)]

include hq hk in
theorem da0_eq : da0 w1 w3 X Y = M2 fun i j => daR P g (128 * p) (512 * qi + i) (256 * kj + j) := by
  have h := a0_eq P g (p := p) hq hk
  unfold a0 at h
  unfold da0 k0_pay24
  simp only [h]
  simp only [dOlo_eq, const_zero_f32, extf_M2]
  rw [X_v, mm_nt, mulf_M2]
  refine M2_congr fun i _ j hj => ?_
  rw [sum_lo]; rfl

include hq hk in
theorem dz0_eq : k0_pay25 (X).v (msk (F := Ideal) w1 w3) k0_pay10 (k0_pay15 (X).dO) (k0_pay16 (Y).r0) (z0 X) (lg0 w1 w3 X) k0_pay19 (k0_pay21 (X).q8 (X).k (msk (F := Ideal) w1 w3)) (k0_pay22 (X).q8 (X).k (msk (F := Ideal) w1 w3)) (X).dl (Y).d0
    = M2 fun i j => dzR P g (128 * p) (512 * qi + i) (256 * kj + j) := by
  have h := da0_eq P g (p := p) hq hk
  unfold da0 at h
  unfold k0_pay25
  simp only [h]
  unfold z0 lg0
  simp only [z0_eq, lg0_eq P g hq hk]
  simp only [msk_eq hq hk, tri_eq, bc_zero_f32, bc_one_f32, const_zero_f32, truncf_M2, mm_nn, addf_M2, exp_M2, subf_M2, mulf_M2]
  rw [X_dl, Y_d0]
  rw [sc_dl, sl_0, sc_3_2]
  simp only [subf_M2, bc_col, mulf_M2, select_M2, truncf_M2]
  refine M2_congr fun i _ j hj => ?_
  unfold dzR
  rw [incl_eq (daR P g (128 * p) (512 * qi + i)) hj (by omega)]
  rfl

include hq hk in
theorem dq0_eq : dq0 w1 w3 X Y = M2 fun i c => 0 + (0 + ∑ j ∈ range 256, dzR P g (128 * p) (512 * qi + i) (256 * kj + j) * (if c < 64 then P (256 * kj + j) (6656 + 128 * p + c) else 0)) := by
  unfold dq0 k0_pay26 k0_pay11
  simp only [dz0_eq P g hq hk, bc_zero_bf16, bc_zero_f32, const_zero_f32]
  rw [lo_256, X_k, klo_eq, mm_nq, addf_M2]

include hq hk in
theorem dk0_eq : dk0 w1 w3 X Y = M2 fun j c => 0 + (0 + ∑ i ∈ range 512, dzR P g (128 * p) (512 * qi + i) (256 * kj + j) * (if c < 64 then P (512 * qi + i) (6144 + 128 * p + c) * (1 / 8) else 0)) := by
  unfold dk0 k0_pay28 k0_pay27 k0_pay12
  simp only [dz0_eq P g hq hk, q8lo_eq, bc_zero_f32, const_zero_f32, mm_tn, addf_M2]

include hq hk in
theorem dv0_eq : dv0 w1 w3 X Y = M2 fun j c => 0 + (0 + ∑ i ∈ range 512, aR P (128 * p) (512 * qi + i) (256 * kj + j) * (if c < 64 then g (512 * qi + i) (128 * p + c) else 0)) := by
  unfold dv0 k0_pay29 k0_pay13
  simp only [a0_eq P g hq hk, dOlo_eq, bc_zero_f32, const_zero_f32]
  rw [mm_tn, addf_M2]

/-! The second head. -/
theorem z1_eq : k0_pay35 (X).k (X).q1 (zero70 (F := Ideal)) = M2 fun i j => zR P (128 * p + 64) (512 * qi + i) (256 * kj + j) := by
  unfold k0_pay35 zero70
  rw [q8hi_eq, X_k]
  simp only [const_zero_f32]
  refine (mm_nt _ _ _).trans (M2_congr fun i _ j _ => ?_)
  refine (sum_hi _ _).trans ?_
  unfold zR
  simp only [Nat.add_assoc]

include hq hk in
theorem lg1_eq : k0_pay36 (X).k (msk (F := Ideal) w1 w3) (X).q1 (zero70 (F := Ideal)) = M2 fun i j => lR P (128 * p + 64) (512 * qi + i) (256 * kj + j) := by
  simp only [k0_pay36, z1_eq, msk_eq hq hk, bc_zero_f32, bc_one_f32, maximumf_M2, absf_M2, subf_M2, exp_M2, addf_M2, log_M2 _ (lg_arg_pos _), select_M2]
  rfl

theorem r1_eq : k0_pay34 (Y).r1 = M2 fun i _ => ∑ j ∈ Ico (256 * kj + 256) 2048, lR P (128 * p + 64) (512 * qi + i) j := by
  unfold k0_pay34; rw [Y_r1]; exact sc_3_2 _

include hq hk in
theorem a1_eq : a1 w1 w3 X Y = M2 fun i j => aR P (128 * p + 64) (512 * qi + i) (256 * kj + j) := by
  unfold a1
  simp only [k0_pay37, z1_eq, lg1_eq P g hq hk, r1_eq]
  rw [gt_256]
  simp only [msk_eq hq hk, bc_zero_f32, bc_one_f32, const_zero_f32, truncf_M2, extf_M2, subf_M2, select_M2, mm_nn, bc_col, addf_M2, exp_M2]
  refine M2_congr fun i _ j hj => ?_
  unfold aR
  rw [suffix_eq (lR P (128 * p + 64) (512 * qi + i)) hj (by omega)]

include hq hk in
theorem da1_eq : da1 w1 w3 X Y = M2 fun i j => daR P g (128 * p + 64) (512 * qi + i) (256 * kj + j) := by
  have h := a1_eq P g (p := p) hq hk
  unfold a1 at h
  unfold da1 k0_pay38
  simp only [h]
  simp only [dOhi_eq, const_zero_f32, extf_M2]
  rw [X_v, mm_nt, mulf_M2]
  refine M2_congr fun i _ j hj => ?_
  rw [sum_hi]
  unfold daR
  simp only [Nat.add_assoc]

include hq hk in
theorem sd1_eq : sd1 w1 w3 X Y = M2 fun i j => 0 + ∑ k ∈ range 256, daR P g (128 * p + 64) (512 * qi + i) (256 * kj + k) * (if j ≤ k then 1 else 0) := by
  have h := da1_eq P g (p := p) hq hk
  unfold da1 at h
  unfold sd1 k0_pay39
  simp only [h]
  simp only [tri_eq, const_zero_f32, truncf_M2, mm_nn]

include hq hk in
theorem dz1_eq : k0_pay40 (msk (F := Ideal) w1 w3) (z1 X) (lg1 w1 w3 X) (da1 w1 w3 X Y) (sd1 w1 w3 X Y) (X).dl (Y).d1
    = M2 fun i j => dzR P g (128 * p + 64) (512 * qi + i) (256 * kj + j) := by
  unfold k0_pay40
  rw [da1_eq P g hq hk, sd1_eq P g hq hk]
  unfold z1 lg1
  simp only [z1_eq, lg1_eq P g hq hk]
  simp only [msk_eq hq hk, bc_zero_f32, bc_one_f32, addf_M2, exp_M2, subf_M2, mulf_M2]
  rw [X_dl, Y_d1]
  rw [sc_dl, sl_64, sc_3_2]
  simp only [subf_M2, bc_col, mulf_M2, select_M2, truncf_M2]
  refine M2_congr fun i _ j hj => ?_
  unfold dzR
  rw [incl_eq (daR P g (128 * p + 64) (512 * qi + i)) hj (by omega)]

/-! What the tile adds. -/
include hq hk in
theorem dqAdd_eq : dqAdd w1 w3 X Y = M2 fun i c => ∑ j ∈ range 256, dzR P g (128 * p + hb c) (512 * qi + i) (256 * kj + j) * P (256 * kj + j) (6656 + 128 * p + c) := by
  unfold dqAdd k0_pay41
  simp only [dz1_eq P g hq hk, dq0_eq P g hq hk, bc_zero_bf16, const_zero_f32]
  rw [lo_256, X_k, not_B2, select_M2, mm_nq, addf_M2]
  refine M2_congr fun i _ c hc => ?_
  exact pair_cols (fun b j => dzR P g b (512 * qi + i) (256 * kj + j)) _ _ hc _

include hq hk in
theorem dkAdd_eq : dkAdd w1 w3 X Y = M2 fun j c => ∑ i ∈ range 512, dzR P g (128 * p + hb c) (512 * qi + i) (256 * kj + j) * (P (512 * qi + i) (6144 + 128 * p + c) * (1 / 8)) := by
  unfold dkAdd k0_pay42
  simp only [dz1_eq P g hq hk, dk0_eq P g hq hk, q8hi_eq, const_zero_f32, mm_tn, addf_M2]
  refine M2_congr fun j _ c hc => ?_
  exact pair_cols (fun b i => dzR P g b (512 * qi + i) (256 * kj + j)) _ _ hc (fun i => P (512 * qi + i) (6144 + 128 * p + c) * (1 / 8))

include hq hk in
theorem dvAdd_eq : dvAdd w1 w3 X Y = M2 fun j c => ∑ i ∈ range 512, aR P (128 * p + hb c) (512 * qi + i) (256 * kj + j) * g (512 * qi + i) (128 * p + c) := by
  unfold dvAdd k0_pay43
  simp only [a1_eq P g hq hk, dv0_eq P g hq hk, dOhi_eq, const_zero_f32]
  rw [mm_tn, addf_M2]
  refine M2_congr fun j _ c hc => ?_
  exact pair_cols (fun b i => aR P b (512 * qi + i) (256 * kj + j)) _ _ hc (fun i => g (512 * qi + i) (128 * p + c))

end Tile

end Cert.KernelIdeal.SB

end
-- ==== Proof.State.lean ====
/- The scratch of the backward kernel on finite inputs: after the point of query tile `qi` and key tile `kj` it holds the
   sums over the keys from `256 * kj` on (for the queries) and over the query tiles seen so far (for the keys). -/
module

public import proofs.«01_k».proof.Proof.Tile

@[expose] public section

set_option maxRecDepth 16384

noncomputable section

namespace Cert.KernelIdeal.SB

open Idealize.ShloMosaic Idealize.ShloMosaic.TcCoe
open Cert.KernelIdeal.Gen Cert.SB
open Finset (range Ico)

variable (P g : ℕ → ℕ → ℝ)

/-- The first query row whose contribution to the gradients of key row `j` is still missing, when the tile of queries
    `qi` has been seen against the keys from `m` on. -/
def upTo (qi m j : ℕ) : ℕ := if m ≤ j then 512 * (qi + 1) else 512 * qi

/-- The scratch once the tile of queries `qi` has met the keys from `m` on. -/
def SR (p qi m : ℕ) : St Ideal where
  dq := M2 (φ := .f32) (a := 512) (b := 128) fun i c => ∑ j ∈ Ico m 2048, dzR P g (128 * p + hb c) (512 * qi + i) j * P j (6656 + 128 * p + c)
  dk := M2 (φ := .f32) (a := 2048) (b := 128) fun j c => ∑ i ∈ range (upTo qi m j), dzR P g (128 * p + hb c) i j * (P i (6144 + 128 * p + c) * (1 / 8))
  dv := M2 (φ := .f32) (a := 2048) (b := 128) fun j c => ∑ i ∈ range (upTo qi m j), aR P (128 * p + hb c) i j * g i (128 * p + c)
  r := M3 (φ := .f32) (a := 2) (b := 512) (c := 1) fun h i _ => ∑ j ∈ Ico m 2048, lR P (128 * p + 64 * h) (512 * qi + i) j
  rd := M3 (φ := .f32) (a := 2) (b := 512) (c := 1) fun h i _ => ∑ j ∈ Ico m 2048, daR P g (128 * p + 64 * h) (512 * qi + i) j

theorem SR_dq (p qi m : ℕ) : (SR P g p qi m).dq = M2 (φ := .f32) (a := 512) (b := 128) fun i c => ∑ j ∈ Ico m 2048, dzR P g (128 * p + hb c) (512 * qi + i) j * P j (6656 + 128 * p + c) := rfl
theorem SR_dk (p qi m : ℕ) : (SR P g p qi m).dk = M2 (φ := .f32) (a := 2048) (b := 128) fun j c => ∑ i ∈ range (upTo qi m j), dzR P g (128 * p + hb c) i j * (P i (6144 + 128 * p + c) * (1 / 8)) := rfl
theorem SR_dv (p qi m : ℕ) : (SR P g p qi m).dv = M2 (φ := .f32) (a := 2048) (b := 128) fun j c => ∑ i ∈ range (upTo qi m j), aR P (128 * p + hb c) i j * g i (128 * p + c) := rfl
theorem SR_r (p qi m : ℕ) : (SR P g p qi m).r = M3 (φ := .f32) (a := 2) (b := 512) (c := 1) fun h i _ => ∑ j ∈ Ico m 2048, lR P (128 * p + 64 * h) (512 * qi + i) j := rfl
theorem SR_rd (p qi m : ℕ) : (SR P g p qi m).rd = M3 (φ := .f32) (a := 2) (b := 512) (c := 1) fun h i _ => ∑ j ∈ Ico m 2048, daR P g (128 * p + 64 * h) (512 * qi + i) j := rfl

theorem St.ext' {s t : St Ideal} (h1 : s.dq = t.dq) (h2 : s.dk = t.dk) (h3 : s.dv = t.dv) (h4 : s.r = t.r) (h5 : s.rd = t.rd) : s = t := by
  cases s; cases t; simp only at h1 h2 h3 h4 h5; subst h1 h2 h3 h4 h5; rfl

/-! ## Windows of the scratch -/

theorem row0_M3 (f : ℕ → ℕ → ℕ → ℝ) : row0 (F := Ideal) (M3 (φ := .f32) (a := 2) (b := 512) (c := 1) f) = M3 (φ := .f32) (a := 1) (b := 512) (c := 1) fun h i k => f h i k := by
  funext y
  show ((f (0 + 1 * (y 0).val) (0 + 1 * (y 1).val) (0 + 1 * (y 2).val) : ℝ) : EReal) = ((f (y 0).val (y 1).val (y 2).val : ℝ) : EReal)
  simp only [one_mul, zero_add]
theorem row1_M3 (f : ℕ → ℕ → ℕ → ℝ) : row1 (F := Ideal) (M3 (φ := .f32) (a := 2) (b := 512) (c := 1) f) = M3 (φ := .f32) (a := 1) (b := 512) (c := 1) fun h i k => f (1 + h) i k := by
  funext y
  show ((f (1 + 1 * (y 0).val) (0 + 1 * (y 1).val) (0 + 1 * (y 2).val) : ℝ) : EReal) = ((f (1 + (y 0).val) (y 1).val (y 2).val : ℝ) : EReal)
  simp only [one_mul, zero_add]

theorem rows_SR (p qi m : ℕ) : (SR P g p qi m).rows = YR P g p qi m := by
  have e0 : (SR P g p qi m).rows = ⟨row0 (SR P g p qi m).r, row1 (SR P g p qi m).r, row0 (SR P g p qi m).rd, row1 (SR P g p qi m).rd⟩ := rfl
  rw [e0]
  unfold SR YR
  simp only [row0_M3, row1_M3]
  congr 1
  · exact M3_congr fun h hh i _ k _ => by rw [Nat.lt_one_iff.1 hh]; simp only [Nat.mul_zero, Nat.add_zero]
  · exact M3_congr fun h hh i _ k _ => by rw [Nat.lt_one_iff.1 hh]
  · exact M3_congr fun h hh i _ k _ => by rw [Nat.lt_one_iff.1 hh]; simp only [Nat.mul_zero, Nat.add_zero]
  · exact M3_congr fun h hh i _ k _ => by rw [Nat.lt_one_iff.1 hh]

/-- The two heads' rows put one after the other. -/
theorem put_rows (f a b : ℕ → ℕ → ℕ → ℝ) :
    VecWindow.put (VecWindow.put (M3 (φ := .f32) (a := 2) (b := 512) (c := 1) f : Vec Ideal S2x512x1 .f32) ![0, 0, 0] S1x512x1.size (M3 (φ := .f32) (a := 1) (b := 512) (c := 1) a)) ![1, 0, 0] S1x512x1.size (M3 (φ := .f32) (a := 1) (b := 512) (c := 1) b)
      = M3 (φ := .f32) (a := 2) (b := 512) (c := 1) fun h i k => if h = 0 then a 0 i k else b 0 i k := by
  funext y
  have b0 : (y 0).val < 2 := (y 0).isLt
  have b1 : (y 1).val < 512 := (y 1).isLt
  have b2 : (y 2).val < 1 := (y 2).isLt
  unfold VecWindow.put
  by_cases h : (y 0).val = 0
  · have hn : ¬ ∀ a, (![1, 0, 0] : Fin 3 → ℕ) a ≤ (y a).val ∧ (y a).val < (![1, 0, 0] : Fin 3 → ℕ) a + S1x512x1.size a := fun hh => by
      have h1 : 1 ≤ (y 0).val := (hh 0).1
      omega
    have hy : ∀ a, (![0, 0, 0] : Fin 3 → ℕ) a ≤ (y a).val ∧ (y a).val < (![0, 0, 0] : Fin 3 → ℕ) a + S1x512x1.size a := by
      intro a
      fin_cases a
      · exact ⟨Nat.zero_le _, show (y 0).val < 0 + 1 by omega⟩
      · exact ⟨Nat.zero_le _, show (y 1).val < 0 + 512 by omega⟩
      · exact ⟨Nat.zero_le _, show (y 2).val < 0 + 1 by omega⟩
    rw [dif_neg hn, dif_pos hy]
    show ((a ((y 0).val - 0) ((y 1).val - 0) ((y 2).val - 0) : ℝ) : EReal) = ((if (y 0).val = 0 then a 0 (y 1).val (y 2).val else b 0 (y 1).val (y 2).val : ℝ) : EReal)
    rw [if_pos h, h]; rfl
  · have hy : ∀ a, (![1, 0, 0] : Fin 3 → ℕ) a ≤ (y a).val ∧ (y a).val < (![1, 0, 0] : Fin 3 → ℕ) a + S1x512x1.size a := by
      intro a
      fin_cases a
      · exact ⟨show 1 ≤ (y 0).val by omega, show (y 0).val < 1 + 1 by omega⟩
      · exact ⟨Nat.zero_le _, show (y 1).val < 0 + 512 by omega⟩
      · exact ⟨Nat.zero_le _, show (y 2).val < 0 + 1 by omega⟩
    rw [dif_pos hy]
    show ((b ((y 0).val - 1) ((y 1).val - 0) ((y 2).val - 0) : ℝ) : EReal) = ((if (y 0).val = 0 then a 0 (y 1).val (y 2).val else b 0 (y 1).val (y 2).val : ℝ) : EReal)
    rw [if_neg h, show (y 0).val - 1 = 0 by omega]; rfl

section Keys
variable {kj : ℕ} (hk : kj < 8)

include hk in
theorem off2_eq : k0_off2 (BitVec.ofNat 32 kj) = ![256 * kj, 0] := by
  have h : ∀ k : Fin 8, k0_off2 (BitVec.ofNat 32 k.val) = ![256 * k.val, 0] := by decide +kernel
  exact h ⟨kj, hk⟩

include hk in
theorem rowsOf_M2 (f : ℕ → ℕ → ℝ) (h : k0_chk1 (BitVec.ofNat 32 kj)) :
    rowsOf (F := Ideal) (BitVec.ofNat 32 kj) h (M2 (φ := .f32) (a := 2048) (b := 128) f) = M2 (φ := .f32) (a := 256) (b := 128) fun j c => f (256 * kj + j) c := by
  funext y
  have e := off2_eq hk
  have e0 : k0_off2 (BitVec.ofNat 32 kj) 0 = 256 * kj := congrFun e 0
  have e1 : k0_off2 (BitVec.ofNat 32 kj) 1 = 0 := congrFun e 1
  show ((f (k0_off2 (BitVec.ofNat 32 kj) 0 + 1 * (y 0).val) (k0_off2 (BitVec.ofNat 32 kj) 1 + 1 * (y 1).val) : ℝ) : EReal) = ((f (256 * kj + (y 0).val) (y 1).val : ℝ) : EReal)
  rw [e0, e1]
  simp only [one_mul, zero_add]

include hk in
theorem put_keys (f h : ℕ → ℕ → ℝ) :
    VecWindow.put (M2 (φ := .f32) (a := 2048) (b := 128) f : Vec Ideal S2048x128 .f32) (k0_off2 (BitVec.ofNat 32 kj)) S256x128.size (M2 (φ := .f32) (a := 256) (b := 128) h)
      = M2 (φ := .f32) (a := 2048) (b := 128) fun j c => if 256 * kj ≤ j ∧ j < 256 * kj + 256 then h (j - 256 * kj) c else f j c := by
  funext y
  have e := off2_eq hk
  have e0 : k0_off2 (BitVec.ofNat 32 kj) 0 = 256 * kj := congrFun e 0
  have e1 : k0_off2 (BitVec.ofNat 32 kj) 1 = 0 := congrFun e 1
  have b1 : (y 1).val < 128 := (y 1).isLt
  unfold VecWindow.put
  by_cases hc : 256 * kj ≤ (y 0).val ∧ (y 0).val < 256 * kj + 256
  · have hy : ∀ a, k0_off2 (BitVec.ofNat 32 kj) a ≤ (y a).val ∧ (y a).val < k0_off2 (BitVec.ofNat 32 kj) a + S256x128.size a := by
      intro a
      fin_cases a
      · show k0_off2 (BitVec.ofNat 32 kj) 0 ≤ (y 0).val ∧ (y 0).val < k0_off2 (BitVec.ofNat 32 kj) 0 + 256
        rw [e0]; exact hc
      · show k0_off2 (BitVec.ofNat 32 kj) 1 ≤ (y 1).val ∧ (y 1).val < k0_off2 (BitVec.ofNat 32 kj) 1 + 128
        rw [e1]; omega
    rw [dif_pos hy]
    show ((h ((y 0).val - k0_off2 (BitVec.ofNat 32 kj) 0) ((y 1).val - k0_off2 (BitVec.ofNat 32 kj) 1) : ℝ) : EReal)
      = ((if 256 * kj ≤ (y 0).val ∧ (y 0).val < 256 * kj + 256 then h ((y 0).val - 256 * kj) (y 1).val else f (y 0).val (y 1).val : ℝ) : EReal)
    rw [if_pos hc, e0, e1]; rfl
  · have hn : ¬ ∀ a, k0_off2 (BitVec.ofNat 32 kj) a ≤ (y a).val ∧ (y a).val < k0_off2 (BitVec.ofNat 32 kj) a + S256x128.size a := fun hh => hc (by
      have h0 : k0_off2 (BitVec.ofNat 32 kj) 0 ≤ (y 0).val ∧ (y 0).val < k0_off2 (BitVec.ofNat 32 kj) 0 + 256 := hh 0
      rwa [e0] at h0)
    rw [dif_neg hn]
    show ((f (y 0).val (y 1).val : ℝ) : EReal)
      = ((if 256 * kj ≤ (y 0).val ∧ (y 0).val < 256 * kj + 256 then h ((y 0).val - 256 * kj) (y 1).val else f (y 0).val (y 1).val : ℝ) : EReal)
    rw [if_neg hc]

/-- A tile of keys takes in the rows of one more tile of queries. -/
theorem upTo_step (Φ : ℕ → ℕ → ℝ) (qi j : ℕ) :
    (if 256 * kj ≤ j ∧ j < 256 * kj + 256
      then (∑ i ∈ range (upTo qi (256 * kj + 256) (256 * kj + (j - 256 * kj))), Φ i (256 * kj + (j - 256 * kj))) + ∑ i ∈ range 512, Φ (512 * qi + i) (256 * kj + (j - 256 * kj))
      else ∑ i ∈ range (upTo qi (256 * kj + 256) j), Φ i j)
    = ∑ i ∈ range (upTo qi (256 * kj) j), Φ i j := by
  unfold upTo
  by_cases h : 256 * kj ≤ j ∧ j < 256 * kj + 256
  · rw [if_pos h, show 256 * kj + (j - 256 * kj) = j by omega, if_neg (by omega), if_pos h.1, show 512 * (qi + 1) = 512 * qi + 512 by ring, Finset.sum_range_add]
  · rw [if_neg h]
    by_cases h1 : 256 * kj ≤ j
    · rw [if_pos h1, if_pos (by omega)]
    · rw [if_neg h1, if_neg (by omega)]

end Keys

/-! ## A point's step -/
section Step
variable {p qi kj : ℕ} (hq : qi < 4) (hk : kj < 8)

theorem pay30_M (f : ℕ → ℕ → ℝ) (a : ℕ → ℕ → ℕ → ℝ) : k0_pay30 (F := Ideal) (M2 (φ := .f32) (a := 512) (b := 256) f) (M3 (φ := .f32) (a := 1) (b := 512) (c := 1) a)
    = M3 (φ := .f32) (a := 1) (b := 512) (c := 1) fun _ i _ => a 0 i 0 + ∑ k ∈ range 256, f i k := by
  unfold k0_pay30; dsimp only; rw [sc_3_2, sum_row, sc_512_2, addf_M2, sc_2_3]
theorem pay31_M (f : ℕ → ℕ → ℝ) (a : ℕ → ℕ → ℕ → ℝ) : k0_pay31 (F := Ideal) (M2 (φ := .f32) (a := 512) (b := 256) f) (M3 (φ := .f32) (a := 1) (b := 512) (c := 1) a)
    = M3 (φ := .f32) (a := 1) (b := 512) (c := 1) fun _ i _ => a 0 i 0 + ∑ k ∈ range 256, f i k := by
  unfold k0_pay31; dsimp only; rw [sc_3_2, sum_row, sc_512_2, addf_M2, sc_2_3]
theorem pay44_M (f : ℕ → ℕ → ℝ) (a : ℕ → ℕ → ℕ → ℝ) : k0_pay44 (F := Ideal) (M2 (φ := .f32) (a := 512) (b := 256) f) (M3 (φ := .f32) (a := 1) (b := 512) (c := 1) a)
    = M3 (φ := .f32) (a := 1) (b := 512) (c := 1) fun _ i _ => a 0 i 0 + ∑ k ∈ range 256, f i k := by
  unfold k0_pay44; dsimp only; rw [sc_3_2, sum_row, sc_512_2, addf_M2, sc_2_3]
theorem pay45_M (f : ℕ → ℕ → ℝ) (a : ℕ → ℕ → ℕ → ℝ) : k0_pay45 (F := Ideal) (M2 (φ := .f32) (a := 512) (b := 256) f) (M3 (φ := .f32) (a := 1) (b := 512) (c := 1) a)
    = M3 (φ := .f32) (a := 1) (b := 512) (c := 1) fun _ i _ => a 0 i 0 + ∑ k ∈ range 256, f i k := by
  unfold k0_pay45; dsimp only; rw [sc_3_2, sum_row, sc_512_2, addf_M2, sc_2_3]
theorem pay46_M (f h : ℕ → ℕ → ℝ) : k0_pay46 (F := Ideal) (M2 (φ := .f32) (a := 512) (b := 128) f) (M2 (φ := .f32) (a := 512) (b := 128) h)
    = M2 (φ := .f32) (a := 512) (b := 128) fun i c => h i c + f i c := by
  unfold k0_pay46; dsimp only; rw [addf_M2, sc_id_q]
theorem pay47_M (f h : ℕ → ℕ → ℝ) : k0_pay47 (F := Ideal) (M2 (φ := .f32) (a := 256) (b := 128) f) (M2 (φ := .f32) (a := 256) (b := 128) h)
    = M2 (φ := .f32) (a := 256) (b := 128) fun i c => h i c + f i c := by
  unfold k0_pay47; dsimp only; rw [addf_M2, sc_id_k]
theorem pay48_M (f h : ℕ → ℕ → ℝ) : k0_pay48 (F := Ideal) (M2 (φ := .f32) (a := 256) (b := 128) f) (M2 (φ := .f32) (a := 256) (b := 128) h)
    = M2 (φ := .f32) (a := 256) (b := 128) fun i c => h i c + f i c := by
  unfold k0_pay48; dsimp only; rw [addf_M2, sc_id_k]

section Fields
variable {F : FTy → Type} [FloatOps F] (w1 w3 : BitVec 32) (X : Ins F) (s : St F) (h : k0_chk1 w3)
theorem step_dq : (step w1 w3 X s h).dq = k0_pay46 (dqAdd w1 w3 X s.rows) s.dq := rfl
theorem step_dk : (step w1 w3 X s h).dk = VecWindow.put s.dk (k0_off2 w3) S256x128.size (k0_pay47 (dkAdd w1 w3 X s.rows) (rowsOf w3 h s.dk)) := rfl
theorem step_dv : (step w1 w3 X s h).dv = VecWindow.put s.dv (k0_off2 w3) S256x128.size (k0_pay48 (dvAdd w1 w3 X s.rows) (rowsOf w3 h s.dv)) := rfl
theorem step_r : (step w1 w3 X s h).r = VecWindow.put (VecWindow.put s.r ![0, 0, 0] S1x512x1.size (k0_pay30 (lg0 w1 w3 X) s.rows.r0)) ![1, 0, 0] S1x512x1.size (k0_pay44 (lg1 w1 w3 X) s.rows.r1) := rfl
theorem step_rd : (step w1 w3 X s h).rd = VecWindow.put (VecWindow.put s.rd ![0, 0, 0] S1x512x1.size (k0_pay31 (da0 w1 w3 X s.rows) s.rows.d0)) ![1, 0, 0] S1x512x1.size (k0_pay45 (da1 w1 w3 X s.rows) s.rows.d1) := rfl
end Fields

include hq hk in
theorem step_SR_dq (h : k0_chk1 (BitVec.ofNat 32 kj)) :
    (step (BitVec.ofNat 32 qi) (BitVec.ofNat 32 kj) (XR P g p qi kj) (SR P g p qi (256 * kj + 256)) h).dq = (SR P g p qi (256 * kj)).dq := by
  have hT : 256 * kj + 256 ≤ 2048 := by omega
  rw [step_dq, rows_SR, dqAdd_eq P g hq hk, SR_dq, SR_dq, pay46_M]
  exact M2_congr fun i _ c _ => sum_tile (fun j => dzR P g (128 * p + hb c) (512 * qi + i) j * P j (6656 + 128 * p + c)) hT

include hq hk in
theorem step_SR_dk (h : k0_chk1 (BitVec.ofNat 32 kj)) :
    (step (BitVec.ofNat 32 qi) (BitVec.ofNat 32 kj) (XR P g p qi kj) (SR P g p qi (256 * kj + 256)) h).dk = (SR P g p qi (256 * kj)).dk := by
  rw [step_dk, rows_SR, dkAdd_eq P g hq hk, SR_dk, SR_dk, rowsOf_M2 hk, pay47_M, put_keys hk]
  exact M2_congr fun j _ c _ => upTo_step (fun i j => dzR P g (128 * p + hb c) i j * (P i (6144 + 128 * p + c) * (1 / 8))) qi j

include hq hk in
theorem step_SR_dv (h : k0_chk1 (BitVec.ofNat 32 kj)) :
    (step (BitVec.ofNat 32 qi) (BitVec.ofNat 32 kj) (XR P g p qi kj) (SR P g p qi (256 * kj + 256)) h).dv = (SR P g p qi (256 * kj)).dv := by
  rw [step_dv, rows_SR, dvAdd_eq P g hq hk, SR_dv, SR_dv, rowsOf_M2 hk, pay48_M, put_keys hk]
  exact M2_congr fun j _ c _ => upTo_step (fun i j => aR P (128 * p + hb c) i j * g i (128 * p + c)) qi j

include hq hk in
theorem step_SR_r (h : k0_chk1 (BitVec.ofNat 32 kj)) :
    (step (BitVec.ofNat 32 qi) (BitVec.ofNat 32 kj) (XR P g p qi kj) (SR P g p qi (256 * kj + 256)) h).r = (SR P g p qi (256 * kj)).r := by
  have hT : 256 * kj + 256 ≤ 2048 := by omega
  rw [step_r, rows_SR, Y_r0, Y_r1]
  unfold lg0 lg1
  rw [lg0_eq P g hq hk, lg1_eq P g hq hk, pay30_M, pay44_M, SR_r, SR_r, put_rows]
  refine M3_congr fun h hh i _ k _ => ?_
  rcases (show h = 0 ∨ h = 1 by omega) with rfl | rfl
  · rw [if_pos rfl]; exact sum_tile (fun j => lR P (128 * p) (512 * qi + i) j) hT
  · rw [if_neg one_ne_zero]; exact sum_tile (fun j => lR P (128 * p + 64) (512 * qi + i) j) hT

include hq hk in
theorem step_SR_rd (h : k0_chk1 (BitVec.ofNat 32 kj)) :
    (step (BitVec.ofNat 32 qi) (BitVec.ofNat 32 kj) (XR P g p qi kj) (SR P g p qi (256 * kj + 256)) h).rd = (SR P g p qi (256 * kj)).rd := by
  have hT : 256 * kj + 256 ≤ 2048 := by omega
  rw [step_rd, rows_SR, da0_eq P g hq hk, da1_eq P g hq hk, Y_d0, Y_d1, pay31_M, pay45_M, SR_rd, SR_rd, put_rows]
  refine M3_congr fun h hh i _ k _ => ?_
  rcases (show h = 0 ∨ h = 1 by omega) with rfl | rfl
  · rw [if_pos rfl]; exact sum_tile (fun j => daR P g (128 * p) (512 * qi + i) j) hT
  · rw [if_neg one_ne_zero]; exact sum_tile (fun j => daR P g (128 * p + 64) (512 * qi + i) j) hT

include hq hk in
/-- From the keys above the tile to the keys of the tile as well. -/
theorem step_SR (h : k0_chk1 (BitVec.ofNat 32 kj)) :
    step (BitVec.ofNat 32 qi) (BitVec.ofNat 32 kj) (XR P g p qi kj) (SR P g p qi (256 * kj + 256)) h = SR P g p qi (256 * kj) :=
  St.ext' (step_SR_dq P g hq hk h) (step_SR_dk P g hq hk h) (step_SR_dv P g hq hk h) (step_SR_r P g hq hk h) (step_SR_rd P g hq hk h)

end Step

/-! ## The starts -/

theorem pay5_M : (k0_pay5 : FVec Ideal S512x128 .f32) = M2 (φ := .f32) (a := 512) (b := 128) fun _ _ => 0 := by
  unfold k0_pay5; dsimp only; rw [bc_zero_f32, sc_id_q]
theorem pay3_M : (k0_pay3 : FVec Ideal S2048x128 .f32) = M2 (φ := .f32) (a := 2048) (b := 128) fun _ _ => 0 := by
  unfold k0_pay3; dsimp only; rw [bc_zero_f32, sc_id_s]
theorem pay4_M : (k0_pay4 : FVec Ideal S2048x128 .f32) = M2 (φ := .f32) (a := 2048) (b := 128) fun _ _ => 0 := by
  unfold k0_pay4; dsimp only; rw [bc_zero_f32, sc_id_s]
theorem pay6_M : (k0_pay6 : FVec Ideal S2x512x1 .f32) = M3 (φ := .f32) (a := 2) (b := 512) (c := 1) fun _ _ _ => 0 := by
  funext j; pointwise [k0_pay6]; exact EReal.coe_zero.symm
theorem pay7_M : (k0_pay7 : FVec Ideal S2x512x1 .f32) = M3 (φ := .f32) (a := 2) (b := 512) (c := 1) fun _ _ _ => 0 := by
  funext j; pointwise [k0_pay7]; exact EReal.coe_zero.symm

/-- Rows of queries before the key add nothing to it. -/
theorem sum_rows_zero (Φ : ℕ → ℝ) {n N j : ℕ} (hn : n ≤ N) (hN : N ≤ j) (hΦ : ∀ i, i ≤ j → Φ i = 0) : ∑ i ∈ range n, Φ i = ∑ i ∈ range N, Φ i := by
  rw [Finset.sum_eq_zero fun i hi => hΦ i (by have := Finset.mem_range.1 hi; omega), Finset.sum_eq_zero fun i hi => hΦ i (by have := Finset.mem_range.1 hi; omega)]

section Clears
variable {F : FTy → Type} [FloatOps F] (s : St F)
theorem clearB_dq : s.clearB.dq = k0_pay5 := rfl
theorem clearB_dk : s.clearB.dk = s.dk := rfl
theorem clearB_dv : s.clearB.dv = s.dv := rfl
theorem clearB_r : s.clearB.r = k0_pay6 := rfl
theorem clearB_rd : s.clearB.rd = k0_pay7 := rfl
theorem clearA_dk : s.clearA.dk = k0_pay3 := rfl
theorem clearA_dv : s.clearA.dv = k0_pay4 := rfl
end Clears

/-- The start of a tile of queries, the keys' gradients as the tile before left them. -/
theorem clearB_SR (p qi : ℕ) (s : St Ideal) (hk : s.dk = (SR P g p qi (512 * qi + 512)).dk) (hv : s.dv = (SR P g p qi (512 * qi + 512)).dv) :
    s.clearB = SR P g p qi (512 * qi + 512) := by
  refine St.ext' ?_ ((clearB_dk s).trans hk) ((clearB_dv s).trans hv) ?_ ?_
  · rw [clearB_dq, pay5_M, SR_dq]
    refine M2_congr fun i hi c _ => (Finset.sum_eq_zero fun j hj => ?_).symm
    have := (Finset.mem_Ico.1 hj).1
    rw [dzR_zero (by omega), zero_mul]
  · rw [clearB_r, pay6_M, SR_r]
    refine M3_congr fun h _ i hi k _ => (Finset.sum_eq_zero fun j hj => ?_).symm
    have := (Finset.mem_Ico.1 hj).1
    exact lR_zero (by omega)
  · rw [clearB_rd, pay7_M, SR_rd]
    refine M3_congr fun h _ i hi k _ => (Finset.sum_eq_zero fun j hj => ?_).symm
    have := (Finset.mem_Ico.1 hj).1
    exact daR_zero (by omega)

theorem next_tile (p qi : ℕ) : (SR P g p qi 0).clearB = SR P g p (qi + 1) (512 * (qi + 1) + 512) := by
  refine clearB_SR P g p (qi + 1) _ ?_ ?_
  · rw [SR_dk, SR_dk]
    refine M2_congr fun j _ c _ => ?_
    unfold upTo
    rw [if_pos (Nat.zero_le j)]
    by_cases h : 512 * (qi + 1) + 512 ≤ j
    · rw [if_pos h]; exact sum_rows_zero _ (by omega) (by omega) fun i hi => by rw [dzR_zero hi, zero_mul]
    · rw [if_neg h]
  · rw [SR_dv, SR_dv]
    refine M2_congr fun j _ c _ => ?_
    unfold upTo
    rw [if_pos (Nat.zero_le j)]
    by_cases h : 512 * (qi + 1) + 512 ≤ j
    · rw [if_pos h]; exact sum_rows_zero _ (by omega) (by omega) fun i hi => by rw [aR_zero hi, zero_mul]
    · rw [if_neg h]

theorem first_tile (p : ℕ) (s : St Ideal) : s.clearA.clearB = SR P g p 0 512 := by
  refine clearB_SR P g p 0 _ ?_ ?_
  · rw [clearA_dk, pay3_M, SR_dk]
    refine M2_congr fun j _ c _ => ?_
    unfold upTo
    by_cases h : 512 * 0 + 512 ≤ j
    · rw [if_pos h]; refine (Finset.sum_eq_zero fun i hi => ?_).symm
      have := Finset.mem_range.1 hi
      rw [dzR_zero (by omega), zero_mul]
    · rw [if_neg h, Nat.mul_zero, Finset.sum_range_zero]
  · rw [clearA_dv, pay4_M, SR_dv]
    refine M2_congr fun j _ c _ => ?_
    unfold upTo
    by_cases h : 512 * 0 + 512 ≤ j
    · rw [if_pos h]; refine (Finset.sum_eq_zero fun i hi => ?_).symm
      have := Finset.mem_range.1 hi
      rw [aR_zero (by omega), zero_mul]
    · rw [if_neg h, Nat.mul_zero, Finset.sum_range_zero]

end Cert.KernelIdeal.SB

end
-- ==== Proof.Induct.lean ====
/- The scratch of the backward kernel along the grid: after every point it holds the partial sums of `State`. -/
module

public import proofs.«01_k».proof.Proof.Frame
public import proofs.«01_k».proof.Proof.State

@[expose] public section

set_option maxRecDepth 16384

noncomputable section

namespace Cert.KernelIdeal.SB

open Idealize.ShloMosaic Idealize.ShloMosaic.TcCoe
open Cert.KernelIdeal.Gen Cert.SB
open Finset (range Ico)

/-- The tile of queries and the tile of keys of a point. -/
def qN (t : Fin grid0.N) : ℕ := (wq (grid0.coords t)).toNat
def kN (t : Fin grid0.N) : ℕ := (wk (grid0.coords t)).toNat
/-- The point before. -/
def prev (t : Fin grid0.N) : Fin grid0.N := ⟨t.val - 1, lt_of_le_of_lt (Nat.sub_le _ _) t.isLt⟩

theorem qN_lt : ∀ t : Fin grid0.N, qN t < 4 := by decide +kernel
theorem kN_lt : ∀ t : Fin grid0.N, kN t < 8 := by decide +kernel
theorem pair_lt : ∀ t : Fin grid0.N, t.val / 20 < 4 := by decide +kernel
theorem first_A : ∀ t : Fin grid0.N, condA (grid0.coords t) → qN t = 0 ∧ kN t = 1 := by decide +kernel
theorem later : ∀ t : Fin grid0.N, ¬ condA (grid0.coords t) → t.val ≠ 0 ∧ (prev t).val / 20 = t.val / 20 := by decide +kernel
theorem first_B : ∀ t : Fin grid0.N, ¬ condA (grid0.coords t) → condB (wq (grid0.coords t)) (wk (grid0.coords t)) →
    qN t = qN (prev t) + 1 ∧ kN (prev t) = 0 ∧ kN t = 2 * qN t + 1 := by decide +kernel
theorem next_B : ∀ t : Fin grid0.N, ¬ condA (grid0.coords t) → ¬ condB (wq (grid0.coords t)) (wk (grid0.coords t)) →
    qN t = qN (prev t) ∧ kN (prev t) = kN t + 1 := by decide +kernel

theorem wq_ofNat (t : Fin grid0.N) : wq (grid0.coords t) = BitVec.ofNat 32 (qN t) := by unfold qN; simp
theorem wk_ofNat (t : Fin grid0.N) : wk (grid0.coords t) = BitVec.ofNat 32 (kN t) := by unfold kN; simp

variable (P g : ℕ → ℕ → ℝ)
variable (m : (ℓ : Loc nD τ sig) → Buf (Elt Ideal) ℓ)

/-- One point, from the keys above its tile to the keys of its tile as well. -/
theorem next_SR (p : ℕ) (t : Fin grid0.N) (s : St Ideal) (hs : init (grid0.coords t) s = SR P g p (qN t) (256 * kN t + 256)) :
    next (grid0.coords t) (XR P g p (qN t) (kN t)) s = SR P g p (qN t) (256 * kN t) := by
  unfold next
  rw [hs]
  have hc : k0_chk1 (BitVec.ofNat 32 (kN t)) := wk_ofNat t ▸ chk_ok (grid0.coords t)
  rw [step_congr (wq_ofNat t) (wk_ofNat t) _ _ _ hc]
  exact step_SR P g (qN_lt t) (kN_lt t) hc

/-- The scratch after every point. -/
theorem stAt_SR (c : Dev nD) (hX : ∀ t : Fin grid0.N, Xat m c t = XR P g (t.val / 20) (qN t) (kN t)) :
    ∀ (n : ℕ) (h : n < grid0.N), stAt m c (n + 1) = SR P g (n / 20) (qN ⟨n, h⟩) (256 * kN ⟨n, h⟩) := by
  intro n
  induction n with
  | zero =>
    intro h
    refine (stAt_succ m c ⟨0, h⟩).trans ?_
    rw [hX]
    refine next_SR P g _ _ _ ?_
    have hA : condA (grid0.coords ⟨0, h⟩) := condA_first ⟨0, h⟩ rfl
    unfold init
    rw [if_pos hA, (first_A _ hA).1, (first_A _ hA).2]
    exact first_tile P g _ _
  | succ n ih =>
    intro h
    refine (stAt_succ m c ⟨n + 1, h⟩).trans ?_
    rw [hX]
    refine next_SR P g _ _ _ ?_
    have e := ih (Nat.lt_of_succ_lt h)
    show init _ (stAt m c (n + 1)) = _
    rw [e]
    unfold init
    by_cases hA : condA (grid0.coords ⟨n + 1, h⟩)
    · rw [if_pos hA, (first_A _ hA).1, (first_A _ hA).2]
      exact first_tile P g _ _
    · rw [if_neg hA]
      have hp : n / 20 = (n + 1) / 20 := (later _ hA).2
      by_cases hB : condB (wq (grid0.coords ⟨n + 1, h⟩)) (wk (grid0.coords ⟨n + 1, h⟩))
      · rw [if_pos hB]
        obtain ⟨h1, h2, h3⟩ := first_B _ hA hB
        have h1' : qN ⟨n + 1, h⟩ = qN ⟨n, Nat.lt_of_succ_lt h⟩ + 1 := h1
        have h2' : kN ⟨n, Nat.lt_of_succ_lt h⟩ = 0 := h2
        rw [h2', Nat.mul_zero, next_tile, hp]
        show SR P g ((n + 1) / 20) _ _ = SR P g ((n + 1) / 20) _ _
        rw [h1', show 256 * kN ⟨n + 1, h⟩ + 256 = 512 * (qN ⟨n, Nat.lt_of_succ_lt h⟩ + 1) + 512 by omega]
      · rw [if_neg hB]
        obtain ⟨h1, h2⟩ := next_B _ hA hB
        have h1' : qN ⟨n + 1, h⟩ = qN ⟨n, Nat.lt_of_succ_lt h⟩ := h1
        have h2' : kN ⟨n, Nat.lt_of_succ_lt h⟩ = kN ⟨n + 1, h⟩ + 1 := h2
        rw [h1', h2', hp]
        show SR P g ((n + 1) / 20) _ _ = SR P g ((n + 1) / 20) _ _
        rw [Nat.mul_add]

end Cert.KernelIdeal.SB

end
-- ==== Proof.Lift3.lean ====
/- Tables of reals with three axes under the operations of a host program: the elementwise operations, the soft plus and
   its derivative as they are printed, and the running sums. -/
module

public import proofs.«01_k».proof.Proof.Lift
public import Idealize.ShloMosaic.Lib.Pointwise

@[expose] public section

set_option maxRecDepth 16384

noncomputable section

namespace Cert.KernelIdeal.SB

open Idealize.ShloMosaic
open Finset (range Ico)

/-- The soft plus, as it is computed. -/
def sp (x : ℝ) : ℝ := max x 0 + Real.log (1 + Real.exp (-|x|))

/-- A table of truth values with three axes. -/
def B3 {a b c : ℕ} (p : ℕ → ℕ → ℕ → Prop) [∀ h i j, Decidable (p h i j)] : IVec ⟨3, ![a, b, c]⟩ 1 :=
  fun y => BitVec.ofBool (decide (p (y 0).val (y 1).val (y 2).val))

section Elementwise
variable {φ ψ : FTy} {a b c : ℕ} (f g : ℕ → ℕ → ℕ → ℝ) (p : ℕ → ℕ → ℕ → Prop) [∀ h i j, Decidable (p h i j)]

theorem addf_M3 : addf (M3 f : FVec Ideal ⟨3, ![a, b, c]⟩ φ) (M3 g) = M3 fun h i j => f h i j + g h i j := by
  funext y; exact (EReal.coe_add _ _).symm
theorem subf_M3 : subf (M3 f : FVec Ideal ⟨3, ![a, b, c]⟩ φ) (M3 g) = M3 fun h i j => f h i j - g h i j := by
  funext y; exact (EReal.coe_sub _ _).symm
theorem mulf_M3 : mulf (M3 f : FVec Ideal ⟨3, ![a, b, c]⟩ φ) (M3 g) = M3 fun h i j => f h i j * g h i j := by
  funext y; exact (EReal.coe_mul _ _).symm
theorem negf_M3 : Host.negf (M3 f : FVec Ideal ⟨3, ![a, b, c]⟩ φ) = M3 fun h i j => -f h i j := by
  funext y; exact (EReal.coe_neg _).symm
theorem exp_M3 : Host.exp (M3 f : FVec Ideal ⟨3, ![a, b, c]⟩ φ) = M3 fun h i j => Real.exp (f h i j) := by
  funext y; rfl
theorem absf_M3 : Host.absf (M3 f : FVec Ideal ⟨3, ![a, b, c]⟩ φ) = M3 fun h i j => |f h i j| := by
  funext y; exact max_coe _ _
theorem maximumf_M3 : maximumf (M3 f : FVec Ideal ⟨3, ![a, b, c]⟩ φ) (M3 g) = M3 fun h i j => max (f h i j) (g h i j) := by
  funext y; exact max_coe _ _
theorem log1p_M3 (hf : ∀ h i j, 0 < 1 + f h i j) : Host.log1p (M3 f : FVec Ideal ⟨3, ![a, b, c]⟩ φ) = M3 fun h i j => Real.log (1 + f h i j) := by
  funext y
  show Ideal.log (1 + ((f (y 0).val (y 1).val (y 2).val : ℝ) : EReal)) = _
  rw [← EReal.coe_one, ← EReal.coe_add, log_coe (hf _ _ _)]; rfl
theorem truncf_M3 (h : ψ.bits < φ.bits) : truncf ψ (M3 f : FVec Ideal ⟨3, ![a, b, c]⟩ φ) h = M3 f := rfl
theorem extf_M3 (h : φ.bits < ψ.bits) : extf ψ (M3 f : FVec Ideal ⟨3, ![a, b, c]⟩ φ) h = M3 f := rfl
theorem select_B3 : select (B3 p : IVec ⟨3, ![a, b, c]⟩ 1) (M3 f : FVec Ideal ⟨3, ![a, b, c]⟩ φ) (M3 g) = M3 fun h i j => if p h i j then f h i j else g h i j := by
  funext y
  show (if BitVec.ofBool (decide (p (y 0).val (y 1).val (y 2).val)) = 1#1 then _ else _) = _
  unfold M3
  by_cases h : p (y 0).val (y 1).val (y 2).val <;> simp [h]
/-- No real differs from itself. -/
theorem select_une (x y : FVec Ideal ⟨3, ![a, b, c]⟩ φ) : select (cmpf .une (M3 f : FVec Ideal ⟨3, ![a, b, c]⟩ φ) (M3 f)) x y = y := by
  funext i
  have e : Ideal.cmp .une ((f (i 0).val (i 1).val (i 2).val : ℝ) : EReal) ((f (i 0).val (i 1).val (i 2).val : ℝ) : EReal) = 0#1 := by simp [Ideal.cmp]
  show (if Ideal.cmp .une ((f (i 0).val (i 1).val (i 2).val : ℝ) : EReal) ((f (i 0).val (i 1).val (i 2).val : ℝ) : EReal) = 1#1 then x i else y i) = y i
  rw [e]
  exact if_neg (by decide)
/-- No real is infinite. -/
theorem select_oeq_top (x y t : FVec Ideal ⟨3, ![a, b, c]⟩ φ) (ht : ∀ i, t i = (⊤ : EReal)) :
    select (cmpf .oeq (M3 f : FVec Ideal ⟨3, ![a, b, c]⟩ φ) t) x y = y := by
  funext i
  have e : Ideal.cmp .oeq ((f (i 0).val (i 1).val (i 2).val : ℝ) : EReal) (t i) = 0#1 := by rw [ht]; simp [Ideal.cmp]
  show (if Ideal.cmp .oeq ((f (i 0).val (i 1).val (i 2).val : ℝ) : EReal) (t i) = 1#1 then x i else y i) = y i
  rw [e]
  exact if_neg (by decide)

theorem softplus_M3 : select (cmpf .une (subf (M3 f : FVec Ideal ⟨3, ![a, b, c]⟩ φ) (M3 fun _ _ _ => 0 : FVec Ideal ⟨3, ![a, b, c]⟩ φ)) (subf (M3 f : FVec Ideal ⟨3, ![a, b, c]⟩ φ) (M3 fun _ _ _ => 0 : FVec Ideal ⟨3, ![a, b, c]⟩ φ)))
      (addf (M3 f : FVec Ideal ⟨3, ![a, b, c]⟩ φ) (M3 fun _ _ _ => 0 : FVec Ideal ⟨3, ![a, b, c]⟩ φ))
      (addf (maximumf (M3 f : FVec Ideal ⟨3, ![a, b, c]⟩ φ) (M3 fun _ _ _ => 0 : FVec Ideal ⟨3, ![a, b, c]⟩ φ)) (Host.log1p (Host.exp (Host.negf (Host.absf (subf (M3 f : FVec Ideal ⟨3, ![a, b, c]⟩ φ) (M3 fun _ _ _ => 0 : FVec Ideal ⟨3, ![a, b, c]⟩ φ)))))))
    = (M3 fun h i j => sp (f h i j) : FVec Ideal ⟨3, ![a, b, c]⟩ φ) := by
  rw [subf_M3, select_une, absf_M3, negf_M3, exp_M3, log1p_M3 _ (fun h i j => by positivity), maximumf_M3, addf_M3]
  unfold sp
  simp only [sub_zero]
end Elementwise

theorem sp_neg (x : ℝ) : -sp (-x) = -sp x + x := by
  unfold sp
  rw [abs_neg]
  rcases le_total 0 x with h | h
  · rw [max_eq_left h, max_eq_right (by linarith)]; ring
  · rw [max_eq_right h, max_eq_left (by linarith)]; ring

theorem exp_sp (x : ℝ) : Real.exp (-sp x) = 1 - Real.exp (-sp x + x) := by
  have h1 : Real.exp (sp x) = 1 + Real.exp x := by
    unfold sp
    rw [Real.exp_add, Real.exp_log (by positivity)]
    rcases le_total 0 x with h | h
    · rw [max_eq_left h, abs_of_nonneg h, mul_add, mul_one, ← Real.exp_add, add_neg_cancel, Real.exp_zero]; ring
    · rw [max_eq_right h, abs_of_nonpos h, Real.exp_zero, neg_neg, one_mul]
  rw [Real.exp_add, Real.exp_neg, h1]
  have : (1 + Real.exp x) ≠ 0 := by positivity
  field_simp
  ring

/-! ## Running sums -/

theorem foldl_real (n : ℕ) (G : Fin n → EReal) (H : ℕ → ℝ) (h : ∀ k : Fin n, G k = ((H k.val : ℝ) : EReal)) :
    (List.finRange n).foldl (fun r k => r + G k) ((0 : ℝ) : EReal) = ((∑ k ∈ range n, H k : ℝ) : EReal) := by
  induction n with
  | zero => simp
  | succ n ih =>
    rw [List.finRange_succ_last, List.foldl_append, List.foldl_map]
    rw [ih (fun k => G k.castSucc) fun k => h k.castSucc]
    show ((∑ k ∈ range n, H k : ℝ) : EReal) + G (Fin.last n) = _
    rw [h, Finset.sum_range_succ, EReal.coe_add]; rfl

theorem window_val (n : Fin (⟨3, ![1, 1, 2048]⟩ : Shape).numel) :
    ((⟨3, ![1, 1, 2048]⟩ : Shape).rowMajor.symm n 0).val = 0 ∧ ((⟨3, ![1, 1, 2048]⟩ : Shape).rowMajor.symm n 1).val = 0
      ∧ ((⟨3, ![1, 1, 2048]⟩ : Shape).rowMajor.symm n 2).val = n.val := by
  have h0 : ((⟨3, ![1, 1, 2048]⟩ : Shape).rowMajor.symm n 0).val < 1 := ((⟨3, ![1, 1, 2048]⟩ : Shape).rowMajor.symm n 0).isLt
  have h1 : ((⟨3, ![1, 1, 2048]⟩ : Shape).rowMajor.symm n 1).val < 1 := ((⟨3, ![1, 1, 2048]⟩ : Shape).rowMajor.symm n 1).isLt
  have h2 := rowMajor_val3 ((⟨3, ![1, 1, 2048]⟩ : Shape).rowMajor.symm n) 2048 2048 (by rfl) (by rfl)
  rw [Equiv.apply_symm_apply] at h2
  omega

theorem numel_window : (⟨3, ![1, 1, 2048]⟩ : Shape).numel = 2048 := by decide +kernel

theorem window_right (f : ℕ → ℝ) {n : ℕ} (h : n < 2048) : (∑ k ∈ range 2048, if n + k < 2048 then f (n + k) else 0) = ∑ k ∈ Ico n 2048, f k := by
  obtain ⟨d, hd⟩ : ∃ d, 2048 = d + n := ⟨2048 - n, by omega⟩
  rw [hd, Finset.sum_Ico_eq_sum_range, Finset.sum_range_add, Nat.add_sub_cancel]
  rw [Finset.sum_eq_zero (s := range n) fun k _ => if_neg (by omega), add_zero]
  exact Finset.sum_congr rfl fun k hk => if_pos (by have := Finset.mem_range.1 hk; omega)

theorem window_left (f : ℕ → ℝ) {n : ℕ} (h : n < 2048) : (∑ k ∈ range 2048, if 2047 ≤ n + k then f (n + k - 2047) else 0) = ∑ k ∈ range (n + 1), f k := by
  obtain ⟨d, hd⟩ : ∃ d, 2047 = d + n := ⟨2047 - n, by omega⟩
  rw [show 2048 = d + (n + 1) by omega, Finset.sum_range_add]
  rw [Finset.sum_eq_zero (s := range d) fun k hk => if_neg (by have := Finset.mem_range.1 hk; omega), zero_add]
  exact Finset.sum_congr rfl fun k _ => by rw [if_pos (by omega)]; congr 1; omega

/-- The running sum from the last key down. -/
theorem suffix_sums (f : ℕ → ℕ → ℕ → ℝ) (init : FVec Ideal ⟨0, ![]⟩ .f32) (hi : init (Shape.Idx.first (by decide)) = ((0 : ℝ) : EReal))
    (h : (⟨3, ![8, 2048, 2048]⟩ : Shape).ReduceWindows ![1, 1, 2048] ![1, 1, 1] ![0, 0, 0] ![0, 0, 2047] ⟨3, ![8, 2048, 2048]⟩) (hu) :
    Host.reduceWindowAdd ![1, 1, 2048] ![1, 1, 1] ![0, 0, 0] ![0, 0, 2047] (M3 f : FVec Ideal ⟨3, ![8, 2048, 2048]⟩ .f32) init h hu
      = (M3 fun a i j => ∑ k ∈ Ico j 2048, f a i k : FVec Ideal ⟨3, ![8, 2048, 2048]⟩ .f32) := by
  funext y
  have b0 : (y 0).val < 8 := (y 0).isLt
  have b1 : (y 1).val < 2048 := (y 1).isLt
  have b2 : (y 2).val < 2048 := (y 2).isLt
  unfold Host.reduceWindowAdd
  rw [Ideal.hostReduceWindowAdd_def]
  unfold Ideal.hostReduceWindowAdd Host.reduceWindow
  dsimp only
  rw [hi]
  refine (foldl_real _ _ (fun n => if (y 2).val + n < 2048 then f (y 0).val (y 1).val ((y 2).val + n) else 0) fun n => ?_).trans ?_
  · obtain ⟨w0, w1, w2⟩ := window_val n
    by_cases hn : (y 2).val + n.val < 2048
    · rw [if_pos hn]
      have hin : ∀ a : Fin 3, (![0, 0, 0] : Fin 3 → ℕ) a ≤ (y (a.cast h.1.symm)).val * (![1, 1, 1] : Fin 3 → ℕ) a + ((⟨3, ![1, 1, 2048]⟩ : Shape).rowMajor.symm n a).val
          ∧ (y (a.cast h.1.symm)).val * (![1, 1, 1] : Fin 3 → ℕ) a + ((⟨3, ![1, 1, 2048]⟩ : Shape).rowMajor.symm n a).val - (![0, 0, 0] : Fin 3 → ℕ) a < (⟨3, ![8, 2048, 2048]⟩ : Shape).size a := by
        intro a
        match a with
        | ⟨0, _⟩ => exact ⟨Nat.zero_le _, show (y 0).val * 1 + ((⟨3, ![1, 1, 2048]⟩ : Shape).rowMajor.symm n 0).val - 0 < 8 by omega⟩
        | ⟨1, _⟩ => exact ⟨Nat.zero_le _, show (y 1).val * 1 + ((⟨3, ![1, 1, 2048]⟩ : Shape).rowMajor.symm n 1).val - 0 < 2048 by omega⟩
        | ⟨2, _⟩ => exact ⟨Nat.zero_le _, show (y 2).val * 1 + ((⟨3, ![1, 1, 2048]⟩ : Shape).rowMajor.symm n 2).val - 0 < 2048 by omega⟩
      refine (dif_pos hin).trans ?_
      show ((f ((y 0).val * 1 + ((⟨3, ![1, 1, 2048]⟩ : Shape).rowMajor.symm n 0).val - 0) ((y 1).val * 1 + ((⟨3, ![1, 1, 2048]⟩ : Shape).rowMajor.symm n 1).val - 0)
        ((y 2).val * 1 + ((⟨3, ![1, 1, 2048]⟩ : Shape).rowMajor.symm n 2).val - 0) : ℝ) : EReal) = _
      rw [w0, w1, w2]; simp only [mul_one, add_zero, Nat.sub_zero]
    · rw [if_neg hn]
      refine dif_neg fun hh => hn ?_
      have h2 : (y 2).val * 1 + ((⟨3, ![1, 1, 2048]⟩ : Shape).rowMajor.symm n 2).val - 0 < 2048 := (hh 2).2
      omega
  · show ((_ : ℝ) : EReal) = ((∑ k ∈ Ico (y 2).val 2048, f (y 0).val (y 1).val k : ℝ) : EReal)
    rw [numel_window]
    exact congrArg _ (window_right (f (y 0).val (y 1).val) b2)

/-- The running sum from the first key up. -/
theorem prefix_sums (f : ℕ → ℕ → ℕ → ℝ) (init : FVec Ideal ⟨0, ![]⟩ .f32) (hi : init (Shape.Idx.first (by decide)) = ((0 : ℝ) : EReal))
    (h : (⟨3, ![8, 2048, 2048]⟩ : Shape).ReduceWindows ![1, 1, 2048] ![1, 1, 1] ![0, 0, 2047] ![0, 0, 0] ⟨3, ![8, 2048, 2048]⟩) (hu) :
    Host.reduceWindowAdd ![1, 1, 2048] ![1, 1, 1] ![0, 0, 2047] ![0, 0, 0] (M3 f : FVec Ideal ⟨3, ![8, 2048, 2048]⟩ .f32) init h hu
      = (M3 fun a i j => ∑ k ∈ range (j + 1), f a i k : FVec Ideal ⟨3, ![8, 2048, 2048]⟩ .f32) := by
  funext y
  have b0 : (y 0).val < 8 := (y 0).isLt
  have b1 : (y 1).val < 2048 := (y 1).isLt
  have b2 : (y 2).val < 2048 := (y 2).isLt
  unfold Host.reduceWindowAdd
  rw [Ideal.hostReduceWindowAdd_def]
  unfold Ideal.hostReduceWindowAdd Host.reduceWindow
  dsimp only
  rw [hi]
  refine (foldl_real _ _ (fun n => if 2047 ≤ (y 2).val + n then f (y 0).val (y 1).val ((y 2).val + n - 2047) else 0) fun n => ?_).trans ?_
  · obtain ⟨w0, w1, w2⟩ := window_val n
    have hlt : n.val < 2048 := lt_of_lt_of_eq n.isLt numel_window
    by_cases hn : 2047 ≤ (y 2).val + n.val
    · rw [if_pos hn]
      have hin : ∀ a : Fin 3, (![0, 0, 2047] : Fin 3 → ℕ) a ≤ (y (a.cast h.1.symm)).val * (![1, 1, 1] : Fin 3 → ℕ) a + ((⟨3, ![1, 1, 2048]⟩ : Shape).rowMajor.symm n a).val
          ∧ (y (a.cast h.1.symm)).val * (![1, 1, 1] : Fin 3 → ℕ) a + ((⟨3, ![1, 1, 2048]⟩ : Shape).rowMajor.symm n a).val - (![0, 0, 2047] : Fin 3 → ℕ) a < (⟨3, ![8, 2048, 2048]⟩ : Shape).size a := by
        intro a
        match a with
        | ⟨0, _⟩ => exact ⟨Nat.zero_le _, show (y 0).val * 1 + ((⟨3, ![1, 1, 2048]⟩ : Shape).rowMajor.symm n 0).val - 0 < 8 by omega⟩
        | ⟨1, _⟩ => exact ⟨Nat.zero_le _, show (y 1).val * 1 + ((⟨3, ![1, 1, 2048]⟩ : Shape).rowMajor.symm n 1).val - 0 < 2048 by omega⟩
        | ⟨2, _⟩ => exact ⟨show 2047 ≤ (y 2).val * 1 + ((⟨3, ![1, 1, 2048]⟩ : Shape).rowMajor.symm n 2).val by omega,
            show (y 2).val * 1 + ((⟨3, ![1, 1, 2048]⟩ : Shape).rowMajor.symm n 2).val - 2047 < 2048 by omega⟩
      refine (dif_pos hin).trans ?_
      show ((f ((y 0).val * 1 + ((⟨3, ![1, 1, 2048]⟩ : Shape).rowMajor.symm n 0).val - 0) ((y 1).val * 1 + ((⟨3, ![1, 1, 2048]⟩ : Shape).rowMajor.symm n 1).val - 0)
        ((y 2).val * 1 + ((⟨3, ![1, 1, 2048]⟩ : Shape).rowMajor.symm n 2).val - 2047) : ℝ) : EReal) = _
      rw [w0, w1, w2]; simp only [mul_one, add_zero, Nat.sub_zero]
    · rw [if_neg hn]
      refine dif_neg fun hh => hn ?_
      have h2 : 2047 ≤ (y 2).val * 1 + ((⟨3, ![1, 1, 2048]⟩ : Shape).rowMajor.symm n 2).val := (hh 2).1
      omega
  · show ((_ : ℝ) : EReal) = ((∑ k ∈ range ((y 2).val + 1), f (y 0).val (y 1).val k : ℝ) : EReal)
    rw [numel_window]
    exact congrArg _ (window_left (f (y 0).val (y 1).val) b2)

/-- The projection's array at the columns of the queries, keys and values is the table `P`. -/
def Reads (x : FVec Ideal ⟨2, ![2048, 7680]⟩ .bf16) (P : ℕ → ℕ → ℝ) : Prop :=
  ∀ y : (⟨2, ![2048, 7680]⟩ : Shape).Idx, 6144 ≤ (y 1).val → x y = ((P (y 0).val (y 1).val : ℝ) : EReal)

end Cert.KernelIdeal.SB

end
-- ==== Proof.Blocks.lean ====
/- The blocks the backward kernel reads, on finite inputs, and the arrays it leaves: the gradients of the queries, keys
   and values as tables of reals. -/
module

public import proofs.«01_k».proof.Proof.Induct
public import proofs.«01_k».proof.Proof.Lift3
public import Idealize.ShloMosaic.Lib.Pipeline.ValueKit

@[expose] public section

set_option maxRecDepth 16384

noncomputable section

namespace Cert.KernelIdeal.SB

open Idealize.ShloMosaic Idealize.ShloMosaic.TcCoe
open Idealize.ShloMosaic.Pipeline (Dat Cfg Window)
open Cert.KernelIdeal.Gen Cert.SB
open Finset (range Ico)

/-! ## Where the blocks lie -/

theorem word_48 : ∀ t : Fin grid0.N, (Scalar.addi 48#32 (BitVec.ofNat 32 ((grid0.coords t) 0).val)).toNat = 48 + t.val / 20 := by decide +kernel
theorem word_52 : ∀ t : Fin grid0.N, (Scalar.addi 52#32 (BitVec.ofNat 32 ((grid0.coords t) 0).val)).toNat = 52 + t.val / 20 := by decide +kernel
theorem word_56 : ∀ t : Fin grid0.N, (Scalar.addi 56#32 (BitVec.ofNat 32 ((grid0.coords t) 0).val)).toNat = 56 + t.val / 20 := by decide +kernel
theorem word_0 : ∀ t : Fin grid0.N, (BitVec.ofNat 32 ((grid0.coords t) 0).val).toNat = t.val / 20 := by decide +kernel

section Index
variable {F : FTy → Type} [FloatOps F]

theorem index_0 (t : Fin (cfgT F).N) : ((cfgT F).win 0).index t = ![qN t, 48 + t.val / 20] :=
  (ix_0 (F := F) (grid0.coords t)).trans (by rw [word_48 t]; rfl)
theorem index_1 (t : Fin (cfgT F).N) : ((cfgT F).win 1).index t = ![kN t, 52 + t.val / 20] :=
  (ix_1 (F := F) (grid0.coords t)).trans (by rw [word_52 t]; rfl)
theorem index_2 (t : Fin (cfgT F).N) : ((cfgT F).win 2).index t = ![kN t, 56 + t.val / 20] :=
  (ix_2 (F := F) (grid0.coords t)).trans (by rw [word_56 t]; rfl)
theorem index_3 (t : Fin (cfgT F).N) : ((cfgT F).win 3).index t = ![qN t, t.val / 20] :=
  (ix_3 (F := F) (grid0.coords t)).trans (by rw [word_0 t]; rfl)
theorem index_4 (t : Fin (cfgT F).N) : ((cfgT F).win 4).index t = ![t.val / 20, qN t, 0] :=
  (ix_4 (F := F) (grid0.coords t)).trans (by rw [word_0 t]; rfl)
theorem index_5 (t : Fin (cfgT F).N) : ((cfgT F).win 5).index t = ![qN t, t.val / 20] :=
  (ix_5 (F := F) (grid0.coords t)).trans (by rw [word_0 t]; rfl)
theorem index_6 (t : Fin (cfgT F).N) : ((cfgT F).win 6).index t = ![0, t.val / 20] := by
  show ![(0#32).toNat, (BitVec.ofNat 32 ((grid0.coords t) 0).val).toNat] = _
  rw [word_0 t]; rfl
theorem index_7 (t : Fin (cfgT F).N) : ((cfgT F).win 7).index t = ![0, t.val / 20] := by
  show ![(0#32).toNat, (BitVec.ofNat 32 ((grid0.coords t) 0).val).toNat] = _
  rw [word_0 t]; rfl

end Index

/-! ## What is read -/

variable (m : (ℓ : Loc nD τ sig) → Buf (Elt Ideal) ℓ) (c : Dev nD) {P g : ℕ → ℕ → ℝ}

theorem blk_q (hP : Reads (m ((c : Thread nD τ).loc main_arg0)) P) (t : Fin (cfgT Ideal).N) :
    (iblk m c 0 t : Vec Ideal S512x128 .bf16) = M2 (φ := .bf16) (a := 512) (b := 128) fun i k => P (512 * qN t + i) (6144 + 128 * (t.val / 20) + k) := by
  funext y
  show V m c main_arg0 ((((cfgT Ideal).win 0).blk t).view.emb y) = _
  rw [V_main_arg0]
  have e0 : ((((cfgT Ideal).win 0).blk t).view.emb y 0).val = 512 * qN t + (y 0).val :=
    (Window.rect_emb_val ((cfgT Ideal).win 0) t y 0).trans (by rw [index_0 t]; show qN t * 512 + _ = _; omega)
  have e1 : ((((cfgT Ideal).win 0).blk t).view.emb y 1).val = 6144 + 128 * (t.val / 20) + (y 1).val :=
    (Window.rect_emb_val ((cfgT Ideal).win 0) t y 1).trans (by rw [index_0 t]; show (48 + t.val / 20) * 128 + _ = _; omega)
  refine (hP _ (by rw [e1]; omega)).trans ?_
  rw [e0, e1]; rfl

theorem blk_k (hP : Reads (m ((c : Thread nD τ).loc main_arg0)) P) (t : Fin (cfgT Ideal).N) :
    (iblk m c 1 t : Vec Ideal S256x128 .bf16) = M2 (φ := .bf16) (a := 256) (b := 128) fun i k => P (256 * kN t + i) (6656 + 128 * (t.val / 20) + k) := by
  funext y
  show V m c main_arg0 ((((cfgT Ideal).win 1).blk t).view.emb y) = _
  rw [V_main_arg0]
  have e0 : ((((cfgT Ideal).win 1).blk t).view.emb y 0).val = 256 * kN t + (y 0).val :=
    (Window.rect_emb_val ((cfgT Ideal).win 1) t y 0).trans (by rw [index_1 t]; show kN t * 256 + _ = _; omega)
  have e1 : ((((cfgT Ideal).win 1).blk t).view.emb y 1).val = 6656 + 128 * (t.val / 20) + (y 1).val :=
    (Window.rect_emb_val ((cfgT Ideal).win 1) t y 1).trans (by rw [index_1 t]; show (52 + t.val / 20) * 128 + _ = _; omega)
  refine (hP _ (by rw [e1]; omega)).trans ?_
  rw [e0, e1]; rfl

theorem blk_v (hP : Reads (m ((c : Thread nD τ).loc main_arg0)) P) (t : Fin (cfgT Ideal).N) :
    (iblk m c 2 t : Vec Ideal S256x128 .bf16) = M2 (φ := .bf16) (a := 256) (b := 128) fun i k => P (256 * kN t + i) (7168 + 128 * (t.val / 20) + k) := by
  funext y
  show V m c main_arg0 ((((cfgT Ideal).win 2).blk t).view.emb y) = _
  rw [V_main_arg0]
  have e0 : ((((cfgT Ideal).win 2).blk t).view.emb y 0).val = 256 * kN t + (y 0).val :=
    (Window.rect_emb_val ((cfgT Ideal).win 2) t y 0).trans (by rw [index_2 t]; show kN t * 256 + _ = _; omega)
  have e1 : ((((cfgT Ideal).win 2).blk t).view.emb y 1).val = 7168 + 128 * (t.val / 20) + (y 1).val :=
    (Window.rect_emb_val ((cfgT Ideal).win 2) t y 1).trans (by rw [index_2 t]; show (56 + t.val / 20) * 128 + _ = _; omega)
  refine (hP _ (by rw [e1]; omega)).trans ?_
  rw [e0, e1]; rfl

theorem blk_do (hg : (m ((c : Thread nD τ).loc main_arg1)) = M2 (φ := .bf16) (a := 2048) (b := 512) g) (t : Fin (cfgT Ideal).N) :
    (iblk m c 3 t : Vec Ideal S512x128 .bf16) = M2 (φ := .bf16) (a := 512) (b := 128) fun i k => g (512 * qN t + i) (128 * (t.val / 20) + k) := by
  funext y
  show V m c main_arg1 ((((cfgT Ideal).win 3).blk t).view.emb y) = _
  rw [V_main_arg1, hg]
  have e0 : ((((cfgT Ideal).win 3).blk t).view.emb y 0).val = 512 * qN t + (y 0).val :=
    (Window.rect_emb_val ((cfgT Ideal).win 3) t y 0).trans (by rw [index_3 t]; show qN t * 512 + _ = _; omega)
  have e1 : ((((cfgT Ideal).win 3).blk t).view.emb y 1).val = 128 * (t.val / 20) + (y 1).val :=
    (Window.rect_emb_val ((cfgT Ideal).win 3) t y 1).trans (by rw [index_3 t]; show (t.val / 20) * 128 + _ = _; omega)
  show ((g ((((cfgT Ideal).win 3).blk t).view.emb y 0).val ((((cfgT Ideal).win 3).blk t).view.emb y 1).val : ℝ) : EReal) = _
  rw [e0, e1]; rfl

theorem blk_dl (hd : V m c main_v42 = M3 (φ := .f32) (a := 4) (b := 2048) (c := 128) fun p i k => DR P g (128 * p + hb k) i) (t : Fin (cfgT Ideal).N) :
    (iblk m c 4 t : Vec Ideal S1x512x128 .f32) = M3 (φ := .f32) (a := 1) (b := 512) (c := 128) fun _ i k => DR P g (128 * (t.val / 20) + hb k) (512 * qN t + i) := by
  funext y
  show V m c main_v42 ((((cfgT Ideal).win 4).blk t).view.emb y) = _
  rw [hd]
  have b0 : (y 0).val < 1 := (y 0).isLt
  have e0 : ((((cfgT Ideal).win 4).blk t).view.emb y 0).val = t.val / 20 :=
    (Window.rect_emb_val ((cfgT Ideal).win 4) t y 0).trans (by rw [index_4 t]; show (t.val / 20) * 1 + _ = _; omega)
  have e1 : ((((cfgT Ideal).win 4).blk t).view.emb y 1).val = 512 * qN t + (y 1).val :=
    (Window.rect_emb_val ((cfgT Ideal).win 4) t y 1).trans (by rw [index_4 t]; show qN t * 512 + _ = _; omega)
  have e2 : ((((cfgT Ideal).win 4).blk t).view.emb y 2).val = (y 2).val :=
    (Window.rect_emb_val ((cfgT Ideal).win 4) t y 2).trans (by rw [index_4 t]; show 0 * 128 + _ = _; omega)
  show ((DR P g (128 * ((((cfgT Ideal).win 4).blk t).view.emb y 0).val + hb ((((cfgT Ideal).win 4).blk t).view.emb y 2).val) ((((cfgT Ideal).win 4).blk t).view.emb y 1).val : ℝ) : EReal) = _
  rw [e0, e1, e2]; rfl

theorem Xat_XR (hP : Reads (m ((c : Thread nD τ).loc main_arg0)) P) (hg : (m ((c : Thread nD τ).loc main_arg1)) = M2 (φ := .bf16) (a := 2048) (b := 512) g)
    (hd : V m c main_v42 = M3 (φ := .f32) (a := 4) (b := 2048) (c := 128) fun p i k => DR P g (128 * p + hb k) i) (t : Fin grid0.N) :
    Xat m c t = XR P g (t.val / 20) (qN t) (kN t) := by
  unfold Xat XR
  congr 1
  · exact blk_q m c hP t
  · exact blk_k m c hP t
  · exact blk_v m c hP t
  · exact blk_do m c hg t
  · exact blk_dl m c hd t

/-! ## What is left -/

/-- The queries' gradients are written where the keys end, at the first one; the keys' and values' where the pair ends. -/
theorem live_5 : ∀ t : Fin grid0.N, condC (wk (grid0.coords t)) → kN t = 0 := by decide +kernel
theorem live_6 : ∀ t : Fin grid0.N, condD (grid0.coords t) → kN t = 0 ∧ qN t = 3 := by decide +kernel

theorem pay_dq (s : St Ideal) (f : ℕ → ℕ → ℝ) (h : s.dq = M2 (φ := .f32) (a := 512) (b := 128) f) :
    (k0_pay49 s.dq : Vec Ideal S512x128 .bf16) = M2 (φ := .bf16) (a := 512) (b := 128) fun i k => f i k * (1 / 8) := by
  rw [h]
  unfold k0_pay49
  dsimp only
  simp only [sc_id_q, bc_eighth_f32, mulf_M2, truncf_M2]
theorem pay_dk (s : St Ideal) (f : ℕ → ℕ → ℝ) (h : s.dk = M2 (φ := .f32) (a := 2048) (b := 128) f) :
    (k0_pay1 s.dk : Vec Ideal S2048x128 .bf16) = M2 (φ := .bf16) (a := 2048) (b := 128) f := by
  rw [h]
  unfold k0_pay1
  dsimp only
  simp only [sc_id_s, truncf_M2]
theorem pay_dv (s : St Ideal) (f : ℕ → ℕ → ℝ) (h : s.dv = M2 (φ := .f32) (a := 2048) (b := 128) f) :
    (k0_pay2 s.dv : Vec Ideal S2048x128 .bf16) = M2 (φ := .bf16) (a := 2048) (b := 128) f := by
  rw [h]
  unfold k0_pay2
  dsimp only
  simp only [sc_id_s, truncf_M2]

variable (hP : Reads (m ((c : Thread nD τ).loc main_arg0)) P) (hg : (m ((c : Thread nD τ).loc main_arg1)) = M2 (φ := .bf16) (a := 2048) (b := 512) g)
    (hd : V m c main_v42 = M3 (φ := .f32) (a := 4) (b := 2048) (c := 128) fun p i k => DR P g (128 * p + hb k) i)
include hP hg hd

theorem stAt_t (t : Fin grid0.N) : stAt m c (t.val + 1) = SR P g (t.val / 20) (qN t) (256 * kN t) :=
  stAt_SR P g m c (Xat_XR m c hP hg hd) t.val t.isLt

/-- The queries' gradient. -/
theorem final_dq : (dats m 0 c).arrAt 5 (cfgT Ideal).N = M2 (φ := .bf16) (a := 2048) (b := 512) (dqR P g) := by
  refine (dats m 0 c).arrAt_eq_of_covers 5 _ (by decide +kernel) fun t hf y => ?_
  have hl : condC (wk (grid0.coords t)) := by
    by_contra hn
    rw [flush_5 t hn] at hf
    exact absurd hf (by decide)
  have e0 : ((((cfgT Ideal).win 5).blk t).view.emb y 0).val = 512 * qN t + (y 0).val :=
    (Window.rect_emb_val ((cfgT Ideal).win 5) t y 0).trans (by rw [index_5 t]; show qN t * 512 + _ = _; omega)
  have e1 : ((((cfgT Ideal).win 5).blk t).view.emb y 1).val = 128 * (t.val / 20) + (y 1).val :=
    (Window.rect_emb_val ((cfgT Ideal).win 5) t y 1).trans (by rw [index_5 t]; show (t.val / 20) * 128 + _ = _; omega)
  show (dats m 0 c).after 5 t y = ((dqR P g ((((cfgT Ideal).win 5).blk t).view.emb y 0).val ((((cfgT Ideal).win 5).blk t).view.emb y 1).val : ℝ) : EReal)
  rw [after_5, e0, e1, stAt_t m c hP hg hd t, live_5 t hl, pay_dq _ _ (SR_dq P g _ _ _)]
  show ((_ : ℝ) : EReal) = ((_ : ℝ) : EReal)
  unfold dqR
  rw [hb_pair, Nat.mul_zero, ← Finset.range_eq_Ico]
  simp only [Nat.add_assoc]

/-- The keys' gradient. -/
theorem final_dk : (dats m 0 c).arrAt 6 (cfgT Ideal).N = M2 (φ := .bf16) (a := 2048) (b := 512) (dkR P g) := by
  refine (dats m 0 c).arrAt_eq_of_covers 6 _ (by decide +kernel) fun t hf y => ?_
  have hl : condD (grid0.coords t) := by
    by_contra hn
    rw [flush_6 t hn] at hf
    exact absurd hf (by decide)
  have e0 : ((((cfgT Ideal).win 6).blk t).view.emb y 0).val = (y 0).val :=
    (Window.rect_emb_val ((cfgT Ideal).win 6) t y 0).trans (by rw [index_6 t]; show 0 * 2048 + _ = _; omega)
  have e1 : ((((cfgT Ideal).win 6).blk t).view.emb y 1).val = 128 * (t.val / 20) + (y 1).val :=
    (Window.rect_emb_val ((cfgT Ideal).win 6) t y 1).trans (by rw [index_6 t]; show (t.val / 20) * 128 + _ = _; omega)
  show (dats m 0 c).after 6 t y = ((dkR P g ((((cfgT Ideal).win 6).blk t).view.emb y 0).val ((((cfgT Ideal).win 6).blk t).view.emb y 1).val : ℝ) : EReal)
  rw [after_6, e0, e1, stAt_t m c hP hg hd t, (live_6 t hl).1, (live_6 t hl).2, pay_dk _ _ (SR_dk P g _ _ _)]
  show ((_ : ℝ) : EReal) = ((_ : ℝ) : EReal)
  unfold dkR
  rw [hb_pair, Nat.mul_zero]
  simp only [Nat.add_assoc]
  rfl

/-- The values' gradient. -/
theorem final_dv : (dats m 0 c).arrAt 7 (cfgT Ideal).N = M2 (φ := .bf16) (a := 2048) (b := 512) (dvR P g) := by
  refine (dats m 0 c).arrAt_eq_of_covers 7 _ (by decide +kernel) fun t hf y => ?_
  have hl : condD (grid0.coords t) := by
    by_contra hn
    rw [flush_7 t hn] at hf
    exact absurd hf (by decide)
  have e0 : ((((cfgT Ideal).win 7).blk t).view.emb y 0).val = (y 0).val :=
    (Window.rect_emb_val ((cfgT Ideal).win 7) t y 0).trans (by rw [index_7 t]; show 0 * 2048 + _ = _; omega)
  have e1 : ((((cfgT Ideal).win 7).blk t).view.emb y 1).val = 128 * (t.val / 20) + (y 1).val :=
    (Window.rect_emb_val ((cfgT Ideal).win 7) t y 1).trans (by rw [index_7 t]; show (t.val / 20) * 128 + _ = _; omega)
  show (dats m 0 c).after 7 t y = ((dvR P g ((((cfgT Ideal).win 7).blk t).view.emb y 0).val ((((cfgT Ideal).win 7).blk t).view.emb y 1).val : ℝ) : EReal)
  rw [after_7, e0, e1, stAt_t m c hP hg hd t, (live_6 t hl).1, (live_6 t hl).2, pay_dv _ _ (SR_dv P g _ _ _)]
  show ((_ : ℝ) : EReal) = ((_ : ℝ) : EReal)
  unfold dvR
  rw [hb_pair, Nat.mul_zero]
  rfl

end Cert.KernelIdeal.SB

end
-- ==== Proof.RefValue.lean ====
/- The reference's values on finite inputs, operation by operation, as tables of reals: what it returns are the sums of
   Proof/Math.lean. -/
module

public import proofs.«01_k».proof.Proof.Lift3
public import proofs.«01_k».proof.Proof.Math
public import proofs.«01_k».proof.Proof.Gen.ReferenceIdeal.Read

@[expose] public section

set_option maxRecDepth 16384

noncomputable section

namespace Cert.ReferenceIdeal.SB

open Idealize.ShloMosaic Idealize.ShloMosaic.TcCoe
open Cert.ReferenceIdeal Cert.ReferenceIdeal.Gen Cert.ReferenceIdeal.Read Cert.SB
open Cert.KernelIdeal.SB (Reads M2 M3 B3 M2_congr M3_congr sp addf_M3 subf_M3 mulf_M3 negf_M3 exp_M3 truncf_M3 extf_M3 select_B3 select_oeq_top softplus_M3 sp_neg exp_sp coe_sum_range suffix_sums prefix_sums slt_ofNat ofBits_eighth_f32)
open Finset (range Ico)

theorem ofBits_top : (Ideal.ofBits .f32 0x7F800000#32 : EReal) = ⊤ := by simp [Ideal.ofBits, Ideal.ieee]

variable {x0 : (⟨S2048x7680, .bf16⟩ : BufTy).Contents (Elt Ideal)} {x1 : (⟨S2048x512, .bf16⟩ : BufTy).Contents (Elt Ideal)} {P g : ℕ → ℕ → ℝ} (hP : Reads x0 P)

/-! ## The heads -/

include hP in
theorem r_v4 : val_main_v4 (F := Ideal) x0 = M3 (φ := .bf16) (a := 8) (b := 2048) (c := 64) fun h i c => P i (6144 + 64 * h + c) := by
  funext y
  have b2 : (y 2).val < 64 := (y 2).isLt
  pointwise [val_main_v4, val_main_v3, val_main_v0]
  refine (hP _ (Nat.le_add_right _ _)).trans ?_
  unfold M3
  congr 2
  show 6144 + ((y 0).val * 64 + (y 2).val) = _
  omega

include hP in
theorem r_v6 : val_main_v6 (F := Ideal) x0 = M3 (φ := .bf16) (a := 8) (b := 2048) (c := 64) fun h i c => P i (6656 + 64 * h + c) := by
  funext y
  have b2 : (y 2).val < 64 := (y 2).isLt
  pointwise [val_main_v6, val_main_v5, val_main_v1]
  refine (hP _ (le_trans (by decide) (Nat.le_add_right 6656 _))).trans ?_
  unfold M3
  congr 2
  show 6656 + ((y 0).val * 64 + (y 2).val) = _
  omega

include hP in
theorem r_v8 : val_main_v8 (F := Ideal) x0 = M3 (φ := .bf16) (a := 8) (b := 2048) (c := 64) fun h i c => P i (7168 + 64 * h + c) := by
  funext y
  have b2 : (y 2).val < 64 := (y 2).isLt
  pointwise [val_main_v8, val_main_v7, val_main_v2]
  refine (hP _ (le_trans (by decide) (Nat.le_add_right 7168 _))).trans ?_
  unfold M3
  congr 2
  show 7168 + ((y 0).val * 64 + (y 2).val) = _
  omega

/-! ## The scores -/

include hP in
theorem r_v10 : val_main_v10 (F := Ideal) x0 = M3 (φ := .f32) (a := 8) (b := 2048) (c := 2048) fun h i j => ∑ c ∈ range 64, P i (6144 + 64 * h + c) * P j (6656 + 64 * h + c) := by
  funext y
  rw [val_main_v10_apply, r_v4 hP, r_v6 hP]
  refine Eq.trans (Finset.sum_congr rfl fun k _ => (EReal.coe_mul _ _).symm) ?_
  exact coe_sum_range 64 fun k => P (y 1).val (6144 + 64 * (y 0).val + k) * P (y 2).val (6656 + 64 * (y 0).val + k)

theorem r_v13 : val_main_v13 (F := Ideal) = M3 (φ := .f32) (a := 8) (b := 2048) (c := 2048) fun _ _ _ => 1 / 8 := by
  funext y; exact ofBits_eighth_f32

include hP in
theorem r_v14 : val_main_v14 (F := Ideal) x0 = M3 (φ := .f32) (a := 8) (b := 2048) (c := 2048) fun h i j => zR P (64 * h) i j := by
  unfold val_main_v14 val_main_v12 val_main_v11
  rw [r_v10 hP, truncf_M3, extf_M3, r_v13, mulf_M3]
  refine M3_congr fun h _ i _ j _ => ?_
  unfold zR
  rw [Finset.sum_mul]
  exact Finset.sum_congr rfl fun k _ => by ring

theorem r_mask : val_main_v22_1 (F := Ideal) = B3 (a := 8) (b := 2048) (c := 2048) fun _ i j => j < i := by
  funext y
  have b1 : (y 1).val < 2048 := (y 1).isLt
  have b2 : (y 2).val < 2048 := (y 2).isLt
  pointwise [val_main_v22_1, val_main_v19, val_main_v18, val_main_v17, val_main_v16, val_main_v15, val_main_v9]
  exact slt_ofNat (by omega) (by omega)
theorem r_mask' : val_main_v28_1 (F := Ideal) = B3 (a := 8) (b := 2048) (c := 2048) fun _ i j => j < i := r_mask

theorem zero_tab : (broadcastInDim S8x2048x2048 ![] bcast_S_S8x2048x2048 (constant (F := Ideal) S_ .f32 0x00000000#32) : FVec Ideal S8x2048x2048 .f32) = M3 (φ := .f32) (a := 8) (b := 2048) (c := 2048) fun _ _ _ => 0 := by
  funext y; exact Ideal.ofBits_zero_f32.trans EReal.coe_zero.symm
theorem top_tab (y : S8x2048x2048.Idx) : (broadcastInDim S8x2048x2048 ![] bcast_S_S8x2048x2048 (constant (F := Ideal) S_ .f32 0x7F800000#32) : FVec Ideal S8x2048x2048 .f32) y = (⊤ : EReal) := ofBits_top

/-! ## The logarithms of the sigmoids -/

include hP in
theorem r_c0_v0 : val_main_call0_v0 (F := Ideal) x0 = M3 (φ := .f32) (a := 8) (b := 2048) (c := 2048) fun h i j => zR P (64 * h) i j := by
  unfold val_main_call0_v0 val_main_v20
  rw [r_v14 hP, negf_M3, negf_M3]
  simp only [neg_neg]

include hP in
theorem r_c0_sp : val_main_call0_v1_0 (F := Ideal) x0 = M3 (φ := .f32) (a := 8) (b := 2048) (c := 2048) fun h i j => sp (zR P (64 * h) i j) := by
  unfold val_main_call0_v1_0 val_main_call0_call0_v4 val_main_call0_call0_v6 val_main_call0_call0_v11 val_main_call0_call0_v1 val_main_call0_call0_v10 val_main_call0_call0_v9 val_main_call0_call0_v8 val_main_call0_call0_v7 val_main_call0_call0_v3
    val_main_call0_call0_v0 val_main_call0_call0_v2 val_main_call0_call0_v5 val_main_call0_call0_cst
  rw [r_c0_v0 hP, zero_tab]
  exact softplus_M3 _

include hP in
theorem r_v21_0 : val_main_v21_0 (F := Ideal) x0 = M3 (φ := .f32) (a := 8) (b := 2048) (c := 2048) fun h i j => -sp (zR P (64 * h) i j) := by
  unfold val_main_v21_0; rw [r_c0_sp hP, negf_M3]

include hP in
theorem r_v21_1 : val_main_v21_1 (F := Ideal) x0 = M3 (φ := .f32) (a := 8) (b := 2048) (c := 2048) fun h i j => Real.exp (-sp (zR P (64 * h) i j) + zR P (64 * h) i j) := by
  unfold val_main_v21_1 val_main_call0_call0_v21 val_main_call0_call0_v16 val_main_call0_call0_v20 val_main_call0_call0_v14 val_main_call0_call0_v18
  rw [r_c0_v0 hP, r_c0_sp hP]
  rw [select_oeq_top _ _ _ _ (fun y => ?_), select_oeq_top _ _ _ _ (fun y => ?_), subf_M3, exp_M3]
  · exact M3_congr fun h _ i _ j _ => by rw [sub_eq_add_neg, add_comm]
  · exact top_tab y
  · exact top_tab y

include hP in
theorem r_c3_v0 : val_main_call3_v0 (F := Ideal) x0 = M3 (φ := .f32) (a := 8) (b := 2048) (c := 2048) fun h i j => -zR P (64 * h) i j := by
  unfold val_main_call3_v0
  rw [r_v14 hP, negf_M3]

include hP in
theorem r_c3_sp : val_main_call3_v1_0 (F := Ideal) x0 = M3 (φ := .f32) (a := 8) (b := 2048) (c := 2048) fun h i j => sp (-zR P (64 * h) i j) := by
  unfold val_main_call3_v1_0 val_main_call3_call0_v4 val_main_call3_call0_v6 val_main_call3_call0_v11 val_main_call3_call0_v1 val_main_call3_call0_v10 val_main_call3_call0_v9 val_main_call3_call0_v8 val_main_call3_call0_v7 val_main_call3_call0_v3
    val_main_call3_call0_v0 val_main_call3_call0_v2 val_main_call3_call0_v5 val_main_call3_call0_cst
  rw [r_c3_v0 hP, zero_tab]
  exact softplus_M3 _

include hP in
theorem r_v25_0 : val_main_v25_0 (F := Ideal) x0 = M3 (φ := .f32) (a := 8) (b := 2048) (c := 2048) fun h i j => -sp (zR P (64 * h) i j) + zR P (64 * h) i j := by
  unfold val_main_v25_0; rw [r_c3_sp hP, negf_M3]
  exact M3_congr fun h _ i _ j _ => sp_neg _

include hP in
theorem r_v25_1 : val_main_v25_1 (F := Ideal) x0 = M3 (φ := .f32) (a := 8) (b := 2048) (c := 2048) fun h i j => 1 - Real.exp (-sp (zR P (64 * h) i j) + zR P (64 * h) i j) := by
  unfold val_main_v25_1 val_main_call3_call0_v21 val_main_call3_call0_v16 val_main_call3_call0_v20 val_main_call3_call0_v14 val_main_call3_call0_v18
  rw [r_c3_v0 hP, r_c3_sp hP]
  rw [select_oeq_top _ _ _ _ (fun y => ?_), select_oeq_top _ _ _ _ (fun y => ?_), subf_M3, exp_M3]
  · refine M3_congr fun h _ i _ j _ => ?_
    rw [← exp_sp]
    congr 1
    have := sp_neg (zR P (64 * h) i j)
    linarith
  · exact top_tab y
  · exact top_tab y

theorem ls_sp (x : ℝ) : ls x = -sp x := by unfold ls sp; rw [zero_sub, zero_sub]

/-! ## The weights -/

include hP in
theorem r_v22 : val_main_v22_0 (F := Ideal) x0 = M3 (φ := .f32) (a := 8) (b := 2048) (c := 2048) fun h i j => lR P (64 * h) i j := by
  have e : val_main_call1_v2 (F := Ideal) = M3 (φ := .f32) (a := 8) (b := 2048) (c := 2048) fun _ _ _ => 0 := zero_tab
  unfold val_main_v22_0
  rw [r_mask, r_v21_0 hP, e, select_B3]
  exact M3_congr fun h _ i _ j _ => by unfold lR; rw [ls_sp]

theorem r_init2 : val_main_call2_v0 (F := Ideal) (Shape.Idx.first (by decide)) = ((0 : ℝ) : EReal) := Ideal.ofBits_zero_f32.trans EReal.coe_zero.symm
theorem r_init7 : val_main_call7_v0 (F := Ideal) (Shape.Idx.first (by decide)) = ((0 : ℝ) : EReal) := Ideal.ofBits_zero_f32.trans EReal.coe_zero.symm

include hP in
theorem r_v24 : val_main_v24 (F := Ideal) x0 = M3 (φ := .f32) (a := 8) (b := 2048) (c := 2048) fun h i j => ∑ k ∈ Ico (j + 1) 2048, lR P (64 * h) i k := by
  unfold val_main_v24 val_main_v23
  rw [r_v22 hP, suffix_sums _ _ r_init2, subf_M3]
  exact M3_congr fun h _ i _ j hj => by rw [Finset.sum_eq_sum_Ico_succ_bot hj, add_sub_cancel_left]

include hP in
theorem r_v27 : val_main_v27 (F := Ideal) x0 = M3 (φ := .f32) (a := 8) (b := 2048) (c := 2048) fun h i j =>
    Real.exp (-sp (zR P (64 * h) i j) + zR P (64 * h) i j + ∑ k ∈ Ico (j + 1) 2048, lR P (64 * h) i k) := by
  unfold val_main_v27 val_main_v26
  rw [r_v25_0 hP, r_v24 hP, addf_M3, exp_M3]

theorem lR_sp {b i j : ℕ} (h : j < i) : lR P b i j = -sp (zR P b i j) := by unfold lR; rw [if_pos h, ls_sp]

include hP in
theorem r_v29 : val_main_v29 (F := Ideal) x0 = M3 (φ := .bf16) (a := 8) (b := 2048) (c := 2048) fun h i j => aR P (64 * h) i j := by
  have e : val_main_call4_v2 (F := Ideal) = M3 (φ := .f32) (a := 8) (b := 2048) (c := 2048) fun _ _ _ => 0 := zero_tab
  unfold val_main_v29 val_main_v28_0
  rw [r_mask', r_v27 hP, e, select_B3, truncf_M3]
  refine M3_congr fun h _ i _ j _ => ?_
  unfold aR
  by_cases hj : j < i
  · rw [if_pos hj, if_pos hj, lR_sp hj]
  · rw [if_neg hj, if_neg hj]

/-! ## The output -/

include hP in
theorem r_v30 : val_main_v30 (F := Ideal) x0 = M3 (φ := .f32) (a := 8) (b := 2048) (c := 64) fun h i c => ∑ j ∈ range 2048, aR P (64 * h) i j * P j (7168 + 64 * h + c) := by
  funext y
  rw [val_main_v30_apply, r_v29 hP, r_v8 hP]
  refine Eq.trans (Finset.sum_congr rfl fun k _ => (EReal.coe_mul _ _).symm) ?_
  exact coe_sum_range 2048 fun k => aR P (64 * (y 0).val) (y 1).val k * P k (7168 + 64 * (y 0).val + (y 2).val)

/-- Heads put side by side again. -/
theorem merge (φ : FTy) (f : ℕ → ℕ → ℕ → ℝ) (x : FVec Ideal S8x2048x64 φ) (hx : x = M3 (φ := φ) (a := 8) (b := 2048) (c := 64) f) :
    shapeCast S2048x512 (transpose S2048x8x64 [1, 0, 2] x transposes_S8x2048x64_S2048x8x64_1_0_2) shapeCasts_S2048x8x64_S2048x512
      = M2 (φ := φ) (a := 2048) (b := 512) fun i c => f (c / 64) i (c % 64) := by
  subst hx
  funext y
  pointwise []
  rfl

include hP in
theorem r_v33 : val_main_v33 (F := Ideal) x0 = M2 (φ := .bf16) (a := 2048) (b := 512) fun i c => ∑ j ∈ range 2048, aR P (hb c) i j * P j (7168 + c) := by
  refine (merge .bf16 _ _ (by unfold val_main_v31; rw [r_v30 hP, truncf_M3])).trans ?_
  refine M2_congr fun i _ c _ => Finset.sum_congr rfl fun j _ => ?_
  rw [show 7168 + 64 * (c / 64) + c % 64 = 7168 + c by omega]

/-! ## The gradients -/

variable (hg : x1 = M2 (φ := .bf16) (a := 2048) (b := 512) g)

include hg in
theorem r_v36 : val_main_v36 (F := Ideal) x1 = M3 (φ := .f32) (a := 8) (b := 2048) (c := 64) fun h i c => g i (64 * h + c) := by
  subst hg
  funext y
  have b2 : (y 2).val < 64 := (y 2).isLt
  pointwise [val_main_v36, val_main_v35, val_main_v34]
  unfold M2 M3
  show ((g (y 1).val ((y 0).val * 64 + (y 2).val) : ℝ) : EReal) = ((g (y 1).val (64 * (y 0).val + (y 2).val) : ℝ) : EReal)
  rw [Nat.mul_comm]

include hP hg in
theorem r_v37 : val_main_v37 (F := Ideal) x0 x1 = M3 (φ := .f32) (a := 8) (b := 64) (c := 2048) fun h c j => ∑ i ∈ range 2048, g i (64 * h + c) * aR P (64 * h) i j := by
  funext y
  rw [val_main_v37_apply, r_v36 hg, r_v29 hP]
  refine Eq.trans (Finset.sum_congr rfl fun k _ => (EReal.coe_mul _ _).symm) ?_
  exact coe_sum_range 2048 fun k => g k (64 * (y 0).val + (y 1).val) * aR P (64 * (y 0).val) k (y 2).val

include hP hg in
theorem r_v39 : val_main_v39 (F := Ideal) x0 x1 = M3 (φ := .bf16) (a := 8) (b := 2048) (c := 64) fun h j c => ∑ i ∈ range 2048, g i (64 * h + c) * aR P (64 * h) i j := by
  unfold val_main_v39 val_main_v38
  rw [r_v37 hP hg]
  funext y
  pointwise []
  rfl

include hP hg in
theorem r_dv : val_main_v62 (F := Ideal) x0 x1 = M2 (φ := .bf16) (a := 2048) (b := 512) (dvR P g) := by
  refine (merge .bf16 _ _ (r_v39 hP hg)).trans ?_
  refine M2_congr fun j _ c _ => Finset.sum_congr rfl fun i _ => ?_
  rw [show 64 * (c / 64) + c % 64 = c by omega, mul_comm]

include hP hg in
theorem r_v40 : val_main_v40 (F := Ideal) x0 x1 = M3 (φ := .f32) (a := 8) (b := 2048) (c := 2048) fun h i j => ∑ c ∈ range 64, g i (64 * h + c) * P j (7168 + 64 * h + c) := by
  funext y
  rw [val_main_v40_apply, r_v36 hg, r_v8 hP]
  refine Eq.trans (Finset.sum_congr rfl fun k _ => (EReal.coe_mul _ _).symm) ?_
  exact coe_sum_range 64 fun k => g (y 1).val (64 * (y 0).val + k) * P (y 2).val (7168 + 64 * (y 0).val + k)

include hP hg in
theorem r_v44 : val_main_v44 (F := Ideal) x0 x1 = M3 (φ := .f32) (a := 8) (b := 2048) (c := 2048) fun h i j => daR P g (64 * h) i j := by
  have e : val_main_call5_v0 (F := Ideal) = M3 (φ := .f32) (a := 8) (b := 2048) (c := 2048) fun _ _ _ => 0 := zero_tab
  unfold val_main_v44 val_main_v43 val_main_v42 val_main_v41
  rw [r_mask', r_v40 hP hg, truncf_M3, extf_M3, e, select_B3, r_v27 hP, mulf_M3]
  refine M3_congr fun h _ i _ j _ => ?_
  unfold daR aR
  by_cases hj : j < i
  · rw [if_pos hj, if_pos hj, lR_sp hj]
  · rw [if_neg hj, if_neg hj, zero_mul, mul_zero]

include hP hg in
theorem r_v48 : val_main_v48 (F := Ideal) x0 x1 = M3 (φ := .f32) (a := 8) (b := 2048) (c := 2048) fun h i j => ∑ k ∈ range j, daR P g (64 * h) i k := by
  unfold val_main_v48 val_main_v46 val_main_v47
  rw [r_v44 hP hg, prefix_sums _ _ r_init7, negf_M3, addf_M3]
  exact M3_congr fun h _ i _ j _ => by rw [Finset.sum_range_succ]; ring

include hP hg in
theorem r_v52 : val_main_v52 (F := Ideal) x0 x1 = M3 (φ := .f32) (a := 8) (b := 2048) (c := 2048) fun h i j => dzR P g (64 * h) i j := by
  have e : val_main_call8_v0 (F := Ideal) = M3 (φ := .f32) (a := 8) (b := 2048) (c := 2048) fun _ _ _ => 0 := zero_tab
  unfold val_main_v52 val_main_v45 val_main_v51 val_main_v50 val_main_call9_v1 val_main_call9_v0 val_main_call6_v1 val_main_call6_v0 val_main_v49
  rw [r_mask, r_v48 hP hg, e, select_B3, r_v44 hP hg, r_v25_1 hP, r_v21_1 hP]
  simp only [negf_M3, mulf_M3, addf_M3]
  refine M3_congr fun h _ i _ j hj' => ?_
  unfold dzR DR
  by_cases hj : j < i
  · rw [if_pos hj, if_pos hj, lR_sp hj, ← Finset.sum_range_add_sum_Ico (fun k => daR P g (64 * h) i k) hj'.le]
    ring
  · rw [if_neg hj, if_neg hj, daR_zero (not_lt.1 hj)]
    ring

theorem r_v53 : val_main_v53 (F := Ideal) = M3 (φ := .f32) (a := 8) (b := 2048) (c := 2048) fun _ _ _ => 1 / 8 := by
  funext y; exact ofBits_eighth_f32

include hP hg in
theorem r_v56 : val_main_v56 (F := Ideal) x0 x1 = M3 (φ := .f32) (a := 8) (b := 2048) (c := 2048) fun h i j => dzR P g (64 * h) i j * (1 / 8) := by
  unfold val_main_v56 val_main_v55 val_main_v54
  rw [r_v52 hP hg, r_v53, mulf_M3, truncf_M3, extf_M3]

include hP hg in
theorem r_v57 : val_main_v57 (F := Ideal) x0 x1 = M3 (φ := .f32) (a := 8) (b := 2048) (c := 64) fun h j c => ∑ i ∈ range 2048, dzR P g (64 * h) i j * (1 / 8) * P i (6144 + 64 * h + c) := by
  funext y
  rw [val_main_v57_apply, r_v56 hP hg, r_v4 hP]
  refine Eq.trans (Finset.sum_congr rfl fun k _ => (EReal.coe_mul _ _).symm) ?_
  exact coe_sum_range 2048 fun k => dzR P g (64 * (y 0).val) k (y 1).val * (1 / 8) * P k (6144 + 64 * (y 0).val + (y 2).val)

include hP hg in
theorem r_dk : val_main_v64 (F := Ideal) x0 x1 = M2 (φ := .bf16) (a := 2048) (b := 512) (dkR P g) := by
  refine (merge .bf16 _ _ (by unfold val_main_v58; rw [r_v57 hP hg, truncf_M3])).trans ?_
  refine M2_congr fun j _ c _ => Finset.sum_congr rfl fun i _ => ?_
  rw [show 6144 + 64 * (c / 64) + c % 64 = 6144 + c by omega]
  ring

include hP hg in
theorem r_v59 : val_main_v59 (F := Ideal) x0 x1 = M3 (φ := .f32) (a := 8) (b := 2048) (c := 64) fun h i c => ∑ j ∈ range 2048, dzR P g (64 * h) i j * (1 / 8) * P j (6656 + 64 * h + c) := by
  funext y
  rw [val_main_v59_apply, r_v56 hP hg, r_v6 hP]
  refine Eq.trans (Finset.sum_congr rfl fun k _ => (EReal.coe_mul _ _).symm) ?_
  exact coe_sum_range 2048 fun k => dzR P g (64 * (y 0).val) (y 1).val k * (1 / 8) * P k (6656 + 64 * (y 0).val + (y 2).val)

include hP hg in
theorem r_dq : val_main_v66 (F := Ideal) x0 x1 = M2 (φ := .bf16) (a := 2048) (b := 512) (dqR P g) := by
  refine (merge .bf16 _ _ (by unfold val_main_v60; rw [r_v59 hP hg, truncf_M3])).trans ?_
  refine M2_congr fun i _ c _ => ?_
  unfold dqR
  rw [Finset.sum_mul]
  refine Finset.sum_congr rfl fun j _ => ?_
  rw [show 6656 + 64 * (c / 64) + c % 64 = 6656 + c by omega]
  ring

end Cert.ReferenceIdeal.SB

end
-- ==== Proof.Delta.lean ====
/- What the kernel's host operations prepare: the attention's output (`main_v33`), which is the reference's, and the row
   sums of that output times its gradient, spread over each head's columns (`main_v42`), which are the sums over the keys
   of the weights' gradients times the weights. -/
module

public import proofs.«01_k».proof.Proof.Frame
public import proofs.«01_k».proof.Proof.RefValue

@[expose] public section

set_option maxRecDepth 16384

noncomputable section

namespace Cert.KernelIdeal.SB

open Idealize.ShloMosaic Idealize.ShloMosaic.TcCoe
open Idealize.ShloMosaic.StableHlo (after)
open Cert.KernelIdeal.Gen Cert.SB
open Cert.ReferenceIdeal.Read (val_main_v8 val_main_v14 val_main_v19 val_main_v20 val_main_v21_0 val_main_v22_0 val_main_v23 val_main_v24 val_main_v25_0 val_main_v27 val_main_v28_0 val_main_v33)
open Finset (range Ico)

/-! ## The stretches, one by one, from any contents `W` -/

section Stretches
variable (W : Valuation τ sig (Elt Ideal)) (x0 : (⟨S2048x7680, .bf16⟩ : BufTy).Contents (Elt Ideal)) (x1 : (⟨S2048x512, .bf16⟩ : BufTy).Contents (Elt Ideal))

/-- The sums over each head's columns of the output's gradient `x1` times the output `o`. -/
def rowsums (x1 o : FVec Ideal S2048x512 .bf16) : FVec Ideal S2048x8 .f32 :=
  Host.reduceAdd (shapeCast S2048x8x64 (mulf (extf .f32 x1 bitsLt_bf16_f32) (extf .f32 o bitsLt_bf16_f32)) shapeCasts_S2048x512_S2048x8x64)
    (constant S_ .f32 0x00000000#32) reducesTo_S2048x8x64_S2048x8_d2 h_S_
/-- The same, spread over the head's columns and cut into pairs of heads. -/
def spread (s : FVec Ideal S2048x8 .f32) : FVec Ideal S4x2048x128 .f32 :=
  transpose S4x2048x128 [1, 0, 2]
    (shapeCast S2048x4x128
      (shapeCast S2048x512 (broadcastInDim S2048x8x64 ![0, 1] bcast_S2048x8_S2048x8x64_0_1 s : FVec Ideal S2048x8x64 .f32) shapeCasts_S2048x8x64_S2048x512)
      shapeCasts_S2048x512_S2048x4x128)
    transposes_S2048x4x128_S4x2048x128_1_0_2

set_option maxHeartbeats 2000000 in
theorem s0_v8 : after (hostOps0 : List (HloOp τ sig (Elt Ideal))) W (Proc.devRef .tc main_v8) = val_main_v8 (F := Ideal) (W (Proc.devRef .tc main_arg0)) := by
  after_results_simp
  rfl
set_option maxHeartbeats 2000000 in
theorem s0_v14 : after (hostOps0 : List (HloOp τ sig (Elt Ideal))) W (Proc.devRef .tc main_v14) = val_main_v14 (F := Ideal) (W (Proc.devRef .tc main_arg0)) := by
  after_results_simp
  rfl
set_option maxHeartbeats 2000000 in
theorem s0_v19 : after (hostOps0 : List (HloOp τ sig (Elt Ideal))) W (Proc.devRef .tc main_v19) = val_main_v19 (F := Ideal) := by
  after_results_simp
  rfl
set_option maxHeartbeats 2000000 in
theorem s0_v20 : after (hostOps0 : List (HloOp τ sig (Elt Ideal))) W (Proc.devRef .tc main_v20) = val_main_v20 (F := Ideal) (W (Proc.devRef .tc main_arg0)) := by
  after_results_simp
  rfl

set_option maxHeartbeats 2000000 in
theorem s1_v21 (h : W (Proc.devRef .tc main_v20) = val_main_v20 (F := Ideal) x0) :
    after (hostOps0_1 : List (HloOp τ sig (Elt Ideal))) W (Proc.devRef .tc main_v21) = val_main_v21_0 (F := Ideal) x0 := by
  simp only [hostOps0_1, StableHlo.TRef.binary, StableHlo.TRef.nullary, StableHlo.TRef.unary, StableHlo.TRef.ternary, StableHlo.TRef.toBuf, StableHlo.TRef.ofBuf, cast_eq]
  after_results_simp
  rw [h]
  rfl
set_option maxHeartbeats 2000000 in
theorem s3_v22 (h : W (Proc.devRef .tc main_v21) = val_main_v21_0 (F := Ideal) x0) (h' : W (Proc.devRef .tc main_v19) = val_main_v19 (F := Ideal)) :
    after (hostOps0_3 : List (HloOp τ sig (Elt Ideal))) (after (hostOps0_2 : List (HloOp τ sig (Elt Ideal))) W) (Proc.devRef .tc main_v22) = val_main_v22_0 (F := Ideal) x0 := by
  simp only [hostOps0_3, StableHlo.TRef.binary, StableHlo.TRef.nullary, StableHlo.TRef.unary, StableHlo.TRef.ternary, StableHlo.TRef.toBuf, StableHlo.TRef.ofBuf, cast_eq]
  after_results_simp
  rw [h, h']
  rfl
set_option maxHeartbeats 2000000 in
theorem s5_v24 (h : W (Proc.devRef .tc main_v22) = val_main_v22_0 (F := Ideal) x0) :
    after (hostOps0_5 : List (HloOp τ sig (Elt Ideal))) (after (hostOps0_4 : List (HloOp τ sig (Elt Ideal))) W) (Proc.devRef .tc main_v24) = val_main_v24 (F := Ideal) x0 := by
  simp only [hostOps0_4, StableHlo.TRef.binary, StableHlo.TRef.nullary, StableHlo.TRef.unary, StableHlo.TRef.ternary, StableHlo.TRef.toBuf, StableHlo.TRef.ofBuf, cast_eq]
  after_results_simp
  rw [h]
  rfl
set_option maxHeartbeats 2000000 in
theorem s6_v25 (h : W (Proc.devRef .tc main_v14) = val_main_v14 (F := Ideal) x0) :
    after (hostOps0_6 : List (HloOp τ sig (Elt Ideal))) W (Proc.devRef .tc main_v25) = val_main_v25_0 (F := Ideal) x0 := by
  simp only [hostOps0_6, StableHlo.TRef.binary, StableHlo.TRef.nullary, StableHlo.TRef.unary, StableHlo.TRef.ternary, StableHlo.TRef.toBuf, StableHlo.TRef.ofBuf, cast_eq]
  after_results_simp
  rw [h]
  rfl
set_option maxHeartbeats 2000000 in
theorem s8_v28 (h : W (Proc.devRef .tc main_v25) = val_main_v25_0 (F := Ideal) x0) (h' : W (Proc.devRef .tc main_v24) = val_main_v24 (F := Ideal) x0)
    (h'' : W (Proc.devRef .tc main_v19) = val_main_v19 (F := Ideal)) :
    after (hostOps0_8 : List (HloOp τ sig (Elt Ideal))) (after (hostOps0_7 : List (HloOp τ sig (Elt Ideal))) W) (Proc.devRef .tc main_v28) = val_main_v28_0 (F := Ideal) x0 := by
  simp only [hostOps0_8, StableHlo.TRef.binary, StableHlo.TRef.nullary, StableHlo.TRef.unary, StableHlo.TRef.ternary, StableHlo.TRef.toBuf, StableHlo.TRef.ofBuf, cast_eq]
  after_results_simp
  rw [h, h', h'']
  rfl
set_option maxHeartbeats 2000000 in
theorem s9_v42 (h : W (Proc.devRef .tc main_v28) = val_main_v28_0 (F := Ideal) x0) (h' : W (Proc.devRef .tc main_v8) = val_main_v8 (F := Ideal) x0) :
    after (hostOps0_9 : List (HloOp τ sig (Elt Ideal))) W (Proc.devRef .tc main_v42) = spread (rowsums (W (Proc.devRef .tc main_arg1)) (val_main_v33 (F := Ideal) x0)) := by
  after_results_simp
  rw [h, h']
  rfl

/-! What a stretch does not write it keeps. -/

/-- The buffers the middle stretches write. -/
abbrev wr1 : List (Ref sig .tc) := [main_call0_v0, main_call0_call0_cst, main_call0_call0_v0, main_call0_call0_v1, main_call0_call0_v2, main_call0_call0_v3,
  main_call0_call0_v4, main_call0_call0_v5, main_call0_call0_v6, main_call0_call0_v7, main_call0_call0_v8, main_call0_call0_v9, main_call0_call0_v10,
  main_call0_call0_v11, main_call0_v1, main_v21]
abbrev wr23 : List (Ref sig .tc) := [main_cst_1, main_call1_v0, main_call1_v1, main_call1_v2, main_v22]
abbrev wr45 : List (Ref sig .tc) := [main_call2_cst, main_call2_v0, main_v23, main_v24]
abbrev wr6 : List (Ref sig .tc) := [main_call3_v0, main_call3_call0_cst, main_call3_call0_v0, main_call3_call0_v1, main_call3_call0_v2, main_call3_call0_v3,
  main_call3_call0_v4, main_call3_call0_v5, main_call3_call0_v6, main_call3_call0_v7, main_call3_call0_v8, main_call3_call0_v9, main_call3_call0_v10,
  main_call3_call0_v11, main_call3_v1, main_v25]
abbrev wr78 : List (Ref sig .tc) := [main_v26, main_v27, main_cst_2, main_call4_v0, main_call4_v1, main_call4_v2, main_v28]

theorem keep1 {r : Ref sig .tc} (h : r ∉ wr1) : after (hostOps0_1 : List (HloOp τ sig (Elt Ideal))) W (Proc.devRef .tc r) = W (Proc.devRef .tc r) :=
  StableHlo.after_of_writes_sub hostOps0_1 _ (W := wr1) (by
    simp only [List.Forall]
    repeat' apply And.intro
    all_goals (simp only [StableHlo.nullary_writes, StableHlo.unary_writes, StableHlo.binary_writes, StableHlo.ternary_writes, Finset.singleton_subset_iff, List.mem_toFinset]; exact List.mem_map_of_mem (by decide))) h
theorem keep23 {r : Ref sig .tc} (h : r ∉ wr23) : after (hostOps0_3 : List (HloOp τ sig (Elt Ideal))) (after (hostOps0_2 : List (HloOp τ sig (Elt Ideal))) W) (Proc.devRef .tc r) = W (Proc.devRef .tc r) :=
  StableHlo.after_of_writes_sub (hostOps0_2 ++ hostOps0_3) _ (W := wr23) (by
    simp only [List.Forall, List.cons_append, List.nil_append]
    repeat' apply And.intro
    all_goals (simp only [StableHlo.nullary_writes, StableHlo.unary_writes, StableHlo.binary_writes, StableHlo.ternary_writes, Finset.singleton_subset_iff, List.mem_toFinset]; exact List.mem_map_of_mem (by decide))) h
theorem keep45 {r : Ref sig .tc} (h : r ∉ wr45) : after (hostOps0_5 : List (HloOp τ sig (Elt Ideal))) (after (hostOps0_4 : List (HloOp τ sig (Elt Ideal))) W) (Proc.devRef .tc r) = W (Proc.devRef .tc r) :=
  StableHlo.after_of_writes_sub (hostOps0_4 ++ hostOps0_5) _ (W := wr45) (by
    simp only [List.Forall, List.cons_append, List.nil_append]
    repeat' apply And.intro
    all_goals (simp only [StableHlo.nullary_writes, StableHlo.unary_writes, StableHlo.binary_writes, StableHlo.ternary_writes, Finset.singleton_subset_iff, List.mem_toFinset]; exact List.mem_map_of_mem (by decide))) h
theorem keep6 {r : Ref sig .tc} (h : r ∉ wr6) : after (hostOps0_6 : List (HloOp τ sig (Elt Ideal))) W (Proc.devRef .tc r) = W (Proc.devRef .tc r) :=
  StableHlo.after_of_writes_sub hostOps0_6 _ (W := wr6) (by
    simp only [List.Forall]
    repeat' apply And.intro
    all_goals (simp only [StableHlo.nullary_writes, StableHlo.unary_writes, StableHlo.binary_writes, StableHlo.ternary_writes, Finset.singleton_subset_iff, List.mem_toFinset]; exact List.mem_map_of_mem (by decide))) h
theorem keep78 {r : Ref sig .tc} (h : r ∉ wr78) : after (hostOps0_8 : List (HloOp τ sig (Elt Ideal))) (after (hostOps0_7 : List (HloOp τ sig (Elt Ideal))) W) (Proc.devRef .tc r) = W (Proc.devRef .tc r) :=
  StableHlo.after_of_writes_sub (hostOps0_7 ++ hostOps0_8) _ (W := wr78) (by
    simp only [List.Forall, List.cons_append, List.nil_append]
    repeat' apply And.intro
    all_goals (simp only [StableHlo.nullary_writes, StableHlo.unary_writes, StableHlo.binary_writes, StableHlo.ternary_writes, Finset.singleton_subset_iff, List.mem_toFinset]; exact List.mem_map_of_mem (by decide))) h
set_option maxHeartbeats 2000000 in
theorem keep0_arg1 : after (hostOps0 : List (HloOp τ sig (Elt Ideal))) W (Proc.devRef .tc main_arg1) = W (Proc.devRef .tc main_arg1) := by
  after_results_simp

set_option maxHeartbeats 2000000 in
/-- All the stretches before the last. -/
theorem all_v42 (hx0 : W (Proc.devRef .tc main_arg0) = x0) (hx1 : W (Proc.devRef .tc main_arg1) = x1) :
    after (hostAll : List (HloOp τ sig (Elt Ideal))) W (Proc.devRef .tc main_v42) = spread (rowsums x1 (val_main_v33 (F := Ideal) x0)) := by
  simp only [hostAll, stretches, List.flatten_cons, List.flatten_nil, List.append_nil, StableHlo.after_append]
  have a8 := s0_v8 W
  have a14 := s0_v14 W
  have a19 := s0_v19 W
  have a20 := s0_v20 W
  have a1 := keep0_arg1 W
  rw [hx0] at a8 a14 a20
  rw [hx1] at a1
  generalize after (hostOps0 : List (HloOp τ sig (Elt Ideal))) W = W0 at a8 a14 a19 a20 a1 ⊢
  have b21 := s1_v21 W0 x0 a20
  have b8 := (keep1 W0 (r := main_v8) (by decide)).trans a8
  have b14 := (keep1 W0 (r := main_v14) (by decide)).trans a14
  have b19 := (keep1 W0 (r := main_v19) (by decide)).trans a19
  have b1 := (keep1 W0 (r := main_arg1) (by decide)).trans a1
  generalize after (hostOps0_1 : List (HloOp τ sig (Elt Ideal))) W0 = W1 at b21 b8 b14 b19 b1 ⊢
  have c22 := s3_v22 W1 x0 b21 b19
  have c8 := (keep23 W1 (r := main_v8) (by decide)).trans b8
  have c14 := (keep23 W1 (r := main_v14) (by decide)).trans b14
  have c19 := (keep23 W1 (r := main_v19) (by decide)).trans b19
  have c1 := (keep23 W1 (r := main_arg1) (by decide)).trans b1
  generalize after (hostOps0_3 : List (HloOp τ sig (Elt Ideal))) (after hostOps0_2 W1) = W3 at c22 c8 c14 c19 c1 ⊢
  have d24 := s5_v24 W3 x0 c22
  have d8 := (keep45 W3 (r := main_v8) (by decide)).trans c8
  have d14 := (keep45 W3 (r := main_v14) (by decide)).trans c14
  have d19 := (keep45 W3 (r := main_v19) (by decide)).trans c19
  have d1 := (keep45 W3 (r := main_arg1) (by decide)).trans c1
  generalize after (hostOps0_5 : List (HloOp τ sig (Elt Ideal))) (after hostOps0_4 W3) = W5 at d24 d8 d14 d19 d1 ⊢
  have e25 := s6_v25 W5 x0 d14
  have e8 := (keep6 W5 (r := main_v8) (by decide)).trans d8
  have e19 := (keep6 W5 (r := main_v19) (by decide)).trans d19
  have e24 := (keep6 W5 (r := main_v24) (by decide)).trans d24
  have e1 := (keep6 W5 (r := main_arg1) (by decide)).trans d1
  generalize after (hostOps0_6 : List (HloOp τ sig (Elt Ideal))) W5 = W6 at e25 e8 e19 e24 e1 ⊢
  have f28 := s8_v28 W6 x0 e25 e24 e19
  have f8 := (keep78 W6 (r := main_v8) (by decide)).trans e8
  have f1 := (keep78 W6 (r := main_arg1) (by decide)).trans e1
  generalize after (hostOps0_8 : List (HloOp τ sig (Elt Ideal))) (after hostOps0_7 W6) = W8 at f28 f8 f1 ⊢
  rw [s9_v42 W8 x0 f28 f8, f1]

end Stretches

/-! ## The row sums -/

variable {P g : ℕ → ℕ → ℝ}

/-- The row sum of head `b`, from the output's and its gradient's rows. -/
theorem rowsum_eq (i p k : ℕ) :
    (∑ c ∈ range 64, g i (128 * p + hb k + c) * ∑ j ∈ range 2048, aR P (hb (128 * p + hb k + c)) i j * P j (7168 + (128 * p + hb k + c))) = DR P g (128 * p + hb k) i := by
  have e : ∀ c ∈ range 64, hb (128 * p + hb k + c) = 128 * p + hb k := fun c hc => by
    have := Finset.mem_range.1 hc
    unfold hb; omega
  rw [Finset.sum_congr rfl fun c hc => by rw [e c hc, Finset.mul_sum]]
  rw [Finset.sum_comm]
  unfold DR daR
  refine Finset.sum_congr rfl fun j _ => ?_
  rw [Finset.sum_mul]
  refine Finset.sum_congr rfl fun c _ => ?_
  rw [show 7168 + (128 * p + hb k + c) = 7168 + (128 * p + hb k) + c by omega]
  ring

theorem rowsums_M2 (o : ℕ → ℕ → ℝ) : rowsums (M2 (φ := .bf16) (a := 2048) (b := 512) g) (M2 (φ := .bf16) (a := 2048) (b := 512) o)
    = M2 (φ := .f32) (a := 2048) (b := 8) fun i h => ∑ c ∈ range 64, g i (64 * h + c) * o i (64 * h + c) := by
  funext y
  have b1 : (y 1).val < 8 := (y 1).isLt
  pointwise [rowsums]
  refine (Finset.sum_congr rfl fun k _ => (EReal.coe_mul _ _).symm).trans ?_
  refine (coe_sum_range 64 fun k => g (y 0).val ((y 1).val * 64 + k) * o (y 0).val ((y 1).val * 64 + k)).trans ?_
  unfold M2
  simp only [Nat.mul_comm]

theorem spread_M2 (s : ℕ → ℕ → ℝ) : spread (M2 (φ := .f32) (a := 2048) (b := 8) s) = M3 (φ := .f32) (a := 4) (b := 2048) (c := 128) fun p i k => s i ((128 * p + k) / 64) := by
  funext y
  have b0 : (y 0).val < 4 := (y 0).isLt
  have b2 : (y 2).val < 128 := (y 2).isLt
  pointwise [spread]
  unfold M2 M3
  congr 2
  show (y 0).val * 2 + (y 2).val / 64 = _
  omega

/-- What the host hands the kernel as the row sums. -/
theorem V_v42 (m : (ℓ : Loc nD τ sig) → Buf (Elt Ideal) ℓ) (c : Dev nD) (hP : Reads (m ((c : Thread nD τ).loc main_arg0)) P)
    (hg : (m ((c : Thread nD τ).loc main_arg1)) = M2 (φ := .bf16) (a := 2048) (b := 512) g) :
    V m c main_v42 = M3 (φ := .f32) (a := 4) (b := 2048) (c := 128) fun p i k => DR P g (128 * p + hb k) i := by
  refine (all_v42 (fun b => m (c, b)) (m ((c : Thread nD τ).loc main_arg0)) (m ((c : Thread nD τ).loc main_arg1)) rfl rfl).trans ?_
  rw [Cert.ReferenceIdeal.SB.r_v33 hP, hg, rowsums_M2, spread_M2]
  refine M3_congr fun p _ i _ k _ => Eq.trans ?_ (rowsum_eq i p k)
  rw [show 64 * ((128 * p + k) / 64) = 128 * p + hb k by unfold hb; omega]

end Cert.KernelIdeal.SB

end
-- ==== Proof.Value.lean ====
/- The value claim: on finite inputs the kernel's run and the reference's end with the same three gradients. -/
module

public import proofs.«01_k».proof.Defs
public import proofs.«01_k».proof.Proof.Blocks
public import proofs.«01_k».proof.Proof.Delta
public import proofs.«01_k».proof.Proof.Frames
public import proofs.«01_k».proof.Proof.Gen.ReferenceIdeal.Run
public import Idealize.ShloMosaic.Lib.Pointwise

@[expose] public section

set_option maxRecDepth 16384

noncomputable section

namespace Cert.KernelIdeal.SB

open Idealize.ShloMosaic Idealize.ShloMosaic.TcCoe Idealize.SL.Sem
open Cert.KernelIdeal.Gen Cert.SB

/-! ## The precondition -/

theorem pre_facts : Cert.Pre_finite.Facts where
  slices_S2048x7680_S2048x1536_0_6144 := by decide
  concatenates_S2048x1536_S2048x512_S2048x2048_d1 := by decide
  bitsLt_bf16_f32 := by decide
  bcast_S_S2048x2048 := by decide

/-- What has a finite absolute value is a real. -/
theorem real_of_abs_lt {x : EReal} (h : Ideal.cmp .olt (max x (-x)) ⊤ = 1#1) : x = ((x.toReal : ℝ) : EReal) := by
  have h' : max x (-x) < ⊤ := by
    by_contra hn
    simp [Ideal.cmp, hn] at h
  refine (EReal.coe_toReal ?_ ?_).symm
  · rintro rfl; simp at h'
  · rintro rfl; simp at h'

/-- The table of an array's reals. -/
def tab {a b : ℕ} (x : FVec Ideal ⟨2, ![a, b]⟩ .bf16) (i c : ℕ) : ℝ :=
  if h : i < a ∧ c < b then EReal.toReal (x (ix2 ⟨i, h.1⟩ ⟨c, h.2⟩)) else 0

theorem tab_eq {a b : ℕ} (x : FVec Ideal ⟨2, ![a, b]⟩ .bf16) (y : (⟨2, ![a, b]⟩ : Shape).Idx) : tab x (y 0).val (y 1).val = EReal.toReal (x y) := by
  have h : (y 0).val < a ∧ (y 1).val < b := ⟨(y 0).isLt, (y 1).isLt⟩
  unfold tab
  rw [dif_pos h]
  refine congrArg (fun z => EReal.toReal (x z)) (funext fun k => ?_)
  match k with
  | ⟨0, _⟩ => rfl
  | ⟨1, _⟩ => rfl

section Pre
variable [Cert.Pre_finite.Facts] (x0 : FVec Ideal ⟨2, ![2048, 7680]⟩ .bf16) (x1 : FVec Ideal ⟨2, ![2048, 512]⟩ .bf16)

theorem ix2_self {a b : ℕ} (y : (⟨2, ![a, b]⟩ : Shape).Idx) {n : ℕ} (hn : n < b) (e : n = (y 1).val) : (ix2 (y 0) ⟨n, hn⟩ : (⟨2, ![a, b]⟩ : Shape).Idx) = y := by
  subst e
  refine funext fun k => ?_
  match k with
  | ⟨0, _⟩ => rfl
  | ⟨1, _⟩ => rfl

theorem fn_left (y : (⟨2, ![2048, 7680]⟩ : Shape).Idx) (h : 6144 ≤ (y 1).val) (hk : (y 1).val - 6144 < 2048) :
    Cert.Pre_finite.fn (F := Ideal) x0 x1 (ix2 (y 0) ⟨(y 1).val - 6144, hk⟩) = Ideal.cmp .olt (max (x0 y) (-(x0 y))) ⊤ := by
  have b1 : (y 1).val < 7680 := (y 1).isLt
  pointwise [Cert.Pre_finite.fn]
  rw [dif_pos (by omega), Cert.ReferenceIdeal.SB.ofBits_top]
  have key : ∀ z : (⟨2, ![2048, 7680]⟩ : Shape).Idx, z = y → BitVec.ofBool (decide (FloatOps.absf (F := Ideal) (φ := .f32) (x0 z) < (⊤ : EReal))) = BitVec.ofBool (decide (max (x0 y) (-(x0 y)) < ⊤)) := by
    rintro _ rfl; rfl
  exact key _ (ix2_self y _ (Nat.add_sub_cancel' h))

theorem fn_right (y : (⟨2, ![2048, 512]⟩ : Shape).Idx) (hk : 1536 + (y 1).val < 2048) :
    Cert.Pre_finite.fn (F := Ideal) x0 x1 (ix2 (y 0) ⟨1536 + (y 1).val, hk⟩) = Ideal.cmp .olt (max (x1 y) (-(x1 y))) ⊤ := by
  pointwise [Cert.Pre_finite.fn]
  rw [Cert.ReferenceIdeal.SB.ofBits_top]
  rfl

variable {x0 x1} (h : Cert.Pre_finite.fn (F := Ideal) x0 x1 = fun _ => 1#1)
include h

theorem reads_of_finite : Reads x0 (tab x0) := fun y hy => by
  have hk : (y 1).val - 6144 < 2048 := by have : (y 1).val < 7680 := (y 1).isLt; omega
  rw [tab_eq]
  exact real_of_abs_lt ((fn_left x0 x1 y hy hk).symm.trans (congrFun h _))

theorem table_of_finite : x1 = M2 (φ := .bf16) (a := 2048) (b := 512) (tab x1) := by
  funext y
  have hk : 1536 + (y 1).val < 2048 := by have : (y 1).val < 512 := (y 1).isLt; omega
  unfold M2
  rw [tab_eq]
  exact real_of_abs_lt ((fn_right x0 x1 y hk).symm.trans (congrFun h _))
end Pre

/-! ## The two runs -/

/-- Every execution of the kernel ends with the three gradients. -/
theorem run_value (m : (ℓ : Loc nD τ sig) → Buf (Elt Ideal) ℓ) (ρ : Dev nD → PrngReg) (P g : Dev nD → ℕ → ℕ → ℝ)
    (hP : ∀ c : Dev nD, Reads (m ((c.tc : Thread nD τ).loc main_arg0)) (P c))
    (hg : ∀ c : Dev nD, (m ((c.tc : Thread nD τ).loc main_arg1)) = M2 (φ := .bf16) (a := 2048) (b := 512) (g c)) :
    θ_run defs (onTc (τ := τ) (main (F := Ideal))) (s₀ m ρ) (fun r => ∀ c : Dev nD,
      r.2.mem ((c.tc : Thread nD τ).loc main_v43_0) = M2 (φ := .bf16) (a := 2048) (b := 512) (dqR (P c) (g c))
      ∧ r.2.mem ((c.tc : Thread nD τ).loc main_v43_1) = M2 (φ := .bf16) (a := 2048) (b := 512) (dkR (P c) (g c))
      ∧ r.2.mem ((c.tc : Thread nD τ).loc main_v43_2) = M2 (φ := .bf16) (a := 2048) (b := 512) (dvR (P c) (g c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    have hd := V_v42 m c (hP c) (hg c)
    ⟨(Pipeline.FramePost.out_eq h.1 c 5).trans (final_dq m c (hP c) (hg c) hd),
      (Pipeline.FramePost.out_eq h.1 c 6).trans (final_dk m c (hP c) (hg c) hd),
      (Pipeline.FramePost.out_eq h.1 c 7).trans (final_dv m c (hP c) (hg c) hd),
      ((Pipeline.FramePost.in_eq h.1 c 0 rfl).trans (A_eq m c 0)).trans (V_main_arg0 m c),
      ((Pipeline.FramePost.in_eq h.1 c 3 rfl).trans (A_eq m c 3)).trans (V_main_arg1 m c)⟩) (run_main m ρ)

end Cert.KernelIdeal.SB

namespace Cert.ReferenceIdeal.SB

open Idealize.ShloMosaic Idealize.ShloMosaic.TcCoe Idealize.SL.Sem
open Cert.ReferenceIdeal Cert.ReferenceIdeal.Gen Cert.SB
open Cert.KernelIdeal.SB (M2 Reads)

/-- So does every execution of the reference. -/
theorem run_value (m : (ℓ : Loc nD τ sig) → Buf (Elt Ideal) ℓ) (ρ : Dev nD → PrngReg) (P g : Dev nD → ℕ → ℕ → ℝ)
    (hP : ∀ c : Dev nD, Reads (m ((c.tc : Thread nD τ).loc main_arg0)) (P c))
    (hg : ∀ c : Dev nD, (m ((c.tc : Thread nD τ).loc main_arg1)) = M2 (φ := .bf16) (a := 2048) (b := 512) (g c)) :
    θ_run defs (onTc (τ := τ) (main (F := Ideal))) ⟨m, fun _ => 0, ρ⟩ (fun r => ∀ c : Dev nD,
      r.2.mem ((c.tc : Thread nD τ).loc main_v66) = M2 (φ := .bf16) (a := 2048) (b := 512) (dqR (P c) (g c))
      ∧ r.2.mem ((c.tc : Thread nD τ).loc main_v64) = M2 (φ := .bf16) (a := 2048) (b := 512) (dkR (P c) (g c))
      ∧ r.2.mem ((c.tc : Thread nD τ).loc main_v62) = M2 (φ := .bf16) (a := 2048) (b := 512) (dvR (P c) (g c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).1.trans (Read.val_main_v66_eq _)).trans (r_dq (hP c) (hg c)),
      ((h c).2.1.trans (Read.val_main_v64_eq _)).trans (r_dk (hP c) (hg c)),
      ((h c).2.2.1.trans (Read.val_main_v62_eq _)).trans (r_dv (hP c) (hg c)),
      (h c).2.2.2.1, (h c).2.2.2.2⟩) (Value.run m ρ)

/-- The reference declares no semaphore. -/
theorem frame_reference : Cert.quiescent_ReferenceIdeal := fun m ρ _ =>
  (θ_run defs _ _).mono (fun r h => ⟨fun c => (h c).2.2.2, sem_eq_zero_of_no_sems (by decide) r.2⟩) (Value.run (F := Ideal) m ρ)

end Cert.ReferenceIdeal.SB

namespace Cert.KernelIdeal.SB

open Idealize.ShloMosaic Idealize.ShloMosaic.TcCoe Idealize.SL.Sem
open Cert.SB

/-- On finite inputs the kernel and the reference end with equal results. -/
theorem algebraic : Cert.algebraic_KernelIdeal_ReferenceIdeal_pre_finite (hPre_finite := pre_facts) := fun m ρ m' ρ' hpre hargs => by
  letI := pre_facts
  have hP := fun c : Dev Cert.KernelIdeal.nD => reads_of_finite (hpre c)
  have hg := fun c : Dev Cert.KernelIdeal.nD => table_of_finite (hpre c)
  exact ⟨_, _, _, run_value m ρ _ _ hP hg, Cert.ReferenceIdeal.SB.run_value m' ρ' _ _ (fun c => by rw [(hargs c).1]; exact hP c) (fun c => by rw [(hargs c).2]; exact hg c)⟩

end Cert.KernelIdeal.SB

end
-- ==== Proof.ProductFrames.lean ====
/- The programs of the products and what is generated about them. -/
module

public import proofs.«01_k».proof.Defs
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel13.Skeleton
public import proofs.«01_k».proof.Proof.Gen.Kernel13Ideal.Skeleton
public import proofs.«01_k».proof.Proof.Gen.Kernel14.Skeleton
public import proofs.«01_k».proof.Proof.Gen.Kernel14Ideal.Skeleton
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read

@[expose] public section
-- ==== Proof.Product2.lean ====
/- The gradient of the input projection's weights: the kernel's blocks are the blocks of the reference's product. -/
module

public import proofs.«01_k».proof.Defs
public import proofs.«01_k».proof.Proof.Gen.Kernel2Ideal.Value
public import proofs.«01_k».proof.Proof.Gen.Reference2Ideal.Run
public import proofs.«01_k».proof.Proof.Gen.Reference2Ideal.Read
public import Idealize.ShloMosaic.Lib.Pipeline.Value
public import Idealize.ShloMosaic.Lib.Pipeline.ValueKit
public import Idealize.ShloMosaic.Lib.Pointwise
public import Idealize.ShloMosaic.Lib.StableHlo.Run
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat Cfg Window)

namespace Cert.Kernel2Ideal.Product

open Cert.Kernel2Ideal Cert.Kernel2Ideal.Gen
open Cert.Reference2Ideal.Read (val_main_v3 val_main_v3_apply val_main_v2_apply)

theorem zeros : (![0, 0] : Fin 2 → Nat) = fun _ => 0 := funext fun a => by fin_cases a <;> rfl

/-- What the body leaves in its block of the result: the product of the two blocks it reads. -/
theorem out_eq (c : Dev nD) (i : grid0.Coords) (a3 : Memref sig .tc .vmem S2048x1024 .bf16) (h3 : a3.IsWhole)
    (a4 : Memref sig .tc .vmem S2048x768 .bf16) (h4 : a4.IsWhole) (a5 : Memref sig .tc .vmem S1024x768 .f32) (h5 : a5.IsWhole)
    (a6 : Memref sig .tc .vmem S8x128 .f32) (h6 : a6.IsWhole) (x : Vec Ideal S2048x1024 .bf16) (y : Vec Ideal S2048x768 .bf16) :
    out0_A_2 c i a3 h3 a4 h4 a5 h5 a6 h6 x y = k0_pay1 x y := by
  unfold out0_A_2
  rw [View.read_writes_eq_canon _ _ _ (cover0_A_2 c i a3 h3 a4 h4 a5 h5 a6 h6 x y)]
  unfold kernelRun0_A
  dsimp only
  sl_unfold_words
  rw [View.canon_unit_zero (S := S1024x768) zeros]
  simp only [View.readAt_eq_ld, h3.read_unread, h4.read_unread, View.ld_unit_zero (S := S2048x1024) zeros, View.ld_unit_zero (S := S2048x768) zeros]

/-- The body's product, the changes of format and shape that change nothing left out. -/
theorem pay_eq (x : Vec Ideal S2048x1024 .bf16) (y : Vec Ideal S2048x768 .bf16) :
    k0_pay1 x y = matmul (φ₁ := .bf16) (φ₂ := .bf16) dot_S2048x1024_S2048x768_S1024x768_0_0_1_1_n_n none (x : FVec Ideal S2048x1024 .bf16) (y : FVec Ideal S2048x768 .bf16) (constant S1024x768 .f32 0x00000000#32) := by
  unfold k0_pay1
  dsimp only
  simp only [shapeCast_self]

/-- An entry of the product of two blocks. -/
theorem pay_apply (x : Vec Ideal S2048x1024 .bf16) (y : Vec Ideal S2048x768 .bf16) (j : S1024x768.Idx) :
    k0_pay1 x y j = (∑ k : Fin 2048, x (ix2 k (j 0)) * y (ix2 k (j 1)) : EReal) := by
  rw [pay_eq]
  pointwise

/-! The places of the blocks. -/
theorem index_0 : ∀ t : Fin grid0.N, win0_0.index t = ![0, t.val / 10] := by decide +kernel
theorem index_1 : ∀ t : Fin grid0.N, win0_1.index t = ![0, t.val % 10] := by decide +kernel
theorem index_2 : ∀ t : Fin grid0.N, win0_2.index t = ![t.val / 10, t.val % 10] := by decide +kernel

variable (m : (ℓ : Loc nD τ sig) → Buf (Elt Ideal) ℓ) (ρ : Dev nD → PrngReg) (c : Dev nD)

/-- The reference's result at the kernel's arguments. -/
abbrev G : Buf (Elt Ideal) ((c : Thread nD τ).loc main_v1) :=
  val_main_v3 (F := Ideal) (m ((c : Thread nD τ).loc main_arg0)) (m ((c : Thread nD τ).loc main_arg2))

/-- The operand rounded on the host is, over the extended reals, the argument itself. -/
theorem V_cast (i : S2048x1024.Idx) : V m c main_v0 i = m ((c : Thread nD τ).loc main_arg0) i := by
  have e : V m c main_v0 = (truncf .bf16 (m ((c : Thread nD τ).loc main_arg0) : FVec Ideal S2048x1024 .f32) bitsLt_bf16_f32 : FVec Ideal S2048x1024 .bf16) := by
    unfold V; after_results
  rw [e]; rfl

/-- Every block written back is the reference's. -/
theorem flushed_eq (t : Fin cfg0.N) : (dats m 0 c).flushed 2 t = ((cfg0.win 2).blk t).view.read (Elt Ideal) (G m c) := by
  rw [Value.flushed2_A, out_eq]
  funext y
  refine (pay_apply (iblk m c 0 t) (iblk m c 1 t) _).trans ?_
  refine Eq.symm ((val_main_v3_apply _ _ _).trans ((val_main_v2_apply _ _ _).trans ?_))
  refine Finset.sum_congr rfl fun k _ => ?_
  rw [mul_comm]
  have e0 : (((cfg0.win 2).blk t).view.emb y 0).val = t.val / 10 * 1024 + (y 0).val :=
    (Window.rect_emb_val (cfg0.win 2) t y 0).trans (by rw [show (cfg0.win 2).index t = ![t.val / 10, t.val % 10] from index_2 t]; rfl)
  have e1 : (((cfg0.win 2).blk t).view.emb y 1).val = t.val % 10 * 768 + (y 1).val :=
    (Window.rect_emb_val (cfg0.win 2) t y 1).trans (by rw [show (cfg0.win 2).index t = ![t.val / 10, t.val % 10] from index_2 t]; rfl)
  refine congrArg₂ (· * ·) ?_ ?_
  · refine Eq.symm ((V_cast m c _).trans (congrArg _ (funext fun a => Fin.ext ?_)))
    match a with
    | ⟨0, _⟩ => refine (Window.rect_emb_val (cfg0.win 0) t _ 0).trans ?_
                rw [show (cfg0.win 0).index t = ![0, t.val / 10] from index_0 t]; show 0 * 2048 + k.val = k.val; omega
    | ⟨1, _⟩ => refine (Window.rect_emb_val (cfg0.win 0) t _ 1).trans ?_
                rw [show (cfg0.win 0).index t = ![0, t.val / 10] from index_0 t]; exact e0.symm
  · refine Eq.symm ((congrFun (V_main_arg2 m c) _).trans (congrArg _ (funext fun a => Fin.ext ?_)))
    match a with
    | ⟨0, _⟩ => refine (Window.rect_emb_val (cfg0.win 1) t _ 0).trans ?_
                rw [show (cfg0.win 1).index t = ![0, t.val % 10] from index_1 t]; show 0 * 2048 + k.val = k.val; omega
    | ⟨1, _⟩ => refine (Window.rect_emb_val (cfg0.win 1) t _ 1).trans ?_
                rw [show (cfg0.win 1).index t = ![0, t.val % 10] from index_1 t]; exact e1.symm

theorem mem_blk (t : Fin cfg0.N) (i : S1024x7680.Idx) :
    i ∈ ((cfg0.win 2).blk t).view.set ↔ ∀ a : Fin 2, win0_2.index t a * S1024x768.size a ≤ (i a).val ∧ (i a).val < win0_2.index t a * S1024x768.size a + S1024x768.size a := by
  show i ∈ ((View.whole main_v1).slice (win0_2.rect t)).set ↔ _
  rw [View.set_slice_whole, Rect.mem_set_unit]
  exact Iff.rfl

/-- Every block of the result is written. -/
theorem onto : ∀ (p : Fin 1) (q : Fin 10), ∃ t : Fin cfg0.N, (cfg0.win 2).flush t = true ∧ win0_2.index t = ![p.val, q.val] :=
  (by decide +kernel : ∀ (p : Fin 1) (q : Fin 10), ∃ t : Fin grid0.N, win0_2.flush t = true ∧ win0_2.index t = ![p.val, q.val])

/-- The whole result. -/
theorem final : (dats m 0 c).arrAt 2 cfg0.N = G m c :=
  (dats m 0 c).arrAt_eq_of_cover 2 (G m c) (fun t _ => flushed_eq m c t) fun i => by
    have h0 : (i 0).val < 1024 := (i 0).isLt
    have h1 : (i 1).val < 7680 := (i 1).isLt
    obtain ⟨t, hf, ht⟩ := onto ⟨(i 0).val / 1024, by omega⟩ ⟨(i 1).val / 768, by omega⟩
    refine ⟨t, hf, ?_⟩
    rw [mem_blk]
    intro a
    match a with
    | ⟨0, _⟩ => rw [ht]; show (i 0).val / 1024 * 1024 ≤ (i 0).val ∧ (i 0).val < (i 0).val / 1024 * 1024 + 1024; omega
    | ⟨1, _⟩ => rw [ht]; show (i 1).val / 768 * 768 ≤ (i 1).val ∧ (i 1).val < (i 1).val / 768 * 768 + 768; omega

/-- The reference declares no semaphore. -/
theorem frame_reference : Cert.quiescent_Reference2Ideal := fun m ρ _ =>
  (θ_run _ _ _).mono (fun r h => ⟨fun c => (h c).2, sem_eq_zero_of_no_sems (by decide) r.2⟩) (Cert.Reference2Ideal.Value.run (F := Ideal) m ρ)

/-- The kernel and the reference end with equal results. -/
theorem algebraic : Cert.algebraic_Kernel2Ideal_Reference2Ideal := fun m ρ m' ρ' _ hargs => by
  refine ⟨fun c => G m c, (θ_run _ _ _).mono (fun r h c => ⟨(h c).1.trans (final m c), (h c).2⟩) (Value.run_blocks m ρ),
    (θ_run _ _ _).mono (fun r h c => ⟨(h c).1.trans ?_, (h c).2⟩) (Cert.Reference2Ideal.Value.run (F := Ideal) m' ρ')⟩
  obtain ⟨e0, e1, e2⟩ := hargs c
  rw [e0, e2]; rfl

end Cert.Kernel2Ideal.Product

end
-- ==== Proof.Product3.lean ====
/- The gradient of the gated MLP's up projection's weights: the kernel's blocks are the blocks of the reference's product. -/
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pipeline.Value
public import Idealize.ShloMosaic.Lib.Pipeline.ValueKit
public import Idealize.ShloMosaic.Lib.Pointwise
public import Idealize.ShloMosaic.Lib.StableHlo.Run
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat Cfg Window)

namespace Cert.Kernel3Ideal.Product

open Cert.Kernel3Ideal Cert.Kernel3Ideal.Gen
open Cert.Reference3Ideal.Read (val_main_v3 val_main_v3_apply val_main_v2_apply)

theorem zeros : (![0, 0] : Fin 2 → Nat) = fun _ => 0 := funext fun a => by fin_cases a <;> rfl

/-- What the body leaves in its block of the result: the product of the two blocks it reads. -/
theorem out_eq (c : Dev nD) (i : grid0.Coords) (a3 : Memref sig .tc .vmem S2048x1024 .bf16) (h3 : a3.IsWhole)
    (a4 : Memref sig .tc .vmem S2048x1408 .bf16) (h4 : a4.IsWhole) (a5 : Memref sig .tc .vmem S1024x1408 .f32) (h5 : a5.IsWhole)
    (a6 : Memref sig .tc .vmem S8x128 .f32) (h6 : a6.IsWhole) (x : Vec Ideal S2048x1024 .bf16) (y : Vec Ideal S2048x1408 .bf16) :
    out0_A_2 c i a3 h3 a4 h4 a5 h5 a6 h6 x y = k0_pay1 x y := by
  unfold out0_A_2
  rw [View.read_writes_eq_canon _ _ _ (cover0_A_2 c i a3 h3 a4 h4 a5 h5 a6 h6 x y)]
  unfold kernelRun0_A
  dsimp only
  sl_unfold_words
  rw [View.canon_unit_zero (S := S1024x1408) zeros]
  simp only [View.readAt_eq_ld, h3.read_unread, h4.read_unread, View.ld_unit_zero (S := S2048x1024) zeros, View.ld_unit_zero (S := S2048x1408) zeros]

/-- The body's product, the changes of format and shape that change nothing left out. -/
theorem pay_eq (x : Vec Ideal S2048x1024 .bf16) (y : Vec Ideal S2048x1408 .bf16) :
    k0_pay1 x y = matmul (φ₁ := .bf16) (φ₂ := .bf16) dot_S2048x1024_S2048x1408_S1024x1408_0_0_1_1_n_n none (x : FVec Ideal S2048x1024 .bf16) (y : FVec Ideal S2048x1408 .bf16) (constant S1024x1408 .f32 0x00000000#32) := by
  unfold k0_pay1
  dsimp only
  simp only [shapeCast_self]

/-- An entry of the product of two blocks. -/
theorem pay_apply (x : Vec Ideal S2048x1024 .bf16) (y : Vec Ideal S2048x1408 .bf16) (j : S1024x1408.Idx) :
    k0_pay1 x y j = (∑ k : Fin 2048, x (ix2 k (j 0)) * y (ix2 k (j 1)) : EReal) := by
  rw [pay_eq]
  pointwise

/-! The places of the blocks. -/
theorem index_0 : ∀ t : Fin grid0.N, win0_0.index t = ![0, t.val / 4] := by decide +kernel
theorem index_1 : ∀ t : Fin grid0.N, win0_1.index t = ![0, t.val % 4] := by decide +kernel
theorem index_2 : ∀ t : Fin grid0.N, win0_2.index t = ![t.val / 4, t.val % 4] := by decide +kernel

variable (m : (ℓ : Loc nD τ sig) → Buf (Elt Ideal) ℓ) (ρ : Dev nD → PrngReg) (c : Dev nD)

/-- The reference's result at the kernel's arguments. -/
abbrev G : Buf (Elt Ideal) ((c : Thread nD τ).loc main_v1) :=
  val_main_v3 (F := Ideal) (m ((c : Thread nD τ).loc main_arg0)) (m ((c : Thread nD τ).loc main_arg2))

/-- The operand rounded on the host is, over the extended reals, the argument itself. -/
theorem V_cast (i : S2048x1024.Idx) : V m c main_v0 i = m ((c : Thread nD τ).loc main_arg0) i := by
  have e : V m c main_v0 = (truncf .bf16 (m ((c : Thread nD τ).loc main_arg0) : FVec Ideal S2048x1024 .f32) bitsLt_bf16_f32 : FVec Ideal S2048x1024 .bf16) := by
    unfold V; after_results
  rw [e]; rfl

/-- Every block written back is the reference's. -/
theorem flushed_eq (t : Fin cfg0.N) : (dats m 0 c).flushed 2 t = ((cfg0.win 2).blk t).view.read (Elt Ideal) (G m c) := by
  rw [Value.flushed2_A, out_eq]
  funext y
  refine (pay_apply (iblk m c 0 t) (iblk m c 1 t) _).trans ?_
  refine Eq.symm ((val_main_v3_apply _ _ _).trans ((val_main_v2_apply _ _ _).trans ?_))
  refine Finset.sum_congr rfl fun k _ => ?_
  rw [mul_comm]
  have e0 : (((cfg0.win 2).blk t).view.emb y 0).val = t.val / 4 * 1024 + (y 0).val :=
    (Window.rect_emb_val (cfg0.win 2) t y 0).trans (by rw [show (cfg0.win 2).index t = ![t.val / 4, t.val % 4] from index_2 t]; rfl)
  have e1 : (((cfg0.win 2).blk t).view.emb y 1).val = t.val % 4 * 1408 + (y 1).val :=
    (Window.rect_emb_val (cfg0.win 2) t y 1).trans (by rw [show (cfg0.win 2).index t = ![t.val / 4, t.val % 4] from index_2 t]; rfl)
  refine congrArg₂ (· * ·) ?_ ?_
  · refine Eq.symm ((V_cast m c _).trans (congrArg _ (funext fun a => Fin.ext ?_)))
    match a with
    | ⟨0, _⟩ => refine (Window.rect_emb_val (cfg0.win 0) t _ 0).trans ?_
                rw [show (cfg0.win 0).index t = ![0, t.val / 4] from index_0 t]; show 0 * 2048 + k.val = k.val; omega
    | ⟨1, _⟩ => refine (Window.rect_emb_val (cfg0.win 0) t _ 1).trans ?_
                rw [show (cfg0.win 0).index t = ![0, t.val / 4] from index_0 t]; exact e0.symm
  · refine Eq.symm ((congrFun (V_main_arg2 m c) _).trans (congrArg _ (funext fun a => Fin.ext ?_)))
    match a with
    | ⟨0, _⟩ => refine (Window.rect_emb_val (cfg0.win 1) t _ 0).trans ?_
                rw [show (cfg0.win 1).index t = ![0, t.val % 4] from index_1 t]; show 0 * 2048 + k.val = k.val; omega
    | ⟨1, _⟩ => refine (Window.rect_emb_val (cfg0.win 1) t _ 1).trans ?_
                rw [show (cfg0.win 1).index t = ![0, t.val % 4] from index_1 t]; exact e1.symm

theorem mem_blk (t : Fin cfg0.N) (i : S1024x5632.Idx) :
    i ∈ ((cfg0.win 2).blk t).view.set ↔ ∀ a : Fin 2, win0_2.index t a * S1024x1408.size a ≤ (i a).val ∧ (i a).val < win0_2.index t a * S1024x1408.size a + S1024x1408.size a := by
  show i ∈ ((View.whole main_v1).slice (win0_2.rect t)).set ↔ _
  rw [View.set_slice_whole, Rect.mem_set_unit]
  exact Iff.rfl

/-- Every block of the result is written. -/
theorem onto : ∀ (p : Fin 1) (q : Fin 4), ∃ t : Fin cfg0.N, (cfg0.win 2).flush t = true ∧ win0_2.index t = ![p.val, q.val] :=
  (by decide +kernel : ∀ (p : Fin 1) (q : Fin 4), ∃ t : Fin grid0.N, win0_2.flush t = true ∧ win0_2.index t = ![p.val, q.val])

/-- The whole result. -/
theorem final : (dats m 0 c).arrAt 2 cfg0.N = G m c :=
  (dats m 0 c).arrAt_eq_of_cover 2 (G m c) (fun t _ => flushed_eq m c t) fun i => by
    have h0 : (i 0).val < 1024 := (i 0).isLt
    have h1 : (i 1).val < 5632 := (i 1).isLt
    obtain ⟨t, hf, ht⟩ := onto ⟨(i 0).val / 1024, by omega⟩ ⟨(i 1).val / 1408, by omega⟩
    refine ⟨t, hf, ?_⟩
    rw [mem_blk]
    intro a
    match a with
    | ⟨0, _⟩ => rw [ht]; show (i 0).val / 1024 * 1024 ≤ (i 0).val ∧ (i 0).val < (i 0).val / 1024 * 1024 + 1024; omega
    | ⟨1, _⟩ => rw [ht]; show (i 1).val / 1408 * 1408 ≤ (i 1).val ∧ (i 1).val < (i 1).val / 1408 * 1408 + 1408; omega

/-- The reference declares no semaphore. -/
theorem frame_reference : Cert.quiescent_Reference3Ideal := fun m ρ _ =>
  (θ_run _ _ _).mono (fun r h => ⟨fun c => (h c).2, sem_eq_zero_of_no_sems (by decide) r.2⟩) (Cert.Reference3Ideal.Value.run (F := Ideal) m ρ)

/-- The kernel and the reference end with equal results. -/
theorem algebraic : Cert.algebraic_Kernel3Ideal_Reference3Ideal := fun m ρ m' ρ' _ hargs => by
  refine ⟨fun c => G m c, (θ_run _ _ _).mono (fun r h c => ⟨(h c).1.trans (final m c), (h c).2⟩) (Value.run_blocks m ρ),
    (θ_run _ _ _).mono (fun r h c => ⟨(h c).1.trans ?_, (h c).2⟩) (Cert.Reference3Ideal.Value.run (F := Ideal) m' ρ')⟩
  obtain ⟨e0, e1, e2⟩ := hargs c
  rw [e0, e2]; rfl

end Cert.Kernel3Ideal.Product

end
-- ==== Proof.Product4.lean ====
/- The gradient of the gated MLP's down projection's weights: the kernel's blocks are the blocks of the reference's product. -/
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.Value
public import Idealize.ShloMosaic.Lib.Pipeline.ValueKit
public import Idealize.ShloMosaic.Lib.Pointwise
public import Idealize.ShloMosaic.Lib.StableHlo.Run
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat Cfg Window)

namespace Cert.Kernel4Ideal.Product

open Cert.Kernel4Ideal Cert.Kernel4Ideal.Gen
open Cert.Reference4Ideal.Read (val_main_v3 val_main_v3_apply val_main_v2_apply)

theorem zeros : (![0, 0] : Fin 2 → Nat) = fun _ => 0 := funext fun a => by fin_cases a <;> rfl

/-- What the body leaves in its block of the result: the product of the two blocks it reads. -/
theorem out_eq (c : Dev nD) (i : grid0.Coords) (a3 : Memref sig .tc .vmem S2048x256 .bf16) (h3 : a3.IsWhole)
    (a4 : Memref sig .tc .vmem S2048x1024 .f32) (h4 : a4.IsWhole) (a5 : Memref sig .tc .vmem S256x1024 .f32) (h5 : a5.IsWhole)
    (a6 : Memref sig .tc .vmem S8x128 .f32) (h6 : a6.IsWhole) (x : Vec Ideal S2048x256 .bf16) (y : Vec Ideal S2048x1024 .f32) :
    out0_A_2 c i a3 h3 a4 h4 a5 h5 a6 h6 x y = k0_pay1 x y := by
  unfold out0_A_2
  rw [View.read_writes_eq_canon _ _ _ (cover0_A_2 c i a3 h3 a4 h4 a5 h5 a6 h6 x y)]
  unfold kernelRun0_A
  dsimp only
  sl_unfold_words
  rw [View.canon_unit_zero (S := S256x1024) zeros]
  simp only [View.readAt_eq_ld, h3.read_unread, h4.read_unread, View.ld_unit_zero (S := S2048x1024) zeros, View.ld_unit_zero (S := S2048x256) zeros]

/-- The body's product, the changes of format and shape that change nothing left out. -/
theorem pay_eq (x : Vec Ideal S2048x256 .bf16) (y : Vec Ideal S2048x1024 .f32) :
    k0_pay1 x y = matmul (φ₁ := .bf16) (φ₂ := .bf16) dot_S2048x256_S2048x1024_S256x1024_0_0_1_1_n_n none (x : FVec Ideal S2048x256 .bf16) (truncf .bf16 (y : FVec Ideal S2048x1024 .f32) bitsLt_bf16_f32) (constant S256x1024 .f32 0x00000000#32) := by
  unfold k0_pay1
  dsimp only

/-- An entry of the product of two blocks. -/
theorem pay_apply (x : Vec Ideal S2048x256 .bf16) (y : Vec Ideal S2048x1024 .f32) (j : S256x1024.Idx) :
    k0_pay1 x y j = (∑ k : Fin 2048, x (ix2 k (j 0)) * y (ix2 k (j 1)) : EReal) := by
  rw [pay_eq]
  pointwise

/-! The places of the blocks. -/
theorem index_0 : ∀ t : Fin grid0.N, win0_0.index t = ![0, t.val / 1] := by decide +kernel
theorem index_1 : ∀ t : Fin grid0.N, win0_1.index t = ![0, t.val % 1] := by decide +kernel
theorem index_2 : ∀ t : Fin grid0.N, win0_2.index t = ![t.val / 1, t.val % 1] := by decide +kernel

variable (m : (ℓ : Loc nD τ sig) → Buf (Elt Ideal) ℓ) (ρ : Dev nD → PrngReg) (c : Dev nD)

/-- The reference's result at the kernel's arguments. -/
abbrev G : Buf (Elt Ideal) ((c : Thread nD τ).loc main_v0) :=
  val_main_v3 (F := Ideal) (m ((c : Thread nD τ).loc main_arg0)) (m ((c : Thread nD τ).loc main_arg2))

/-- Every block written back is the reference's. -/
theorem flushed_eq (t : Fin cfg0.N) : (dats m 0 c).flushed 2 t = ((cfg0.win 2).blk t).view.read (Elt Ideal) (G m c) := by
  rw [Value.flushed2_A, out_eq]
  funext y
  refine (pay_apply (iblk m c 0 t) (iblk m c 1 t) _).trans ?_
  refine Eq.symm ((val_main_v3_apply _ _ _).trans ((val_main_v2_apply _ _ _).trans ?_))
  refine Finset.sum_congr rfl fun k _ => ?_
  rw [mul_comm]
  have e0 : (((cfg0.win 2).blk t).view.emb y 0).val = t.val / 1 * 256 + (y 0).val :=
    (Window.rect_emb_val (cfg0.win 2) t y 0).trans (by rw [show (cfg0.win 2).index t = ![t.val / 1, t.val % 1] from index_2 t]; rfl)
  have e1 : (((cfg0.win 2).blk t).view.emb y 1).val = t.val % 1 * 1024 + (y 1).val :=
    (Window.rect_emb_val (cfg0.win 2) t y 1).trans (by rw [show (cfg0.win 2).index t = ![t.val / 1, t.val % 1] from index_2 t]; rfl)
  refine congrArg₂ (· * ·) ?_ ?_
  · refine Eq.symm ((congrFun (V_main_arg0 m c) _).trans (congrArg _ (funext fun a => Fin.ext ?_)))
    match a with
    | ⟨0, _⟩ => refine (Window.rect_emb_val (cfg0.win 0) t _ 0).trans ?_
                rw [show (cfg0.win 0).index t = ![0, t.val / 1] from index_0 t]; show 0 * 2048 + k.val = k.val; omega
    | ⟨1, _⟩ => refine (Window.rect_emb_val (cfg0.win 0) t _ 1).trans ?_
                rw [show (cfg0.win 0).index t = ![0, t.val / 1] from index_0 t]; exact e0.symm
  · refine Eq.symm ((congrFun (V_main_arg2 m c) _).trans (congrArg _ (funext fun a => Fin.ext ?_)))
    match a with
    | ⟨0, _⟩ => refine (Window.rect_emb_val (cfg0.win 1) t _ 0).trans ?_
                rw [show (cfg0.win 1).index t = ![0, t.val % 1] from index_1 t]; show 0 * 2048 + k.val = k.val; omega
    | ⟨1, _⟩ => refine (Window.rect_emb_val (cfg0.win 1) t _ 1).trans ?_
                rw [show (cfg0.win 1).index t = ![0, t.val % 1] from index_1 t]; exact e1.symm

theorem mem_blk (t : Fin cfg0.N) (i : S2816x1024.Idx) :
    i ∈ ((cfg0.win 2).blk t).view.set ↔ ∀ a : Fin 2, win0_2.index t a * S256x1024.size a ≤ (i a).val ∧ (i a).val < win0_2.index t a * S256x1024.size a + S256x1024.size a := by
  show i ∈ ((View.whole main_v0).slice (win0_2.rect t)).set ↔ _
  rw [View.set_slice_whole, Rect.mem_set_unit]
  exact Iff.rfl

/-- Every block of the result is written. -/
theorem onto : ∀ (p : Fin 11) (q : Fin 1), ∃ t : Fin cfg0.N, (cfg0.win 2).flush t = true ∧ win0_2.index t = ![p.val, q.val] :=
  (by decide +kernel : ∀ (p : Fin 11) (q : Fin 1), ∃ t : Fin grid0.N, win0_2.flush t = true ∧ win0_2.index t = ![p.val, q.val])

/-- The whole result. -/
theorem final : (dats m 0 c).arrAt 2 cfg0.N = G m c :=
  (dats m 0 c).arrAt_eq_of_cover 2 (G m c) (fun t _ => flushed_eq m c t) fun i => by
    have h0 : (i 0).val < 2816 := (i 0).isLt
    have h1 : (i 1).val < 1024 := (i 1).isLt
    obtain ⟨t, hf, ht⟩ := onto ⟨(i 0).val / 256, by omega⟩ ⟨(i 1).val / 1024, by omega⟩
    refine ⟨t, hf, ?_⟩
    rw [mem_blk]
    intro a
    match a with
    | ⟨0, _⟩ => rw [ht]; show (i 0).val / 256 * 256 ≤ (i 0).val ∧ (i 0).val < (i 0).val / 256 * 256 + 256; omega
    | ⟨1, _⟩ => rw [ht]; show (i 1).val / 1024 * 1024 ≤ (i 1).val ∧ (i 1).val < (i 1).val / 1024 * 1024 + 1024; omega

/-- The reference declares no semaphore. -/
theorem frame_reference : Cert.quiescent_Reference4Ideal := fun m ρ _ =>
  (θ_run _ _ _).mono (fun r h => ⟨fun c => (h c).2, sem_eq_zero_of_no_sems (by decide) r.2⟩) (Cert.Reference4Ideal.Value.run (F := Ideal) m ρ)

/-- The kernel and the reference end with equal results. -/
theorem algebraic : Cert.algebraic_Kernel4Ideal_Reference4Ideal := fun m ρ m' ρ' _ hargs => by
  refine ⟨fun c => G m c, (θ_run _ _ _).mono (fun r h c => ⟨(h c).1.trans (final m c), (h c).2⟩) (Value.run_blocks m ρ),
    (θ_run _ _ _).mono (fun r h c => ⟨(h c).1.trans ?_, (h c).2⟩) (Cert.Reference4Ideal.Value.run (F := Ideal) m' ρ')⟩
  obtain ⟨e0, e1, e2⟩ := hargs c
  rw [e0, e2]; rfl

end Cert.Kernel4Ideal.Product

end
-- ==== Proof.Product5.lean ====
/- The gradient of the output projection's weights: the kernel's blocks are the blocks of the reference's product. -/
module

public import proofs.«01_k».proof.Defs
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pipeline.Value
public import Idealize.ShloMosaic.Lib.Pipeline.ValueKit
public import Idealize.ShloMosaic.Lib.Pointwise
public import Idealize.ShloMosaic.Lib.StableHlo.Run
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat Cfg Window)

namespace Cert.Kernel5Ideal.Product

open Cert.Kernel5Ideal Cert.Kernel5Ideal.Gen
open Cert.Reference5Ideal.Read (val_main_v3 val_main_v3_apply val_main_v2_apply)

theorem zeros : (![0, 0] : Fin 2 → Nat) = fun _ => 0 := funext fun a => by fin_cases a <;> rfl

/-- What the body leaves in its block of the result: the product of the two blocks it reads. -/
theorem out_eq (c : Dev nD) (i : grid0.Coords) (a3 : Memref sig .tc .vmem S2048x1024 .bf16) (h3 : a3.IsWhole)
    (a4 : Memref sig .tc .vmem S2048x512 .f32) (h4 : a4.IsWhole) (a5 : Memref sig .tc .vmem S1024x512 .f32) (h5 : a5.IsWhole)
    (a6 : Memref sig .tc .vmem S8x128 .f32) (h6 : a6.IsWhole) (x : Vec Ideal S2048x1024 .bf16) (y : Vec Ideal S2048x512 .f32) :
    out0_A_2 c i a3 h3 a4 h4 a5 h5 a6 h6 x y = k0_pay1 x y := by
  unfold out0_A_2
  rw [View.read_writes_eq_canon _ _ _ (cover0_A_2 c i a3 h3 a4 h4 a5 h5 a6 h6 x y)]
  unfold kernelRun0_A
  dsimp only
  sl_unfold_words
  rw [View.canon_unit_zero (S := S1024x512) zeros]
  simp only [View.readAt_eq_ld, h3.read_unread, h4.read_unread, View.ld_unit_zero (S := S2048x1024) zeros, View.ld_unit_zero (S := S2048x512) zeros]

/-- The body's product, the changes of format and shape that change nothing left out. -/
theorem pay_eq (x : Vec Ideal S2048x1024 .bf16) (y : Vec Ideal S2048x512 .f32) :
    k0_pay1 x y = matmul (φ₁ := .bf16) (φ₂ := .bf16) dot_S2048x1024_S2048x512_S1024x512_0_0_1_1_n_n none (x : FVec Ideal S2048x1024 .bf16) (truncf .bf16 (y : FVec Ideal S2048x512 .f32) bitsLt_bf16_f32) (constant S1024x512 .f32 0x00000000#32) := by
  unfold k0_pay1
  dsimp only

/-- An entry of the product of two blocks. -/
theorem pay_apply (x : Vec Ideal S2048x1024 .bf16) (y : Vec Ideal S2048x512 .f32) (j : S1024x512.Idx) :
    k0_pay1 x y j = (∑ k : Fin 2048, x (ix2 k (j 0)) * y (ix2 k (j 1)) : EReal) := by
  rw [pay_eq]
  pointwise

/-! The places of the blocks. -/
theorem index_0 : ∀ t : Fin grid0.N, win0_0.index t = ![0, t.val / 2] := by decide +kernel
theorem index_1 : ∀ t : Fin grid0.N, win0_1.index t = ![0, t.val % 2] := by decide +kernel
theorem index_2 : ∀ t : Fin grid0.N, win0_2.index t = ![t.val / 2, t.val % 2] := by decide +kernel

variable (m : (ℓ : Loc nD τ sig) → Buf (Elt Ideal) ℓ) (ρ : Dev nD → PrngReg) (c : Dev nD)

/-- The reference's result at the kernel's arguments. -/
abbrev G : Buf (Elt Ideal) ((c : Thread nD τ).loc main_v0) :=
  val_main_v3 (F := Ideal) (m ((c : Thread nD τ).loc main_arg0)) (m ((c : Thread nD τ).loc main_arg2))

/-- Every block written back is the reference's. -/
theorem flushed_eq (t : Fin cfg0.N) : (dats m 0 c).flushed 2 t = ((cfg0.win 2).blk t).view.read (Elt Ideal) (G m c) := by
  rw [Value.flushed2_A, out_eq]
  funext y
  refine (pay_apply (iblk m c 0 t) (iblk m c 1 t) _).trans ?_
  refine Eq.symm ((val_main_v3_apply _ _ _).trans ((val_main_v2_apply _ _ _).trans ?_))
  refine Finset.sum_congr rfl fun k _ => ?_
  rw [mul_comm]
  have e0 : (((cfg0.win 2).blk t).view.emb y 0).val = t.val / 2 * 1024 + (y 0).val :=
    (Window.rect_emb_val (cfg0.win 2) t y 0).trans (by rw [show (cfg0.win 2).index t = ![t.val / 2, t.val % 2] from index_2 t]; rfl)
  have e1 : (((cfg0.win 2).blk t).view.emb y 1).val = t.val % 2 * 512 + (y 1).val :=
    (Window.rect_emb_val (cfg0.win 2) t y 1).trans (by rw [show (cfg0.win 2).index t = ![t.val / 2, t.val % 2] from index_2 t]; rfl)
  refine congrArg₂ (· * ·) ?_ ?_
  · refine Eq.symm ((congrFun (V_main_arg0 m c) _).trans (congrArg _ (funext fun a => Fin.ext ?_)))
    match a with
    | ⟨0, _⟩ => refine (Window.rect_emb_val (cfg0.win 0) t _ 0).trans ?_
                rw [show (cfg0.win 0).index t = ![0, t.val / 2] from index_0 t]; show 0 * 2048 + k.val = k.val; omega
    | ⟨1, _⟩ => refine (Window.rect_emb_val (cfg0.win 0) t _ 1).trans ?_
                rw [show (cfg0.win 0).index t = ![0, t.val / 2] from index_0 t]; exact e0.symm
  · refine Eq.symm ((congrFun (V_main_arg2 m c) _).trans (congrArg _ (funext fun a => Fin.ext ?_)))
    match a with
    | ⟨0, _⟩ => refine (Window.rect_emb_val (cfg0.win 1) t _ 0).trans ?_
                rw [show (cfg0.win 1).index t = ![0, t.val % 2] from index_1 t]; show 0 * 2048 + k.val = k.val; omega
    | ⟨1, _⟩ => refine (Window.rect_emb_val (cfg0.win 1) t _ 1).trans ?_
                rw [show (cfg0.win 1).index t = ![0, t.val % 2] from index_1 t]; exact e1.symm

theorem mem_blk (t : Fin cfg0.N) (i : S1024x1024.Idx) :
    i ∈ ((cfg0.win 2).blk t).view.set ↔ ∀ a : Fin 2, win0_2.index t a * S1024x512.size a ≤ (i a).val ∧ (i a).val < win0_2.index t a * S1024x512.size a + S1024x512.size a := by
  show i ∈ ((View.whole main_v0).slice (win0_2.rect t)).set ↔ _
  rw [View.set_slice_whole, Rect.mem_set_unit]
  exact Iff.rfl

/-- Every block of the result is written. -/
theorem onto : ∀ (p : Fin 1) (q : Fin 2), ∃ t : Fin cfg0.N, (cfg0.win 2).flush t = true ∧ win0_2.index t = ![p.val, q.val] :=
  (by decide +kernel : ∀ (p : Fin 1) (q : Fin 2), ∃ t : Fin grid0.N, win0_2.flush t = true ∧ win0_2.index t = ![p.val, q.val])

/-- The whole result. -/
theorem final : (dats m 0 c).arrAt 2 cfg0.N = G m c :=
  (dats m 0 c).arrAt_eq_of_cover 2 (G m c) (fun t _ => flushed_eq m c t) fun i => by
    have h0 : (i 0).val < 1024 := (i 0).isLt
    have h1 : (i 1).val < 1024 := (i 1).isLt
    obtain ⟨t, hf, ht⟩ := onto ⟨(i 0).val / 1024, by omega⟩ ⟨(i 1).val / 512, by omega⟩
    refine ⟨t, hf, ?_⟩
    rw [mem_blk]
    intro a
    match a with
    | ⟨0, _⟩ => rw [ht]; show (i 0).val / 1024 * 1024 ≤ (i 0).val ∧ (i 0).val < (i 0).val / 1024 * 1024 + 1024; omega
    | ⟨1, _⟩ => rw [ht]; show (i 1).val / 512 * 512 ≤ (i 1).val ∧ (i 1).val < (i 1).val / 512 * 512 + 512; omega

/-- The reference declares no semaphore. -/
theorem frame_reference : Cert.quiescent_Reference5Ideal := fun m ρ _ =>
  (θ_run _ _ _).mono (fun r h => ⟨fun c => (h c).2, sem_eq_zero_of_no_sems (by decide) r.2⟩) (Cert.Reference5Ideal.Value.run (F := Ideal) m ρ)

/-- The kernel and the reference end with equal results. -/
theorem algebraic : Cert.algebraic_Kernel5Ideal_Reference5Ideal := fun m ρ m' ρ' _ hargs => by
  refine ⟨fun c => G m c, (θ_run _ _ _).mono (fun r h c => ⟨(h c).1.trans (final m c), (h c).2⟩) (Value.run_blocks m ρ),
    (θ_run _ _ _).mono (fun r h c => ⟨(h c).1.trans ?_, (h c).2⟩) (Cert.Reference5Ideal.Value.run (F := Ideal) m' ρ')⟩
  obtain ⟨e0, e1, e2⟩ := hargs c
  rw [e0, e2]; rfl

end Cert.Kernel5Ideal.Product

end
-- ==== Proof.Product6.lean ====
/- The gradient of a branch's projection's weights: the kernel's blocks are the blocks of the reference's product. -/
module

public import proofs.«01_k».proof.Defs
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pipeline.Value
public import Idealize.ShloMosaic.Lib.Pipeline.ValueKit
public import Idealize.ShloMosaic.Lib.Pointwise
public import Idealize.ShloMosaic.Lib.StableHlo.Run
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat Cfg Window)

namespace Cert.Kernel6Ideal.Product

open Cert.Kernel6Ideal Cert.Kernel6Ideal.Gen
open Cert.Reference6Ideal.Read (val_main_v4 val_main_v4_apply val_main_v3_apply)

theorem zeros : (![0, 0] : Fin 2 → Nat) = fun _ => 0 := funext fun a => by fin_cases a <;> rfl

/-- What the body leaves in its block of the result: the product of the two blocks it reads. -/
theorem out_eq (c : Dev nD) (i : grid0.Coords) (a3 : Memref sig .tc .vmem S2048x512 .bf16) (h3 : a3.IsWhole)
    (a4 : Memref sig .tc .vmem S2048x1024 .bf16) (h4 : a4.IsWhole) (a5 : Memref sig .tc .vmem S512x1024 .f32) (h5 : a5.IsWhole)
    (a6 : Memref sig .tc .vmem S8x128 .f32) (h6 : a6.IsWhole) (x : Vec Ideal S2048x512 .bf16) (y : Vec Ideal S2048x1024 .bf16) :
    out0_A_2 c i a3 h3 a4 h4 a5 h5 a6 h6 x y = k0_pay1 x y := by
  unfold out0_A_2
  rw [View.read_writes_eq_canon _ _ _ (cover0_A_2 c i a3 h3 a4 h4 a5 h5 a6 h6 x y)]
  unfold kernelRun0_A
  dsimp only
  sl_unfold_words
  rw [View.canon_unit_zero (S := S512x1024) zeros]
  simp only [View.readAt_eq_ld, h3.read_unread, h4.read_unread, View.ld_unit_zero (S := S2048x1024) zeros, View.ld_unit_zero (S := S2048x512) zeros]

/-- The body's product, the changes of format and shape that change nothing left out. -/
theorem pay_eq (x : Vec Ideal S2048x512 .bf16) (y : Vec Ideal S2048x1024 .bf16) :
    k0_pay1 x y = matmul (φ₁ := .bf16) (φ₂ := .bf16) dot_S2048x512_S2048x1024_S512x1024_0_0_1_1_n_n none (x : FVec Ideal S2048x512 .bf16) (y : FVec Ideal S2048x1024 .bf16) (constant S512x1024 .f32 0x00000000#32) := by
  unfold k0_pay1
  dsimp only

/-- An entry of the product of two blocks. -/
theorem pay_apply (x : Vec Ideal S2048x512 .bf16) (y : Vec Ideal S2048x1024 .bf16) (j : S512x1024.Idx) :
    k0_pay1 x y j = (∑ k : Fin 2048, x (ix2 k (j 0)) * y (ix2 k (j 1)) : EReal) := by
  rw [pay_eq]
  pointwise

/-! The places of the blocks. -/
theorem index_0 : ∀ t : Fin grid0.N, win0_0.index t = ![0, t.val / 1] := by decide +kernel
theorem index_1 : ∀ t : Fin grid0.N, win0_1.index t = ![0, t.val % 1] := by decide +kernel
theorem index_2 : ∀ t : Fin grid0.N, win0_2.index t = ![t.val / 1, t.val % 1] := by decide +kernel

variable (m : (ℓ : Loc nD τ sig) → Buf (Elt Ideal) ℓ) (ρ : Dev nD → PrngReg) (c : Dev nD)

/-- The reference's result at the kernel's arguments. -/
abbrev G : Buf (Elt Ideal) ((c : Thread nD τ).loc main_v0) :=
  val_main_v4 (F := Ideal) (m ((c : Thread nD τ).loc main_arg0)) (m ((c : Thread nD τ).loc main_arg2))

/-- Every block written back is the reference's. -/
theorem flushed_eq (t : Fin cfg0.N) : (dats m 0 c).flushed 2 t = ((cfg0.win 2).blk t).view.read (Elt Ideal) (G m c) := by
  rw [Value.flushed2_A, out_eq]
  funext y
  refine (pay_apply (iblk m c 0 t) (iblk m c 1 t) _).trans ?_
  refine Eq.symm ((val_main_v4_apply _ _ _).trans ((val_main_v3_apply _ _ _).trans ?_))
  refine Finset.sum_congr rfl fun k _ => ?_
  rw [mul_comm]
  have e0 : (((cfg0.win 2).blk t).view.emb y 0).val = t.val / 1 * 512 + (y 0).val :=
    (Window.rect_emb_val (cfg0.win 2) t y 0).trans (by rw [show (cfg0.win 2).index t = ![t.val / 1, t.val % 1] from index_2 t]; rfl)
  have e1 : (((cfg0.win 2).blk t).view.emb y 1).val = t.val % 1 * 1024 + (y 1).val :=
    (Window.rect_emb_val (cfg0.win 2) t y 1).trans (by rw [show (cfg0.win 2).index t = ![t.val / 1, t.val % 1] from index_2 t]; rfl)
  refine congrArg₂ (· * ·) ?_ ?_
  · refine Eq.symm ((congrFun (V_main_arg0 m c) _).trans (congrArg _ (funext fun a => Fin.ext ?_)))
    match a with
    | ⟨0, _⟩ => refine (Window.rect_emb_val (cfg0.win 0) t _ 0).trans ?_
                rw [show (cfg0.win 0).index t = ![0, t.val / 1] from index_0 t]; show 0 * 2048 + k.val = k.val; omega
    | ⟨1, _⟩ => refine (Window.rect_emb_val (cfg0.win 0) t _ 1).trans ?_
                rw [show (cfg0.win 0).index t = ![0, t.val / 1] from index_0 t]; exact e0.symm
  · refine Eq.symm ((congrFun (V_main_arg2 m c) _).trans (congrArg _ (funext fun a => Fin.ext ?_)))
    match a with
    | ⟨0, _⟩ => refine (Window.rect_emb_val (cfg0.win 1) t _ 0).trans ?_
                rw [show (cfg0.win 1).index t = ![0, t.val % 1] from index_1 t]; show 0 * 2048 + k.val = k.val; omega
    | ⟨1, _⟩ => refine (Window.rect_emb_val (cfg0.win 1) t _ 1).trans ?_
                rw [show (cfg0.win 1).index t = ![0, t.val % 1] from index_1 t]; exact e1.symm

theorem mem_blk (t : Fin cfg0.N) (i : S512x1024.Idx) :
    i ∈ ((cfg0.win 2).blk t).view.set ↔ ∀ a : Fin 2, win0_2.index t a * S512x1024.size a ≤ (i a).val ∧ (i a).val < win0_2.index t a * S512x1024.size a + S512x1024.size a := by
  show i ∈ ((View.whole main_v0).slice (win0_2.rect t)).set ↔ _
  rw [View.set_slice_whole, Rect.mem_set_unit]
  exact Iff.rfl

/-- Every block of the result is written. -/
theorem onto : ∀ (p : Fin 1) (q : Fin 1), ∃ t : Fin cfg0.N, (cfg0.win 2).flush t = true ∧ win0_2.index t = ![p.val, q.val] :=
  (by decide +kernel : ∀ (p : Fin 1) (q : Fin 1), ∃ t : Fin grid0.N, win0_2.flush t = true ∧ win0_2.index t = ![p.val, q.val])

/-- The whole result. -/
theorem final : (dats m 0 c).arrAt 2 cfg0.N = G m c :=
  (dats m 0 c).arrAt_eq_of_cover 2 (G m c) (fun t _ => flushed_eq m c t) fun i => by
    have h0 : (i 0).val < 512 := (i 0).isLt
    have h1 : (i 1).val < 1024 := (i 1).isLt
    obtain ⟨t, hf, ht⟩ := onto ⟨(i 0).val / 512, by omega⟩ ⟨(i 1).val / 1024, by omega⟩
    refine ⟨t, hf, ?_⟩
    rw [mem_blk]
    intro a
    match a with
    | ⟨0, _⟩ => rw [ht]; show (i 0).val / 512 * 512 ≤ (i 0).val ∧ (i 0).val < (i 0).val / 512 * 512 + 512; omega
    | ⟨1, _⟩ => rw [ht]; show (i 1).val / 1024 * 1024 ≤ (i 1).val ∧ (i 1).val < (i 1).val / 1024 * 1024 + 1024; omega

/-- The reference declares no semaphore. -/
theorem frame_reference : Cert.quiescent_Reference6Ideal := fun m ρ _ =>
  (θ_run _ _ _).mono (fun r h => ⟨fun c => (h c).2, sem_eq_zero_of_no_sems (by decide) r.2⟩) (Cert.Reference6Ideal.Value.run (F := Ideal) m ρ)

/-- The kernel and the reference end with equal results. -/
theorem algebraic : Cert.algebraic_Kernel6Ideal_Reference6Ideal := fun m ρ m' ρ' _ hargs => by
  refine ⟨fun c => G m c, (θ_run _ _ _).mono (fun r h c => ⟨(h c).1.trans (final m c), (h c).2⟩) (Value.run_blocks m ρ),
    (θ_run _ _ _).mono (fun r h c => ⟨(h c).1.trans ?_, (h c).2⟩) (Cert.Reference6Ideal.Value.run (F := Ideal) m' ρ')⟩
  obtain ⟨e0, e1, e2⟩ := hargs c
  rw [e0, e2]; rfl

end Cert.Kernel6Ideal.Product

end
-- ==== Proof.Product7.lean ====
/- The gradient of the gated MLP's down projection's input: the kernel's blocks are the blocks of the reference's product. -/
module

public import proofs.«01_k».proof.Defs
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pipeline.Value
public import Idealize.ShloMosaic.Lib.Pipeline.ValueKit
public import Idealize.ShloMosaic.Lib.Pointwise
public import Idealize.ShloMosaic.Lib.StableHlo.Run
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat Cfg Window)

namespace Cert.Kernel7Ideal.Product

open Cert.Kernel7Ideal Cert.Kernel7Ideal.Gen
open Cert.Reference7Ideal.Read (val_main_v5 val_main_v5_apply val_main_v4_apply)

theorem zeros : (![0, 0] : Fin 2 → Nat) = fun _ => 0 := funext fun a => by fin_cases a <;> rfl

/-- What the body leaves in its block of the result: the product of the two blocks it reads. -/
theorem out_eq (c : Dev nD) (i : grid0.Coords) (a3 : Memref sig .tc .vmem S1024x1024 .f32) (h3 : a3.IsWhole)
    (a4 : Memref sig .tc .vmem S1408x1024 .bf16) (h4 : a4.IsWhole) (a5 : Memref sig .tc .vmem S1024x1408 .bf16) (h5 : a5.IsWhole)
    (a6 : Memref sig .tc .vmem S8x128 .f32) (h6 : a6.IsWhole) (x : Vec Ideal S1024x1024 .f32) (y : Vec Ideal S1408x1024 .bf16) :
    out0_A_2 c i a3 h3 a4 h4 a5 h5 a6 h6 x y = k0_pay1 x y := by
  unfold out0_A_2
  rw [View.read_writes_eq_canon _ _ _ (cover0_A_2 c i a3 h3 a4 h4 a5 h5 a6 h6 x y)]
  unfold kernelRun0_A
  dsimp only
  sl_unfold_words
  rw [View.canon_unit_zero (S := S1024x1408) zeros]
  simp only [View.readAt_eq_ld, h3.read_unread, h4.read_unread, View.ld_unit_zero (S := S1024x1024) zeros, View.ld_unit_zero (S := S1408x1024) zeros]

/-- The body's product, the changes of format and shape that change nothing left out. -/
theorem pay_eq (x : Vec Ideal S1024x1024 .f32) (y : Vec Ideal S1408x1024 .bf16) :
    k0_pay1 x y = truncf .bf16 (matmul (φ₁ := .bf16) (φ₂ := .bf16) dot_S1024x1024_S1408x1024_S1024x1408_1_1_0_0_n_n none (truncf .bf16 (x : FVec Ideal S1024x1024 .f32) bitsLt_bf16_f32) (y : FVec Ideal S1408x1024 .bf16) (constant S1024x1408 .f32 0x00000000#32)) bitsLt_bf16_f32 := by
  unfold k0_pay1
  dsimp only
  simp only [shapeCast_self]

/-- An entry of the product of two blocks. -/
theorem pay_apply (x : Vec Ideal S1024x1024 .f32) (y : Vec Ideal S1408x1024 .bf16) (j : S1024x1408.Idx) :
    k0_pay1 x y j = (∑ k : Fin 1024, x (ix2 (j 0) k) * y (ix2 (j 1) k) : EReal) := by
  rw [pay_eq]
  pointwise

/-! The places of the blocks. -/
theorem index_0 : ∀ t : Fin grid0.N, win0_0.index t = ![t.val / 2, 0] := by decide +kernel
theorem index_1 : ∀ t : Fin grid0.N, win0_1.index t = ![t.val % 2, 0] := by decide +kernel
theorem index_2 : ∀ t : Fin grid0.N, win0_2.index t = ![t.val / 2, t.val % 2] := by decide +kernel

variable (m : (ℓ : Loc nD τ sig) → Buf (Elt Ideal) ℓ) (ρ : Dev nD → PrngReg) (c : Dev nD)

/-- The reference's result at the kernel's arguments. -/
abbrev G : Buf (Elt Ideal) ((c : Thread nD τ).loc main_v1) :=
  val_main_v5 (F := Ideal) (m ((c : Thread nD τ).loc main_arg1)) (m ((c : Thread nD τ).loc main_arg2))

/-- The operand rounded on the host is, over the extended reals, the argument itself. -/
theorem V_cast (i : S2816x1024.Idx) : V m c main_v0 i = m ((c : Thread nD τ).loc main_arg1) i := by
  have e : V m c main_v0 = (truncf .bf16 (m ((c : Thread nD τ).loc main_arg1) : FVec Ideal S2816x1024 .f32) bitsLt_bf16_f32 : FVec Ideal S2816x1024 .bf16) := by
    unfold V; after_results
  rw [e]; rfl

/-- Every block written back is the reference's. -/
theorem flushed_eq (t : Fin cfg0.N) : (dats m 0 c).flushed 2 t = ((cfg0.win 2).blk t).view.read (Elt Ideal) (G m c) := by
  rw [Value.flushed2_A, out_eq]
  funext y
  refine (pay_apply (iblk m c 0 t) (iblk m c 1 t) _).trans ?_
  refine Eq.symm ((val_main_v5_apply _ _ _).trans ((val_main_v4_apply _ _ _).trans ?_))
  refine Finset.sum_congr rfl fun k _ => ?_
  have e0 : (((cfg0.win 2).blk t).view.emb y 0).val = t.val / 2 * 1024 + (y 0).val :=
    (Window.rect_emb_val (cfg0.win 2) t y 0).trans (by rw [show (cfg0.win 2).index t = ![t.val / 2, t.val % 2] from index_2 t]; rfl)
  have e1 : (((cfg0.win 2).blk t).view.emb y 1).val = t.val % 2 * 1408 + (y 1).val :=
    (Window.rect_emb_val (cfg0.win 2) t y 1).trans (by rw [show (cfg0.win 2).index t = ![t.val / 2, t.val % 2] from index_2 t]; rfl)
  refine congrArg₂ (· * ·) ?_ ?_
  · refine Eq.symm ((congrFun (V_main_arg2 m c) _).trans (congrArg _ (funext fun a => Fin.ext ?_)))
    match a with
    | ⟨0, _⟩ => refine (Window.rect_emb_val (cfg0.win 0) t _ 0).trans ?_
                rw [show (cfg0.win 0).index t = ![t.val / 2, 0] from index_0 t]; exact e0.symm
    | ⟨1, _⟩ => refine (Window.rect_emb_val (cfg0.win 0) t _ 1).trans ?_
                rw [show (cfg0.win 0).index t = ![t.val / 2, 0] from index_0 t]; show 0 * 1024 + k.val = k.val; omega
  · refine Eq.symm ((V_cast m c _).trans (congrArg _ (funext fun a => Fin.ext ?_)))
    match a with
    | ⟨0, _⟩ => refine (Window.rect_emb_val (cfg0.win 1) t _ 0).trans ?_
                rw [show (cfg0.win 1).index t = ![t.val % 2, 0] from index_1 t]; exact e1.symm
    | ⟨1, _⟩ => refine (Window.rect_emb_val (cfg0.win 1) t _ 1).trans ?_
                rw [show (cfg0.win 1).index t = ![t.val % 2, 0] from index_1 t]; show 0 * 1024 + k.val = k.val; omega

theorem mem_blk (t : Fin cfg0.N) (i : S2048x2816.Idx) :
    i ∈ ((cfg0.win 2).blk t).view.set ↔ ∀ a : Fin 2, win0_2.index t a * S1024x1408.size a ≤ (i a).val ∧ (i a).val < win0_2.index t a * S1024x1408.size a + S1024x1408.size a := by
  show i ∈ ((View.whole main_v1).slice (win0_2.rect t)).set ↔ _
  rw [View.set_slice_whole, Rect.mem_set_unit]
  exact Iff.rfl

/-- Every block of the result is written. -/
theorem onto : ∀ (p : Fin 2) (q : Fin 2), ∃ t : Fin cfg0.N, (cfg0.win 2).flush t = true ∧ win0_2.index t = ![p.val, q.val] :=
  (by decide +kernel : ∀ (p : Fin 2) (q : Fin 2), ∃ t : Fin grid0.N, win0_2.flush t = true ∧ win0_2.index t = ![p.val, q.val])

/-- The whole result. -/
theorem final : (dats m 0 c).arrAt 2 cfg0.N = G m c :=
  (dats m 0 c).arrAt_eq_of_cover 2 (G m c) (fun t _ => flushed_eq m c t) fun i => by
    have h0 : (i 0).val < 2048 := (i 0).isLt
    have h1 : (i 1).val < 2816 := (i 1).isLt
    obtain ⟨t, hf, ht⟩ := onto ⟨(i 0).val / 1024, by omega⟩ ⟨(i 1).val / 1408, by omega⟩
    refine ⟨t, hf, ?_⟩
    rw [mem_blk]
    intro a
    match a with
    | ⟨0, _⟩ => rw [ht]; show (i 0).val / 1024 * 1024 ≤ (i 0).val ∧ (i 0).val < (i 0).val / 1024 * 1024 + 1024; omega
    | ⟨1, _⟩ => rw [ht]; show (i 1).val / 1408 * 1408 ≤ (i 1).val ∧ (i 1).val < (i 1).val / 1408 * 1408 + 1408; omega

/-- The reference declares no semaphore. -/
theorem frame_reference : Cert.quiescent_Reference7Ideal := fun m ρ _ =>
  (θ_run _ _ _).mono (fun r h => ⟨fun c => (h c).2, sem_eq_zero_of_no_sems (by decide) r.2⟩) (Cert.Reference7Ideal.Value.run (F := Ideal) m ρ)

/-- The kernel and the reference end with equal results. -/
theorem algebraic : Cert.algebraic_Kernel7Ideal_Reference7Ideal := fun m ρ m' ρ' _ hargs => by
  refine ⟨fun c => G m c, (θ_run _ _ _).mono (fun r h c => ⟨(h c).1.trans (final m c), (h c).2⟩) (Value.run_blocks m ρ),
    (θ_run _ _ _).mono (fun r h c => ⟨(h c).1.trans ?_, (h c).2⟩) (Cert.Reference7Ideal.Value.run (F := Ideal) m' ρ')⟩
  obtain ⟨e0, e1, e2⟩ := hargs c
  rw [e1, e2]; rfl

end Cert.Kernel7Ideal.Product

end
-- ==== Proof.Product8.lean ====
/- The gradient of the output projection's input: the kernel's blocks are the blocks of the reference's product. -/
module

public import proofs.«01_k».proof.Defs
public import proofs.«01_k».proof.Proof.Gen.Kernel8Ideal.Value
public import proofs.«01_k».proof.Proof.Gen.Reference8Ideal.Run
public import proofs.«01_k».proof.Proof.Gen.Reference8Ideal.Read
public import Idealize.ShloMosaic.Lib.Pipeline.Value
public import Idealize.ShloMosaic.Lib.Pipeline.ValueKit
public import Idealize.ShloMosaic.Lib.Pointwise
public import Idealize.ShloMosaic.Lib.StableHlo.Run
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat Cfg Window)

namespace Cert.Kernel8Ideal.Product

open Cert.Kernel8Ideal Cert.Kernel8Ideal.Gen
open Cert.Reference8Ideal.Read (val_main_v5 val_main_v5_apply val_main_v4_apply)

theorem zeros : (![0, 0] : Fin 2 → Nat) = fun _ => 0 := funext fun a => by fin_cases a <;> rfl

/-- What the body leaves in its block of the result: the product of the two blocks it reads. -/
theorem out_eq (c : Dev nD) (i : grid0.Coords) (a3 : Memref sig .tc .vmem S1024x1024 .f32) (h3 : a3.IsWhole)
    (a4 : Memref sig .tc .vmem S1024x1024 .bf16) (h4 : a4.IsWhole) (a5 : Memref sig .tc .vmem S1024x1024 .bf16) (h5 : a5.IsWhole)
    (a6 : Memref sig .tc .vmem S8x128 .f32) (h6 : a6.IsWhole) (x : Vec Ideal S1024x1024 .f32) (y : Vec Ideal S1024x1024 .bf16) :
    out0_A_2 c i a3 h3 a4 h4 a5 h5 a6 h6 x y = k0_pay1 x y := by
  unfold out0_A_2
  rw [View.read_writes_eq_canon _ _ _ (cover0_A_2 c i a3 h3 a4 h4 a5 h5 a6 h6 x y)]
  unfold kernelRun0_A
  dsimp only
  sl_unfold_words
  rw [View.canon_unit_zero (S := S1024x1024) zeros]
  simp only [View.readAt_eq_ld, h3.read_unread, h4.read_unread, View.ld_unit_zero (S := S1024x1024) zeros]

/-- The body's product, the changes of format and shape that change nothing left out. -/
theorem pay_eq (x : Vec Ideal S1024x1024 .f32) (y : Vec Ideal S1024x1024 .bf16) :
    k0_pay1 x y = truncf .bf16 (matmul (φ₁ := .bf16) (φ₂ := .bf16) dot_S1024x1024_S1024x1024_S1024x1024_1_1_0_0_n_n none (truncf .bf16 (x : FVec Ideal S1024x1024 .f32) bitsLt_bf16_f32) (y : FVec Ideal S1024x1024 .bf16) (constant S1024x1024 .f32 0x00000000#32)) bitsLt_bf16_f32 := by
  unfold k0_pay1
  dsimp only
  simp only [shapeCast_self]

/-- An entry of the product of two blocks. -/
theorem pay_apply (x : Vec Ideal S1024x1024 .f32) (y : Vec Ideal S1024x1024 .bf16) (j : S1024x1024.Idx) :
    k0_pay1 x y j = (∑ k : Fin 1024, x (ix2 (j 0) k) * y (ix2 (j 1) k) : EReal) := by
  rw [pay_eq]
  pointwise

/-! The places of the blocks. -/
theorem index_0 : ∀ t : Fin grid0.N, win0_0.index t = ![t.val / 1, 0] := by decide +kernel
theorem index_1 : ∀ t : Fin grid0.N, win0_1.index t = ![t.val % 1, 0] := by decide +kernel
theorem index_2 : ∀ t : Fin grid0.N, win0_2.index t = ![t.val / 1, t.val % 1] := by decide +kernel

variable (m : (ℓ : Loc nD τ sig) → Buf (Elt Ideal) ℓ) (ρ : Dev nD → PrngReg) (c : Dev nD)

/-- The reference's result at the kernel's arguments. -/
abbrev G : Buf (Elt Ideal) ((c : Thread nD τ).loc main_v1) :=
  val_main_v5 (F := Ideal) (m ((c : Thread nD τ).loc main_arg1)) (m ((c : Thread nD τ).loc main_arg2))

/-- The operand rounded on the host is, over the extended reals, the argument itself. -/
theorem V_cast (i : S1024x1024.Idx) : V m c main_v0 i = m ((c : Thread nD τ).loc main_arg1) i := by
  have e : V m c main_v0 = (truncf .bf16 (m ((c : Thread nD τ).loc main_arg1) : FVec Ideal S1024x1024 .f32) bitsLt_bf16_f32 : FVec Ideal S1024x1024 .bf16) := by
    unfold V; after_results
  rw [e]; rfl

/-- Every block written back is the reference's. -/
theorem flushed_eq (t : Fin cfg0.N) : (dats m 0 c).flushed 2 t = ((cfg0.win 2).blk t).view.read (Elt Ideal) (G m c) := by
  rw [Value.flushed2_A, out_eq]
  funext y
  refine (pay_apply (iblk m c 0 t) (iblk m c 1 t) _).trans ?_
  refine Eq.symm ((val_main_v5_apply _ _ _).trans ((val_main_v4_apply _ _ _).trans ?_))
  refine Finset.sum_congr rfl fun k _ => ?_
  have e0 : (((cfg0.win 2).blk t).view.emb y 0).val = t.val / 1 * 1024 + (y 0).val :=
    (Window.rect_emb_val (cfg0.win 2) t y 0).trans (by rw [show (cfg0.win 2).index t = ![t.val / 1, t.val % 1] from index_2 t]; rfl)
  have e1 : (((cfg0.win 2).blk t).view.emb y 1).val = t.val % 1 * 1024 + (y 1).val :=
    (Window.rect_emb_val (cfg0.win 2) t y 1).trans (by rw [show (cfg0.win 2).index t = ![t.val / 1, t.val % 1] from index_2 t]; rfl)
  refine congrArg₂ (· * ·) ?_ ?_
  · refine Eq.symm ((congrFun (V_main_arg2 m c) _).trans (congrArg _ (funext fun a => Fin.ext ?_)))
    match a with
    | ⟨0, _⟩ => refine (Window.rect_emb_val (cfg0.win 0) t _ 0).trans ?_
                rw [show (cfg0.win 0).index t = ![t.val / 1, 0] from index_0 t]; exact e0.symm
    | ⟨1, _⟩ => refine (Window.rect_emb_val (cfg0.win 0) t _ 1).trans ?_
                rw [show (cfg0.win 0).index t = ![t.val / 1, 0] from index_0 t]; show 0 * 1024 + k.val = k.val; omega
  · refine Eq.symm ((V_cast m c _).trans (congrArg _ (funext fun a => Fin.ext ?_)))
    match a with
    | ⟨0, _⟩ => refine (Window.rect_emb_val (cfg0.win 1) t _ 0).trans ?_
                rw [show (cfg0.win 1).index t = ![t.val % 1, 0] from index_1 t]; exact e1.symm
    | ⟨1, _⟩ => refine (Window.rect_emb_val (cfg0.win 1) t _ 1).trans ?_
                rw [show (cfg0.win 1).index t = ![t.val % 1, 0] from index_1 t]; show 0 * 1024 + k.val = k.val; omega

theorem mem_blk (t : Fin cfg0.N) (i : S2048x1024.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v1).slice (win0_2.rect t)).set ↔ _
  rw [View.set_slice_whole, Rect.mem_set_unit]
  exact Iff.rfl

/-- Every block of the result is written. -/
theorem onto : ∀ (p : Fin 2) (q : Fin 1), ∃ t : Fin cfg0.N, (cfg0.win 2).flush t = true ∧ win0_2.index t = ![p.val, q.val] :=
  (by decide +kernel : ∀ (p : Fin 2) (q : Fin 1), ∃ t : Fin grid0.N, win0_2.flush t = true ∧ win0_2.index t = ![p.val, q.val])

/-- The whole result. -/
theorem final : (dats m 0 c).arrAt 2 cfg0.N = G m c :=
  (dats m 0 c).arrAt_eq_of_cover 2 (G m c) (fun t _ => flushed_eq m c t) fun i => by
    have h0 : (i 0).val < 2048 := (i 0).isLt
    have h1 : (i 1).val < 1024 := (i 1).isLt
    obtain ⟨t, hf, ht⟩ := onto ⟨(i 0).val / 1024, by omega⟩ ⟨(i 1).val / 1024, by omega⟩
    refine ⟨t, hf, ?_⟩
    rw [mem_blk]
    intro a
    match a with
    | ⟨0, _⟩ => rw [ht]; show (i 0).val / 1024 * 1024 ≤ (i 0).val ∧ (i 0).val < (i 0).val / 1024 * 1024 + 1024; omega
    | ⟨1, _⟩ => rw [ht]; show (i 1).val / 1024 * 1024 ≤ (i 1).val ∧ (i 1).val < (i 1).val / 1024 * 1024 + 1024; omega

/-- The reference declares no semaphore. -/
theorem frame_reference : Cert.quiescent_Reference8Ideal := fun m ρ _ =>
  (θ_run _ _ _).mono (fun r h => ⟨fun c => (h c).2, sem_eq_zero_of_no_sems (by decide) r.2⟩) (Cert.Reference8Ideal.Value.run (F := Ideal) m ρ)

/-- The kernel and the reference end with equal results. -/
theorem algebraic : Cert.algebraic_Kernel8Ideal_Reference8Ideal := fun m ρ m' ρ' _ hargs => by
  refine ⟨fun c => G m c, (θ_run _ _ _).mono (fun r h c => ⟨(h c).1.trans (final m c), (h c).2⟩) (Value.run_blocks m ρ),
    (θ_run _ _ _).mono (fun r h c => ⟨(h c).1.trans ?_, (h c).2⟩) (Cert.Reference8Ideal.Value.run (F := Ideal) m' ρ')⟩
  obtain ⟨e0, e1, e2⟩ := hargs c
  rw [e1, e2]; rfl

end Cert.Kernel8Ideal.Product

end
-- ==== Proof.Product9.lean ====
/- The gradient of a branch's projection's input: the kernel's blocks are the blocks of the reference's product. -/
module

public import proofs.«01_k».proof.Defs
public import proofs.«01_k».proof.Proof.Gen.Kernel9Ideal.Value
public import proofs.«01_k».proof.Proof.Gen.Reference9Ideal.Run
public import proofs.«01_k».proof.Proof.Gen.Reference9Ideal.Read
public import Idealize.ShloMosaic.Lib.Pipeline.Value
public import Idealize.ShloMosaic.Lib.Pipeline.ValueKit
public import Idealize.ShloMosaic.Lib.Pointwise
public import Idealize.ShloMosaic.Lib.StableHlo.Run
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat Cfg Window)

namespace Cert.Kernel9Ideal.Product

open Cert.Kernel9Ideal Cert.Kernel9Ideal.Gen
open Cert.Reference9Ideal.Read (val_main_v6 val_main_v6_apply val_main_v5_apply)

theorem zeros : (![0, 0] : Fin 2 → Nat) = fun _ => 0 := funext fun a => by fin_cases a <;> rfl

/-- What the body leaves in its block of the result: the product of the two blocks it reads. -/
theorem out_eq (c : Dev nD) (i : grid0.Coords) (a3 : Memref sig .tc .vmem S1024x1024 .bf16) (h3 : a3.IsWhole)
    (a4 : Memref sig .tc .vmem S512x1024 .bf16) (h4 : a4.IsWhole) (a5 : Memref sig .tc .vmem S1024x512 .bf16) (h5 : a5.IsWhole)
    (a6 : Memref sig .tc .vmem S8x128 .f32) (h6 : a6.IsWhole) (x : Vec Ideal S1024x1024 .bf16) (y : Vec Ideal S512x1024 .bf16) :
    out0_A_2 c i a3 h3 a4 h4 a5 h5 a6 h6 x y = k0_pay1 x y := by
  unfold out0_A_2
  rw [View.read_writes_eq_canon _ _ _ (cover0_A_2 c i a3 h3 a4 h4 a5 h5 a6 h6 x y)]
  unfold kernelRun0_A
  dsimp only
  sl_unfold_words
  rw [View.canon_unit_zero (S := S1024x512) zeros]
  simp only [View.readAt_eq_ld, h3.read_unread, h4.read_unread, View.ld_unit_zero (S := S1024x1024) zeros, View.ld_unit_zero (S := S512x1024) zeros]

/-- The body's product, the changes of format and shape that change nothing left out. -/
theorem pay_eq (x : Vec Ideal S1024x1024 .bf16) (y : Vec Ideal S512x1024 .bf16) :
    k0_pay1 x y = truncf .bf16 (matmul (φ₁ := .bf16) (φ₂ := .bf16) dot_S1024x1024_S512x1024_S1024x512_1_1_0_0_n_n none (x : FVec Ideal S1024x1024 .bf16) (y : FVec Ideal S512x1024 .bf16) (constant S1024x512 .f32 0x00000000#32)) bitsLt_bf16_f32 := by
  unfold k0_pay1
  dsimp only
  simp only [shapeCast_self]

/-- An entry of the product of two blocks. -/
theorem pay_apply (x : Vec Ideal S1024x1024 .bf16) (y : Vec Ideal S512x1024 .bf16) (j : S1024x512.Idx) :
    k0_pay1 x y j = (∑ k : Fin 1024, x (ix2 (j 0) k) * y (ix2 (j 1) k) : EReal) := by
  rw [pay_eq]
  pointwise

/-! The places of the blocks. -/
theorem index_0 : ∀ t : Fin grid0.N, win0_0.index t = ![t.val / 1, 0] := by decide +kernel
theorem index_1 : ∀ t : Fin grid0.N, win0_1.index t = ![t.val % 1, 0] := by decide +kernel
theorem index_2 : ∀ t : Fin grid0.N, win0_2.index t = ![t.val / 1, t.val % 1] := by decide +kernel

variable (m : (ℓ : Loc nD τ sig) → Buf (Elt Ideal) ℓ) (ρ : Dev nD → PrngReg) (c : Dev nD)

/-- The reference's result at the kernel's arguments. -/
abbrev G : Buf (Elt Ideal) ((c : Thread nD τ).loc main_v1) :=
  val_main_v6 (F := Ideal) (m ((c : Thread nD τ).loc main_arg1)) (m ((c : Thread nD τ).loc main_arg2))

/-- The operand rounded on the host is, over the extended reals, the argument itself. -/
theorem V_cast (i : S512x1024.Idx) : V m c main_v0 i = m ((c : Thread nD τ).loc main_arg1) i := by
  have e : V m c main_v0 = (truncf .bf16 (m ((c : Thread nD τ).loc main_arg1) : FVec Ideal S512x1024 .f32) bitsLt_bf16_f32 : FVec Ideal S512x1024 .bf16) := by
    unfold V; after_results
  rw [e]; rfl

/-- Every block written back is the reference's. -/
theorem flushed_eq (t : Fin cfg0.N) : (dats m 0 c).flushed 2 t = ((cfg0.win 2).blk t).view.read (Elt Ideal) (G m c) := by
  rw [Value.flushed2_A, out_eq]
  funext y
  refine (pay_apply (iblk m c 0 t) (iblk m c 1 t) _).trans ?_
  refine Eq.symm ((val_main_v6_apply _ _ _).trans ((val_main_v5_apply _ _ _).trans ?_))
  refine Finset.sum_congr rfl fun k _ => ?_
  have e0 : (((cfg0.win 2).blk t).view.emb y 0).val = t.val / 1 * 1024 + (y 0).val :=
    (Window.rect_emb_val (cfg0.win 2) t y 0).trans (by rw [show (cfg0.win 2).index t = ![t.val / 1, t.val % 1] from index_2 t]; rfl)
  have e1 : (((cfg0.win 2).blk t).view.emb y 1).val = t.val % 1 * 512 + (y 1).val :=
    (Window.rect_emb_val (cfg0.win 2) t y 1).trans (by rw [show (cfg0.win 2).index t = ![t.val / 1, t.val % 1] from index_2 t]; rfl)
  refine congrArg₂ (· * ·) ?_ ?_
  · refine Eq.symm ((congrFun (V_main_arg2 m c) _).trans (congrArg _ (funext fun a => Fin.ext ?_)))
    match a with
    | ⟨0, _⟩ => refine (Window.rect_emb_val (cfg0.win 0) t _ 0).trans ?_
                rw [show (cfg0.win 0).index t = ![t.val / 1, 0] from index_0 t]; exact e0.symm
    | ⟨1, _⟩ => refine (Window.rect_emb_val (cfg0.win 0) t _ 1).trans ?_
                rw [show (cfg0.win 0).index t = ![t.val / 1, 0] from index_0 t]; show 0 * 1024 + k.val = k.val; omega
  · refine Eq.symm ((V_cast m c _).trans (congrArg _ (funext fun a => Fin.ext ?_)))
    match a with
    | ⟨0, _⟩ => refine (Window.rect_emb_val (cfg0.win 1) t _ 0).trans ?_
                rw [show (cfg0.win 1).index t = ![t.val % 1, 0] from index_1 t]; exact e1.symm
    | ⟨1, _⟩ => refine (Window.rect_emb_val (cfg0.win 1) t _ 1).trans ?_
                rw [show (cfg0.win 1).index t = ![t.val % 1, 0] from index_1 t]; show 0 * 1024 + k.val = k.val; omega

theorem mem_blk (t : Fin cfg0.N) (i : S2048x512.Idx) :
    i ∈ ((cfg0.win 2).blk t).view.set ↔ ∀ a : Fin 2, win0_2.index t a * S1024x512.size a ≤ (i a).val ∧ (i a).val < win0_2.index t a * S1024x512.size a + S1024x512.size a := by
  show i ∈ ((View.whole main_v1).slice (win0_2.rect t)).set ↔ _
  rw [View.set_slice_whole, Rect.mem_set_unit]
  exact Iff.rfl

/-- Every block of the result is written. -/
theorem onto : ∀ (p : Fin 2) (q : Fin 1), ∃ t : Fin cfg0.N, (cfg0.win 2).flush t = true ∧ win0_2.index t = ![p.val, q.val] :=
  (by decide +kernel : ∀ (p : Fin 2) (q : Fin 1), ∃ t : Fin grid0.N, win0_2.flush t = true ∧ win0_2.index t = ![p.val, q.val])

/-- The whole result. -/
theorem final : (dats m 0 c).arrAt 2 cfg0.N = G m c :=
  (dats m 0 c).arrAt_eq_of_cover 2 (G m c) (fun t _ => flushed_eq m c t) fun i => by
    have h0 : (i 0).val < 2048 := (i 0).isLt
    have h1 : (i 1).val < 512 := (i 1).isLt
    obtain ⟨t, hf, ht⟩ := onto ⟨(i 0).val / 1024, by omega⟩ ⟨(i 1).val / 512, by omega⟩
    refine ⟨t, hf, ?_⟩
    rw [mem_blk]
    intro a
    match a with
    | ⟨0, _⟩ => rw [ht]; show (i 0).val / 1024 * 1024 ≤ (i 0).val ∧ (i 0).val < (i 0).val / 1024 * 1024 + 1024; omega
    | ⟨1, _⟩ => rw [ht]; show (i 1).val / 512 * 512 ≤ (i 1).val ∧ (i 1).val < (i 1).val / 512 * 512 + 512; omega

/-- The reference declares no semaphore. -/
theorem frame_reference : Cert.quiescent_Reference9Ideal := fun m ρ _ =>
  (θ_run _ _ _).mono (fun r h => ⟨fun c => (h c).2, sem_eq_zero_of_no_sems (by decide) r.2⟩) (Cert.Reference9Ideal.Value.run (F := Ideal) m ρ)

/-- The kernel and the reference end with equal results. -/
theorem algebraic : Cert.algebraic_Kernel9Ideal_Reference9Ideal := fun m ρ m' ρ' _ hargs => by
  refine ⟨fun c => G m c, (θ_run _ _ _).mono (fun r h c => ⟨(h c).1.trans (final m c), (h c).2⟩) (Value.run_blocks m ρ),
    (θ_run _ _ _).mono (fun r h c => ⟨(h c).1.trans ?_, (h c).2⟩) (Cert.Reference9Ideal.Value.run (F := Ideal) m' ρ')⟩
  obtain ⟨e0, e1, e2⟩ := hargs c
  rw [e1, e2]; rfl

end Cert.Kernel9Ideal.Product

end
-- ==== Proof.Product10.lean ====
/- The gradient of the gated MLP's up projection's input: the kernel adds up the 4 pieces of each entry's sum one after another, and the
   whole is the reference's product. -/
module

public import proofs.«01_k».proof.Defs
public import proofs.«01_k».proof.Proof.Gen.Kernel10Ideal.Value
public import proofs.«01_k».proof.Proof.Gen.Reference10Ideal.Run
public import proofs.«01_k».proof.Proof.Gen.Reference10Ideal.Read
public import Idealize.ShloMosaic.Lib.Pipeline.Value
public import Idealize.ShloMosaic.Lib.Pipeline.ValueKit
public import Idealize.ShloMosaic.Lib.Pointwise
public import Idealize.ShloMosaic.Lib.StableHlo.Run
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat Cfg Window)

namespace Cert.Kernel10Ideal.Product

open Cert.Kernel10Ideal Cert.Kernel10Ideal.Gen

theorem zeros : (![0, 0] : Fin 2 → Nat) = fun _ => 0 := funext fun a => by fin_cases a <;> rfl

/-- A sum over 4 pieces of 1408 indices each. -/
theorem sum_pieces (f : Fin 5632 → EReal) : ∑ s, f s = ∑ p : Fin 4, ∑ k : Fin 1408, f ⟨p.val * 1408 + k.val, by omega⟩ := by
  rw [← Fintype.sum_prod_type', ← Equiv.sum_comp (finProdFinEquiv : Fin 4 × Fin 1408 ≃ Fin 5632)]
  refine Finset.sum_congr rfl fun q _ => congrArg f (Fin.ext ?_)
  show q.2.val + 1408 * q.1.val = q.1.val * 1408 + q.2.val
  omega

/-! ## What the body leaves -/

/-- The first point of a row of blocks starts the sum. -/
theorem sout_A (c : Dev nD) (i : grid0.Coords) (a3 : Memref sig .tc .vmem S1024x1408 .bf16) (h3 : a3.IsWhole) (a4 : Memref sig .tc .vmem S1024x1408 .bf16) (h4 : a4.IsWhole) (a5 : Memref sig .tc .vmem S1024x1024 .f32) (h5 : a5.IsWhole) (a6 : Memref sig .tc .vmem S1024x1024 .f32) (h6 : a6.IsWhole)
    (hc0 : cond0_0 i) (hc1 : ¬cond0_1 i) (hc2 : ¬cond0_2 i) (x y : Vec Ideal S1024x1408 .bf16) :
    sout0_A_0 c i a3 h3 a4 h4 a5 h5 a6 h6 hc0 hc1 hc2 x y = k0_pay1 x y := by
  unfold sout0_A_0
  rw [View.read_writes_eq_canon _ _ _ (scover0_A_0 c i a3 h3 a4 h4 a5 h5 a6 h6 hc0 hc1 hc2 x y)]
  unfold kernelRun0_A
  dsimp only
  sl_unfold_words
  rw [View.canon_unit_zero (S := S1024x1024) zeros]
  unfold k0_pay2
  simp only [View.readAt_eq_ld, h3.read_unread, h4.read_unread, h6.read_unread, View.ld_unit_zero (S := S1024x1408) zeros, View.ld_unit_zero (S := S1024x1024) zeros, shapeCast_self]

/-- The points between add to it. -/
theorem sout_B (c : Dev nD) (i : grid0.Coords) (a3 : Memref sig .tc .vmem S1024x1408 .bf16) (h3 : a3.IsWhole) (a4 : Memref sig .tc .vmem S1024x1408 .bf16) (h4 : a4.IsWhole) (a5 : Memref sig .tc .vmem S1024x1024 .f32) (h5 : a5.IsWhole) (a6 : Memref sig .tc .vmem S1024x1024 .f32) (h6 : a6.IsWhole)
    (hc0 : ¬cond0_0 i) (hc1 : cond0_1 i) (hc2 : ¬cond0_2 i) (x y : Vec Ideal S1024x1408 .bf16) (xs : Vec Ideal S1024x1024 .f32) :
    sout0_B_0 c i a3 h3 a4 h4 a5 h5 a6 h6 hc0 hc1 hc2 x y xs = addf xs (k0_pay1 x y) := by
  unfold sout0_B_0
  rw [View.read_writes_eq_canon _ _ _ (scover0_B_0 c i a3 h3 a4 h4 a5 h5 a6 h6 hc0 hc1 hc2 x y xs)]
  unfold kernelRun0_B
  dsimp only
  sl_unfold_words
  rw [View.canon_unit_zero (S := S1024x1024) zeros]
  unfold k0_pay3
  simp only [View.readAt_eq_ld, h3.read_unread, h4.read_unread, h6.read_unread, View.ld_unit_zero (S := S1024x1408) zeros, View.ld_unit_zero (S := S1024x1024) zeros, shapeCast_self]

/-- The last point adds its own piece and stores the sum as the result's block. -/
theorem out_C (c : Dev nD) (i : grid0.Coords) (a3 : Memref sig .tc .vmem S1024x1408 .bf16) (h3 : a3.IsWhole) (a4 : Memref sig .tc .vmem S1024x1408 .bf16) (h4 : a4.IsWhole) (a5 : Memref sig .tc .vmem S1024x1024 .f32) (h5 : a5.IsWhole) (a6 : Memref sig .tc .vmem S1024x1024 .f32) (h6 : a6.IsWhole)
    (hc0 : ¬cond0_0 i) (hc1 : cond0_1 i) (hc2 : cond0_2 i) (x y : Vec Ideal S1024x1408 .bf16) (xs : Vec Ideal S1024x1024 .f32) :
    out0_C_2 c i a3 h3 a4 h4 a5 h5 a6 h6 hc0 hc1 hc2 x y xs = addf xs (k0_pay1 x y) := by
  unfold out0_C_2
  rw [View.read_writes_eq_canon _ _ _ (cover0_C_2 c i a3 h3 a4 h4 a5 h5 a6 h6 hc0 hc1 hc2 x y xs)]
  unfold kernelRun0_C
  dsimp only
  sl_unfold_words
  rw [View.canon_unit_zero (S := S1024x1024) zeros]

  rw [View.readCov_unit_zero (S := S1024x1024) _ zeros]
  unfold k0_pay3
  simp only [View.readAt_eq_ld, h3.read_unread, h4.read_unread, h6.read_unread, View.ld_unit_zero (S := S1024x1408) zeros, View.ld_unit_zero (S := S1024x1024) zeros, shapeCast_self]

theorem pay_eq (x y : Vec Ideal S1024x1408 .bf16) :
    k0_pay1 x y = matmul (φ₁ := .bf16) (φ₂ := .bf16) dot_S1024x1408_S1024x1408_S1024x1024_1_1_0_0_n_n none (x : FVec Ideal S1024x1408 .bf16) (y : FVec Ideal S1024x1408 .bf16) (constant S1024x1024 .f32 0x00000000#32) := by
  unfold k0_pay1
  dsimp only
  simp only [shapeCast_self]

/-- An entry of the product of two blocks. -/
theorem pay_apply (x y : Vec Ideal S1024x1408 .bf16) (j : S1024x1024.Idx) :
    k0_pay1 x y j = (∑ k : Fin 1408, x (ix2 (j 0) k) * y (ix2 (j 1) k) : EReal) := by
  rw [pay_eq]
  pointwise

/-! The places of the blocks. -/
theorem index_0 : ∀ t : Fin grid0.N, win0_0.index t = ![t.val / 4, t.val % 4] := by decide +kernel
theorem index_1 : ∀ t : Fin grid0.N, win0_1.index t = ![0, t.val % 4] := by decide +kernel
theorem index_2 : ∀ t : Fin grid0.N, win0_2.index t = ![t.val / 4, 0] := by decide +kernel

variable (m : (ℓ : Loc nD τ sig) → Buf (Elt Ideal) ℓ) (ρ : Dev nD → PrngReg) (c : Dev nD)

/-- The reference's result at the kernel's arguments. -/
abbrev G : Buf (Elt Ideal) ((c : Thread nD τ).loc main_v1) :=
  Cert.Reference10Ideal.Read.val_main_v4 (F := Ideal) (m ((c : Thread nD τ).loc main_arg1)) (m ((c : Thread nD τ).loc main_arg2))

/-- The gradient that comes in, and the weights. -/
abbrev cot : FVec Ideal S2048x5632 .bf16 := m ((c : Thread nD τ).loc main_arg2)
abbrev wts : FVec Ideal S1024x5632 .f32 := m ((c : Thread nD τ).loc main_arg1)

/-- One term of the sum that makes an entry: the gradient's entry times the weight's. -/
abbrev term (i : S2048x1024.Idx) (s : Fin 5632) : EReal := cot m c (ix2 (i 0) s) * wts m c (ix2 (i 1) s)

/-- The reference's sum, in 4 pieces. -/
theorem ref_apply (i : S2048x1024.Idx) :
    Cert.Reference10Ideal.Read.val_main_v4 (F := Ideal) (m ((c : Thread nD τ).loc main_arg1)) (m ((c : Thread nD τ).loc main_arg2)) i
      = (∑ k : Fin 1408, term m c i ⟨(⟨0, by omega⟩ : Fin 4).val * 1408 + k.val, by omega⟩) + (∑ k : Fin 1408, term m c i ⟨(⟨1, by omega⟩ : Fin 4).val * 1408 + k.val, by omega⟩) + (∑ k : Fin 1408, term m c i ⟨(⟨2, by omega⟩ : Fin 4).val * 1408 + k.val, by omega⟩) + (∑ k : Fin 1408, term m c i ⟨(⟨3, by omega⟩ : Fin 4).val * 1408 + k.val, by omega⟩) := by
  rw [Cert.Reference10Ideal.Read.val_main_v4_apply]
  refine Eq.trans (Finset.sum_congr rfl fun s _ => ?_) ((sum_pieces (term m c i)).trans (Fin.sum_univ_four _))
  refine congrArg₂ (· * ·) (congrArg (cot m c) (funext fun a => ?_)) (congrArg (wts m c) (funext fun a => ?_))
  · match a with
    | ⟨0, _⟩ => rfl
    | ⟨1, _⟩ => rfl
  · match a with
    | ⟨0, _⟩ => rfl
    | ⟨1, _⟩ => rfl

/-- The operand rounded on the host is, over the extended reals, the argument itself. -/
theorem V_cast (i : S1024x5632.Idx) : V m c main_v0 i = m ((c : Thread nD τ).loc main_arg1) i := by
  have e : V m c main_v0 = (truncf .bf16 (m ((c : Thread nD τ).loc main_arg1) : FVec Ideal S1024x5632 .f32) bitsLt_bf16_f32 : FVec Ideal S1024x5632 .bf16) := by
    unfold V; after_results
  rw [e]; rfl

/-- The piece a point adds: piece `p` of the entry's sum. -/
theorem part (n : ℕ) (h : n < cfg0.N) (p : Fin 4) (q : ℕ) (hp : n % 4 = p.val) (hq : n / 4 = q) (y : S1024x1024.Idx)
    (i : S2048x1024.Idx) (e0 : (i 0).val = q * 1024 + (y 0).val) (e1 : (i 1).val = (y 1).val) :
    k0_pay1 (iblk m c 0 ⟨n, h⟩ : Vec Ideal S1024x1408 .bf16) (iblk m c 1 ⟨n, h⟩ : Vec Ideal S1024x1408 .bf16) y = (∑ k : Fin 1408, term m c i ⟨p.val * 1408 + k.val, by omega⟩ : EReal) := by
  refine (pay_apply _ _ y).trans (Finset.sum_congr rfl fun k _ => congrArg₂ (· * ·) ?_ ?_)
  · refine (congrFun (V_main_arg2 m c) _).trans (congrArg _ (funext fun a => Fin.ext ?_))
    match a with
    | ⟨0, _⟩ => refine (Window.rect_emb_val (cfg0.win 0) ⟨n, h⟩ _ 0).trans ?_
                rw [show (cfg0.win 0).index ⟨n, h⟩ = ![n / 4, n % 4] from index_0 ⟨n, h⟩, hq]; exact e0.symm
    | ⟨1, _⟩ => refine (Window.rect_emb_val (cfg0.win 0) ⟨n, h⟩ _ 1).trans ?_
                rw [show (cfg0.win 0).index ⟨n, h⟩ = ![n / 4, n % 4] from index_0 ⟨n, h⟩, hp]; rfl
  · refine (V_cast m c _).trans (congrArg _ (funext fun a => Fin.ext ?_))
    match a with
    | ⟨0, _⟩ => refine (Window.rect_emb_val (cfg0.win 1) ⟨n, h⟩ _ 0).trans ?_
                rw [show (cfg0.win 1).index ⟨n, h⟩ = ![0, n % 4] from index_1 ⟨n, h⟩]; refine Eq.trans ?_ e1.symm; show 0 * 1024 + (y 1).val = (y 1).val; omega
    | ⟨1, _⟩ => refine (Window.rect_emb_val (cfg0.win 1) ⟨n, h⟩ _ 1).trans ?_
                rw [show (cfg0.win 1).index ⟨n, h⟩ = ![0, n % 4] from index_1 ⟨n, h⟩, hp]; rfl

/-! ## The sum a point holds -/

theorem acc_A (n : ℕ) (h : n < cfg0.N) (h0 : n % 4 = 0) (y : S1024x1024.Idx) :
    (outsAt0 m c n h).2 y = k0_pay1 (iblk m c 0 ⟨n, h⟩ : Vec Ideal S1024x1408 .bf16) (iblk m c 1 ⟨n, h⟩ : Vec Ideal S1024x1408 .bf16) y := by
  have e := congrArg Prod.snd (outsAt0_A m c ⟨n, h⟩ h0 (by dsimp only; omega) (by dsimp only; omega))
  dsimp only at e
  rw [sout_A] at e
  exact congrFun e y

theorem acc_B (n : ℕ) (h : n < cfg0.N) (h0 : n % 4 ≠ 0) (h1 : n % 4 ≠ 3) (y : S1024x1024.Idx) :
    (outsAt0 m c n h).2 y = ((outsAt0 m c (n - 1) (Nat.lt_of_le_of_lt (Nat.sub_le _ _) h)).2 y + k0_pay1 (iblk m c 0 ⟨n, h⟩ : Vec Ideal S1024x1408 .bf16) (iblk m c 1 ⟨n, h⟩ : Vec Ideal S1024x1408 .bf16) y : EReal) := by
  have e := congrArg Prod.snd (outsAt0_B m c ⟨n, h⟩ h0 (by dsimp only; omega) h1)
  dsimp only at e
  rw [sout_B] at e
  exact congrFun e y

theorem outs_C (n : ℕ) (h : n < cfg0.N) (h0 : n % 4 = 3) (y : S1024x1024.Idx) :
    (outsAt0 m c n h).1 y = ((outsAt0 m c (n - 1) (Nat.lt_of_le_of_lt (Nat.sub_le _ _) h)).2 y + k0_pay1 (iblk m c 0 ⟨n, h⟩ : Vec Ideal S1024x1408 .bf16) (iblk m c 1 ⟨n, h⟩ : Vec Ideal S1024x1408 .bf16) y : EReal) := by
  have e := congrArg Prod.fst (outsAt0_C m c ⟨n, h⟩ (by dsimp only; omega) (by dsimp only; omega) h0)
  dsimp only at e
  rw [out_C] at e
  exact congrFun e y

/-- Every block written back is the reference's. -/
theorem flushed_eq (t : Fin cfg0.N) (hf : (cfg0.win 2).flush t = true) :
    (dats m 0 c).flushed 2 t = ((cfg0.win 2).blk t).view.read (Elt Ideal) (G m c) := by
  have hm : t.val % 4 = 3 := (flush0_2 t).mp hf
  rw [Value.flushed2]
  funext y
  show (outsAt0 m c t.val t.isLt).1 y = G m c (((cfg0.win 2).blk t).view.emb y)
  have e0 : (((cfg0.win 2).blk t).view.emb y 0).val = t.val / 4 * 1024 + (y 0).val :=
    (Window.rect_emb_val (cfg0.win 2) t y 0).trans (by rw [show (cfg0.win 2).index t = ![t.val / 4, 0] from index_2 t]; rfl)
  have e1 : (((cfg0.win 2).blk t).view.emb y 1).val = (y 1).val :=
    (Window.rect_emb_val (cfg0.win 2) t y 1).trans (by rw [show (cfg0.win 2).index t = ![t.val / 4, 0] from index_2 t]; show 0 * 1024 + (y 1).val = _; omega)
  generalize ((cfg0.win 2).blk t).view.emb y = i at e0 e1 ⊢
  rw [outs_C m c t.val t.isLt (by omega) y,
    acc_B m c (t.val - 1) _ (by omega) (by omega) y,
    acc_B m c (t.val - 1 - 1) _ (by omega) (by omega) y,
    acc_A m c (t.val - 1 - 1 - 1) _ (by omega) y,
    part m c (t.val) _ ⟨3, by omega⟩ (t.val / 4) (by show _ = 3; omega) (by omega) y i e0 e1,
    part m c (t.val - 1) _ ⟨2, by omega⟩ (t.val / 4) (by show _ = 2; omega) (by omega) y i e0 e1,
    part m c (t.val - 1 - 1) _ ⟨1, by omega⟩ (t.val / 4) (by show _ = 1; omega) (by omega) y i e0 e1,
    part m c (t.val - 1 - 1 - 1) _ ⟨0, by omega⟩ (t.val / 4) (by show _ = 0; omega) (by omega) y i e0 e1]
  exact (ref_apply m c i).symm

theorem mem_blk (t : Fin cfg0.N) (i : S2048x1024.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v1).slice (win0_2.rect t)).set ↔ _
  rw [View.set_slice_whole, Rect.mem_set_unit]
  exact Iff.rfl

/-- Every block of the result is written. -/
theorem onto : ∀ p : Fin 2, ∃ t : Fin cfg0.N, (cfg0.win 2).flush t = true ∧ win0_2.index t = ![p.val, 0] :=
  (by decide +kernel : ∀ p : Fin 2, ∃ t : Fin grid0.N, win0_2.flush t = true ∧ win0_2.index t = ![p.val, 0])

/-- The whole result. -/
theorem final : (dats m 0 c).arrAt 2 cfg0.N = G m c :=
  (dats m 0 c).arrAt_eq_of_cover 2 (G m c) (fun t hf => flushed_eq m c t hf) fun i => by
    have h0 : (i 0).val < 2048 := (i 0).isLt
    have h1 : (i 1).val < 1024 := (i 1).isLt
    obtain ⟨t, hf, ht⟩ := onto ⟨(i 0).val / 1024, by omega⟩
    refine ⟨t, hf, ?_⟩
    rw [mem_blk]
    intro a
    match a with
    | ⟨0, _⟩ => rw [ht]; show (i 0).val / 1024 * 1024 ≤ (i 0).val ∧ (i 0).val < (i 0).val / 1024 * 1024 + 1024; omega
    | ⟨1, _⟩ => rw [ht]; show 0 * 1024 ≤ (i 1).val ∧ (i 1).val < 0 * 1024 + 1024; omega

/-- The reference declares no semaphore. -/
theorem frame_reference : Cert.quiescent_Reference10Ideal := fun m ρ _ =>
  (θ_run _ _ _).mono (fun r h => ⟨fun c => (h c).2, sem_eq_zero_of_no_sems (by decide) r.2⟩) (Cert.Reference10Ideal.Value.run (F := Ideal) m ρ)

/-- The kernel and the reference end with equal results. -/
theorem algebraic : Cert.algebraic_Kernel10Ideal_Reference10Ideal := fun m ρ m' ρ' _ hargs => by
  refine ⟨fun c => G m c, (θ_run _ _ _).mono (fun r h c => ⟨(h c).1.trans (final m c), (h c).2⟩) (Value.run_blocks m ρ),
    (θ_run _ _ _).mono (fun r h c => ⟨(h c).1.trans ?_, (h c).2⟩) (Cert.Reference10Ideal.Value.run (F := Ideal) m' ρ')⟩
  obtain ⟨e0, e1, e2⟩ := hargs c
  rw [e1, e2]; rfl

end Cert.Kernel10Ideal.Product

end
-- ==== Proof.Product11.lean ====
/- The gradient of the input projection's input: the kernel adds up the 5 pieces of each entry's sum one after another, and the
   whole is the reference's product. -/
module

public import proofs.«01_k».proof.Defs
public import proofs.«01_k».proof.Proof.Gen.Kernel11Ideal.Value
public import proofs.«01_k».proof.Proof.Gen.Reference11Ideal.Run
public import proofs.«01_k».proof.Proof.Gen.Reference11Ideal.Read
public import Idealize.ShloMosaic.Lib.Pipeline.Value
public import Idealize.ShloMosaic.Lib.Pipeline.ValueKit
public import Idealize.ShloMosaic.Lib.Pointwise
public import Idealize.ShloMosaic.Lib.StableHlo.Run
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat Cfg Window)

namespace Cert.Kernel11Ideal.Product

open Cert.Kernel11Ideal Cert.Kernel11Ideal.Gen

theorem zeros : (![0, 0] : Fin 2 → Nat) = fun _ => 0 := funext fun a => by fin_cases a <;> rfl

/-- A sum over 5 pieces of 1536 indices each. -/
theorem sum_pieces (f : Fin 7680 → EReal) : ∑ s, f s = ∑ p : Fin 5, ∑ k : Fin 1536, f ⟨p.val * 1536 + k.val, by omega⟩ := by
  rw [← Fintype.sum_prod_type', ← Equiv.sum_comp (finProdFinEquiv : Fin 5 × Fin 1536 ≃ Fin 7680)]
  refine Finset.sum_congr rfl fun q _ => congrArg f (Fin.ext ?_)
  show q.2.val + 1536 * q.1.val = q.1.val * 1536 + q.2.val
  omega

/-! ## What the body leaves -/

/-- The first point of a row of blocks starts the sum. -/
theorem sout_A (c : Dev nD) (i : grid0.Coords) (a3 : Memref sig .tc .vmem S1024x1536 .bf16) (h3 : a3.IsWhole) (a4 : Memref sig .tc .vmem S1024x1536 .bf16) (h4 : a4.IsWhole) (a5 : Memref sig .tc .vmem S1024x1024 .f32) (h5 : a5.IsWhole) (a6 : Memref sig .tc .vmem S1024x1024 .f32) (h6 : a6.IsWhole) (a7 : Memref sig .tc .vmem S1024x1024 .f32) (h7 : a7.IsWhole)
    (hc0 : cond0_0 i) (hc1 : ¬cond0_1 i) (hc2 : ¬cond0_2 i) (x y : Vec Ideal S1024x1536 .bf16) (z : Vec Ideal S1024x1024 .f32) :
    sout0_A_0 c i a3 h3 a4 h4 a5 h5 a6 h6 a7 h7 hc0 hc1 hc2 x y z = k0_pay1 x y := by
  unfold sout0_A_0
  rw [View.read_writes_eq_canon _ _ _ (scover0_A_0 c i a3 h3 a4 h4 a5 h5 a6 h6 a7 h7 hc0 hc1 hc2 x y z)]
  unfold kernelRun0_A
  dsimp only
  sl_unfold_words
  rw [View.canon_unit_zero (S := S1024x1024) zeros]
  unfold k0_pay2
  simp only [View.readAt_eq_ld, h3.read_unread, h4.read_unread, h5.read_unread, h7.read_unread, View.ld_unit_zero (S := S1024x1536) zeros, View.ld_unit_zero (S := S1024x1024) zeros, shapeCast_self]

/-- The points between add to it. -/
theorem sout_B (c : Dev nD) (i : grid0.Coords) (a3 : Memref sig .tc .vmem S1024x1536 .bf16) (h3 : a3.IsWhole) (a4 : Memref sig .tc .vmem S1024x1536 .bf16) (h4 : a4.IsWhole) (a5 : Memref sig .tc .vmem S1024x1024 .f32) (h5 : a5.IsWhole) (a6 : Memref sig .tc .vmem S1024x1024 .f32) (h6 : a6.IsWhole) (a7 : Memref sig .tc .vmem S1024x1024 .f32) (h7 : a7.IsWhole)
    (hc0 : ¬cond0_0 i) (hc1 : cond0_1 i) (hc2 : ¬cond0_2 i) (x y : Vec Ideal S1024x1536 .bf16) (z : Vec Ideal S1024x1024 .f32) (xs : Vec Ideal S1024x1024 .f32) :
    sout0_B_0 c i a3 h3 a4 h4 a5 h5 a6 h6 a7 h7 hc0 hc1 hc2 x y z xs = addf xs (k0_pay1 x y) := by
  unfold sout0_B_0
  rw [View.read_writes_eq_canon _ _ _ (scover0_B_0 c i a3 h3 a4 h4 a5 h5 a6 h6 a7 h7 hc0 hc1 hc2 x y z xs)]
  unfold kernelRun0_B
  dsimp only
  sl_unfold_words
  rw [View.canon_unit_zero (S := S1024x1024) zeros]
  unfold k0_pay3
  simp only [View.readAt_eq_ld, h3.read_unread, h4.read_unread, h5.read_unread, h7.read_unread, View.ld_unit_zero (S := S1024x1536) zeros, View.ld_unit_zero (S := S1024x1024) zeros, shapeCast_self]

/-- The last point adds its own piece and stores the sum, with what was there before, as the result's block. -/
theorem out_C (c : Dev nD) (i : grid0.Coords) (a3 : Memref sig .tc .vmem S1024x1536 .bf16) (h3 : a3.IsWhole) (a4 : Memref sig .tc .vmem S1024x1536 .bf16) (h4 : a4.IsWhole) (a5 : Memref sig .tc .vmem S1024x1024 .f32) (h5 : a5.IsWhole) (a6 : Memref sig .tc .vmem S1024x1024 .f32) (h6 : a6.IsWhole) (a7 : Memref sig .tc .vmem S1024x1024 .f32) (h7 : a7.IsWhole)
    (hc0 : ¬cond0_0 i) (hc1 : cond0_1 i) (hc2 : cond0_2 i) (x y : Vec Ideal S1024x1536 .bf16) (z : Vec Ideal S1024x1024 .f32) (xs : Vec Ideal S1024x1024 .f32) :
    out0_C_3 c i a3 h3 a4 h4 a5 h5 a6 h6 a7 h7 hc0 hc1 hc2 x y z xs = addf (addf xs (k0_pay1 x y)) z := by
  unfold out0_C_3
  rw [View.read_writes_eq_canon _ _ _ (cover0_C_3 c i a3 h3 a4 h4 a5 h5 a6 h6 a7 h7 hc0 hc1 hc2 x y z xs)]
  unfold kernelRun0_C
  dsimp only
  sl_unfold_words
  rw [View.canon_unit_zero (S := S1024x1024) zeros]
  unfold k0_pay4
  rw [View.readCov_unit_zero (S := S1024x1024) _ zeros]
  unfold k0_pay3
  simp only [View.readAt_eq_ld, h3.read_unread, h4.read_unread, h5.read_unread, h7.read_unread, View.ld_unit_zero (S := S1024x1536) zeros, View.ld_unit_zero (S := S1024x1024) zeros, shapeCast_self]

theorem pay_eq (x y : Vec Ideal S1024x1536 .bf16) :
    k0_pay1 x y = matmul (φ₁ := .bf16) (φ₂ := .bf16) dot_S1024x1536_S1024x1536_S1024x1024_1_1_0_0_n_n none (x : FVec Ideal S1024x1536 .bf16) (y : FVec Ideal S1024x1536 .bf16) (constant S1024x1024 .f32 0x00000000#32) := by
  unfold k0_pay1
  dsimp only
  simp only [shapeCast_self]

/-- An entry of the product of two blocks. -/
theorem pay_apply (x y : Vec Ideal S1024x1536 .bf16) (j : S1024x1024.Idx) :
    k0_pay1 x y j = (∑ k : Fin 1536, x (ix2 (j 0) k) * y (ix2 (j 1) k) : EReal) := by
  rw [pay_eq]
  pointwise

/-! The places of the blocks. -/
theorem index_0 : ∀ t : Fin grid0.N, win0_0.index t = ![t.val / 5, t.val % 5] := by decide +kernel
theorem index_1 : ∀ t : Fin grid0.N, win0_1.index t = ![0, t.val % 5] := by decide +kernel
theorem index_2 : ∀ t : Fin grid0.N, win0_2.index t = ![t.val / 5, 0] := by decide +kernel
theorem index_3 : ∀ t : Fin grid0.N, win0_3.index t = ![t.val / 5, 0] := by decide +kernel

variable (m : (ℓ : Loc nD τ sig) → Buf (Elt Ideal) ℓ) (ρ : Dev nD → PrngReg) (c : Dev nD)

/-- The reference's result at the kernel's arguments. -/
abbrev G : Buf (Elt Ideal) ((c : Thread nD τ).loc main_v1) :=
  Cert.Reference11Ideal.Read.val_main_v5 (F := Ideal) (m ((c : Thread nD τ).loc main_arg1)) (m ((c : Thread nD τ).loc main_arg2)) (m ((c : Thread nD τ).loc main_arg3))

/-- The gradient that comes in, and the weights. -/
abbrev cot : FVec Ideal S2048x7680 .bf16 := m ((c : Thread nD τ).loc main_arg2)
abbrev wts : FVec Ideal S1024x7680 .f32 := m ((c : Thread nD τ).loc main_arg1)

/-- One term of the sum that makes an entry: the gradient's entry times the weight's. -/
abbrev term (i : S2048x1024.Idx) (s : Fin 7680) : EReal := cot m c (ix2 (i 0) s) * wts m c (ix2 (i 1) s)

/-- The reference's sum, in 5 pieces. -/
theorem ref_apply (i : S2048x1024.Idx) :
    Cert.Reference11Ideal.Read.val_main_v4 (F := Ideal) (m ((c : Thread nD τ).loc main_arg1)) (m ((c : Thread nD τ).loc main_arg2)) i
      = (∑ k : Fin 1536, term m c i ⟨(⟨0, by omega⟩ : Fin 5).val * 1536 + k.val, by omega⟩) + (∑ k : Fin 1536, term m c i ⟨(⟨1, by omega⟩ : Fin 5).val * 1536 + k.val, by omega⟩) + (∑ k : Fin 1536, term m c i ⟨(⟨2, by omega⟩ : Fin 5).val * 1536 + k.val, by omega⟩) + (∑ k : Fin 1536, term m c i ⟨(⟨3, by omega⟩ : Fin 5).val * 1536 + k.val, by omega⟩) + (∑ k : Fin 1536, term m c i ⟨(⟨4, by omega⟩ : Fin 5).val * 1536 + k.val, by omega⟩) := by
  rw [Cert.Reference11Ideal.Read.val_main_v4_apply]
  refine Eq.trans (Finset.sum_congr rfl fun s _ => ?_) ((sum_pieces (term m c i)).trans (Fin.sum_univ_five _))
  refine congrArg₂ (· * ·) (congrArg (cot m c) (funext fun a => ?_)) (congrArg (wts m c) (funext fun a => ?_))
  · match a with
    | ⟨0, _⟩ => rfl
    | ⟨1, _⟩ => rfl
  · match a with
    | ⟨0, _⟩ => rfl
    | ⟨1, _⟩ => rfl

/-- The operand rounded on the host is, over the extended reals, the argument itself. -/
theorem V_cast (i : S1024x7680.Idx) : V m c main_v0 i = m ((c : Thread nD τ).loc main_arg1) i := by
  have e : V m c main_v0 = (truncf .bf16 (m ((c : Thread nD τ).loc main_arg1) : FVec Ideal S1024x7680 .f32) bitsLt_bf16_f32 : FVec Ideal S1024x7680 .bf16) := by
    unfold V; after_results
  rw [e]; rfl

/-- The piece a point adds: piece `p` of the entry's sum. -/
theorem part (n : ℕ) (h : n < cfg0.N) (p : Fin 5) (q : ℕ) (hp : n % 5 = p.val) (hq : n / 5 = q) (y : S1024x1024.Idx)
    (i : S2048x1024.Idx) (e0 : (i 0).val = q * 1024 + (y 0).val) (e1 : (i 1).val = (y 1).val) :
    k0_pay1 (iblk m c 0 ⟨n, h⟩ : Vec Ideal S1024x1536 .bf16) (iblk m c 1 ⟨n, h⟩ : Vec Ideal S1024x1536 .bf16) y = (∑ k : Fin 1536, term m c i ⟨p.val * 1536 + k.val, by omega⟩ : EReal) := by
  refine (pay_apply _ _ y).trans (Finset.sum_congr rfl fun k _ => congrArg₂ (· * ·) ?_ ?_)
  · refine (congrFun (V_main_arg2 m c) _).trans (congrArg _ (funext fun a => Fin.ext ?_))
    match a with
    | ⟨0, _⟩ => refine (Window.rect_emb_val (cfg0.win 0) ⟨n, h⟩ _ 0).trans ?_
                rw [show (cfg0.win 0).index ⟨n, h⟩ = ![n / 5, n % 5] from index_0 ⟨n, h⟩, hq]; exact e0.symm
    | ⟨1, _⟩ => refine (Window.rect_emb_val (cfg0.win 0) ⟨n, h⟩ _ 1).trans ?_
                rw [show (cfg0.win 0).index ⟨n, h⟩ = ![n / 5, n % 5] from index_0 ⟨n, h⟩, hp]; rfl
  · refine (V_cast m c _).trans (congrArg _ (funext fun a => Fin.ext ?_))
    match a with
    | ⟨0, _⟩ => refine (Window.rect_emb_val (cfg0.win 1) ⟨n, h⟩ _ 0).trans ?_
                rw [show (cfg0.win 1).index ⟨n, h⟩ = ![0, n % 5] from index_1 ⟨n, h⟩]; refine Eq.trans ?_ e1.symm; show 0 * 1024 + (y 1).val = (y 1).val; omega
    | ⟨1, _⟩ => refine (Window.rect_emb_val (cfg0.win 1) ⟨n, h⟩ _ 1).trans ?_
                rw [show (cfg0.win 1).index ⟨n, h⟩ = ![0, n % 5] from index_1 ⟨n, h⟩, hp]; rfl

/-- What was there before, and the reference's product. -/
abbrev pre : FVec Ideal S2048x1024 .f32 := m ((c : Thread nD τ).loc main_arg3)
abbrev prd : FVec Ideal S2048x1024 .f32 := Cert.Reference11Ideal.Read.val_main_v4 (F := Ideal) (m ((c : Thread nD τ).loc main_arg1)) (m ((c : Thread nD τ).loc main_arg2))

/-- The block of the part of the gradient that was there before. -/
theorem res_blk (t : Fin cfg0.N) (y : S1024x1024.Idx) (i : S2048x1024.Idx) (e0 : (i 0).val = t.val / 5 * 1024 + (y 0).val) (e1 : (i 1).val = (y 1).val) :
    (iblk m c 2 t : Vec Ideal S1024x1024 .f32) y = pre m c i := by
  refine (congrFun (V_main_arg3 m c) _).trans (congrArg _ (funext fun a => Fin.ext ?_))
  match a with
  | ⟨0, _⟩ => refine (Window.rect_emb_val (cfg0.win 2) t _ 0).trans ?_
              rw [show (cfg0.win 2).index t = ![t.val / 5, 0] from index_2 t]; exact e0.symm
  | ⟨1, _⟩ => refine (Window.rect_emb_val (cfg0.win 2) t _ 1).trans ?_
              rw [show (cfg0.win 2).index t = ![t.val / 5, 0] from index_2 t]; refine Eq.trans ?_ e1.symm; show 0 * 1024 + (y 1).val = (y 1).val; omega

/-- The reference's result is what was there before and the product. -/
theorem G_apply (i : S2048x1024.Idx) :
    G m c i = (pre m c i + prd m c i : EReal) :=
  Cert.Reference11Ideal.Read.val_main_v5_apply (F := Ideal) (m ((c : Thread nD τ).loc main_arg1)) (m ((c : Thread nD τ).loc main_arg2)) (m ((c : Thread nD τ).loc main_arg3)) i

/-! ## The sum a point holds -/

theorem acc_A (n : ℕ) (h : n < cfg0.N) (h0 : n % 5 = 0) (y : S1024x1024.Idx) :
    (outsAt0 m c n h).2 y = k0_pay1 (iblk m c 0 ⟨n, h⟩ : Vec Ideal S1024x1536 .bf16) (iblk m c 1 ⟨n, h⟩ : Vec Ideal S1024x1536 .bf16) y := by
  have e := congrArg Prod.snd (outsAt0_A m c ⟨n, h⟩ h0 (by dsimp only; omega) (by dsimp only; omega))
  dsimp only at e
  rw [sout_A] at e
  exact congrFun e y

theorem acc_B (n : ℕ) (h : n < cfg0.N) (h0 : n % 5 ≠ 0) (h1 : n % 5 ≠ 4) (y : S1024x1024.Idx) :
    (outsAt0 m c n h).2 y = ((outsAt0 m c (n - 1) (Nat.lt_of_le_of_lt (Nat.sub_le _ _) h)).2 y + k0_pay1 (iblk m c 0 ⟨n, h⟩ : Vec Ideal S1024x1536 .bf16) (iblk m c 1 ⟨n, h⟩ : Vec Ideal S1024x1536 .bf16) y : EReal) := by
  have e := congrArg Prod.snd (outsAt0_B m c ⟨n, h⟩ h0 (by dsimp only; omega) h1)
  dsimp only at e
  rw [sout_B] at e
  exact congrFun e y

theorem outs_C (n : ℕ) (h : n < cfg0.N) (h0 : n % 5 = 4) (y : S1024x1024.Idx) :
    (outsAt0 m c n h).1 y = ((outsAt0 m c (n - 1) (Nat.lt_of_le_of_lt (Nat.sub_le _ _) h)).2 y + k0_pay1 (iblk m c 0 ⟨n, h⟩ : Vec Ideal S1024x1536 .bf16) (iblk m c 1 ⟨n, h⟩ : Vec Ideal S1024x1536 .bf16) y + (iblk m c 2 ⟨n, h⟩ : Vec Ideal S1024x1024 .f32) y : EReal) := by
  have e := congrArg Prod.fst (outsAt0_C m c ⟨n, h⟩ (by dsimp only; omega) (by dsimp only; omega) h0)
  dsimp only at e
  rw [out_C] at e
  exact congrFun e y

/-- Every block written back is the reference's. -/
theorem flushed_eq (t : Fin cfg0.N) (hf : (cfg0.win 3).flush t = true) :
    (dats m 0 c).flushed 3 t = ((cfg0.win 3).blk t).view.read (Elt Ideal) (G m c) := by
  have hm : t.val % 5 = 4 := (flush0_3 t).mp hf
  rw [Value.flushed3]
  funext y
  show (outsAt0 m c t.val t.isLt).1 y = G m c (((cfg0.win 3).blk t).view.emb y)
  have e0 : (((cfg0.win 3).blk t).view.emb y 0).val = t.val / 5 * 1024 + (y 0).val :=
    (Window.rect_emb_val (cfg0.win 3) t y 0).trans (by rw [show (cfg0.win 3).index t = ![t.val / 5, 0] from index_3 t]; rfl)
  have e1 : (((cfg0.win 3).blk t).view.emb y 1).val = (y 1).val :=
    (Window.rect_emb_val (cfg0.win 3) t y 1).trans (by rw [show (cfg0.win 3).index t = ![t.val / 5, 0] from index_3 t]; show 0 * 1024 + (y 1).val = _; omega)
  generalize ((cfg0.win 3).blk t).view.emb y = i at e0 e1 ⊢
  rw [outs_C m c t.val t.isLt (by omega) y, res_blk m c t y i e0 e1, add_comm]
  refine Eq.trans ?_ (G_apply m c i).symm
  refine congrArg (fun r : EReal => pre m c i + r) ?_
  rw [
    acc_B m c (t.val - 1) _ (by omega) (by omega) y,
    acc_B m c (t.val - 1 - 1) _ (by omega) (by omega) y,
    acc_B m c (t.val - 1 - 1 - 1) _ (by omega) (by omega) y,
    acc_A m c (t.val - 1 - 1 - 1 - 1) _ (by omega) y,
    part m c (t.val) _ ⟨4, by omega⟩ (t.val / 5) (by show _ = 4; omega) (by omega) y i e0 e1,
    part m c (t.val - 1) _ ⟨3, by omega⟩ (t.val / 5) (by show _ = 3; omega) (by omega) y i e0 e1,
    part m c (t.val - 1 - 1) _ ⟨2, by omega⟩ (t.val / 5) (by show _ = 2; omega) (by omega) y i e0 e1,
    part m c (t.val - 1 - 1 - 1) _ ⟨1, by omega⟩ (t.val / 5) (by show _ = 1; omega) (by omega) y i e0 e1,
    part m c (t.val - 1 - 1 - 1 - 1) _ ⟨0, by omega⟩ (t.val / 5) (by show _ = 0; omega) (by omega) y i e0 e1]
  exact (ref_apply m c i).symm

theorem mem_blk (t : Fin cfg0.N) (i : S2048x1024.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v1).slice (win0_3.rect t)).set ↔ _
  rw [View.set_slice_whole, Rect.mem_set_unit]
  exact Iff.rfl

/-- Every block of the result is written. -/
theorem onto : ∀ p : Fin 2, ∃ t : Fin cfg0.N, (cfg0.win 3).flush t = true ∧ win0_3.index t = ![p.val, 0] :=
  (by decide +kernel : ∀ p : Fin 2, ∃ t : Fin grid0.N, win0_3.flush t = true ∧ win0_3.index t = ![p.val, 0])

/-- The whole result. -/
theorem final : (dats m 0 c).arrAt 3 cfg0.N = G m c :=
  (dats m 0 c).arrAt_eq_of_cover 3 (G m c) (fun t hf => flushed_eq m c t hf) fun i => by
    have h0 : (i 0).val < 2048 := (i 0).isLt
    have h1 : (i 1).val < 1024 := (i 1).isLt
    obtain ⟨t, hf, ht⟩ := onto ⟨(i 0).val / 1024, by omega⟩
    refine ⟨t, hf, ?_⟩
    rw [mem_blk]
    intro a
    match a with
    | ⟨0, _⟩ => rw [ht]; show (i 0).val / 1024 * 1024 ≤ (i 0).val ∧ (i 0).val < (i 0).val / 1024 * 1024 + 1024; omega
    | ⟨1, _⟩ => rw [ht]; show 0 * 1024 ≤ (i 1).val ∧ (i 1).val < 0 * 1024 + 1024; omega

/-- The reference declares no semaphore. -/
theorem frame_reference : Cert.quiescent_Reference11Ideal := fun m ρ _ =>
  (θ_run _ _ _).mono (fun r h => ⟨fun c => (h c).2, sem_eq_zero_of_no_sems (by decide) r.2⟩) (Cert.Reference11Ideal.Value.run (F := Ideal) m ρ)

/-- The kernel and the reference end with equal results. -/
theorem algebraic : Cert.algebraic_Kernel11Ideal_Reference11Ideal := fun m ρ m' ρ' _ hargs => by
  refine ⟨fun c => G m c, (θ_run _ _ _).mono (fun r h c => ⟨(h c).1.trans (final m c), (h c).2⟩) (Value.run_blocks m ρ),
    (θ_run _ _ _).mono (fun r h c => ⟨(h c).1.trans ?_, (h c).2⟩) (Cert.Reference11Ideal.Value.run (F := Ideal) m' ρ')⟩
  obtain ⟨e0, e1, e2, e3⟩ := hargs c
  rw [e1, e2, e3]; rfl

end Cert.Kernel11Ideal.Product

end
-- ==== Proof.Product12.lean ====
/- The product by the channel mixer's second weights, and the residual: the kernel adds up the 2 pieces of each entry's sum
   one after another, and the whole is the reference's. -/
module

public import proofs.«01_k».proof.Defs
public import proofs.«01_k».proof.Proof.Gen.Kernel12Ideal.Value
public import proofs.«01_k».proof.Proof.Gen.Reference12Ideal.Run
public import proofs.«01_k».proof.Proof.Gen.Reference12Ideal.Read
public import Idealize.ShloMosaic.Lib.Pipeline.Value
public import Idealize.ShloMosaic.Lib.Pipeline.ValueKit
public import Idealize.ShloMosaic.Lib.Pointwise
public import Idealize.ShloMosaic.Lib.StableHlo.Run
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat Cfg Window)

namespace Cert.Kernel12Ideal.Product

open Cert.Kernel12Ideal Cert.Kernel12Ideal.Gen

theorem zeros : (![0, 0] : Fin 2 → Nat) = fun _ => 0 := funext fun a => by fin_cases a <;> rfl

/-- A sum over 2 pieces of 1408 indices each. -/
theorem sum_pieces (f : Fin 2816 → EReal) : ∑ s, f s = ∑ p : Fin 2, ∑ k : Fin 1408, f ⟨p.val * 1408 + k.val, by omega⟩ := by
  rw [← Fintype.sum_prod_type', ← Equiv.sum_comp (finProdFinEquiv : Fin 2 × Fin 1408 ≃ Fin 2816)]
  refine Finset.sum_congr rfl fun q _ => congrArg f (Fin.ext ?_)
  show q.2.val + 1408 * q.1.val = q.1.val * 1408 + q.2.val
  omega

/-! ## What the body leaves -/

/-- The first point of a row of blocks starts the sum. -/
theorem sout_A (c : Dev nD) (i : grid0.Coords) (a3 : Memref sig .tc .vmem S1024x1408 .bf16) (h3 : a3.IsWhole) (a4 : Memref sig .tc .vmem S1408x1024 .bf16) (h4 : a4.IsWhole) (a5 : Memref sig .tc .vmem S1024x1024 .f32) (h5 : a5.IsWhole) (a6 : Memref sig .tc .vmem S1024x1024 .f32) (h6 : a6.IsWhole) (a7 : Memref sig .tc .vmem S1024x1024 .f32) (h7 : a7.IsWhole)
    (hc0 : cond0_0 i) (hc1 : ¬cond0_1 i) (hc2 : ¬cond0_2 i) (x : Vec Ideal S1024x1408 .bf16) (y : Vec Ideal S1408x1024 .bf16) (z : Vec Ideal S1024x1024 .f32) :
    sout0_A_0 c i a3 h3 a4 h4 a5 h5 a6 h6 a7 h7 hc0 hc1 hc2 x y z = k0_pay1 x y := by
  unfold sout0_A_0
  rw [View.read_writes_eq_canon _ _ _ (scover0_A_0 c i a3 h3 a4 h4 a5 h5 a6 h6 a7 h7 hc0 hc1 hc2 x y z)]
  unfold kernelRun0_A
  dsimp only
  sl_unfold_words
  rw [View.canon_unit_zero (S := S1024x1024) zeros]
  unfold k0_pay2
  simp only [View.readAt_eq_ld, h3.read_unread, h4.read_unread, h5.read_unread, h7.read_unread, View.ld_unit_zero (S := S1024x1408) zeros, View.ld_unit_zero (S := S1408x1024) zeros, View.ld_unit_zero (S := S1024x1024) zeros, shapeCast_self]

/-- The last point adds its own piece and stores the sum, with the residual, as the result's block. -/
theorem out_B (c : Dev nD) (i : grid0.Coords) (a3 : Memref sig .tc .vmem S1024x1408 .bf16) (h3 : a3.IsWhole) (a4 : Memref sig .tc .vmem S1408x1024 .bf16) (h4 : a4.IsWhole) (a5 : Memref sig .tc .vmem S1024x1024 .f32) (h5 : a5.IsWhole) (a6 : Memref sig .tc .vmem S1024x1024 .f32) (h6 : a6.IsWhole) (a7 : Memref sig .tc .vmem S1024x1024 .f32) (h7 : a7.IsWhole)
    (hc0 : ¬cond0_0 i) (hc1 : cond0_1 i) (hc2 : cond0_2 i) (x : Vec Ideal S1024x1408 .bf16) (y : Vec Ideal S1408x1024 .bf16) (z : Vec Ideal S1024x1024 .f32) (xs : Vec Ideal S1024x1024 .f32) :
    out0_B_3 c i a3 h3 a4 h4 a5 h5 a6 h6 a7 h7 hc0 hc1 hc2 x y z xs = addf (addf xs (k0_pay1 x y)) z := by
  unfold out0_B_3
  rw [View.read_writes_eq_canon _ _ _ (cover0_B_3 c i a3 h3 a4 h4 a5 h5 a6 h6 a7 h7 hc0 hc1 hc2 x y z xs)]
  unfold kernelRun0_B
  dsimp only
  sl_unfold_words
  rw [View.canon_unit_zero (S := S1024x1024) zeros]
  unfold k0_pay4
  rw [View.readCov_unit_zero (S := S1024x1024) _ zeros]
  unfold k0_pay3
  simp only [View.readAt_eq_ld, h3.read_unread, h4.read_unread, h5.read_unread, h7.read_unread, View.ld_unit_zero (S := S1024x1408) zeros, View.ld_unit_zero (S := S1408x1024) zeros, View.ld_unit_zero (S := S1024x1024) zeros, shapeCast_self]

theorem pay_eq (x : Vec Ideal S1024x1408 .bf16) (y : Vec Ideal S1408x1024 .bf16) :
    k0_pay1 x y = matmul (φ₁ := .bf16) (φ₂ := .bf16) dot_S1024x1408_S1408x1024_S1024x1024_1_0_0_1_n_n none (x : FVec Ideal S1024x1408 .bf16) (y : FVec Ideal S1408x1024 .bf16) (constant S1024x1024 .f32 0x00000000#32) := by
  unfold k0_pay1
  dsimp only
  simp only [shapeCast_self]

/-- An entry of the product of two blocks. -/
theorem pay_apply (x : Vec Ideal S1024x1408 .bf16) (y : Vec Ideal S1408x1024 .bf16) (j : S1024x1024.Idx) :
    k0_pay1 x y j = (∑ k : Fin 1408, x (ix2 (j 0) k) * y (ix2 k (j 1)) : EReal) := by
  rw [pay_eq]
  pointwise

/-! The places of the blocks. -/
theorem index_0 : ∀ t : Fin grid0.N, win0_0.index t = ![t.val / 2, t.val % 2] := by decide +kernel
theorem index_1 : ∀ t : Fin grid0.N, win0_1.index t = ![t.val % 2, 0] := by decide +kernel
theorem index_2 : ∀ t : Fin grid0.N, win0_2.index t = ![t.val / 2, 0] := by decide +kernel
theorem index_3 : ∀ t : Fin grid0.N, win0_3.index t = ![t.val / 2, 0] := by decide +kernel

variable (m : (ℓ : Loc nD τ sig) → Buf (Elt Ideal) ℓ) (ρ : Dev nD → PrngReg) (c : Dev nD)

/-- The reference's result at the kernel's arguments. -/
abbrev G : Buf (Elt Ideal) ((c : Thread nD τ).loc main_v1) :=
  Cert.Reference12Ideal.Read.val_main_v2 (F := Ideal) (m ((c : Thread nD τ).loc main_arg0)) (m ((c : Thread nD τ).loc main_arg1)) (m ((c : Thread nD τ).loc main_arg2))

/-- The gated activation, and the weights. -/
abbrev act : FVec Ideal S2048x2816 .bf16 := m ((c : Thread nD τ).loc main_arg0)
abbrev wts : FVec Ideal S2816x1024 .f32 := m ((c : Thread nD τ).loc main_arg1)

/-- One term of the sum that makes an entry: the activation's entry times the weight's. -/
abbrev term (i : S2048x1024.Idx) (s : Fin 2816) : EReal := act m c (ix2 (i 0) s) * wts m c (ix2 s (i 1))

/-- The reference's sum, in 2 pieces. -/
theorem ref_apply (i : S2048x1024.Idx) :
    Cert.Reference12Ideal.Read.val_main_v1 (F := Ideal) (m ((c : Thread nD τ).loc main_arg0)) (m ((c : Thread nD τ).loc main_arg1)) i
      = (∑ k : Fin 1408, term m c i ⟨(⟨0, by omega⟩ : Fin 2).val * 1408 + k.val, by omega⟩) + (∑ k : Fin 1408, term m c i ⟨(⟨1, by omega⟩ : Fin 2).val * 1408 + k.val, by omega⟩) := by
  rw [Cert.Reference12Ideal.Read.val_main_v1_apply]
  refine Eq.trans (Finset.sum_congr rfl fun s _ => ?_) ((sum_pieces (term m c i)).trans (Fin.sum_univ_two _))
  refine congrArg₂ (· * ·) (congrArg (act m c) (funext fun a => ?_)) (congrArg (wts m c) (funext fun a => ?_))
  · match a with
    | ⟨0, _⟩ => rfl
    | ⟨1, _⟩ => rfl
  · match a with
    | ⟨0, _⟩ => rfl
    | ⟨1, _⟩ => rfl

/-- The operand rounded on the host is, over the extended reals, the argument itself. -/
theorem V_cast (i : S2816x1024.Idx) : V m c main_v0 i = m ((c : Thread nD τ).loc main_arg1) i := by
  have e : V m c main_v0 = (truncf .bf16 (m ((c : Thread nD τ).loc main_arg1) : FVec Ideal S2816x1024 .f32) bitsLt_bf16_f32 : FVec Ideal S2816x1024 .bf16) := by
    unfold V; after_results
  rw [e]; rfl

/-- The piece a point adds: piece `p` of the entry's sum. -/
theorem part (n : ℕ) (h : n < cfg0.N) (p : Fin 2) (q : ℕ) (hp : n % 2 = p.val) (hq : n / 2 = q) (y : S1024x1024.Idx)
    (i : S2048x1024.Idx) (e0 : (i 0).val = q * 1024 + (y 0).val) (e1 : (i 1).val = (y 1).val) :
    k0_pay1 (iblk m c 0 ⟨n, h⟩ : Vec Ideal S1024x1408 .bf16) (iblk m c 1 ⟨n, h⟩ : Vec Ideal S1408x1024 .bf16) y = (∑ k : Fin 1408, term m c i ⟨p.val * 1408 + k.val, by omega⟩ : EReal) := by
  refine (pay_apply _ _ y).trans (Finset.sum_congr rfl fun k _ => congrArg₂ (· * ·) ?_ ?_)
  · refine (congrFun (V_main_arg0 m c) _).trans (congrArg _ (funext fun a => Fin.ext ?_))
    match a with
    | ⟨0, _⟩ => refine (Window.rect_emb_val (cfg0.win 0) ⟨n, h⟩ _ 0).trans ?_
                rw [show (cfg0.win 0).index ⟨n, h⟩ = ![n / 2, n % 2] from index_0 ⟨n, h⟩, hq]; exact e0.symm
    | ⟨1, _⟩ => refine (Window.rect_emb_val (cfg0.win 0) ⟨n, h⟩ _ 1).trans ?_
                rw [show (cfg0.win 0).index ⟨n, h⟩ = ![n / 2, n % 2] from index_0 ⟨n, h⟩, hp]; rfl
  · refine (V_cast m c _).trans (congrArg _ (funext fun a => Fin.ext ?_))
    match a with
    | ⟨0, _⟩ => refine (Window.rect_emb_val (cfg0.win 1) ⟨n, h⟩ _ 0).trans ?_
                rw [show (cfg0.win 1).index ⟨n, h⟩ = ![n % 2, 0] from index_1 ⟨n, h⟩, hp]; rfl
    | ⟨1, _⟩ => refine (Window.rect_emb_val (cfg0.win 1) ⟨n, h⟩ _ 1).trans ?_
                rw [show (cfg0.win 1).index ⟨n, h⟩ = ![n % 2, 0] from index_1 ⟨n, h⟩]; refine Eq.trans ?_ e1.symm; show 0 * 1024 + (y 1).val = (y 1).val; omega

/-- The residual, and the reference's product. -/
abbrev pre : FVec Ideal S2048x1024 .f32 := m ((c : Thread nD τ).loc main_arg2)
abbrev prd : FVec Ideal S2048x1024 .f32 := Cert.Reference12Ideal.Read.val_main_v1 (F := Ideal) (m ((c : Thread nD τ).loc main_arg0)) (m ((c : Thread nD τ).loc main_arg1))

/-- The residual's block. -/
theorem res_blk (t : Fin cfg0.N) (y : S1024x1024.Idx) (i : S2048x1024.Idx) (e0 : (i 0).val = t.val / 2 * 1024 + (y 0).val) (e1 : (i 1).val = (y 1).val) :
    (iblk m c 2 t : Vec Ideal S1024x1024 .f32) y = pre m c i := by
  refine (congrFun (V_main_arg2 m c) _).trans (congrArg _ (funext fun a => Fin.ext ?_))
  match a with
  | ⟨0, _⟩ => refine (Window.rect_emb_val (cfg0.win 2) t _ 0).trans ?_
              rw [show (cfg0.win 2).index t = ![t.val / 2, 0] from index_2 t]; exact e0.symm
  | ⟨1, _⟩ => refine (Window.rect_emb_val (cfg0.win 2) t _ 1).trans ?_
              rw [show (cfg0.win 2).index t = ![t.val / 2, 0] from index_2 t]; refine Eq.trans ?_ e1.symm; show 0 * 1024 + (y 1).val = (y 1).val; omega

/-- The reference's result is the residual and the product. -/
theorem G_apply (i : S2048x1024.Idx) :
    G m c i = (pre m c i + prd m c i : EReal) :=
  Cert.Reference12Ideal.Read.val_main_v2_apply (F := Ideal) (m ((c : Thread nD τ).loc main_arg0)) (m ((c : Thread nD τ).loc main_arg1)) (m ((c : Thread nD τ).loc main_arg2)) i

/-! ## The sum a point holds -/

theorem acc_A (n : ℕ) (h : n < cfg0.N) (h0 : n % 2 = 0) (y : S1024x1024.Idx) :
    (outsAt0 m c n h).2 y = k0_pay1 (iblk m c 0 ⟨n, h⟩ : Vec Ideal S1024x1408 .bf16) (iblk m c 1 ⟨n, h⟩ : Vec Ideal S1408x1024 .bf16) y := by
  have e := congrArg Prod.snd (outsAt0_A m c ⟨n, h⟩ h0 (by dsimp only; omega) (by dsimp only; omega))
  dsimp only at e
  rw [sout_A] at e
  exact congrFun e y

theorem outs_B (n : ℕ) (h : n < cfg0.N) (h0 : n % 2 = 1) (y : S1024x1024.Idx) :
    (outsAt0 m c n h).1 y = ((outsAt0 m c (n - 1) (Nat.lt_of_le_of_lt (Nat.sub_le _ _) h)).2 y + k0_pay1 (iblk m c 0 ⟨n, h⟩ : Vec Ideal S1024x1408 .bf16) (iblk m c 1 ⟨n, h⟩ : Vec Ideal S1408x1024 .bf16) y + (iblk m c 2 ⟨n, h⟩ : Vec Ideal S1024x1024 .f32) y : EReal) := by
  have e := congrArg Prod.fst (outsAt0_B m c ⟨n, h⟩ (by dsimp only; omega) (by dsimp only; omega) h0)
  dsimp only at e
  rw [out_B] at e
  exact congrFun e y

/-- Every block written back is the reference's. -/
theorem flushed_eq (t : Fin cfg0.N) (hf : (cfg0.win 3).flush t = true) :
    (dats m 0 c).flushed 3 t = ((cfg0.win 3).blk t).view.read (Elt Ideal) (G m c) := by
  have hm : t.val % 2 = 1 := (flush0_3 t).mp hf
  rw [Value.flushed3]
  funext y
  show (outsAt0 m c t.val t.isLt).1 y = G m c (((cfg0.win 3).blk t).view.emb y)
  have e0 : (((cfg0.win 3).blk t).view.emb y 0).val = t.val / 2 * 1024 + (y 0).val :=
    (Window.rect_emb_val (cfg0.win 3) t y 0).trans (by rw [show (cfg0.win 3).index t = ![t.val / 2, 0] from index_3 t]; rfl)
  have e1 : (((cfg0.win 3).blk t).view.emb y 1).val = (y 1).val :=
    (Window.rect_emb_val (cfg0.win 3) t y 1).trans (by rw [show (cfg0.win 3).index t = ![t.val / 2, 0] from index_3 t]; show 0 * 1024 + (y 1).val = _; omega)
  generalize ((cfg0.win 3).blk t).view.emb y = i at e0 e1 ⊢
  rw [outs_B m c t.val t.isLt (by omega) y, res_blk m c t y i e0 e1, add_comm]
  refine Eq.trans ?_ (G_apply m c i).symm
  refine congrArg (fun r : EReal => pre m c i + r) ?_
  rw [acc_A m c (t.val - 1) _ (by omega) y,
    part m c t.val _ ⟨1, by omega⟩ (t.val / 2) (by show _ = 1; omega) (by omega) y i e0 e1,
    part m c (t.val - 1) _ ⟨0, by omega⟩ (t.val / 2) (by show _ = 0; omega) (by omega) y i e0 e1]
  exact (ref_apply m c i).symm

theorem mem_blk (t : Fin cfg0.N) (i : S2048x1024.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v1).slice (win0_3.rect t)).set ↔ _
  rw [View.set_slice_whole, Rect.mem_set_unit]
  exact Iff.rfl

/-- Every block of the result is written. -/
theorem onto : ∀ p : Fin 2, ∃ t : Fin cfg0.N, (cfg0.win 3).flush t = true ∧ win0_3.index t = ![p.val, 0] :=
  (by decide +kernel : ∀ p : Fin 2, ∃ t : Fin grid0.N, win0_3.flush t = true ∧ win0_3.index t = ![p.val, 0])

/-- The whole result. -/
theorem final : (dats m 0 c).arrAt 3 cfg0.N = G m c :=
  (dats m 0 c).arrAt_eq_of_cover 3 (G m c) (fun t hf => flushed_eq m c t hf) fun i => by
    have h0 : (i 0).val < 2048 := (i 0).isLt
    have h1 : (i 1).val < 1024 := (i 1).isLt
    obtain ⟨t, hf, ht⟩ := onto ⟨(i 0).val / 1024, by omega⟩
    refine ⟨t, hf, ?_⟩
    rw [mem_blk]
    intro a
    match a with
    | ⟨0, _⟩ => rw [ht]; show (i 0).val / 1024 * 1024 ≤ (i 0).val ∧ (i 0).val < (i 0).val / 1024 * 1024 + 1024; omega
    | ⟨1, _⟩ => rw [ht]; show 0 * 1024 ≤ (i 1).val ∧ (i 1).val < 0 * 1024 + 1024; omega

/-- The reference declares no semaphore. -/
theorem frame_reference : Cert.quiescent_Reference12Ideal := fun m ρ _ =>
  (θ_run _ _ _).mono (fun r h => ⟨fun c => (h c).2, sem_eq_zero_of_no_sems (by decide) r.2⟩) (Cert.Reference12Ideal.Value.run (F := Ideal) m ρ)

/-- The kernel and the reference end with equal results. -/
theorem algebraic : Cert.algebraic_Kernel12Ideal_Reference12Ideal := fun m ρ m' ρ' _ hargs => by
  refine ⟨fun c => G m c, (θ_run _ _ _).mono (fun r h c => ⟨(h c).1.trans (final m c), (h c).2⟩) (Value.run_blocks m ρ),
    (θ_run _ _ _).mono (fun r h c => ⟨(h c).1.trans ?_, (h c).2⟩) (Cert.Reference12Ideal.Value.run (F := Ideal) m' ρ')⟩
  obtain ⟨e0, e1, e2⟩ := hargs c
  rw [e0, e1, e2]; rfl

end Cert.Kernel12Ideal.Product

end
-- ==== Proof.Norm13.lean ====
/- The RMS norm and the product by the input weights: a point at the first block of columns norms its rows and
   keeps them in the second result's buffer, and every point multiplies them by its block of the weights. The body at
   the points of either kind, the pipeline's proof data, and the run of the program. -/
module

public import proofs.«01_k».proof.Defs
public import proofs.«01_k».proof.Proof.Gen.Kernel13Ideal.Skeleton
public import proofs.«01_k».proof.Proof.Gen.Kernel13Ideal.Frame
public import proofs.«01_k».proof.Proof.Gen.Kernel13.Skeleton
public import Idealize.ShloMosaic.Lib.Pipeline.TableIdle
public import Idealize.ShloMosaic.Lib.Pipeline.Value
public import Idealize.ShloMosaic.Lib.VecWindow
public import Idealize.ShloMosaic.Lib.Claim
public import Idealize.ShloMosaic.Lib.Tactic
public import Idealize.ShloMosaic.Lib.Quiescent

@[expose] public section

set_option maxRecDepth 16384

noncomputable section

namespace Cert.Kernel13Ideal.Norm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel13Ideal Cert.Kernel13Ideal.Gen

variable {F : FTy → Type} [FloatOps F]

local notation "𝕄" => MT nD τ sig Unit (Elt F) ℕ (UR sig nD τ) ℕ

/-- A load of a whole buffer reads what it holds. -/
theorem load_full {S : Shape} {e : EltTy} {m : Memref sig .tc .vmem S e} (h : m.IsWhole) (x : Vec F S e) {off : Fin S.rank → ℕ} (inb : ∀ a, off a + S.size a ≤ S.size a) :
    m.view.readAt (Elt F) (Rect.unit off S.size inb).toLoadRect (h.unread x) = x :=
  (View.readAt_full _ _ _).trans (h.read_unread _)

/-! ## The body -/

/-- At the first block of columns the body norms its rows, keeps them, and stores their product. -/
theorem run_first (c : Dev nD) (i : grid0.Coords) (a2 : Memref sig .tc .vmem S1024x1024 .f32) (h2 : a2.IsWhole) (a3 : Memref sig .tc .vmem S1x1024 .f32) (h3 : a3.IsWhole) (a4 : Memref sig .tc .vmem S1024x1536 .bf16) (h4 : a4.IsWhole) (a5 : Memref sig .tc .vmem S1024x1536 .bf16) (h5 : a5.IsWhole) (a6 : Memref sig .tc .vmem S1024x1024 .bf16) (h6 : a6.IsWhole)
    (hc : k0_cond1 i = 1#1) (x : Vec F S1024x1024 .f32) (g : Vec F S1x1024 .f32) (w : Vec F S1024x1536 .bf16) (E : Set ℕ) (K : PUnit → sProp 𝕄) :
    iprop(owns (c : Thread nD τ) a2 fullShare x ∗ owns (c : Thread nD τ) a3 fullShare g ∗ owns (c : Thread nD τ) a4 fullShare w
        ∗ (∃ d, owns (c : Thread nD τ) a5 fullShare d) ∗ (∃ d, owns (c : Thread nD τ) a6 fullShare d)
        ∗ (iprop(owns (c : Thread nD τ) a2 fullShare x ∗ owns (c : Thread nD τ) a3 fullShare g ∗ owns (c : Thread nD τ) a4 fullShare w
          ∗ owns (c : Thread nD τ) a5 fullShare (k0_pay2 (k0_pay1 x g) w) ∗ owns (c : Thread nD τ) a6 fullShare (k0_pay1 x g)) -∗ K ⟨⟩))
      ⊢ wp frame (wpE (defs₀ (F := F)) Variants.none c none) E (cc0_in_proj i a2 h2 a3 h3 a4 h4 a5 h5 a6 h6) K := by
  simp only [cc0_in_proj_eq_skeleton]; unfold cc0_in_proj_skel
  unfold owns
  iintro ⟨⟨%f2, %e2, H2⟩, ⟨%f3, %e3, H3⟩, ⟨%f4, %e4, H4⟩, ⟨%d5, %f5, -, H5⟩, ⟨%d6, %f6, -, H6⟩, Hk⟩
  obtain rfl := h2.eq_unread e2; obtain rfl := h3.eq_unread e3; obtain rfl := h4.eq_unread e4
  sl_exec (disch := sl_exact hc)
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; swap; · iexact H5
    ipureintro
    refine (View.read_writes_full _ _ _ _ _).trans ?_
    exact congrArg₂ k0_pay2 ((View.readCov_full _ _ _ _ _).trans (congrArg₂ k0_pay1 (load_full h2 _ _) (load_full h3 _ _))) (load_full h4 _ _)
  iexists _; isplitr; swap; · iexact H6
  ipureintro
  refine (View.read_writes_full _ _ _ _ _).trans ?_
  exact congrArg₂ k0_pay1 (load_full h2 _ _) (load_full h3 _ _)

/-- At the others it stores the product of the rows it finds kept. -/
theorem run_rest (c : Dev nD) (i : grid0.Coords) (a2 : Memref sig .tc .vmem S1024x1024 .f32) (h2 : a2.IsWhole) (a3 : Memref sig .tc .vmem S1x1024 .f32) (h3 : a3.IsWhole) (a4 : Memref sig .tc .vmem S1024x1536 .bf16) (h4 : a4.IsWhole) (a5 : Memref sig .tc .vmem S1024x1536 .bf16) (h5 : a5.IsWhole) (a6 : Memref sig .tc .vmem S1024x1024 .bf16) (h6 : a6.IsWhole)
    (hc : ¬k0_cond1 i = 1#1) (w : Vec F S1024x1536 .bf16) (h : Vec F S1024x1024 .bf16) (E : Set ℕ) (K : PUnit → sProp 𝕄) :
    iprop(owns (c : Thread nD τ) a4 fullShare w ∗ (∃ d, owns (c : Thread nD τ) a5 fullShare d) ∗ owns (c : Thread nD τ) a6 fullShare h
        ∗ (iprop(owns (c : Thread nD τ) a4 fullShare w ∗ owns (c : Thread nD τ) a5 fullShare (k0_pay2 h w) ∗ owns (c : Thread nD τ) a6 fullShare h) -∗ K ⟨⟩))
      ⊢ wp frame (wpE (defs₀ (F := F)) Variants.none c none) E (cc0_in_proj i a2 h2 a3 h3 a4 h4 a5 h5 a6 h6) K := by
  simp only [cc0_in_proj_eq_skeleton]; unfold cc0_in_proj_skel
  unfold owns
  iintro ⟨⟨%f4, %e4, H4⟩, ⟨%d5, %f5, -, H5⟩, ⟨%f6, %e6, H6⟩, Hk⟩
  obtain rfl := h4.eq_unread e4; obtain rfl := h6.eq_unread e6
  sl_exec (disch := sl_exact hc)
  sl_step
  iapply Hk
  isplitl [H4]
  · iexists _; isplitr; · ipureintro; exact h4.read_unread _
    iexact H4
  isplitl [H5]
  · iexists _; isplitr; swap; · iexact H5
    ipureintro
    refine (View.read_writes_full _ _ _ _ _).trans ?_
    exact congrArg₂ k0_pay2 (load_full h6 _ _) (load_full h4 _ _)
  iexists _; isplitr; · ipureintro; exact h6.read_unread _
  iexact H6

/-! ## The schedule -/

/-- The body norms its rows at the first block of columns. -/
theorem first_iff : ∀ t : Fin grid0.N, k0_cond1 (grid0.coords t) = 1#1 ↔ t.val % 5 = 0 := by decide +kernel

theorem idle_4 (t : Fin cfg0.N) : cfg0.idle 4 (grid0.coords t) = !(k0_cond1 (grid0.coords t) == 1#1) := rfl

theorem idle_of (t : Fin cfg0.N) (h : ¬t.val % 5 = 0) : cfg0.idle 4 (grid0.coords t) = true := by
  rw [idle_4, beq_eq_false_iff_ne.mpr (fun e => h ((first_iff t).mp e))]; rfl

theorem live_of (t : Fin cfg0.N) (h : t.val % 5 = 0) : cfg0.idle 4 (grid0.coords t) = false := by
  rw [idle_4, (first_iff t).mpr h]; rfl

theorem index_0 : ∀ t : Fin grid0.N, win0_0.index t = ![t.val / 5, 0] := by decide +kernel
theorem index_1 : ∀ t : Fin grid0.N, win0_1.index t = ![0, 0] := by decide +kernel
theorem index_2 : ∀ t : Fin grid0.N, win0_2.index t = ![0, t.val % 5] := by decide +kernel
theorem index_3 : ∀ t : Fin grid0.N, win0_3.index t = ![t.val / 5, t.val % 5] := by decide +kernel
theorem index_4 : ∀ t : Fin grid0.N, win0_4.index t = ![t.val / 5, 0] := by decide +kernel

/-- The second result's buffer is fresh at the first block of columns only. -/
theorem fresh_4 (n : ℕ) (hn : n ≤ cfg0.N) : cfg0.fresh 4 n = decide (n % 5 = 0) :=
  Cfg.fresh_tab cfg0 4 (fun n => decide (n % 5 = 0)) rfl (fun t => by
    have hf := flush0_4 t
    by_cases h : t.val % 5 = 0
    · have hi : cfg0.idle 4 (cfg0.grid.coords t) = false := live_of t h
      have hfl : (cfg0.win 4).flush t = false := by rw [Bool.eq_false_iff]; intro e; have := hf.mp e; omega
      rw [hfl, hi]; simp only [Bool.false_or, Bool.false_and, decide_eq_false_iff_not]; omega
    · have hi : cfg0.idle 4 (cfg0.grid.coords t) = true := idle_of t h
      by_cases h4 : t.val % 5 = 4
      · rw [hf.mpr h4]; simp only [Bool.true_or, decide_eq_true_eq]; omega
      · have hfl : (cfg0.win 4).flush t = false := by rw [Bool.eq_false_iff]; intro e; exact h4 (hf.mp e)
        rw [hfl, hi]; simp only [Bool.false_or, Bool.true_and, decide_eq_decide]; omega) n hn

variable (m : (ℓ : Loc nD τ sig) → Buf (Elt F) ℓ) (ρ : Dev nD → PrngReg)

/-! ## The proof data -/

/-- The rows a point finds or makes, normed: those of its block of rows. -/
def rows (c : Dev nD) (t : Fin cfg0.N) : Vec F S1024x1024 .bf16 :=
  k0_pay1 (iblk m c 0 t : Vec F S1024x1024 .f32) (iblk m c 1 t : Vec F S1x1024 .f32)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay2 (rows m c t) (iblk m c 2 t : Vec F S1024x1536 .bf16)
    | ⟨4, _⟩ => rows m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = k0_pay2 (rows m c t) (iblk m c 2 t : Vec F S1024x1536 .bf16) := by dsimp only [dats]
theorem after_4 (c : Dev nD) (t : Fin cfg0.N) : (dats m 0 c).after 4 t = rows m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- Two points of one block of rows read the same rows. -/
theorem iblk0_congr (c : Dev nD) (t t' : Fin cfg0.N) (h : t.val / 5 = t'.val / 5) : (iblk m c 0 t : Vec F S1024x1024 .f32) = iblk m c 0 t' := by
  funext y
  refine congrArg (V m c (Pipeline.arrRef spec0 0)) (funext fun a => Fin.ext ?_)
  refine (Window.rect_emb_val (cfg0.win 0) t y a).trans (Eq.trans ?_ (Window.rect_emb_val (cfg0.win 0) t' y a).symm)
  rw [show (cfg0.win 0).index t = ![t.val / 5, 0] from index_0 t, show (cfg0.win 0).index t' = ![t'.val / 5, 0] from index_0 t', h]

theorem iblk1_congr (c : Dev nD) (t t' : Fin cfg0.N) : (iblk m c 1 t : Vec F S1x1024 .f32) = iblk m c 1 t' := by
  funext y
  refine congrArg (V m c (Pipeline.arrRef spec0 1)) (funext fun a => Fin.ext ?_)
  refine (Window.rect_emb_val (cfg0.win 1) t y a).trans (Eq.trans ?_ (Window.rect_emb_val (cfg0.win 1) t' y a).symm)
  rw [show (cfg0.win 1).index t = ![0, 0] from index_1 t, show (cfg0.win 1).index t' = ![0, 0] from index_1 t']

theorem rows_congr (c : Dev nD) (t t' : Fin cfg0.N) (h : t.val / 5 = t'.val / 5) : rows m c t = rows m c t' := by
  unfold rows; rw [iblk0_congr m c t t' h, iblk1_congr m c t t']

/-- Past the first block of columns the body finds the normed rows kept. -/
theorem before_4 (c : Dev nD) (t : Fin cfg0.N) (h : ¬t.val % 5 = 0) (d) : (dats m 0 c).before 4 t d = rows m c t := by
  refine ((dats m 0 c).before_out_traj 4 rfl (fun _ _ => rfl) (fun t ht hi _ => ?_) t.val t rfl d).trans ?_
  · have h : ¬t.val % 5 = 0 := fun h => Bool.false_ne_true ((live_of t h).symm.trans hi)
    rw [after_4, after_4]
    exact rows_congr m c _ _ (by dsimp only; omega)
  · rw [fresh_4 t.val (Nat.le_of_lt t.isLt), if_neg (by simpa using h), after_4]
    exact rows_congr m c _ _ (by dsimp only; omega)

/-! ## The body at every point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What the body leaves in the second result's buffer. -/
def left_4 (c : Dev nD) (t : Fin cfg0.N) : sProp 𝕄 :=
  match cfg0.idle 4 (grid0.coords t) with
  | true =>
    match (cfg0.win 4).flush t with
    | false => iprop(∃ d, owns (c : Thread nD τ) (st0_4 t) fullShare ((dats m 0 c).before 4 t d))
    | true => owns (c : Thread nD τ) (st0_4 t) fullShare ((dats m 0 c).after 4 t)
  | false => owns (c : Thread nD τ) (st0_4 t) fullShare ((dats m 0 c).after 4 t)

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ left_4 m c t)

/-- The normed rows in the second result's buffer are what every point leaves there. -/
theorem rows_left (c : Dev nD) (t : Fin cfg0.N) : owns (c : Thread nD τ) (st0_4 t) fullShare (rows m c t) ⊢ (left_4 m c t : sProp 𝕄) := by
  by_cases h : t.val % 5 = 0
  · unfold left_4; rw [live_of t h]; dsimp only; rw [after_4]
  · unfold left_4; rw [idle_of t h]; dsimp only
    cases (cfg0.win 4).flush t
    · dsimp only; simp only [before_4 m c t h]
      iintro H; iexists (rows m c t); iexact H
    · dsimp only; rw [after_4]

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl,
    show (dats m 0 c).Φ t.succ = (dats m 0 c).Φ t.castSucc from rfl, after_0, after_1, after_2, after_3]
  by_cases h : t.val % 5 = 0
  · iintro ⟨HP, Ho, ⟨%d0, H0⟩, ⟨%d1, H1⟩, ⟨%d2, H2⟩, ⟨%d3, H3⟩, ⟨%d4, H4⟩⟩
    iapply (run_first c (grid0.coords t) _ _ _ _ _ _ _ _ _ _ ((first_iff t).mpr h) (iblk m c 0 t) (iblk m c 1 t) (iblk m c 2 t) Set.univ _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HP]; · iexact HP
    isplitl [Ho]; · iexact Ho
    isplitl [H0]; · iexact H0
    isplitl [H1]; · iexact H1
    isplitl [H2]; · iexact H2
    isplitl [H3]; · iexact H3
    iapply (rows_left m c t); iexact H4
  · simp only [before_4 m c t h]
    iintro ⟨HP, Ho, ⟨%d0, H0⟩, ⟨%d1, H1⟩, ⟨%d2, H2⟩, ⟨%d3, H3⟩, ⟨%d4, H4⟩⟩
    iapply (run_rest c (grid0.coords t) _ _ _ _ _ _ _ _ _ _ (fun e => h ((first_iff t).mp e)) (iblk m c 2 t) (rows m c t) Set.univ _)
    isplitl [H2]; · iexact H2
    isplitl [H3]; · iexists _; iexact H3
    isplitl [H4]; · iexact H4
    iintro ⟨H2, H3, H4⟩
    isplitl [HP]; · iexact HP
    isplitl [Ho]; · iexact Ho
    isplitl [H0]; · iexact H0
    isplitl [H1]; · iexact H1
    isplitl [H2]; · iexact H2
    isplitl [H3]; · iexact H3
    iapply (rows_left m c t); iexact H4

/-- The row of the body table. -/
theorem row (t : Fin cfg0.N) : (defs₀ (F := F)) .tc cfg0.body (cfg0.bodyArgs t (cfg0.slots t)) = bodyAt0 t := rfl

theorem body_obligation (c : Dev nD) : BodyObligation (dats (F := F) m 0 c) (defs₀ (F := F)) Variants.none () Set.univ := fun t => by
  rw [bigSep_W0, bigSep_W0, row]
  exact triple_restated (sound_body m c t) rfl .rfl fun _ => .rfl

/-! ## The run -/

set_option backward.isDefEq.respectTransparency.types false in
/-- Every execution of the program ends, the arrays at what the pipeline leaves and every counter at zero. -/
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := fun c => Entails.refl _) (hout := fun c => Entails.refl _)

/-- Every execution ends, the arguments unchanged and every counter at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

theorem frame_ideal : Cert.quiescent_Kernel13Ideal := fun m ρ _ => frame_any m ρ

set_option smartUnfolding false in
set_option backward.isDefEq.respectTransparency false in
set_option backward.isDefEq.respectTransparency.types false in
/-- The compiled program is the same text at machine floats. -/
theorem frame_kernel : Cert.quiescent_Kernel13 := fun m ρ _ =>
  (θ_run Cert.Kernel13Ideal.defs _ _).mono (fun _ h => h) (frame_any (F := Bits) m ρ)

end Cert.Kernel13Ideal.Norm

end
-- ==== Proof.NormValue13.lean ====
/- The RMS norm and the product by the input weights: what the kernel's blocks hold, entry by entry, and the
   results, which are the reference's. -/
module

public import proofs.«01_k».proof.Proof.Norm13
public import proofs.«01_k».proof.Proof.Gen.Reference13Ideal.Run
public import proofs.«01_k».proof.Proof.Gen.Reference13Ideal.Read
public import Idealize.ShloMosaic.Lib.Pipeline.ValueKit
public import Idealize.ShloMosaic.Lib.Pointwise
public import Idealize.ShloMosaic.Lib.StableHlo.Run

@[expose] public section

set_option maxRecDepth 16384

noncomputable section

open Idealize.ShloMosaic Idealize.ShloMosaic.TcCoe Idealize.SL.Sem
open Idealize.ShloMosaic.Pipeline (Dat Cfg Window)

namespace Cert.Kernel13Ideal.Norm

open Cert.Kernel13Ideal Cert.Kernel13Ideal.Gen

/-! ## Entries -/

/-- An entry of a normed row: the row's entry over the root of the row's mean square, times the gain. -/
def cell (x : EReal) (r : Fin 1024 → EReal) (g : EReal) : EReal :=
  x * Ideal.rsqrt (Ideal.div (∑ s, r s * r s) (Ideal.ofBits FTy.f32 0x44800000#32) + Ideal.ofBits FTy.f32 0x358637BD#32) * g

theorem pay1_apply (x : Vec Ideal S1024x1024 .f32) (g : Vec Ideal S1x1024 .f32) (j : S1024x1024.Idx) :
    k0_pay1 x g j = cell (x j) (fun s => x (ix2 (j 0) s)) (g (ix2 (0 : Fin 1) (j 1))) := by
  unfold cell; pointwise [k0_pay1]

/-- The reference's normed rows. -/
theorem ref_norm (x : FVec Ideal S2048x1024 .f32) (g : FVec Ideal S1024 .f32) (i : S2048x1024.Idx) :
    Cert.Reference13Ideal.Read.val_main_v12 (F := Ideal) x g i = cell (x i) (fun s => x (ix2 (i 0) s)) (g (ix1 (i 1))) := by
  open Cert.Reference13Ideal.Read in
  unfold cell
  open Cert.Reference13Ideal.Read in
  pointwise [val_main_v12, val_main_v11, val_main_v10, val_main_v9, val_main_v8, val_main_v7, val_main_v6, val_main_v5, val_main_v4, val_main_v3, val_main_v2, val_main_v1, val_main_v0, val_main_cst, val_main_cst_0, val_main_cst_1]

theorem pay2_eq (x : Vec Ideal S1024x1024 .bf16) (y : Vec Ideal S1024x1536 .bf16) :
    k0_pay2 x y = (truncf .bf16 (matmul (φ₁ := .bf16) (φ₂ := .bf16) dot_S1024x1024_S1024x1536_S1024x1536_1_0_0_1_n_n none (x : FVec Ideal S1024x1024 .bf16) (y : FVec Ideal S1024x1536 .bf16) (constant S1024x1536 .f32 0x00000000#32)) bitsLt_bf16_f32 : FVec Ideal S1024x1536 .bf16) := by
  unfold k0_pay2
  dsimp only
  simp only [shapeCast_self]

/-- An entry of the product of two blocks. -/
theorem pay2_apply (x : Vec Ideal S1024x1024 .bf16) (y : Vec Ideal S1024x1536 .bf16) (j : S1024x1536.Idx) :
    k0_pay2 x y j = (∑ k : Fin 1024, x (ix2 (j 0) k) * y (ix2 k (j 1)) : EReal) := by
  rw [pay2_eq]
  pointwise

variable (m : (ℓ : Loc nD τ sig) → Buf (Elt Ideal) ℓ) (ρ : Dev nD → PrngReg) (c : Dev nD)

/-- The reference's results at the kernel's arguments: the product, and the normed rows. -/
abbrev G3 : Buf (Elt Ideal) ((c : Thread nD τ).loc main_v2_0) :=
  Cert.Reference13Ideal.Read.val_main_v14 (F := Ideal) (m ((c : Thread nD τ).loc main_arg0)) (m ((c : Thread nD τ).loc main_arg1)) (m ((c : Thread nD τ).loc main_arg2))
abbrev G4 : Buf (Elt Ideal) ((c : Thread nD τ).loc main_v2_1) :=
  Cert.Reference13Ideal.Read.val_main_v15 (F := Ideal) (m ((c : Thread nD τ).loc main_arg0)) (m ((c : Thread nD τ).loc main_arg1))

/-- The normed rows as a vector of numbers; the activation, the gain and the weights. -/
abbrev hn : FVec Ideal S2048x1024 .bf16 := G4 m c
abbrev act : FVec Ideal S2048x1024 .f32 := m ((c : Thread nD τ).loc main_arg0)
abbrev gain : FVec Ideal S1024 .f32 := m ((c : Thread nD τ).loc main_arg1)
abbrev wts : FVec Ideal S1024x7680 .f32 := m ((c : Thread nD τ).loc main_arg2)

theorem G4_apply (i : S2048x1024.Idx) : G4 m c i = cell (act m c i) (fun s => act m c (ix2 (i 0) s)) (gain m c (ix1 (i 1))) :=
  ref_norm (act m c) (gain m c) i

theorem G3_apply (i : S2048x7680.Idx) : G3 m c i = (∑ k : Fin 1024, hn m c (ix2 (i 0) k) * wts m c (ix2 k (i 1)) : EReal) := by
  refine (Cert.Reference13Ideal.Read.val_main_v13_apply (act m c) (gain m c) (wts m c) i).trans (Finset.sum_congr rfl fun k _ => ?_)
  refine congrArg₂ (· * ·) (congrArg (hn m c) (funext fun a => ?_)) (congrArg (wts m c) (funext fun a => ?_))
  · match a with
    | ⟨0, _⟩ => rfl
    | ⟨1, _⟩ => rfl
  · match a with
    | ⟨0, _⟩ => rfl
    | ⟨1, _⟩ => rfl

/-! ## The blocks -/

/-- The weights rounded on the host are, over the extended reals, the argument itself; -/
theorem V_cast (i : S1024x7680.Idx) : V m c main_v0 i = wts m c i := by
  have e : V m c main_v0 = (truncf .bf16 (wts m c) bitsLt_bf16_f32 : FVec Ideal S1024x7680 .bf16) := by
    unfold V; after_results
  rw [e]; rfl

/-- and the gain as a row is the gain. -/
theorem V_row (i : S1x1024.Idx) : V m c main_v1 i = gain m c (ix1 (i 1)) := by
  have e : V m c main_v1 = (shapeCast S1x1024 (gain m c) shapeCasts_S1024_S1x1024 : FVec Ideal S1x1024 .f32) := by
    unfold V; after_results
    try rfl
  rw [e]
  pointwise

theorem blk0 (t : Fin cfg0.N) (y : S1024x1024.Idx) (i : S2048x1024.Idx) (e0 : (i 0).val = t.val / 5 * 1024 + (y 0).val) (e1 : (i 1).val = (y 1).val) :
    (iblk m c 0 t : Vec Ideal S1024x1024 .f32) y = act m c i := by
  refine (congrFun (V_main_arg0 m c) _).trans (congrArg _ (funext fun a => Fin.ext ?_))
  match a with
  | ⟨0, _⟩ => refine (Window.rect_emb_val (cfg0.win 0) t _ 0).trans ?_
              rw [show (cfg0.win 0).index t = ![t.val / 5, 0] from index_0 t]; exact e0.symm
  | ⟨1, _⟩ => refine (Window.rect_emb_val (cfg0.win 0) t _ 1).trans ?_
              rw [show (cfg0.win 0).index t = ![t.val / 5, 0] from index_0 t]; refine Eq.trans ?_ e1.symm; show 0 * 1024 + (y 1).val = (y 1).val; omega

theorem blk1 (t : Fin cfg0.N) (k : Fin 1024) : (iblk m c 1 t : Vec Ideal S1x1024 .f32) (ix2 (0 : Fin 1) k) = gain m c (ix1 k) := by
  refine (V_row m c _).trans (congrArg (gain m c) (funext fun a => Fin.ext ?_))
  match a with
  | ⟨0, _⟩ => refine (Window.rect_emb_val (cfg0.win 1) t _ 1).trans ?_
              rw [show (cfg0.win 1).index t = ![0, 0] from index_1 t]; show 0 * 1024 + k.val = k.val; omega

theorem blk2 (t : Fin cfg0.N) (y : S1024x1536.Idx) (i : S1024x7680.Idx) (e0 : (i 0).val = (y 0).val) (e1 : (i 1).val = t.val % 5 * 1536 + (y 1).val) :
    (iblk m c 2 t : Vec Ideal S1024x1536 .bf16) y = wts m c i := by
  refine (V_cast m c _).trans (congrArg _ (funext fun a => Fin.ext ?_))
  match a with
  | ⟨0, _⟩ => refine (Window.rect_emb_val (cfg0.win 2) t _ 0).trans ?_
              rw [show (cfg0.win 2).index t = ![0, t.val % 5] from index_2 t]; refine Eq.trans ?_ e0.symm; show 0 * 1024 + (y 0).val = (y 0).val; omega
  | ⟨1, _⟩ => refine (Window.rect_emb_val (cfg0.win 2) t _ 1).trans ?_
              rw [show (cfg0.win 2).index t = ![0, t.val % 5] from index_2 t]; exact e1.symm

/-- A point's normed rows are the reference's. -/
theorem rows_apply (t : Fin cfg0.N) (y : S1024x1024.Idx) (i : S2048x1024.Idx) (e0 : (i 0).val = t.val / 5 * 1024 + (y 0).val) (e1 : (i 1).val = (y 1).val) :
    rows m c t y = G4 m c i := by
  unfold rows
  rw [G4_apply]
  refine (pay1_apply _ _ y).trans ?_
  rw [blk0 m c t y i e0 e1, blk1 m c t (y 1)]
  have hr : (fun s : Fin 1024 => (iblk m c 0 t : Vec Ideal S1024x1024 .f32) (ix2 (y 0) s)) = fun s => act m c (ix2 (i 0) s) :=
    funext fun s => blk0 m c t (ix2 (y 0) s) (ix2 (i 0) s) e0 rfl
  rw [hr, show (y 1 : Fin 1024) = i 1 from Fin.ext e1.symm]

/-- Its product is the reference's. -/
theorem out_apply (t : Fin cfg0.N) (y : S1024x1536.Idx) (i : S2048x7680.Idx) (e0 : (i 0).val = t.val / 5 * 1024 + (y 0).val) (e1 : (i 1).val = t.val % 5 * 1536 + (y 1).val) :
    k0_pay2 (rows m c t) (iblk m c 2 t : Vec Ideal S1024x1536 .bf16) y = G3 m c i := by
  rw [G3_apply]
  exact (pay2_apply _ _ y).trans (Finset.sum_congr rfl fun k _ => congrArg₂ (· * ·)
    (rows_apply m c t (ix2 (y 0) k) (ix2 (i 0) k) e0 rfl) (blk2 m c t (ix2 k (y 1)) (ix2 k (i 1)) rfl e1))

/-! ## The results -/

theorem flushed_3 (t : Fin cfg0.N) : (dats m 0 c).flushed 3 t = ((cfg0.win 3).blk t).view.read (Elt Ideal) (G3 m c) := by
  show (cfg0.win 3).cut (grid0.coords t) ((dats m 0 c).after 3 t) = _
  rw [after_3]
  funext y
  show k0_pay2 (rows m c t) (iblk m c 2 t : Vec Ideal S1024x1536 .bf16) y = G3 m c (((cfg0.win 3).blk t).view.emb y)
  refine out_apply m c t y _ ?_ ?_
  · refine (Window.rect_emb_val (cfg0.win 3) t y 0).trans ?_
    rw [show (cfg0.win 3).index t = ![t.val / 5, t.val % 5] from index_3 t]; rfl
  · refine (Window.rect_emb_val (cfg0.win 3) t y 1).trans ?_
    rw [show (cfg0.win 3).index t = ![t.val / 5, t.val % 5] from index_3 t]; rfl

theorem flushed_4 (t : Fin cfg0.N) : (dats m 0 c).flushed 4 t = ((cfg0.win 4).blk t).view.read (Elt Ideal) (G4 m c) := by
  show (cfg0.win 4).cut (grid0.coords t) ((dats m 0 c).after 4 t) = _
  rw [after_4]
  funext y
  show rows m c t y = G4 m c (((cfg0.win 4).blk t).view.emb y)
  refine rows_apply m c t y _ ?_ ?_
  · refine (Window.rect_emb_val (cfg0.win 4) t y 0).trans ?_
    rw [show (cfg0.win 4).index t = ![t.val / 5, 0] from index_4 t]; rfl
  · refine (Window.rect_emb_val (cfg0.win 4) t y 1).trans ?_
    rw [show (cfg0.win 4).index t = ![t.val / 5, 0] from index_4 t]; show 0 * 1024 + (y 1).val = (y 1).val; omega

theorem mem_3 (t : Fin cfg0.N) (i : S2048x7680.Idx) :
    i ∈ ((cfg0.win 3).blk t).view.set ↔ ∀ a : Fin 2, win0_3.index t a * S1024x1536.size a ≤ (i a).val ∧ (i a).val < win0_3.index t a * S1024x1536.size a + S1024x1536.size a := by
  show i ∈ ((View.whole main_v2_0).slice (win0_3.rect t)).set ↔ _
  rw [View.set_slice_whole, Rect.mem_set_unit]
  exact Iff.rfl

theorem mem_4 (t : Fin cfg0.N) (i : S2048x1024.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v2_1).slice (win0_4.rect t)).set ↔ _
  rw [View.set_slice_whole, Rect.mem_set_unit]
  exact Iff.rfl

/-- Every block of either result is written. -/
theorem onto_3 : ∀ (p : Fin 2) (q : Fin 5), ∃ t : Fin cfg0.N, (cfg0.win 3).flush t = true ∧ win0_3.index t = ![p.val, q.val] :=
  (by decide +kernel : ∀ (p : Fin 2) (q : Fin 5), ∃ t : Fin grid0.N, win0_3.flush t = true ∧ win0_3.index t = ![p.val, q.val])
theorem onto_4 : ∀ p : Fin 2, ∃ t : Fin cfg0.N, (cfg0.win 4).flush t = true ∧ win0_4.index t = ![p.val, 0] :=
  (by decide +kernel : ∀ p : Fin 2, ∃ t : Fin grid0.N, win0_4.flush t = true ∧ win0_4.index t = ![p.val, 0])

theorem final_3 : (dats m 0 c).arrAt 3 cfg0.N = G3 m c :=
  (dats m 0 c).arrAt_eq_of_cover 3 (G3 m c) (fun t _ => flushed_3 m c t) fun i => by
    have h0 : (i 0).val < 2048 := (i 0).isLt
    have h1 : (i 1).val < 7680 := (i 1).isLt
    obtain ⟨t, hf, ht⟩ := onto_3 ⟨(i 0).val / 1024, by omega⟩ ⟨(i 1).val / 1536, by omega⟩
    refine ⟨t, hf, ?_⟩
    rw [mem_3]
    intro a
    match a with
    | ⟨0, _⟩ => rw [ht]; show (i 0).val / 1024 * 1024 ≤ (i 0).val ∧ (i 0).val < (i 0).val / 1024 * 1024 + 1024; omega
    | ⟨1, _⟩ => rw [ht]; show (i 1).val / 1536 * 1536 ≤ (i 1).val ∧ (i 1).val < (i 1).val / 1536 * 1536 + 1536; omega

theorem final_4 : (dats m 0 c).arrAt 4 cfg0.N = G4 m c :=
  (dats m 0 c).arrAt_eq_of_cover 4 (G4 m c) (fun t _ => flushed_4 m c t) fun i => by
    have h0 : (i 0).val < 2048 := (i 0).isLt
    have h1 : (i 1).val < 1024 := (i 1).isLt
    obtain ⟨t, hf, ht⟩ := onto_4 ⟨(i 0).val / 1024, by omega⟩
    refine ⟨t, hf, ?_⟩
    rw [mem_4]
    intro a
    match a with
    | ⟨0, _⟩ => rw [ht]; show (i 0).val / 1024 * 1024 ≤ (i 0).val ∧ (i 0).val < (i 0).val / 1024 * 1024 + 1024; omega
    | ⟨1, _⟩ => rw [ht]; show 0 * 1024 ≤ (i 1).val ∧ (i 1).val < 0 * 1024 + 1024; omega

/-- Every execution ends with both results the reference's and the arguments unchanged. -/
theorem run_value : θ_run defs (onTc (τ := τ) (main (F := Ideal))) ⟨m, fun _ => 0, ρ⟩ (fun r => ∀ c : Dev nD,
      r.2.mem ((c : Thread nD τ).loc main_v2_0) = G3 m c ∧ r.2.mem ((c : Thread nD τ).loc main_v2_1) = G4 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun r (h : Pipeline.FramePost cfgs (dats m) 0 (V m) r ∧ ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) c => ⟨((h.1 c).1 3).trans (final_3 m c), ((h.1 c).1 4).trans (final_4 m c), h.2 c⟩)
    (θ_run_and ((θ_run defs _ _).mono (fun _ h => h.1) (run_main m ρ)) ((θ_run defs _ _).mono (fun _ h => h.1) (frame_any m ρ)))

/-- The reference declares no semaphore. -/
theorem frame_reference : Cert.quiescent_Reference13Ideal := fun m ρ _ =>
  (θ_run _ _ _).mono (fun r h => ⟨fun c => (h c).2.2, sem_eq_zero_of_no_sems (by decide) r.2⟩) (Cert.Reference13Ideal.Value.run (F := Ideal) m ρ)

/-- The kernel and the reference end with equal results. -/
theorem algebraic : Cert.algebraic_Kernel13Ideal_Reference13Ideal := fun m ρ m' ρ' _ hargs => by
  refine ⟨fun c => G3 m c, fun c => G4 m c, run_value m ρ,
    (θ_run _ _ _).mono (fun r h c => ⟨(h c).1.trans ?_, (h c).2.1.trans ?_, (h c).2.2⟩) (Cert.Reference13Ideal.Value.run (F := Ideal) m' ρ')⟩
  · obtain ⟨e0, e1, e2⟩ := hargs c
    rw [e0, e1, e2]; rfl
  · obtain ⟨e0, e1, e2⟩ := hargs c
    rw [e0, e1]; rfl

end Cert.Kernel13Ideal.Norm

end
-- ==== Proof.Norm14.lean ====
/- The RMS norm and the product by the channel mixer's first weights: a point at the first block of columns norms its rows and
   keeps them in the second result's buffer, and every point multiplies them by its block of the weights. The body at
   the points of either kind, the pipeline's proof data, and the run of the program. -/
module

public import proofs.«01_k».proof.Defs
public import proofs.«01_k».proof.Proof.Gen.Kernel14Ideal.Skeleton
public import proofs.«01_k».proof.Proof.Gen.Kernel14Ideal.Frame
public import proofs.«01_k».proof.Proof.Gen.Kernel14.Skeleton
public import Idealize.ShloMosaic.Lib.Pipeline.TableIdle
public import Idealize.ShloMosaic.Lib.Pipeline.Value
public import Idealize.ShloMosaic.Lib.VecWindow
public import Idealize.ShloMosaic.Lib.Claim
public import Idealize.ShloMosaic.Lib.Tactic
public import Idealize.ShloMosaic.Lib.Quiescent

@[expose] public section

set_option maxRecDepth 16384

noncomputable section

namespace Cert.Kernel14Ideal.Norm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel14Ideal Cert.Kernel14Ideal.Gen

variable {F : FTy → Type} [FloatOps F]

local notation "𝕄" => MT nD τ sig Unit (Elt F) ℕ (UR sig nD τ) ℕ

/-- A load of a whole buffer reads what it holds. -/
theorem load_full {S : Shape} {e : EltTy} {m : Memref sig .tc .vmem S e} (h : m.IsWhole) (x : Vec F S e) {off : Fin S.rank → ℕ} (inb : ∀ a, off a + S.size a ≤ S.size a) :
    m.view.readAt (Elt F) (Rect.unit off S.size inb).toLoadRect (h.unread x) = x :=
  (View.readAt_full _ _ _).trans (h.read_unread _)

/-! ## The body -/

/-- At the first block of columns the body norms its rows, keeps them, and stores their product. -/
theorem run_first (c : Dev nD) (i : grid0.Coords) (a2 : Memref sig .tc .vmem S1024x1024 .f32) (h2 : a2.IsWhole) (a3 : Memref sig .tc .vmem S1x1024 .f32) (h3 : a3.IsWhole) (a4 : Memref sig .tc .vmem S1024x1408 .bf16) (h4 : a4.IsWhole) (a5 : Memref sig .tc .vmem S1024x1408 .bf16) (h5 : a5.IsWhole) (a6 : Memref sig .tc .vmem S1024x1024 .bf16) (h6 : a6.IsWhole)
    (hc : k0_cond1 i = 1#1) (x : Vec F S1024x1024 .f32) (g : Vec F S1x1024 .f32) (w : Vec F S1024x1408 .bf16) (E : Set ℕ) (K : PUnit → sProp 𝕄) :
    iprop(owns (c : Thread nD τ) a2 fullShare x ∗ owns (c : Thread nD τ) a3 fullShare g ∗ owns (c : Thread nD τ) a4 fullShare w
        ∗ (∃ d, owns (c : Thread nD τ) a5 fullShare d) ∗ (∃ d, owns (c : Thread nD τ) a6 fullShare d)
        ∗ (iprop(owns (c : Thread nD τ) a2 fullShare x ∗ owns (c : Thread nD τ) a3 fullShare g ∗ owns (c : Thread nD τ) a4 fullShare w
          ∗ owns (c : Thread nD τ) a5 fullShare (k0_pay2 (k0_pay1 x g) w) ∗ owns (c : Thread nD τ) a6 fullShare (k0_pay1 x g)) -∗ K ⟨⟩))
      ⊢ wp frame (wpE (defs₀ (F := F)) Variants.none c none) E (cc0_up_proj i a2 h2 a3 h3 a4 h4 a5 h5 a6 h6) K := by
  simp only [cc0_up_proj_eq_skeleton]; unfold cc0_up_proj_skel
  unfold owns
  iintro ⟨⟨%f2, %e2, H2⟩, ⟨%f3, %e3, H3⟩, ⟨%f4, %e4, H4⟩, ⟨%d5, %f5, -, H5⟩, ⟨%d6, %f6, -, H6⟩, Hk⟩
  obtain rfl := h2.eq_unread e2; obtain rfl := h3.eq_unread e3; obtain rfl := h4.eq_unread e4
  sl_exec (disch := sl_exact hc)
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; swap; · iexact H5
    ipureintro
    refine (View.read_writes_full _ _ _ _ _).trans ?_
    exact congrArg₂ k0_pay2 ((View.readCov_full _ _ _ _ _).trans (congrArg₂ k0_pay1 (load_full h2 _ _) (load_full h3 _ _))) (load_full h4 _ _)
  iexists _; isplitr; swap; · iexact H6
  ipureintro
  refine (View.read_writes_full _ _ _ _ _).trans ?_
  exact congrArg₂ k0_pay1 (load_full h2 _ _) (load_full h3 _ _)

/-- At the others it stores the product of the rows it finds kept. -/
theorem run_rest (c : Dev nD) (i : grid0.Coords) (a2 : Memref sig .tc .vmem S1024x1024 .f32) (h2 : a2.IsWhole) (a3 : Memref sig .tc .vmem S1x1024 .f32) (h3 : a3.IsWhole) (a4 : Memref sig .tc .vmem S1024x1408 .bf16) (h4 : a4.IsWhole) (a5 : Memref sig .tc .vmem S1024x1408 .bf16) (h5 : a5.IsWhole) (a6 : Memref sig .tc .vmem S1024x1024 .bf16) (h6 : a6.IsWhole)
    (hc : ¬k0_cond1 i = 1#1) (w : Vec F S1024x1408 .bf16) (h : Vec F S1024x1024 .bf16) (E : Set ℕ) (K : PUnit → sProp 𝕄) :
    iprop(owns (c : Thread nD τ) a4 fullShare w ∗ (∃ d, owns (c : Thread nD τ) a5 fullShare d) ∗ owns (c : Thread nD τ) a6 fullShare h
        ∗ (iprop(owns (c : Thread nD τ) a4 fullShare w ∗ owns (c : Thread nD τ) a5 fullShare (k0_pay2 h w) ∗ owns (c : Thread nD τ) a6 fullShare h) -∗ K ⟨⟩))
      ⊢ wp frame (wpE (defs₀ (F := F)) Variants.none c none) E (cc0_up_proj i a2 h2 a3 h3 a4 h4 a5 h5 a6 h6) K := by
  simp only [cc0_up_proj_eq_skeleton]; unfold cc0_up_proj_skel
  unfold owns
  iintro ⟨⟨%f4, %e4, H4⟩, ⟨%d5, %f5, -, H5⟩, ⟨%f6, %e6, H6⟩, Hk⟩
  obtain rfl := h4.eq_unread e4; obtain rfl := h6.eq_unread e6
  sl_exec (disch := sl_exact hc)
  sl_step
  iapply Hk
  isplitl [H4]
  · iexists _; isplitr; · ipureintro; exact h4.read_unread _
    iexact H4
  isplitl [H5]
  · iexists _; isplitr; swap; · iexact H5
    ipureintro
    refine (View.read_writes_full _ _ _ _ _).trans ?_
    exact congrArg₂ k0_pay2 (load_full h6 _ _) (load_full h4 _ _)
  iexists _; isplitr; · ipureintro; exact h6.read_unread _
  iexact H6

/-! ## The schedule -/

/-- The body norms its rows at the first block of columns. -/
theorem first_iff : ∀ t : Fin grid0.N, k0_cond1 (grid0.coords t) = 1#1 ↔ t.val % 4 = 0 := by decide +kernel

theorem idle_4 (t : Fin cfg0.N) : cfg0.idle 4 (grid0.coords t) = !(k0_cond1 (grid0.coords t) == 1#1) := rfl

theorem idle_of (t : Fin cfg0.N) (h : ¬t.val % 4 = 0) : cfg0.idle 4 (grid0.coords t) = true := by
  rw [idle_4, beq_eq_false_iff_ne.mpr (fun e => h ((first_iff t).mp e))]; rfl

theorem live_of (t : Fin cfg0.N) (h : t.val % 4 = 0) : cfg0.idle 4 (grid0.coords t) = false := by
  rw [idle_4, (first_iff t).mpr h]; rfl

theorem index_0 : ∀ t : Fin grid0.N, win0_0.index t = ![t.val / 4, 0] := by decide +kernel
theorem index_1 : ∀ t : Fin grid0.N, win0_1.index t = ![0, 0] := by decide +kernel
theorem index_2 : ∀ t : Fin grid0.N, win0_2.index t = ![0, t.val % 4] := by decide +kernel
theorem index_3 : ∀ t : Fin grid0.N, win0_3.index t = ![t.val / 4, t.val % 4] := by decide +kernel
theorem index_4 : ∀ t : Fin grid0.N, win0_4.index t = ![t.val / 4, 0] := by decide +kernel

/-- The second result's buffer is fresh at the first block of columns only. -/
theorem fresh_4 (n : ℕ) (hn : n ≤ cfg0.N) : cfg0.fresh 4 n = decide (n % 4 = 0) :=
  Cfg.fresh_tab cfg0 4 (fun n => decide (n % 4 = 0)) rfl (fun t => by
    have hf := flush0_4 t
    by_cases h : t.val % 4 = 0
    · have hi : cfg0.idle 4 (cfg0.grid.coords t) = false := live_of t h
      have hfl : (cfg0.win 4).flush t = false := by rw [Bool.eq_false_iff]; intro e; have := hf.mp e; omega
      rw [hfl, hi]; simp only [Bool.false_or, Bool.false_and, decide_eq_false_iff_not]; omega
    · have hi : cfg0.idle 4 (cfg0.grid.coords t) = true := idle_of t h
      by_cases h4 : t.val % 4 = 3
      · rw [hf.mpr h4]; simp only [Bool.true_or, decide_eq_true_eq]; omega
      · have hfl : (cfg0.win 4).flush t = false := by rw [Bool.eq_false_iff]; intro e; exact h4 (hf.mp e)
        rw [hfl, hi]; simp only [Bool.false_or, Bool.true_and, decide_eq_decide]; omega) n hn

variable (m : (ℓ : Loc nD τ sig) → Buf (Elt F) ℓ) (ρ : Dev nD → PrngReg)

/-! ## The proof data -/

/-- The rows a point finds or makes, normed: those of its block of rows. -/
def rows (c : Dev nD) (t : Fin cfg0.N) : Vec F S1024x1024 .bf16 :=
  k0_pay1 (iblk m c 0 t : Vec F S1024x1024 .f32) (iblk m c 1 t : Vec F S1x1024 .f32)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay2 (rows m c t) (iblk m c 2 t : Vec F S1024x1408 .bf16)
    | ⟨4, _⟩ => rows m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = k0_pay2 (rows m c t) (iblk m c 2 t : Vec F S1024x1408 .bf16) := by dsimp only [dats]
theorem after_4 (c : Dev nD) (t : Fin cfg0.N) : (dats m 0 c).after 4 t = rows m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- Two points of one block of rows read the same rows. -/
theorem iblk0_congr (c : Dev nD) (t t' : Fin cfg0.N) (h : t.val / 4 = t'.val / 4) : (iblk m c 0 t : Vec F S1024x1024 .f32) = iblk m c 0 t' := by
  funext y
  refine congrArg (V m c (Pipeline.arrRef spec0 0)) (funext fun a => Fin.ext ?_)
  refine (Window.rect_emb_val (cfg0.win 0) t y a).trans (Eq.trans ?_ (Window.rect_emb_val (cfg0.win 0) t' y a).symm)
  rw [show (cfg0.win 0).index t = ![t.val / 4, 0] from index_0 t, show (cfg0.win 0).index t' = ![t'.val / 4, 0] from index_0 t', h]

theorem iblk1_congr (c : Dev nD) (t t' : Fin cfg0.N) : (iblk m c 1 t : Vec F S1x1024 .f32) = iblk m c 1 t' := by
  funext y
  refine congrArg (V m c (Pipeline.arrRef spec0 1)) (funext fun a => Fin.ext ?_)
  refine (Window.rect_emb_val (cfg0.win 1) t y a).trans (Eq.trans ?_ (Window.rect_emb_val (cfg0.win 1) t' y a).symm)
  rw [show (cfg0.win 1).index t = ![0, 0] from index_1 t, show (cfg0.win 1).index t' = ![0, 0] from index_1 t']

theorem rows_congr (c : Dev nD) (t t' : Fin cfg0.N) (h : t.val / 4 = t'.val / 4) : rows m c t = rows m c t' := by
  unfold rows; rw [iblk0_congr m c t t' h, iblk1_congr m c t t']

/-- Past the first block of columns the body finds the normed rows kept. -/
theorem before_4 (c : Dev nD) (t : Fin cfg0.N) (h : ¬t.val % 4 = 0) (d) : (dats m 0 c).before 4 t d = rows m c t := by
  refine ((dats m 0 c).before_out_traj 4 rfl (fun _ _ => rfl) (fun t ht hi _ => ?_) t.val t rfl d).trans ?_
  · have h : ¬t.val % 4 = 0 := fun h => Bool.false_ne_true ((live_of t h).symm.trans hi)
    rw [after_4, after_4]
    exact rows_congr m c _ _ (by dsimp only; omega)
  · rw [fresh_4 t.val (Nat.le_of_lt t.isLt), if_neg (by simpa using h), after_4]
    exact rows_congr m c _ _ (by dsimp only; omega)

/-! ## The body at every point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What the body leaves in the second result's buffer. -/
def left_4 (c : Dev nD) (t : Fin cfg0.N) : sProp 𝕄 :=
  match cfg0.idle 4 (grid0.coords t) with
  | true =>
    match (cfg0.win 4).flush t with
    | false => iprop(∃ d, owns (c : Thread nD τ) (st0_4 t) fullShare ((dats m 0 c).before 4 t d))
    | true => owns (c : Thread nD τ) (st0_4 t) fullShare ((dats m 0 c).after 4 t)
  | false => owns (c : Thread nD τ) (st0_4 t) fullShare ((dats m 0 c).after 4 t)

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ left_4 m c t)

/-- The normed rows in the second result's buffer are what every point leaves there. -/
theorem rows_left (c : Dev nD) (t : Fin cfg0.N) : owns (c : Thread nD τ) (st0_4 t) fullShare (rows m c t) ⊢ (left_4 m c t : sProp 𝕄) := by
  by_cases h : t.val % 4 = 0
  · unfold left_4; rw [live_of t h]; dsimp only; rw [after_4]
  · unfold left_4; rw [idle_of t h]; dsimp only
    cases (cfg0.win 4).flush t
    · dsimp only; simp only [before_4 m c t h]
      iintro H; iexists (rows m c t); iexact H
    · dsimp only; rw [after_4]

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl,
    show (dats m 0 c).Φ t.succ = (dats m 0 c).Φ t.castSucc from rfl, after_0, after_1, after_2, after_3]
  by_cases h : t.val % 4 = 0
  · iintro ⟨HP, Ho, ⟨%d0, H0⟩, ⟨%d1, H1⟩, ⟨%d2, H2⟩, ⟨%d3, H3⟩, ⟨%d4, H4⟩⟩
    iapply (run_first c (grid0.coords t) _ _ _ _ _ _ _ _ _ _ ((first_iff t).mpr h) (iblk m c 0 t) (iblk m c 1 t) (iblk m c 2 t) Set.univ _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HP]; · iexact HP
    isplitl [Ho]; · iexact Ho
    isplitl [H0]; · iexact H0
    isplitl [H1]; · iexact H1
    isplitl [H2]; · iexact H2
    isplitl [H3]; · iexact H3
    iapply (rows_left m c t); iexact H4
  · simp only [before_4 m c t h]
    iintro ⟨HP, Ho, ⟨%d0, H0⟩, ⟨%d1, H1⟩, ⟨%d2, H2⟩, ⟨%d3, H3⟩, ⟨%d4, H4⟩⟩
    iapply (run_rest c (grid0.coords t) _ _ _ _ _ _ _ _ _ _ (fun e => h ((first_iff t).mp e)) (iblk m c 2 t) (rows m c t) Set.univ _)
    isplitl [H2]; · iexact H2
    isplitl [H3]; · iexists _; iexact H3
    isplitl [H4]; · iexact H4
    iintro ⟨H2, H3, H4⟩
    isplitl [HP]; · iexact HP
    isplitl [Ho]; · iexact Ho
    isplitl [H0]; · iexact H0
    isplitl [H1]; · iexact H1
    isplitl [H2]; · iexact H2
    isplitl [H3]; · iexact H3
    iapply (rows_left m c t); iexact H4

/-- The row of the body table. -/
theorem row (t : Fin cfg0.N) : (defs₀ (F := F)) .tc cfg0.body (cfg0.bodyArgs t (cfg0.slots t)) = bodyAt0 t := rfl

theorem body_obligation (c : Dev nD) : BodyObligation (dats (F := F) m 0 c) (defs₀ (F := F)) Variants.none () Set.univ := fun t => by
  rw [bigSep_W0, bigSep_W0, row]
  exact triple_restated (sound_body m c t) rfl .rfl fun _ => .rfl

/-! ## The run -/

set_option backward.isDefEq.respectTransparency.types false in
/-- Every execution of the program ends, the arrays at what the pipeline leaves and every counter at zero. -/
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := fun c => Entails.refl _) (hout := fun c => Entails.refl _)

/-- Every execution ends, the arguments unchanged and every counter at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

theorem frame_ideal : Cert.quiescent_Kernel14Ideal := fun m ρ _ => frame_any m ρ

set_option smartUnfolding false in
set_option backward.isDefEq.respectTransparency false in
set_option backward.isDefEq.respectTransparency.types false in
/-- The compiled program is the same text at machine floats. -/
theorem frame_kernel : Cert.quiescent_Kernel14 := fun m ρ _ =>
  (θ_run Cert.Kernel14Ideal.defs _ _).mono (fun _ h => h) (frame_any (F := Bits) m ρ)

end Cert.Kernel14Ideal.Norm

end
-- ==== Proof.NormValue14.lean ====
/- The RMS norm and the product by the channel mixer's first weights: what the kernel's blocks hold, entry by entry, and the
   results, which are the reference's. -/
module

public import proofs.«01_k».proof.Proof.Norm14
public import proofs.«01_k».proof.Proof.Gen.Reference14Ideal.Run
public import proofs.«01_k».proof.Proof.Gen.Reference14Ideal.Read
public import Idealize.ShloMosaic.Lib.Pipeline.ValueKit
public import Idealize.ShloMosaic.Lib.Pointwise
public import Idealize.ShloMosaic.Lib.StableHlo.Run

@[expose] public section

set_option maxRecDepth 16384

noncomputable section

open Idealize.ShloMosaic Idealize.ShloMosaic.TcCoe Idealize.SL.Sem
open Idealize.ShloMosaic.Pipeline (Dat Cfg Window)

namespace Cert.Kernel14Ideal.Norm

open Cert.Kernel14Ideal Cert.Kernel14Ideal.Gen

/-! ## Entries -/

/-- An entry of a normed row: the row's entry over the root of the row's mean square, times the gain. -/
def cell (x : EReal) (r : Fin 1024 → EReal) (g : EReal) : EReal :=
  x * Ideal.rsqrt (Ideal.div (∑ s, r s * r s) (Ideal.ofBits FTy.f32 0x44800000#32) + Ideal.ofBits FTy.f32 0x358637BD#32) * g

theorem pay1_apply (x : Vec Ideal S1024x1024 .f32) (g : Vec Ideal S1x1024 .f32) (j : S1024x1024.Idx) :
    k0_pay1 x g j = cell (x j) (fun s => x (ix2 (j 0) s)) (g (ix2 (0 : Fin 1) (j 1))) := by
  unfold cell; pointwise [k0_pay1]

/-- The reference's normed rows. -/
theorem ref_norm (x : FVec Ideal S2048x1024 .f32) (g : FVec Ideal S1024 .f32) (i : S2048x1024.Idx) :
    Cert.Reference14Ideal.Read.val_main_v12 (F := Ideal) x g i = cell (x i) (fun s => x (ix2 (i 0) s)) (g (ix1 (i 1))) := by
  open Cert.Reference14Ideal.Read in
  unfold cell
  open Cert.Reference14Ideal.Read in
  pointwise [val_main_v12, val_main_v11, val_main_v10, val_main_v9, val_main_v8, val_main_v7, val_main_v6, val_main_v5, val_main_v4, val_main_v3, val_main_v2, val_main_v1, val_main_v0, val_main_cst, val_main_cst_0, val_main_cst_1]

theorem pay2_eq (x : Vec Ideal S1024x1024 .bf16) (y : Vec Ideal S1024x1408 .bf16) :
    k0_pay2 x y = (truncf .bf16 (matmul (φ₁ := .bf16) (φ₂ := .bf16) dot_S1024x1024_S1024x1408_S1024x1408_1_0_0_1_n_n none (x : FVec Ideal S1024x1024 .bf16) (y : FVec Ideal S1024x1408 .bf16) (constant S1024x1408 .f32 0x00000000#32)) bitsLt_bf16_f32 : FVec Ideal S1024x1408 .bf16) := by
  unfold k0_pay2
  dsimp only
  simp only [shapeCast_self]

/-- An entry of the product of two blocks. -/
theorem pay2_apply (x : Vec Ideal S1024x1024 .bf16) (y : Vec Ideal S1024x1408 .bf16) (j : S1024x1408.Idx) :
    k0_pay2 x y j = (∑ k : Fin 1024, x (ix2 (j 0) k) * y (ix2 k (j 1)) : EReal) := by
  rw [pay2_eq]
  pointwise

variable (m : (ℓ : Loc nD τ sig) → Buf (Elt Ideal) ℓ) (ρ : Dev nD → PrngReg) (c : Dev nD)

/-- The reference's results at the kernel's arguments: the product, and the normed rows. -/
abbrev G3 : Buf (Elt Ideal) ((c : Thread nD τ).loc main_v2_0) :=
  Cert.Reference14Ideal.Read.val_main_v14 (F := Ideal) (m ((c : Thread nD τ).loc main_arg0)) (m ((c : Thread nD τ).loc main_arg1)) (m ((c : Thread nD τ).loc main_arg2))
abbrev G4 : Buf (Elt Ideal) ((c : Thread nD τ).loc main_v2_1) :=
  Cert.Reference14Ideal.Read.val_main_v15 (F := Ideal) (m ((c : Thread nD τ).loc main_arg0)) (m ((c : Thread nD τ).loc main_arg1))

/-- The normed rows as a vector of numbers; the activation, the gain and the weights. -/
abbrev hn : FVec Ideal S2048x1024 .bf16 := G4 m c
abbrev act : FVec Ideal S2048x1024 .f32 := m ((c : Thread nD τ).loc main_arg0)
abbrev gain : FVec Ideal S1024 .f32 := m ((c : Thread nD τ).loc main_arg1)
abbrev wts : FVec Ideal S1024x5632 .f32 := m ((c : Thread nD τ).loc main_arg2)

theorem G4_apply (i : S2048x1024.Idx) : G4 m c i = cell (act m c i) (fun s => act m c (ix2 (i 0) s)) (gain m c (ix1 (i 1))) :=
  ref_norm (act m c) (gain m c) i

theorem G3_apply (i : S2048x5632.Idx) : G3 m c i = (∑ k : Fin 1024, hn m c (ix2 (i 0) k) * wts m c (ix2 k (i 1)) : EReal) := by
  refine (Cert.Reference14Ideal.Read.val_main_v13_apply (act m c) (gain m c) (wts m c) i).trans (Finset.sum_congr rfl fun k _ => ?_)
  refine congrArg₂ (· * ·) (congrArg (hn m c) (funext fun a => ?_)) (congrArg (wts m c) (funext fun a => ?_))
  · match a with
    | ⟨0, _⟩ => rfl
    | ⟨1, _⟩ => rfl
  · match a with
    | ⟨0, _⟩ => rfl
    | ⟨1, _⟩ => rfl

/-! ## The blocks -/

/-- The weights rounded on the host are, over the extended reals, the argument itself; -/
theorem V_cast (i : S1024x5632.Idx) : V m c main_v0 i = wts m c i := by
  have e : V m c main_v0 = (truncf .bf16 (wts m c) bitsLt_bf16_f32 : FVec Ideal S1024x5632 .bf16) := by
    unfold V; after_results
  rw [e]; rfl

/-- and the gain as a row is the gain. -/
theorem V_row (i : S1x1024.Idx) : V m c main_v1 i = gain m c (ix1 (i 1)) := by
  have e : V m c main_v1 = (shapeCast S1x1024 (gain m c) shapeCasts_S1024_S1x1024 : FVec Ideal S1x1024 .f32) := by
    unfold V; after_results
    try rfl
  rw [e]
  pointwise

theorem blk0 (t : Fin cfg0.N) (y : S1024x1024.Idx) (i : S2048x1024.Idx) (e0 : (i 0).val = t.val / 4 * 1024 + (y 0).val) (e1 : (i 1).val = (y 1).val) :
    (iblk m c 0 t : Vec Ideal S1024x1024 .f32) y = act m c i := by
  refine (congrFun (V_main_arg0 m c) _).trans (congrArg _ (funext fun a => Fin.ext ?_))
  match a with
  | ⟨0, _⟩ => refine (Window.rect_emb_val (cfg0.win 0) t _ 0).trans ?_
              rw [show (cfg0.win 0).index t = ![t.val / 4, 0] from index_0 t]; exact e0.symm
  | ⟨1, _⟩ => refine (Window.rect_emb_val (cfg0.win 0) t _ 1).trans ?_
              rw [show (cfg0.win 0).index t = ![t.val / 4, 0] from index_0 t]; refine Eq.trans ?_ e1.symm; show 0 * 1024 + (y 1).val = (y 1).val; omega

theorem blk1 (t : Fin cfg0.N) (k : Fin 1024) : (iblk m c 1 t : Vec Ideal S1x1024 .f32) (ix2 (0 : Fin 1) k) = gain m c (ix1 k) := by
  refine (V_row m c _).trans (congrArg (gain m c) (funext fun a => Fin.ext ?_))
  match a with
  | ⟨0, _⟩ => refine (Window.rect_emb_val (cfg0.win 1) t _ 1).trans ?_
              rw [show (cfg0.win 1).index t = ![0, 0] from index_1 t]; show 0 * 1024 + k.val = k.val; omega

theorem blk2 (t : Fin cfg0.N) (y : S1024x1408.Idx) (i : S1024x5632.Idx) (e0 : (i 0).val = (y 0).val) (e1 : (i 1).val = t.val % 4 * 1408 + (y 1).val) :
    (iblk m c 2 t : Vec Ideal S1024x1408 .bf16) y = wts m c i := by
  refine (V_cast m c _).trans (congrArg _ (funext fun a => Fin.ext ?_))
  match a with
  | ⟨0, _⟩ => refine (Window.rect_emb_val (cfg0.win 2) t _ 0).trans ?_
              rw [show (cfg0.win 2).index t = ![0, t.val % 4] from index_2 t]; refine Eq.trans ?_ e0.symm; show 0 * 1024 + (y 0).val = (y 0).val; omega
  | ⟨1, _⟩ => refine (Window.rect_emb_val (cfg0.win 2) t _ 1).trans ?_
              rw [show (cfg0.win 2).index t = ![0, t.val % 4] from index_2 t]; exact e1.symm

/-- A point's normed rows are the reference's. -/
theorem rows_apply (t : Fin cfg0.N) (y : S1024x1024.Idx) (i : S2048x1024.Idx) (e0 : (i 0).val = t.val / 4 * 1024 + (y 0).val) (e1 : (i 1).val = (y 1).val) :
    rows m c t y = G4 m c i := by
  unfold rows
  rw [G4_apply]
  refine (pay1_apply _ _ y).trans ?_
  rw [blk0 m c t y i e0 e1, blk1 m c t (y 1)]
  have hr : (fun s : Fin 1024 => (iblk m c 0 t : Vec Ideal S1024x1024 .f32) (ix2 (y 0) s)) = fun s => act m c (ix2 (i 0) s) :=
    funext fun s => blk0 m c t (ix2 (y 0) s) (ix2 (i 0) s) e0 rfl
  rw [hr, show (y 1 : Fin 1024) = i 1 from Fin.ext e1.symm]

/-- Its product is the reference's. -/
theorem out_apply (t : Fin cfg0.N) (y : S1024x1408.Idx) (i : S2048x5632.Idx) (e0 : (i 0).val = t.val / 4 * 1024 + (y 0).val) (e1 : (i 1).val = t.val % 4 * 1408 + (y 1).val) :
    k0_pay2 (rows m c t) (iblk m c 2 t : Vec Ideal S1024x1408 .bf16) y = G3 m c i := by
  rw [G3_apply]
  exact (pay2_apply _ _ y).trans (Finset.sum_congr rfl fun k _ => congrArg₂ (· * ·)
    (rows_apply m c t (ix2 (y 0) k) (ix2 (i 0) k) e0 rfl) (blk2 m c t (ix2 k (y 1)) (ix2 k (i 1)) rfl e1))

/-! ## The results -/

theorem flushed_3 (t : Fin cfg0.N) : (dats m 0 c).flushed 3 t = ((cfg0.win 3).blk t).view.read (Elt Ideal) (G3 m c) := by
  show (cfg0.win 3).cut (grid0.coords t) ((dats m 0 c).after 3 t) = _
  rw [after_3]
  funext y
  show k0_pay2 (rows m c t) (iblk m c 2 t : Vec Ideal S1024x1408 .bf16) y = G3 m c (((cfg0.win 3).blk t).view.emb y)
  refine out_apply m c t y _ ?_ ?_
  · refine (Window.rect_emb_val (cfg0.win 3) t y 0).trans ?_
    rw [show (cfg0.win 3).index t = ![t.val / 4, t.val % 4] from index_3 t]; rfl
  · refine (Window.rect_emb_val (cfg0.win 3) t y 1).trans ?_
    rw [show (cfg0.win 3).index t = ![t.val / 4, t.val % 4] from index_3 t]; rfl

theorem flushed_4 (t : Fin cfg0.N) : (dats m 0 c).flushed 4 t = ((cfg0.win 4).blk t).view.read (Elt Ideal) (G4 m c) := by
  show (cfg0.win 4).cut (grid0.coords t) ((dats m 0 c).after 4 t) = _
  rw [after_4]
  funext y
  show rows m c t y = G4 m c (((cfg0.win 4).blk t).view.emb y)
  refine rows_apply m c t y _ ?_ ?_
  · refine (Window.rect_emb_val (cfg0.win 4) t y 0).trans ?_
    rw [show (cfg0.win 4).index t = ![t.val / 4, 0] from index_4 t]; rfl
  · refine (Window.rect_emb_val (cfg0.win 4) t y 1).trans ?_
    rw [show (cfg0.win 4).index t = ![t.val / 4, 0] from index_4 t]; show 0 * 1024 + (y 1).val = (y 1).val; omega

theorem mem_3 (t : Fin cfg0.N) (i : S2048x5632.Idx) :
    i ∈ ((cfg0.win 3).blk t).view.set ↔ ∀ a : Fin 2, win0_3.index t a * S1024x1408.size a ≤ (i a).val ∧ (i a).val < win0_3.index t a * S1024x1408.size a + S1024x1408.size a := by
  show i ∈ ((View.whole main_v2_0).slice (win0_3.rect t)).set ↔ _
  rw [View.set_slice_whole, Rect.mem_set_unit]
  exact Iff.rfl

theorem mem_4 (t : Fin cfg0.N) (i : S2048x1024.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v2_1).slice (win0_4.rect t)).set ↔ _
  rw [View.set_slice_whole, Rect.mem_set_unit]
  exact Iff.rfl

/-- Every block of either result is written. -/
theorem onto_3 : ∀ (p : Fin 2) (q : Fin 4), ∃ t : Fin cfg0.N, (cfg0.win 3).flush t = true ∧ win0_3.index t = ![p.val, q.val] :=
  (by decide +kernel : ∀ (p : Fin 2) (q : Fin 4), ∃ t : Fin grid0.N, win0_3.flush t = true ∧ win0_3.index t = ![p.val, q.val])
theorem onto_4 : ∀ p : Fin 2, ∃ t : Fin cfg0.N, (cfg0.win 4).flush t = true ∧ win0_4.index t = ![p.val, 0] :=
  (by decide +kernel : ∀ p : Fin 2, ∃ t : Fin grid0.N, win0_4.flush t = true ∧ win0_4.index t = ![p.val, 0])

theorem final_3 : (dats m 0 c).arrAt 3 cfg0.N = G3 m c :=
  (dats m 0 c).arrAt_eq_of_cover 3 (G3 m c) (fun t _ => flushed_3 m c t) fun i => by
    have h0 : (i 0).val < 2048 := (i 0).isLt
    have h1 : (i 1).val < 5632 := (i 1).isLt
    obtain ⟨t, hf, ht⟩ := onto_3 ⟨(i 0).val / 1024, by omega⟩ ⟨(i 1).val / 1408, by omega⟩
    refine ⟨t, hf, ?_⟩
    rw [mem_3]
    intro a
    match a with
    | ⟨0, _⟩ => rw [ht]; show (i 0).val / 1024 * 1024 ≤ (i 0).val ∧ (i 0).val < (i 0).val / 1024 * 1024 + 1024; omega
    | ⟨1, _⟩ => rw [ht]; show (i 1).val / 1408 * 1408 ≤ (i 1).val ∧ (i 1).val < (i 1).val / 1408 * 1408 + 1408; omega

theorem final_4 : (dats m 0 c).arrAt 4 cfg0.N = G4 m c :=
  (dats m 0 c).arrAt_eq_of_cover 4 (G4 m c) (fun t _ => flushed_4 m c t) fun i => by
    have h0 : (i 0).val < 2048 := (i 0).isLt
    have h1 : (i 1).val < 1024 := (i 1).isLt
    obtain ⟨t, hf, ht⟩ := onto_4 ⟨(i 0).val / 1024, by omega⟩
    refine ⟨t, hf, ?_⟩
    rw [mem_4]
    intro a
    match a with
    | ⟨0, _⟩ => rw [ht]; show (i 0).val / 1024 * 1024 ≤ (i 0).val ∧ (i 0).val < (i 0).val / 1024 * 1024 + 1024; omega
    | ⟨1, _⟩ => rw [ht]; show 0 * 1024 ≤ (i 1).val ∧ (i 1).val < 0 * 1024 + 1024; omega

/-- Every execution ends with both results the reference's and the arguments unchanged. -/
theorem run_value : θ_run defs (onTc (τ := τ) (main (F := Ideal))) ⟨m, fun _ => 0, ρ⟩ (fun r => ∀ c : Dev nD,
      r.2.mem ((c : Thread nD τ).loc main_v2_0) = G3 m c ∧ r.2.mem ((c : Thread nD τ).loc main_v2_1) = G4 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun r (h : Pipeline.FramePost cfgs (dats m) 0 (V m) r ∧ ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) c => ⟨((h.1 c).1 3).trans (final_3 m c), ((h.1 c).1 4).trans (final_4 m c), h.2 c⟩)
    (θ_run_and ((θ_run defs _ _).mono (fun _ h => h.1) (run_main m ρ)) ((θ_run defs _ _).mono (fun _ h => h.1) (frame_any m ρ)))

/-- The reference declares no semaphore. -/
theorem frame_reference : Cert.quiescent_Reference14Ideal := fun m ρ _ =>
  (θ_run _ _ _).mono (fun r h => ⟨fun c => (h c).2.2, sem_eq_zero_of_no_sems (by decide) r.2⟩) (Cert.Reference14Ideal.Value.run (F := Ideal) m ρ)

/-- The kernel and the reference end with equal results. -/
theorem algebraic : Cert.algebraic_Kernel14Ideal_Reference14Ideal := fun m ρ m' ρ' _ hargs => by
  refine ⟨fun c => G3 m c, fun c => G4 m c, run_value m ρ,
    (θ_run _ _ _).mono (fun r h c => ⟨(h c).1.trans ?_, (h c).2.1.trans ?_, (h c).2.2⟩) (Cert.Reference14Ideal.Value.run (F := Ideal) m' ρ')⟩
  · obtain ⟨e0, e1, e2⟩ := hargs c
    rw [e0, e1, e2]; rfl
  · obtain ⟨e0, e1, e2⟩ := hargs c
    rw [e0, e1]; rfl

end Cert.Kernel14Ideal.Norm

end
-- ==== Proof.Product15.lean ====
/- The gradient of a branch's projection's weights, the branch's output in single precision: the kernel's blocks are the blocks of the reference's product. -/
module

public import proofs.«01_k».proof.Defs
public import proofs.«01_k».proof.Proof.Gen.Kernel15Ideal.Value
public import proofs.«01_k».proof.Proof.Gen.Reference15Ideal.Run
public import proofs.«01_k».proof.Proof.Gen.Reference15Ideal.Read
public import Idealize.ShloMosaic.Lib.Pipeline.Value
public import Idealize.ShloMosaic.Lib.Pipeline.ValueKit
public import Idealize.ShloMosaic.Lib.Pointwise
public import Idealize.ShloMosaic.Lib.StableHlo.Run
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat Cfg Window)

namespace Cert.Kernel15Ideal.Product

open Cert.Kernel15Ideal Cert.Kernel15Ideal.Gen
open Cert.Reference15Ideal.Read (val_main_v3 val_main_v3_apply val_main_v2_apply)

theorem zeros : (![0, 0] : Fin 2 → Nat) = fun _ => 0 := funext fun a => by fin_cases a <;> rfl

/-- What the body leaves in its block of the result: the product of the two blocks it reads. -/
theorem out_eq (c : Dev nD) (i : grid0.Coords) (a3 : Memref sig .tc .vmem S2048x512 .f32) (h3 : a3.IsWhole)
    (a4 : Memref sig .tc .vmem S2048x1024 .bf16) (h4 : a4.IsWhole) (a5 : Memref sig .tc .vmem S512x1024 .f32) (h5 : a5.IsWhole)
    (a6 : Memref sig .tc .vmem S8x128 .f32) (h6 : a6.IsWhole) (x : Vec Ideal S2048x512 .f32) (y : Vec Ideal S2048x1024 .bf16) :
    out0_A_2 c i a3 h3 a4 h4 a5 h5 a6 h6 x y = k0_pay1 x y := by
  unfold out0_A_2
  rw [View.read_writes_eq_canon _ _ _ (cover0_A_2 c i a3 h3 a4 h4 a5 h5 a6 h6 x y)]
  unfold kernelRun0_A
  dsimp only
  sl_unfold_words
  rw [View.canon_unit_zero (S := S512x1024) zeros]
  simp only [View.readAt_eq_ld, h3.read_unread, h4.read_unread, View.ld_unit_zero (S := S2048x1024) zeros, View.ld_unit_zero (S := S2048x512) zeros]

/-- The body's product, the changes of format and shape that change nothing left out. -/
theorem pay_eq (x : Vec Ideal S2048x512 .f32) (y : Vec Ideal S2048x1024 .bf16) :
    k0_pay1 x y = matmul (φ₁ := .bf16) (φ₂ := .bf16) dot_S2048x512_S2048x1024_S512x1024_0_0_1_1_n_n none (truncf .bf16 (x : FVec Ideal S2048x512 .f32) bitsLt_bf16_f32) (y : FVec Ideal S2048x1024 .bf16) (constant S512x1024 .f32 0x00000000#32) := by
  unfold k0_pay1
  dsimp only

/-- An entry of the product of two blocks. -/
theorem pay_apply (x : Vec Ideal S2048x512 .f32) (y : Vec Ideal S2048x1024 .bf16) (j : S512x1024.Idx) :
    k0_pay1 x y j = (∑ k : Fin 2048, x (ix2 k (j 0)) * y (ix2 k (j 1)) : EReal) := by
  rw [pay_eq]
  pointwise

/-! The places of the blocks. -/
theorem index_0 : ∀ t : Fin grid0.N, win0_0.index t = ![0, t.val / 1] := by decide +kernel
theorem index_1 : ∀ t : Fin grid0.N, win0_1.index t = ![0, t.val % 1] := by decide +kernel
theorem index_2 : ∀ t : Fin grid0.N, win0_2.index t = ![t.val / 1, t.val % 1] := by decide +kernel

variable (m : (ℓ : Loc nD τ sig) → Buf (Elt Ideal) ℓ) (ρ : Dev nD → PrngReg) (c : Dev nD)

/-- The reference's result at the kernel's arguments. -/
abbrev G : Buf (Elt Ideal) ((c : Thread nD τ).loc main_v0) :=
  val_main_v3 (F := Ideal) (m ((c : Thread nD τ).loc main_arg0)) (m ((c : Thread nD τ).loc main_arg2))

/-- Every block written back is the reference's. -/
theorem flushed_eq (t : Fin cfg0.N) : (dats m 0 c).flushed 2 t = ((cfg0.win 2).blk t).view.read (Elt Ideal) (G m c) := by
  rw [Value.flushed2_A, out_eq]
  funext y
  refine (pay_apply (iblk m c 0 t) (iblk m c 1 t) _).trans ?_
  refine Eq.symm ((val_main_v3_apply _ _ _).trans ((val_main_v2_apply _ _ _).trans ?_))
  refine Finset.sum_congr rfl fun k _ => ?_
  rw [mul_comm]
  have e0 : (((cfg0.win 2).blk t).view.emb y 0).val = t.val / 1 * 512 + (y 0).val :=
    (Window.rect_emb_val (cfg0.win 2) t y 0).trans (by rw [show (cfg0.win 2).index t = ![t.val / 1, t.val % 1] from index_2 t]; rfl)
  have e1 : (((cfg0.win 2).blk t).view.emb y 1).val = t.val % 1 * 1024 + (y 1).val :=
    (Window.rect_emb_val (cfg0.win 2) t y 1).trans (by rw [show (cfg0.win 2).index t = ![t.val / 1, t.val % 1] from index_2 t]; rfl)
  refine congrArg₂ (· * ·) ?_ ?_
  · refine Eq.symm ((congrFun (V_main_arg0 m c) _).trans (congrArg _ (funext fun a => Fin.ext ?_)))
    match a with
    | ⟨0, _⟩ => refine (Window.rect_emb_val (cfg0.win 0) t _ 0).trans ?_
                rw [show (cfg0.win 0).index t = ![0, t.val / 1] from index_0 t]; show 0 * 2048 + k.val = k.val; omega
    | ⟨1, _⟩ => refine (Window.rect_emb_val (cfg0.win 0) t _ 1).trans ?_
                rw [show (cfg0.win 0).index t = ![0, t.val / 1] from index_0 t]; exact e0.symm
  · refine Eq.symm ((congrFun (V_main_arg2 m c) _).trans (congrArg _ (funext fun a => Fin.ext ?_)))
    match a with
    | ⟨0, _⟩ => refine (Window.rect_emb_val (cfg0.win 1) t _ 0).trans ?_
                rw [show (cfg0.win 1).index t = ![0, t.val % 1] from index_1 t]; show 0 * 2048 + k.val = k.val; omega
    | ⟨1, _⟩ => refine (Window.rect_emb_val (cfg0.win 1) t _ 1).trans ?_
                rw [show (cfg0.win 1).index t = ![0, t.val % 1] from index_1 t]; exact e1.symm

theorem mem_blk (t : Fin cfg0.N) (i : S512x1024.Idx) :
    i ∈ ((cfg0.win 2).blk t).view.set ↔ ∀ a : Fin 2, win0_2.index t a * S512x1024.size a ≤ (i a).val ∧ (i a).val < win0_2.index t a * S512x1024.size a + S512x1024.size a := by
  show i ∈ ((View.whole main_v0).slice (win0_2.rect t)).set ↔ _
  rw [View.set_slice_whole, Rect.mem_set_unit]
  exact Iff.rfl

/-- Every block of the result is written. -/
theorem onto : ∀ (p : Fin 1) (q : Fin 1), ∃ t : Fin cfg0.N, (cfg0.win 2).flush t = true ∧ win0_2.index t = ![p.val, q.val] :=
  (by decide +kernel : ∀ (p : Fin 1) (q : Fin 1), ∃ t : Fin grid0.N, win0_2.flush t = true ∧ win0_2.index t = ![p.val, q.val])

/-- The whole result. -/
theorem final : (dats m 0 c).arrAt 2 cfg0.N = G m c :=
  (dats m 0 c).arrAt_eq_of_cover 2 (G m c) (fun t _ => flushed_eq m c t) fun i => by
    have h0 : (i 0).val < 512 := (i 0).isLt
    have h1 : (i 1).val < 1024 := (i 1).isLt
    obtain ⟨t, hf, ht⟩ := onto ⟨(i 0).val / 512, by omega⟩ ⟨(i 1).val / 1024, by omega⟩
    refine ⟨t, hf, ?_⟩
    rw [mem_blk]
    intro a
    match a with
    | ⟨0, _⟩ => rw [ht]; show (i 0).val / 512 * 512 ≤ (i 0).val ∧ (i 0).val < (i 0).val / 512 * 512 + 512; omega
    | ⟨1, _⟩ => rw [ht]; show (i 1).val / 1024 * 1024 ≤ (i 1).val ∧ (i 1).val < (i 1).val / 1024 * 1024 + 1024; omega

/-- The reference declares no semaphore. -/
theorem frame_reference : Cert.quiescent_Reference15Ideal := fun m ρ _ =>
  (θ_run _ _ _).mono (fun r h => ⟨fun c => (h c).2, sem_eq_zero_of_no_sems (by decide) r.2⟩) (Cert.Reference15Ideal.Value.run (F := Ideal) m ρ)

/-- The kernel and the reference end with equal results. -/
theorem algebraic : Cert.algebraic_Kernel15Ideal_Reference15Ideal := fun m ρ m' ρ' _ hargs => by
  refine ⟨fun c => G m c, (θ_run _ _ _).mono (fun r h c => ⟨(h c).1.trans (final m c), (h c).2⟩) (Value.run_blocks m ρ),
    (θ_run _ _ _).mono (fun r h c => ⟨(h c).1.trans ?_, (h c).2⟩) (Cert.Reference15Ideal.Value.run (F := Ideal) m' ρ')⟩
  obtain ⟨e0, e1, e2⟩ := hargs c
  rw [e0, e2]; rfl

end Cert.Kernel15Ideal.Product

end
-- ==== Proof.Merge16.lean ====
/- The merge of the three branches: each branch's output through its projection, the gated sum of the three, and the
   sum's projection added to the residual. What the kernel's blocks hold, entry by entry, and the five results,
   which are the reference's. -/
module

public import proofs.«01_k».proof.Defs
public import proofs.«01_k».proof.Proof.Gen.Kernel16Ideal.Value
public import proofs.«01_k».proof.Proof.Gen.Reference16Ideal.Run
public import proofs.«01_k».proof.Proof.Gen.Reference16Ideal.Read
public import Idealize.ShloMosaic.Lib.Pipeline.Value
public import Idealize.ShloMosaic.Lib.Pipeline.ValueKit
public import Idealize.ShloMosaic.Lib.IdealHost
public import Idealize.ShloMosaic.Lib.Pointwise
public import Idealize.ShloMosaic.Lib.StableHlo.Run
public import Idealize.ShloMosaic.Lib.Tactic
public import Idealize.ShloMosaic.Lib.Quiescent

@[expose] public section

set_option maxRecDepth 65536

noncomputable section

open Idealize.ShloMosaic Idealize.ShloMosaic.TcCoe Idealize.SL.Sem
open Idealize.ShloMosaic.Pipeline (Dat Cfg Window)

namespace Cert.Kernel16Ideal.Merge

open Cert.Kernel16Ideal Cert.Kernel16Ideal.Gen

theorem zeros : (![0, 0] : Fin 2 → Nat) = fun _ => 0 := funext fun a => by fin_cases a <;> rfl

/-! ## What the body leaves -/

/-- A branch's part of the gates' bias. -/
abbrev bias (x : Vec Ideal S1x3072 .f32) (o : Nat) (h : S1x3072.Slices ![0, o] S1x1024) : Vec Ideal S1x1024 .f32 :=
  extractStridedSlice S1x1024 ![0, o] x h

theorem slices0 : S1x3072.Slices ![0, 0] S1x1024 := ⟨rfl, inb_S1x3072_S1x1024_0_0⟩
theorem slices1 : S1x3072.Slices ![0, 1024] S1x1024 := ⟨rfl, inb_S1x3072_S1x1024_0_1024⟩
theorem slices2 : S1x3072.Slices ![0, 2048] S1x1024 := ⟨rfl, inb_S1x3072_S1x1024_0_2048⟩

/-- The residual plus the projected sum, -/
theorem out_12 (c : Dev nD) (i : grid0.Coords) (a1 : Memref sig .tc .vmem S256x1024 .f32) (h1 : a1.IsWhole) (a2 : Memref sig .tc .vmem S256x512 .bf16) (h2 : a2.IsWhole) (a3 : Memref sig .tc .vmem S256x512 .f32) (h3 : a3.IsWhole) (a4 : Memref sig .tc .vmem S256x512 .f32) (h4 : a4.IsWhole) (a5 : Memref sig .tc .vmem S512x1024 .bf16) (h5 : a5.IsWhole) (a6 : Memref sig .tc .vmem S512x1024 .bf16) (h6 : a6.IsWhole) (a7 : Memref sig .tc .vmem S512x1024 .bf16) (h7 : a7.IsWhole) (a8 : Memref sig .tc .vmem S256x1024 .bf16) (h8 : a8.IsWhole) (a9 : Memref sig .tc .vmem S256x1024 .bf16) (h9 : a9.IsWhole) (a10 : Memref sig .tc .vmem S256x1024 .bf16) (h10 : a10.IsWhole) (a11 : Memref sig .tc .vmem S1x3072 .f32) (h11 : a11.IsWhole) (a12 : Memref sig .tc .vmem S1024x1024 .bf16) (h12 : a12.IsWhole) (a13 : Memref sig .tc .vmem S256x1024 .f32) (h13 : a13.IsWhole) (a14 : Memref sig .tc .vmem S256x1024 .bf16) (h14 : a14.IsWhole) (a15 : Memref sig .tc .vmem S256x1024 .bf16) (h15 : a15.IsWhole) (a16 : Memref sig .tc .vmem S256x1024 .bf16) (h16 : a16.IsWhole) (a17 : Memref sig .tc .vmem S256x1024 .bf16) (h17 : a17.IsWhole)
    (x0 : Vec Ideal S256x1024 .f32) (x1 : Vec Ideal S256x512 .bf16) (x2 : Vec Ideal S256x512 .f32) (x3 : Vec Ideal S256x512 .f32) (x4 : Vec Ideal S512x1024 .bf16) (x5 : Vec Ideal S512x1024 .bf16) (x6 : Vec Ideal S512x1024 .bf16) (x7 : Vec Ideal S256x1024 .bf16) (x8 : Vec Ideal S256x1024 .bf16) (x9 : Vec Ideal S256x1024 .bf16) (x10 : Vec Ideal S1x3072 .f32) (x11 : Vec Ideal S1024x1024 .bf16) :
    out0_A_12 c i a1 h1 a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 x10 x11 = k0_pay4 (k0_pay9 x1 x4 x7 (bias x10 0 slices0) x2 x5 x8 (bias x10 1024 slices1)) x3 x6 x9 (bias x10 2048 slices2) x0 x11 := by
  unfold out0_A_12
  rw [View.read_writes_eq_canon _ _ _ (cover0_A_12 c i a1 h1 a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 x10 x11)]
  unfold kernelRun0_A
  dsimp only
  sl_unfold_words
  rw [View.canon_unit_zero (S := S256x1024) zeros]
  simp only [View.readAt_eq_ld, h1.read_unread, h2.read_unread, h3.read_unread, h4.read_unread, h5.read_unread, h6.read_unread, h7.read_unread, h8.read_unread, h9.read_unread, h10.read_unread, h11.read_unread, h12.read_unread, View.ld_unit_zero (S := S256x1024) zeros, View.ld_unit_zero (S := S256x512) zeros, View.ld_unit_zero (S := S512x1024) zeros, View.ld_unit_zero (S := S1024x1024) zeros]
  rw [View.ld_unit, View.ld_unit, View.ld_unit]

/-- the gated sum, -/
theorem out_13 (c : Dev nD) (i : grid0.Coords) (a1 : Memref sig .tc .vmem S256x1024 .f32) (h1 : a1.IsWhole) (a2 : Memref sig .tc .vmem S256x512 .bf16) (h2 : a2.IsWhole) (a3 : Memref sig .tc .vmem S256x512 .f32) (h3 : a3.IsWhole) (a4 : Memref sig .tc .vmem S256x512 .f32) (h4 : a4.IsWhole) (a5 : Memref sig .tc .vmem S512x1024 .bf16) (h5 : a5.IsWhole) (a6 : Memref sig .tc .vmem S512x1024 .bf16) (h6 : a6.IsWhole) (a7 : Memref sig .tc .vmem S512x1024 .bf16) (h7 : a7.IsWhole) (a8 : Memref sig .tc .vmem S256x1024 .bf16) (h8 : a8.IsWhole) (a9 : Memref sig .tc .vmem S256x1024 .bf16) (h9 : a9.IsWhole) (a10 : Memref sig .tc .vmem S256x1024 .bf16) (h10 : a10.IsWhole) (a11 : Memref sig .tc .vmem S1x3072 .f32) (h11 : a11.IsWhole) (a12 : Memref sig .tc .vmem S1024x1024 .bf16) (h12 : a12.IsWhole) (a13 : Memref sig .tc .vmem S256x1024 .f32) (h13 : a13.IsWhole) (a14 : Memref sig .tc .vmem S256x1024 .bf16) (h14 : a14.IsWhole) (a15 : Memref sig .tc .vmem S256x1024 .bf16) (h15 : a15.IsWhole) (a16 : Memref sig .tc .vmem S256x1024 .bf16) (h16 : a16.IsWhole) (a17 : Memref sig .tc .vmem S256x1024 .bf16) (h17 : a17.IsWhole)
    (x0 : Vec Ideal S256x1024 .f32) (x1 : Vec Ideal S256x512 .bf16) (x2 : Vec Ideal S256x512 .f32) (x3 : Vec Ideal S256x512 .f32) (x4 : Vec Ideal S512x1024 .bf16) (x5 : Vec Ideal S512x1024 .bf16) (x6 : Vec Ideal S512x1024 .bf16) (x7 : Vec Ideal S256x1024 .bf16) (x8 : Vec Ideal S256x1024 .bf16) (x9 : Vec Ideal S256x1024 .bf16) (x10 : Vec Ideal S1x3072 .f32) (x11 : Vec Ideal S1024x1024 .bf16) :
    out0_A_13 c i a1 h1 a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 x10 x11 = k0_pay3 (k0_pay9 x1 x4 x7 (bias x10 0 slices0) x2 x5 x8 (bias x10 1024 slices1)) x3 x6 x9 (bias x10 2048 slices2) := by
  unfold out0_A_13
  rw [View.read_writes_eq_canon _ _ _ (cover0_A_13 c i a1 h1 a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 x10 x11)]
  unfold kernelRun0_A
  dsimp only
  sl_unfold_words
  rw [View.canon_unit_zero (S := S256x1024) zeros]
  simp only [View.readAt_eq_ld, h1.read_unread, h2.read_unread, h3.read_unread, h4.read_unread, h5.read_unread, h6.read_unread, h7.read_unread, h8.read_unread, h9.read_unread, h10.read_unread, h11.read_unread, h12.read_unread, View.ld_unit_zero (S := S256x1024) zeros, View.ld_unit_zero (S := S256x512) zeros, View.ld_unit_zero (S := S512x1024) zeros, View.ld_unit_zero (S := S1024x1024) zeros]
  rw [View.ld_unit, View.ld_unit, View.ld_unit]

/-- and the three projected outputs. -/
theorem out_14 (c : Dev nD) (i : grid0.Coords) (a1 : Memref sig .tc .vmem S256x1024 .f32) (h1 : a1.IsWhole) (a2 : Memref sig .tc .vmem S256x512 .bf16) (h2 : a2.IsWhole) (a3 : Memref sig .tc .vmem S256x512 .f32) (h3 : a3.IsWhole) (a4 : Memref sig .tc .vmem S256x512 .f32) (h4 : a4.IsWhole) (a5 : Memref sig .tc .vmem S512x1024 .bf16) (h5 : a5.IsWhole) (a6 : Memref sig .tc .vmem S512x1024 .bf16) (h6 : a6.IsWhole) (a7 : Memref sig .tc .vmem S512x1024 .bf16) (h7 : a7.IsWhole) (a8 : Memref sig .tc .vmem S256x1024 .bf16) (h8 : a8.IsWhole) (a9 : Memref sig .tc .vmem S256x1024 .bf16) (h9 : a9.IsWhole) (a10 : Memref sig .tc .vmem S256x1024 .bf16) (h10 : a10.IsWhole) (a11 : Memref sig .tc .vmem S1x3072 .f32) (h11 : a11.IsWhole) (a12 : Memref sig .tc .vmem S1024x1024 .bf16) (h12 : a12.IsWhole) (a13 : Memref sig .tc .vmem S256x1024 .f32) (h13 : a13.IsWhole) (a14 : Memref sig .tc .vmem S256x1024 .bf16) (h14 : a14.IsWhole) (a15 : Memref sig .tc .vmem S256x1024 .bf16) (h15 : a15.IsWhole) (a16 : Memref sig .tc .vmem S256x1024 .bf16) (h16 : a16.IsWhole) (a17 : Memref sig .tc .vmem S256x1024 .bf16) (h17 : a17.IsWhole)
    (x0 : Vec Ideal S256x1024 .f32) (x1 : Vec Ideal S256x512 .bf16) (x2 : Vec Ideal S256x512 .f32) (x3 : Vec Ideal S256x512 .f32) (x4 : Vec Ideal S512x1024 .bf16) (x5 : Vec Ideal S512x1024 .bf16) (x6 : Vec Ideal S512x1024 .bf16) (x7 : Vec Ideal S256x1024 .bf16) (x8 : Vec Ideal S256x1024 .bf16) (x9 : Vec Ideal S256x1024 .bf16) (x10 : Vec Ideal S1x3072 .f32) (x11 : Vec Ideal S1024x1024 .bf16) :
    out0_A_14 c i a1 h1 a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 x10 x11 = k0_pay6 x1 x4 := by
  unfold out0_A_14
  rw [View.read_writes_eq_canon _ _ _ (cover0_A_14 c i a1 h1 a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 x10 x11)]
  unfold kernelRun0_A
  dsimp only
  sl_unfold_words
  rw [View.canon_unit_zero (S := S256x1024) zeros]
  simp only [View.readAt_eq_ld, h1.read_unread, h2.read_unread, h3.read_unread, h4.read_unread, h5.read_unread, h6.read_unread, h7.read_unread, h8.read_unread, h9.read_unread, h10.read_unread, h11.read_unread, h12.read_unread, View.ld_unit_zero (S := S256x1024) zeros, View.ld_unit_zero (S := S256x512) zeros, View.ld_unit_zero (S := S512x1024) zeros, View.ld_unit_zero (S := S1024x1024) zeros]

theorem out_15 (c : Dev nD) (i : grid0.Coords) (a1 : Memref sig .tc .vmem S256x1024 .f32) (h1 : a1.IsWhole) (a2 : Memref sig .tc .vmem S256x512 .bf16) (h2 : a2.IsWhole) (a3 : Memref sig .tc .vmem S256x512 .f32) (h3 : a3.IsWhole) (a4 : Memref sig .tc .vmem S256x512 .f32) (h4 : a4.IsWhole) (a5 : Memref sig .tc .vmem S512x1024 .bf16) (h5 : a5.IsWhole) (a6 : Memref sig .tc .vmem S512x1024 .bf16) (h6 : a6.IsWhole) (a7 : Memref sig .tc .vmem S512x1024 .bf16) (h7 : a7.IsWhole) (a8 : Memref sig .tc .vmem S256x1024 .bf16) (h8 : a8.IsWhole) (a9 : Memref sig .tc .vmem S256x1024 .bf16) (h9 : a9.IsWhole) (a10 : Memref sig .tc .vmem S256x1024 .bf16) (h10 : a10.IsWhole) (a11 : Memref sig .tc .vmem S1x3072 .f32) (h11 : a11.IsWhole) (a12 : Memref sig .tc .vmem S1024x1024 .bf16) (h12 : a12.IsWhole) (a13 : Memref sig .tc .vmem S256x1024 .f32) (h13 : a13.IsWhole) (a14 : Memref sig .tc .vmem S256x1024 .bf16) (h14 : a14.IsWhole) (a15 : Memref sig .tc .vmem S256x1024 .bf16) (h15 : a15.IsWhole) (a16 : Memref sig .tc .vmem S256x1024 .bf16) (h16 : a16.IsWhole) (a17 : Memref sig .tc .vmem S256x1024 .bf16) (h17 : a17.IsWhole)
    (x0 : Vec Ideal S256x1024 .f32) (x1 : Vec Ideal S256x512 .bf16) (x2 : Vec Ideal S256x512 .f32) (x3 : Vec Ideal S256x512 .f32) (x4 : Vec Ideal S512x1024 .bf16) (x5 : Vec Ideal S512x1024 .bf16) (x6 : Vec Ideal S512x1024 .bf16) (x7 : Vec Ideal S256x1024 .bf16) (x8 : Vec Ideal S256x1024 .bf16) (x9 : Vec Ideal S256x1024 .bf16) (x10 : Vec Ideal S1x3072 .f32) (x11 : Vec Ideal S1024x1024 .bf16) :
    out0_A_15 c i a1 h1 a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 x10 x11 = k0_pay8 x2 x5 := by
  unfold out0_A_15
  rw [View.read_writes_eq_canon _ _ _ (cover0_A_15 c i a1 h1 a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 x10 x11)]
  unfold kernelRun0_A
  dsimp only
  sl_unfold_words
  rw [View.canon_unit_zero (S := S256x1024) zeros]
  simp only [View.readAt_eq_ld, h1.read_unread, h2.read_unread, h3.read_unread, h4.read_unread, h5.read_unread, h6.read_unread, h7.read_unread, h8.read_unread, h9.read_unread, h10.read_unread, h11.read_unread, h12.read_unread, View.ld_unit_zero (S := S256x1024) zeros, View.ld_unit_zero (S := S256x512) zeros, View.ld_unit_zero (S := S512x1024) zeros, View.ld_unit_zero (S := S1024x1024) zeros]

theorem out_16 (c : Dev nD) (i : grid0.Coords) (a1 : Memref sig .tc .vmem S256x1024 .f32) (h1 : a1.IsWhole) (a2 : Memref sig .tc .vmem S256x512 .bf16) (h2 : a2.IsWhole) (a3 : Memref sig .tc .vmem S256x512 .f32) (h3 : a3.IsWhole) (a4 : Memref sig .tc .vmem S256x512 .f32) (h4 : a4.IsWhole) (a5 : Memref sig .tc .vmem S512x1024 .bf16) (h5 : a5.IsWhole) (a6 : Memref sig .tc .vmem S512x1024 .bf16) (h6 : a6.IsWhole) (a7 : Memref sig .tc .vmem S512x1024 .bf16) (h7 : a7.IsWhole) (a8 : Memref sig .tc .vmem S256x1024 .bf16) (h8 : a8.IsWhole) (a9 : Memref sig .tc .vmem S256x1024 .bf16) (h9 : a9.IsWhole) (a10 : Memref sig .tc .vmem S256x1024 .bf16) (h10 : a10.IsWhole) (a11 : Memref sig .tc .vmem S1x3072 .f32) (h11 : a11.IsWhole) (a12 : Memref sig .tc .vmem S1024x1024 .bf16) (h12 : a12.IsWhole) (a13 : Memref sig .tc .vmem S256x1024 .f32) (h13 : a13.IsWhole) (a14 : Memref sig .tc .vmem S256x1024 .bf16) (h14 : a14.IsWhole) (a15 : Memref sig .tc .vmem S256x1024 .bf16) (h15 : a15.IsWhole) (a16 : Memref sig .tc .vmem S256x1024 .bf16) (h16 : a16.IsWhole) (a17 : Memref sig .tc .vmem S256x1024 .bf16) (h17 : a17.IsWhole)
    (x0 : Vec Ideal S256x1024 .f32) (x1 : Vec Ideal S256x512 .bf16) (x2 : Vec Ideal S256x512 .f32) (x3 : Vec Ideal S256x512 .f32) (x4 : Vec Ideal S512x1024 .bf16) (x5 : Vec Ideal S512x1024 .bf16) (x6 : Vec Ideal S512x1024 .bf16) (x7 : Vec Ideal S256x1024 .bf16) (x8 : Vec Ideal S256x1024 .bf16) (x9 : Vec Ideal S256x1024 .bf16) (x10 : Vec Ideal S1x3072 .f32) (x11 : Vec Ideal S1024x1024 .bf16) :
    out0_A_16 c i a1 h1 a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 x10 x11 = k0_pay2 x3 x6 := by
  unfold out0_A_16
  rw [View.read_writes_eq_canon _ _ _ (cover0_A_16 c i a1 h1 a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 x10 x11)]
  unfold kernelRun0_A
  dsimp only
  sl_unfold_words
  rw [View.canon_unit_zero (S := S256x1024) zeros]
  simp only [View.readAt_eq_ld, h1.read_unread, h2.read_unread, h3.read_unread, h4.read_unread, h5.read_unread, h6.read_unread, h7.read_unread, h8.read_unread, h9.read_unread, h10.read_unread, h11.read_unread, h12.read_unread, View.ld_unit_zero (S := S256x1024) zeros, View.ld_unit_zero (S := S256x512) zeros, View.ld_unit_zero (S := S512x1024) zeros, View.ld_unit_zero (S := S1024x1024) zeros]

/-! ## Entries -/

/-- An entry of the gated sum: each branch's entry times the logistic of its gate's entry with the bias. -/
def mix (y0 y1 y2 g0 g1 g2 b0 b1 b2 : EReal) : EReal :=
  Ideal.logistic (g0 + b0) * y0 + Ideal.logistic (g1 + b1) * y1 + Ideal.logistic (g2 + b2) * y2

theorem pay6_apply (x : Vec Ideal S256x512 .bf16) (w : Vec Ideal S512x1024 .bf16) (j : S256x1024.Idx) :
    k0_pay6 x w j = (∑ k : Fin 512, x (ix2 (j 0) k) * w (ix2 k (j 1)) : EReal) := by
  pointwise [k0_pay6, k0_pay5]

theorem pay8_apply (x : Vec Ideal S256x512 .f32) (w : Vec Ideal S512x1024 .bf16) (j : S256x1024.Idx) :
    k0_pay8 x w j = (∑ k : Fin 512, x (ix2 (j 0) k) * w (ix2 k (j 1)) : EReal) := by
  pointwise [k0_pay8, k0_pay7]

theorem pay2_apply (x : Vec Ideal S256x512 .f32) (w : Vec Ideal S512x1024 .bf16) (j : S256x1024.Idx) :
    k0_pay2 x w j = (∑ k : Fin 512, x (ix2 (j 0) k) * w (ix2 k (j 1)) : EReal) := by
  pointwise [k0_pay2, k0_pay1]

theorem pay3_apply (a : Vec Ideal S256x512 .bf16) (f s : Vec Ideal S256x512 .f32) (wa wf ws : Vec Ideal S512x1024 .bf16)
    (g0 g1 g2 : Vec Ideal S256x1024 .bf16) (b0 b1 b2 : Vec Ideal S1x1024 .f32) (j : S256x1024.Idx) :
    k0_pay3 (k0_pay9 a wa g0 b0 f wf g1 b1) s ws g2 b2 j
      = mix (∑ k : Fin 512, a (ix2 (j 0) k) * wa (ix2 k (j 1))) (∑ k : Fin 512, f (ix2 (j 0) k) * wf (ix2 k (j 1)))
          (∑ k : Fin 512, s (ix2 (j 0) k) * ws (ix2 k (j 1))) (g0 j) (g1 j) (g2 j)
          (b0 (ix2 (0 : Fin 1) (j 1))) (b1 (ix2 (0 : Fin 1) (j 1))) (b2 (ix2 (0 : Fin 1) (j 1))) := by
  unfold mix; pointwise [k0_pay3, k0_pay1, k0_pay9, k0_pay7, k0_pay5]

theorem pay4_apply (v : FVec Ideal S256x1024 .f32) (s : Vec Ideal S256x512 .f32) (ws : Vec Ideal S512x1024 .bf16) (g : Vec Ideal S256x1024 .bf16)
    (b : Vec Ideal S1x1024 .f32) (x : Vec Ideal S256x1024 .f32) (w : Vec Ideal S1024x1024 .bf16) (j : S256x1024.Idx) :
    k0_pay4 v s ws g b x w j = (x j + ∑ k : Fin 1024, k0_pay3 v s ws g b (ix2 (j 0) k) * w (ix2 k (j 1)) : EReal) := by
  unfold k0_pay4
  generalize k0_pay3 v s ws g b = z
  pointwise

/-! The reference's, from the arguments. -/
open Cert.Reference16Ideal.Read in
theorem ref_mix (a : FVec Ideal S2048x512 .bf16) (f s : FVec Ideal S2048x512 .f32) (wa wf ws : FVec Ideal S512x1024 .f32)
    (p : FVec Ideal S2048x7680 .bf16) (b : FVec Ideal S3072 .f32) (i : S2048x1024.Idx) :
    val_main_v22 (F := Ideal) a f s wa wf ws p b i
      = mix (val_main_v1 (F := Ideal) a wa i) (val_main_v2 (F := Ideal) f wf i) (val_main_v3 (F := Ideal) s ws i)
          (p (ix2 (i 0) (⟨(i 1).val, by have := (i 1).isLt; simp at this; omega⟩ : Fin 7680))) (p (ix2 (i 0) (⟨1024 + (i 1).val, by have := (i 1).isLt; simp at this; omega⟩ : Fin 7680))) (p (ix2 (i 0) (⟨2048 + (i 1).val, by have := (i 1).isLt; simp at this; omega⟩ : Fin 7680)))
          (b (ix1 (⟨(i 1).val, by have := (i 1).isLt; simp at this; omega⟩ : Fin 3072))) (b (ix1 (⟨1024 + (i 1).val, by have := (i 1).isLt; simp at this; omega⟩ : Fin 3072))) (b (ix1 (⟨2048 + (i 1).val, by have := (i 1).isLt; simp at this; omega⟩ : Fin 3072))) := by
  have h : ∀ j : Cert.Reference16Ideal.S2048x3072.Idx, val_main_v14 (F := Ideal) p b j = Ideal.logistic (p (idx_main_v4 j) + b (ix1 (j 1))) := fun j => by
    rw [val_main_v14_apply, val_main_v12_apply, val_main_v10_apply, val_main_v9_apply, val_main_v8_apply, val_main_v5_apply, val_main_v4_apply, val_main_v7_apply, val_main_v6_apply, val_main_v13_apply, val_main_v11_apply]
    show Ideal.div (Ideal.ofBits .f32 0x3F800000#32) (Ideal.ofBits .f32 0x3F800000#32 + Ideal.exp (-(p (idx_main_v4 j) + b _))) = _
    rw [Ideal.ofBits_one_f32]
    refine congrArg (fun z => Ideal.logistic (p (idx_main_v4 j) + b z)) (funext fun a => ?_)
    match a with
    | ⟨0, _⟩ => rfl
  rw [val_main_v22_apply, val_main_v20_apply, val_main_v18_apply, val_main_v19_apply, val_main_v21_apply, val_main_v15_apply, val_main_v16_apply, val_main_v17_apply, h, h, h]
  unfold mix
  refine congrArg₂ (· + ·) (congrArg₂ (· + ·) (congrArg₂ (fun a b : EReal => a * b) ?_ rfl) (congrArg₂ (fun a b : EReal => a * b) ?_ rfl)) (congrArg₂ (fun a b : EReal => a * b) ?_ rfl)
  all_goals
    refine congrArg Ideal.logistic (congrArg₂ (· + ·) (congrArg p (funext fun a => ?_)) (congrArg b (funext fun a => ?_)))
    · match a with
      | ⟨0, _⟩ => rfl
      | ⟨1, _⟩ => rfl
    · match a with
      | ⟨0, _⟩ => rfl

variable (m : (ℓ : Loc nD τ sig) → Buf (Elt Ideal) ℓ) (ρ : Dev nD → PrngReg) (c : Dev nD)

/-! The arguments as arrays of numbers: the residual, the branches' outputs, their projections, the input's
    projection that holds the gates, the gates' bias, the last projection. -/
abbrev xres : FVec Ideal S2048x1024 .f32 := m ((c : Thread nD τ).loc main_arg0)
abbrev oc : FVec Ideal S2048x512 .bf16 := m ((c : Thread nD τ).loc main_arg1)
abbrev of : FVec Ideal S2048x512 .f32 := m ((c : Thread nD τ).loc main_arg2)
abbrev os : FVec Ideal S2048x512 .f32 := m ((c : Thread nD τ).loc main_arg3)
abbrev wc : FVec Ideal S512x1024 .f32 := m ((c : Thread nD τ).loc main_arg4)
abbrev wf : FVec Ideal S512x1024 .f32 := m ((c : Thread nD τ).loc main_arg5)
abbrev ws : FVec Ideal S512x1024 .f32 := m ((c : Thread nD τ).loc main_arg6)
abbrev proj : FVec Ideal S2048x7680 .bf16 := m ((c : Thread nD τ).loc main_arg7)
abbrev gb : FVec Ideal S3072 .f32 := m ((c : Thread nD τ).loc main_arg8)
abbrev wo : FVec Ideal S1024x1024 .f32 := m ((c : Thread nD τ).loc main_arg9)

/-! The reference's five results at the kernel's arguments. -/
abbrev G12 : Buf (Elt Ideal) ((c : Thread nD τ).loc main_v5_0) :=
  Cert.Reference16Ideal.Read.val_main_v24 (F := Ideal) (xres m c) (oc m c) (of m c) (os m c) (wc m c) (wf m c) (ws m c) (proj m c) (gb m c) (wo m c)
abbrev G13 : Buf (Elt Ideal) ((c : Thread nD τ).loc main_v5_1) :=
  Cert.Reference16Ideal.Read.val_main_v25 (F := Ideal) (oc m c) (of m c) (os m c) (wc m c) (wf m c) (ws m c) (proj m c) (gb m c)
abbrev G14 : Buf (Elt Ideal) ((c : Thread nD τ).loc main_v5_2) :=
  Cert.Reference16Ideal.Read.val_main_v26 (F := Ideal) (oc m c) (wc m c)
abbrev G15 : Buf (Elt Ideal) ((c : Thread nD τ).loc main_v5_3) :=
  Cert.Reference16Ideal.Read.val_main_v27 (F := Ideal) (of m c) (wf m c)
abbrev G16 : Buf (Elt Ideal) ((c : Thread nD τ).loc main_v5_4) :=
  Cert.Reference16Ideal.Read.val_main_v28 (F := Ideal) (os m c) (ws m c)

theorem G14_apply (i : S2048x1024.Idx) : G14 m c i = (∑ k : Fin 512, oc m c (ix2 (i 0) k) * wc m c (ix2 k (i 1)) : EReal) := by
  refine (Cert.Reference16Ideal.Read.val_main_v1_apply (oc m c) (wc m c) i).trans (Finset.sum_congr rfl fun k _ => ?_)
  refine congrArg₂ (fun a b : EReal => a * b) (congrArg (oc m c) (funext fun a => ?_)) (congrArg (wc m c) (funext fun a => ?_))
  · match a with
    | ⟨0, _⟩ => rfl
    | ⟨1, _⟩ => rfl
  · match a with
    | ⟨0, _⟩ => rfl
    | ⟨1, _⟩ => rfl

theorem G15_apply (i : S2048x1024.Idx) : G15 m c i = (∑ k : Fin 512, of m c (ix2 (i 0) k) * wf m c (ix2 k (i 1)) : EReal) := by
  refine (Cert.Reference16Ideal.Read.val_main_v2_apply (of m c) (wf m c) i).trans (Finset.sum_congr rfl fun k _ => ?_)
  refine congrArg₂ (fun a b : EReal => a * b) (congrArg (of m c) (funext fun a => ?_)) (congrArg (wf m c) (funext fun a => ?_))
  · match a with
    | ⟨0, _⟩ => rfl
    | ⟨1, _⟩ => rfl
  · match a with
    | ⟨0, _⟩ => rfl
    | ⟨1, _⟩ => rfl

theorem G16_apply (i : S2048x1024.Idx) : G16 m c i = (∑ k : Fin 512, os m c (ix2 (i 0) k) * ws m c (ix2 k (i 1)) : EReal) := by
  refine (Cert.Reference16Ideal.Read.val_main_v3_apply (os m c) (ws m c) i).trans (Finset.sum_congr rfl fun k _ => ?_)
  refine congrArg₂ (fun a b : EReal => a * b) (congrArg (os m c) (funext fun a => ?_)) (congrArg (ws m c) (funext fun a => ?_))
  · match a with
    | ⟨0, _⟩ => rfl
    | ⟨1, _⟩ => rfl
  · match a with
    | ⟨0, _⟩ => rfl
    | ⟨1, _⟩ => rfl

/-- The reference's gated sum, as an array of numbers. -/
abbrev merged : FVec Ideal S2048x1024 .bf16 := G13 m c

theorem G12_apply (i : S2048x1024.Idx) : G12 m c i = (xres m c i + ∑ k : Fin 1024, merged m c (ix2 (i 0) k) * wo m c (ix2 k (i 1)) : EReal) := by
  refine congrArg (fun z : EReal => xres m c i + z) ((Cert.Reference16Ideal.Read.val_main_v23_apply (oc m c) (of m c) (os m c) (wc m c) (wf m c) (ws m c) (proj m c) (gb m c) (wo m c) i).trans (Finset.sum_congr rfl fun k _ => ?_))
  refine congrArg₂ (fun a b : EReal => a * b) (congrArg (G13 m c) (funext fun a => ?_)) (congrArg (wo m c) (funext fun a => ?_))
  · match a with
    | ⟨0, _⟩ => rfl
    | ⟨1, _⟩ => rfl
  · match a with
    | ⟨0, _⟩ => rfl
    | ⟨1, _⟩ => rfl

/-! ## The blocks -/

/-! The places of the blocks. -/
theorem index_0 : ∀ t : Fin grid0.N, win0_0.index t = ![t.val, 0] := by decide +kernel
theorem index_1 : ∀ t : Fin grid0.N, win0_1.index t = ![t.val, 0] := by decide +kernel
theorem index_2 : ∀ t : Fin grid0.N, win0_2.index t = ![t.val, 0] := by decide +kernel
theorem index_3 : ∀ t : Fin grid0.N, win0_3.index t = ![t.val, 0] := by decide +kernel
theorem index_12 : ∀ t : Fin grid0.N, win0_12.index t = ![t.val, 0] := by decide +kernel
theorem index_13 : ∀ t : Fin grid0.N, win0_13.index t = ![t.val, 0] := by decide +kernel
theorem index_14 : ∀ t : Fin grid0.N, win0_14.index t = ![t.val, 0] := by decide +kernel
theorem index_15 : ∀ t : Fin grid0.N, win0_15.index t = ![t.val, 0] := by decide +kernel
theorem index_16 : ∀ t : Fin grid0.N, win0_16.index t = ![t.val, 0] := by decide +kernel
theorem index_7 : ∀ t : Fin grid0.N, win0_7.index t = ![t.val, 0] := by decide +kernel
theorem index_8 : ∀ t : Fin grid0.N, win0_8.index t = ![t.val, 1] := by decide +kernel
theorem index_9 : ∀ t : Fin grid0.N, win0_9.index t = ![t.val, 2] := by decide +kernel
theorem index_4 : ∀ t : Fin grid0.N, win0_4.index t = ![0, 0] := by decide +kernel
theorem index_5 : ∀ t : Fin grid0.N, win0_5.index t = ![0, 0] := by decide +kernel
theorem index_6 : ∀ t : Fin grid0.N, win0_6.index t = ![0, 0] := by decide +kernel
theorem index_10 : ∀ t : Fin grid0.N, win0_10.index t = ![0, 0] := by decide +kernel
theorem index_11 : ∀ t : Fin grid0.N, win0_11.index t = ![0, 0] := by decide +kernel

/-! The weights rounded on the host are, over the extended reals, the arguments themselves, and the bias as a row is the bias. -/
theorem V_wc (i : S512x1024.Idx) : V m c main_v0 i = wc m c i := by
  have e : V m c main_v0 = (truncf .bf16 (wc m c) bitsLt_bf16_f32 : FVec Ideal S512x1024 .bf16) := by
    unfold V; after_results
  rw [e]; rfl
theorem V_wf (i : S512x1024.Idx) : V m c main_v1 i = wf m c i := by
  have e : V m c main_v1 = (truncf .bf16 (wf m c) bitsLt_bf16_f32 : FVec Ideal S512x1024 .bf16) := by
    unfold V; after_results
  rw [e]; rfl
theorem V_ws (i : S512x1024.Idx) : V m c main_v2 i = ws m c i := by
  have e : V m c main_v2 = (truncf .bf16 (ws m c) bitsLt_bf16_f32 : FVec Ideal S512x1024 .bf16) := by
    unfold V; after_results
  rw [e]; rfl
theorem V_wo (i : S1024x1024.Idx) : V m c main_v3 i = wo m c i := by
  have e : V m c main_v3 = (truncf .bf16 (wo m c) bitsLt_bf16_f32 : FVec Ideal S1024x1024 .bf16) := by
    unfold V; after_results
  rw [e]; rfl
theorem V_gb (i : S1x3072.Idx) : V m c main_v4 i = gb m c (ix1 (i 1)) := by
  have e : V m c main_v4 = (shapeCast S1x3072 (gb m c) shapeCasts_S3072_S1x3072 : FVec Ideal S1x3072 .f32) := by
    unfold V; after_results
    try rfl
  rw [e]
  pointwise

theorem blk0 (t : Fin cfg0.N) (y : S256x1024.Idx) (i : S2048x1024.Idx) (e0 : (i 0).val = t.val * 256 + (y 0).val) (e1 : (i 1).val = (y 1).val) :
    (iblk m c 0 t : Vec Ideal S256x1024 .f32) y = xres m c i := by
  refine (congrFun (V_main_arg0 m c) _).trans (congrArg (xres m c) (funext fun a => Fin.ext ?_))
  match a with
  | ⟨0, _⟩ => refine (Window.rect_emb_val (cfg0.win 0) t _ 0).trans ?_
              rw [show (cfg0.win 0).index t = ![t.val, 0] from index_0 t]; exact e0.symm
  | ⟨1, _⟩ => refine (Window.rect_emb_val (cfg0.win 0) t _ 1).trans ?_
              rw [show (cfg0.win 0).index t = ![t.val, 0] from index_0 t]; refine Eq.trans ?_ e1.symm; show 0 * 1024 + (y 1).val = (y 1).val; omega

theorem blk1 (t : Fin cfg0.N) (y : S256x512.Idx) (i : S2048x512.Idx) (e0 : (i 0).val = t.val * 256 + (y 0).val) (e1 : (i 1).val = (y 1).val) :
    (iblk m c 1 t : Vec Ideal S256x512 .bf16) y = oc m c i := by
  refine (congrFun (V_main_arg1 m c) _).trans (congrArg (oc m c) (funext fun a => Fin.ext ?_))
  match a with
  | ⟨0, _⟩ => refine (Window.rect_emb_val (cfg0.win 1) t _ 0).trans ?_
              rw [show (cfg0.win 1).index t = ![t.val, 0] from index_1 t]; exact e0.symm
  | ⟨1, _⟩ => refine (Window.rect_emb_val (cfg0.win 1) t _ 1).trans ?_
              rw [show (cfg0.win 1).index t = ![t.val, 0] from index_1 t]; refine Eq.trans ?_ e1.symm; show 0 * 512 + (y 1).val = (y 1).val; omega

theorem blk2 (t : Fin cfg0.N) (y : S256x512.Idx) (i : S2048x512.Idx) (e0 : (i 0).val = t.val * 256 + (y 0).val) (e1 : (i 1).val = (y 1).val) :
    (iblk m c 2 t : Vec Ideal S256x512 .f32) y = of m c i := by
  refine (congrFun (V_main_arg2 m c) _).trans (congrArg (of m c) (funext fun a => Fin.ext ?_))
  match a with
  | ⟨0, _⟩ => refine (Window.rect_emb_val (cfg0.win 2) t _ 0).trans ?_
              rw [show (cfg0.win 2).index t = ![t.val, 0] from index_2 t]; exact e0.symm
  | ⟨1, _⟩ => refine (Window.rect_emb_val (cfg0.win 2) t _ 1).trans ?_
              rw [show (cfg0.win 2).index t = ![t.val, 0] from index_2 t]; refine Eq.trans ?_ e1.symm; show 0 * 512 + (y 1).val = (y 1).val; omega

theorem blk3 (t : Fin cfg0.N) (y : S256x512.Idx) (i : S2048x512.Idx) (e0 : (i 0).val = t.val * 256 + (y 0).val) (e1 : (i 1).val = (y 1).val) :
    (iblk m c 3 t : Vec Ideal S256x512 .f32) y = os m c i := by
  refine (congrFun (V_main_arg3 m c) _).trans (congrArg (os m c) (funext fun a => Fin.ext ?_))
  match a with
  | ⟨0, _⟩ => refine (Window.rect_emb_val (cfg0.win 3) t _ 0).trans ?_
              rw [show (cfg0.win 3).index t = ![t.val, 0] from index_3 t]; exact e0.symm
  | ⟨1, _⟩ => refine (Window.rect_emb_val (cfg0.win 3) t _ 1).trans ?_
              rw [show (cfg0.win 3).index t = ![t.val, 0] from index_3 t]; refine Eq.trans ?_ e1.symm; show 0 * 512 + (y 1).val = (y 1).val; omega

theorem blk4 (t : Fin cfg0.N) (y : S512x1024.Idx) (i : S512x1024.Idx) (e0 : (i 0).val = (y 0).val) (e1 : (i 1).val = (y 1).val) :
    (iblk m c 4 t : Vec Ideal S512x1024 .bf16) y = wc m c i := by
  refine (V_wc m c _).trans (congrArg (wc m c) (funext fun a => Fin.ext ?_))
  match a with
  | ⟨0, _⟩ => refine (Window.rect_emb_val (cfg0.win 4) t _ 0).trans ?_
              rw [show (cfg0.win 4).index t = ![0, 0] from index_4 t]; refine Eq.trans ?_ e0.symm; show 0 * 512 + (y 0).val = (y 0).val; omega
  | ⟨1, _⟩ => refine (Window.rect_emb_val (cfg0.win 4) t _ 1).trans ?_
              rw [show (cfg0.win 4).index t = ![0, 0] from index_4 t]; refine Eq.trans ?_ e1.symm; show 0 * 1024 + (y 1).val = (y 1).val; omega

theorem blk5 (t : Fin cfg0.N) (y : S512x1024.Idx) (i : S512x1024.Idx) (e0 : (i 0).val = (y 0).val) (e1 : (i 1).val = (y 1).val) :
    (iblk m c 5 t : Vec Ideal S512x1024 .bf16) y = wf m c i := by
  refine (V_wf m c _).trans (congrArg (wf m c) (funext fun a => Fin.ext ?_))
  match a with
  | ⟨0, _⟩ => refine (Window.rect_emb_val (cfg0.win 5) t _ 0).trans ?_
              rw [show (cfg0.win 5).index t = ![0, 0] from index_5 t]; refine Eq.trans ?_ e0.symm; show 0 * 512 + (y 0).val = (y 0).val; omega
  | ⟨1, _⟩ => refine (Window.rect_emb_val (cfg0.win 5) t _ 1).trans ?_
              rw [show (cfg0.win 5).index t = ![0, 0] from index_5 t]; refine Eq.trans ?_ e1.symm; show 0 * 1024 + (y 1).val = (y 1).val; omega

theorem blk6 (t : Fin cfg0.N) (y : S512x1024.Idx) (i : S512x1024.Idx) (e0 : (i 0).val = (y 0).val) (e1 : (i 1).val = (y 1).val) :
    (iblk m c 6 t : Vec Ideal S512x1024 .bf16) y = ws m c i := by
  refine (V_ws m c _).trans (congrArg (ws m c) (funext fun a => Fin.ext ?_))
  match a with
  | ⟨0, _⟩ => refine (Window.rect_emb_val (cfg0.win 6) t _ 0).trans ?_
              rw [show (cfg0.win 6).index t = ![0, 0] from index_6 t]; refine Eq.trans ?_ e0.symm; show 0 * 512 + (y 0).val = (y 0).val; omega
  | ⟨1, _⟩ => refine (Window.rect_emb_val (cfg0.win 6) t _ 1).trans ?_
              rw [show (cfg0.win 6).index t = ![0, 0] from index_6 t]; refine Eq.trans ?_ e1.symm; show 0 * 1024 + (y 1).val = (y 1).val; omega

theorem blk11 (t : Fin cfg0.N) (y : S1024x1024.Idx) (i : S1024x1024.Idx) (e0 : (i 0).val = (y 0).val) (e1 : (i 1).val = (y 1).val) :
    (iblk m c 11 t : Vec Ideal S1024x1024 .bf16) y = wo m c i := by
  refine (V_wo m c _).trans (congrArg (wo m c) (funext fun a => Fin.ext ?_))
  match a with
  | ⟨0, _⟩ => refine (Window.rect_emb_val (cfg0.win 11) t _ 0).trans ?_
              rw [show (cfg0.win 11).index t = ![0, 0] from index_11 t]; refine Eq.trans ?_ e0.symm; show 0 * 1024 + (y 0).val = (y 0).val; omega
  | ⟨1, _⟩ => refine (Window.rect_emb_val (cfg0.win 11) t _ 1).trans ?_
              rw [show (cfg0.win 11).index t = ![0, 0] from index_11 t]; refine Eq.trans ?_ e1.symm; show 0 * 1024 + (y 1).val = (y 1).val; omega

theorem blk10 (t : Fin cfg0.N) (y : S1x3072.Idx) : (iblk m c 10 t : Vec Ideal S1x3072 .f32) y = gb m c (ix1 (y 1)) := by
  refine (V_gb m c _).trans (congrArg (gb m c) (funext fun a => Fin.ext ?_))
  match a with
  | ⟨0, _⟩ => refine (Window.rect_emb_val (cfg0.win 10) t _ 1).trans ?_
              rw [show (cfg0.win 10).index t = ![0, 0] from index_10 t]; show 0 * 3072 + (y 1).val = (y 1).val; omega

/-- A branch's part of the bias. -/
theorem bias_apply (x : Vec Ideal S1x3072 .f32) (o : Nat) (h : S1x3072.Slices ![0, o] S1x1024) (k : Fin 1024) (q : Fin 3072) (hq : q.val = o + k.val) :
    bias x o h (ix2 (0 : Fin 1) k) = x (ix2 (0 : Fin 1) q) :=
  extractStridedSlice_apply ![0, o] x h _ _ fun a => match a with
    | ⟨0, _⟩ => rfl
    | ⟨1, _⟩ => hq

theorem gate7 (t : Fin cfg0.N) (y : S256x1024.Idx) (r : Fin 2048) (q : Fin 7680) (e0 : r.val = t.val * 256 + (y 0).val) (e1 : q.val = 0 + (y 1).val) :
    X0_7 m c t y = proj m c (ix2 r q) := by
  unfold X0_7 Window.fill
  rw [dif_pos (moved0_7 t y)]
  refine (congrFun (V_main_arg7 m c) _).trans (congrArg (proj m c) (funext fun a => Fin.ext ?_))
  match a with
  | ⟨0, _⟩ => refine (Window.rect_emb_val (cfg0.win 7) t _ 0).trans ?_
              rw [show (cfg0.win 7).index t = ![t.val, 0] from index_7 t]; exact e0.symm
  | ⟨1, _⟩ => refine (Window.rect_emb_val (cfg0.win 7) t _ 1).trans ?_
              rw [show (cfg0.win 7).index t = ![t.val, 0] from index_7 t]; refine Eq.trans ?_ e1.symm; show 0 * 1024 + (y 1).val = 0 + (y 1).val; omega

theorem gate8 (t : Fin cfg0.N) (y : S256x1024.Idx) (r : Fin 2048) (q : Fin 7680) (e0 : r.val = t.val * 256 + (y 0).val) (e1 : q.val = 1024 + (y 1).val) :
    X0_8 m c t y = proj m c (ix2 r q) := by
  unfold X0_8 Window.fill
  rw [dif_pos (moved0_8 t y)]
  refine (congrFun (V_main_arg7 m c) _).trans (congrArg (proj m c) (funext fun a => Fin.ext ?_))
  match a with
  | ⟨0, _⟩ => refine (Window.rect_emb_val (cfg0.win 8) t _ 0).trans ?_
              rw [show (cfg0.win 8).index t = ![t.val, 1] from index_8 t]; exact e0.symm
  | ⟨1, _⟩ => refine (Window.rect_emb_val (cfg0.win 8) t _ 1).trans ?_
              rw [show (cfg0.win 8).index t = ![t.val, 1] from index_8 t]; refine Eq.trans ?_ e1.symm; show 1 * 1024 + (y 1).val = 1024 + (y 1).val; omega

theorem gate9 (t : Fin cfg0.N) (y : S256x1024.Idx) (r : Fin 2048) (q : Fin 7680) (e0 : r.val = t.val * 256 + (y 0).val) (e1 : q.val = 2048 + (y 1).val) :
    X0_9 m c t y = proj m c (ix2 r q) := by
  unfold X0_9 Window.fill
  rw [dif_pos (moved0_9 t y)]
  refine (congrFun (V_main_arg7 m c) _).trans (congrArg (proj m c) (funext fun a => Fin.ext ?_))
  match a with
  | ⟨0, _⟩ => refine (Window.rect_emb_val (cfg0.win 9) t _ 0).trans ?_
              rw [show (cfg0.win 9).index t = ![t.val, 2] from index_9 t]; exact e0.symm
  | ⟨1, _⟩ => refine (Window.rect_emb_val (cfg0.win 9) t _ 1).trans ?_
              rw [show (cfg0.win 9).index t = ![t.val, 2] from index_9 t]; refine Eq.trans ?_ e1.symm; show 2 * 1024 + (y 1).val = 2048 + (y 1).val; omega

/-! The branches' blocks and their weights', as arrays of numbers. -/
abbrev part1 (t : Fin cfg0.N) : Vec Ideal S256x512 .bf16 := iblk m c 1 t
abbrev part2 (t : Fin cfg0.N) : Vec Ideal S256x512 .f32 := iblk m c 2 t
abbrev part3 (t : Fin cfg0.N) : Vec Ideal S256x512 .f32 := iblk m c 3 t
abbrev part4 (t : Fin cfg0.N) : Vec Ideal S512x1024 .bf16 := iblk m c 4 t
abbrev part5 (t : Fin cfg0.N) : Vec Ideal S512x1024 .bf16 := iblk m c 5 t
abbrev part6 (t : Fin cfg0.N) : Vec Ideal S512x1024 .bf16 := iblk m c 6 t

/-! ## The blocks written back are the reference's -/

theorem sum_14 (t : Fin cfg0.N) (y : S256x1024.Idx) (i : S2048x1024.Idx) (e0 : (i 0).val = t.val * 256 + (y 0).val) (e1 : (i 1).val = (y 1).val) :
    (∑ k : Fin 512, part1 m c t (ix2 (y 0) k) * part4 m c t (ix2 k (y 1)) : EReal) = G14 m c i := by
  rw [G14_apply]
  exact Finset.sum_congr rfl fun k _ => congrArg₂ (fun a b : EReal => a * b) (blk1 m c t (ix2 (y 0) k) (ix2 (i 0) k) e0 rfl) (blk4 m c t (ix2 k (y 1)) (ix2 k (i 1)) rfl e1)

theorem sum_15 (t : Fin cfg0.N) (y : S256x1024.Idx) (i : S2048x1024.Idx) (e0 : (i 0).val = t.val * 256 + (y 0).val) (e1 : (i 1).val = (y 1).val) :
    (∑ k : Fin 512, part2 m c t (ix2 (y 0) k) * part5 m c t (ix2 k (y 1)) : EReal) = G15 m c i := by
  rw [G15_apply]
  exact Finset.sum_congr rfl fun k _ => congrArg₂ (fun a b : EReal => a * b) (blk2 m c t (ix2 (y 0) k) (ix2 (i 0) k) e0 rfl) (blk5 m c t (ix2 k (y 1)) (ix2 k (i 1)) rfl e1)

theorem sum_16 (t : Fin cfg0.N) (y : S256x1024.Idx) (i : S2048x1024.Idx) (e0 : (i 0).val = t.val * 256 + (y 0).val) (e1 : (i 1).val = (y 1).val) :
    (∑ k : Fin 512, part3 m c t (ix2 (y 0) k) * part6 m c t (ix2 k (y 1)) : EReal) = G16 m c i := by
  rw [G16_apply]
  exact Finset.sum_congr rfl fun k _ => congrArg₂ (fun a b : EReal => a * b) (blk3 m c t (ix2 (y 0) k) (ix2 (i 0) k) e0 rfl) (blk6 m c t (ix2 k (y 1)) (ix2 k (i 1)) rfl e1)

theorem sum_13 (t : Fin cfg0.N) (y : S256x1024.Idx) (i : S2048x1024.Idx) (e0 : (i 0).val = t.val * 256 + (y 0).val) (e1 : (i 1).val = (y 1).val) :
    k0_pay3 (k0_pay9 (iblk m c 1 t) (iblk m c 4 t) (X0_7 m c t) (bias (iblk m c 10 t) 0 slices0) (iblk m c 2 t) (iblk m c 5 t) (X0_8 m c t) (bias (iblk m c 10 t) 1024 slices1)) (iblk m c 3 t) (iblk m c 6 t) (X0_9 m c t) (bias (iblk m c 10 t) 2048 slices2) y = G13 m c i := by
  have h0 : (y 1).val < 1024 := (y 1).isLt
  refine (pay3_apply _ _ _ _ _ _ _ _ _ _ _ _ y).trans ((?_ : _ = _).trans (ref_mix (oc m c) (of m c) (os m c) (wc m c) (wf m c) (ws m c) (proj m c) (gb m c) i).symm)
  rw [sum_14 m c t y i e0 e1, sum_15 m c t y i e0 e1, sum_16 m c t y i e0 e1]
  rw [gate7 m c t y (i 0) ⟨(i 1).val, by omega⟩ e0 (by show (i 1).val = _; omega), gate8 m c t y (i 0) ⟨1024 + (i 1).val, by omega⟩ e0 (by show 1024 + (i 1).val = _; omega),
    gate9 m c t y (i 0) ⟨2048 + (i 1).val, by omega⟩ e0 (by show 2048 + (i 1).val = _; omega)]
  rw [bias_apply _ 0 slices0 (y 1) ⟨(i 1).val, by omega⟩ (by show (i 1).val = _; omega), bias_apply _ 1024 slices1 (y 1) ⟨1024 + (i 1).val, by omega⟩ (by show 1024 + (i 1).val = _; omega),
    bias_apply _ 2048 slices2 (y 1) ⟨2048 + (i 1).val, by omega⟩ (by show 2048 + (i 1).val = _; omega), blk10, blk10, blk10]
  rfl

theorem sum_12 (t : Fin cfg0.N) (y : S256x1024.Idx) (i : S2048x1024.Idx) (e0 : (i 0).val = t.val * 256 + (y 0).val) (e1 : (i 1).val = (y 1).val) :
    k0_pay4 (k0_pay9 (iblk m c 1 t) (iblk m c 4 t) (X0_7 m c t) (bias (iblk m c 10 t) 0 slices0) (iblk m c 2 t) (iblk m c 5 t) (X0_8 m c t) (bias (iblk m c 10 t) 1024 slices1)) (iblk m c 3 t) (iblk m c 6 t) (X0_9 m c t) (bias (iblk m c 10 t) 2048 slices2) (iblk m c 0 t) (iblk m c 11 t) y = G12 m c i := by
  refine (pay4_apply _ _ _ _ _ _ _ y).trans ((?_ : _ = _).trans (G12_apply m c i).symm)
  exact congrArg₂ (· + ·) (blk0 m c t y i e0 e1) (Finset.sum_congr rfl fun k _ => congrArg₂ (fun a b : EReal => a * b) (sum_13 m c t (ix2 (y 0) k) (ix2 (i 0) k) e0 rfl) (blk11 m c t (ix2 k (y 1)) (ix2 k (i 1)) rfl e1))

theorem flushed_12 (t : Fin cfg0.N) : (dats m 0 c).flushed 12 t = ((cfg0.win 12).blk t).view.read (Elt Ideal) (G12 m c) := by
  rw [Value.flushed12_A, out_12]
  funext y
  refine sum_12 m c t y _ ?_ ?_
  · refine (Window.rect_emb_val (cfg0.win 12) t y 0).trans ?_
    rw [show (cfg0.win 12).index t = ![t.val, 0] from index_12 t]; rfl
  · refine (Window.rect_emb_val (cfg0.win 12) t y 1).trans ?_
    rw [show (cfg0.win 12).index t = ![t.val, 0] from index_12 t]; show 0 * 1024 + (y 1).val = (y 1).val; omega

theorem mem_12 (t : Fin cfg0.N) (i : S2048x1024.Idx) :
    i ∈ ((cfg0.win 12).blk t).view.set ↔ ∀ a : Fin 2, win0_12.index t a * S256x1024.size a ≤ (i a).val ∧ (i a).val < win0_12.index t a * S256x1024.size a + S256x1024.size a := by
  show i ∈ ((View.whole main_v5_0).slice (win0_12.rect t)).set ↔ _
  rw [View.set_slice_whole, Rect.mem_set_unit]
  exact Iff.rfl

theorem onto_12 : ∀ p : Fin 8, ∃ t : Fin cfg0.N, (cfg0.win 12).flush t = true ∧ win0_12.index t = ![p.val, 0] :=
  (by decide +kernel : ∀ p : Fin 8, ∃ t : Fin grid0.N, win0_12.flush t = true ∧ win0_12.index t = ![p.val, 0])

theorem final_12 : (dats m 0 c).arrAt 12 cfg0.N = G12 m c :=
  (dats m 0 c).arrAt_eq_of_cover 12 (G12 m c) (fun t _ => flushed_12 m c t) fun i => by
    have h0 : (i 0).val < 2048 := (i 0).isLt
    have h1 : (i 1).val < 1024 := (i 1).isLt
    obtain ⟨t, hf, ht⟩ := onto_12 ⟨(i 0).val / 256, by omega⟩
    refine ⟨t, hf, ?_⟩
    rw [mem_12]
    intro a
    match a with
    | ⟨0, _⟩ => rw [ht]; show (i 0).val / 256 * 256 ≤ (i 0).val ∧ (i 0).val < (i 0).val / 256 * 256 + 256; omega
    | ⟨1, _⟩ => rw [ht]; show 0 * 1024 ≤ (i 1).val ∧ (i 1).val < 0 * 1024 + 1024; omega

theorem flushed_13 (t : Fin cfg0.N) : (dats m 0 c).flushed 13 t = ((cfg0.win 13).blk t).view.read (Elt Ideal) (G13 m c) := by
  rw [Value.flushed13_A, out_13]
  funext y
  refine sum_13 m c t y _ ?_ ?_
  · refine (Window.rect_emb_val (cfg0.win 13) t y 0).trans ?_
    rw [show (cfg0.win 13).index t = ![t.val, 0] from index_13 t]; rfl
  · refine (Window.rect_emb_val (cfg0.win 13) t y 1).trans ?_
    rw [show (cfg0.win 13).index t = ![t.val, 0] from index_13 t]; show 0 * 1024 + (y 1).val = (y 1).val; omega

theorem mem_13 (t : Fin cfg0.N) (i : S2048x1024.Idx) :
    i ∈ ((cfg0.win 13).blk t).view.set ↔ ∀ a : Fin 2, win0_13.index t a * S256x1024.size a ≤ (i a).val ∧ (i a).val < win0_13.index t a * S256x1024.size a + S256x1024.size a := by
  show i ∈ ((View.whole main_v5_1).slice (win0_13.rect t)).set ↔ _
  rw [View.set_slice_whole, Rect.mem_set_unit]
  exact Iff.rfl

theorem onto_13 : ∀ p : Fin 8, ∃ t : Fin cfg0.N, (cfg0.win 13).flush t = true ∧ win0_13.index t = ![p.val, 0] :=
  (by decide +kernel : ∀ p : Fin 8, ∃ t : Fin grid0.N, win0_13.flush t = true ∧ win0_13.index t = ![p.val, 0])

theorem final_13 : (dats m 0 c).arrAt 13 cfg0.N = G13 m c :=
  (dats m 0 c).arrAt_eq_of_cover 13 (G13 m c) (fun t _ => flushed_13 m c t) fun i => by
    have h0 : (i 0).val < 2048 := (i 0).isLt
    have h1 : (i 1).val < 1024 := (i 1).isLt
    obtain ⟨t, hf, ht⟩ := onto_13 ⟨(i 0).val / 256, by omega⟩
    refine ⟨t, hf, ?_⟩
    rw [mem_13]
    intro a
    match a with
    | ⟨0, _⟩ => rw [ht]; show (i 0).val / 256 * 256 ≤ (i 0).val ∧ (i 0).val < (i 0).val / 256 * 256 + 256; omega
    | ⟨1, _⟩ => rw [ht]; show 0 * 1024 ≤ (i 1).val ∧ (i 1).val < 0 * 1024 + 1024; omega

theorem flushed_14 (t : Fin cfg0.N) : (dats m 0 c).flushed 14 t = ((cfg0.win 14).blk t).view.read (Elt Ideal) (G14 m c) := by
  rw [Value.flushed14_A, out_14]
  funext y
  refine (pay6_apply _ _ y).trans (sum_14 m c t y _ ?_ ?_)
  · refine (Window.rect_emb_val (cfg0.win 14) t y 0).trans ?_
    rw [show (cfg0.win 14).index t = ![t.val, 0] from index_14 t]; rfl
  · refine (Window.rect_emb_val (cfg0.win 14) t y 1).trans ?_
    rw [show (cfg0.win 14).index t = ![t.val, 0] from index_14 t]; show 0 * 1024 + (y 1).val = (y 1).val; omega

theorem mem_14 (t : Fin cfg0.N) (i : S2048x1024.Idx) :
    i ∈ ((cfg0.win 14).blk t).view.set ↔ ∀ a : Fin 2, win0_14.index t a * S256x1024.size a ≤ (i a).val ∧ (i a).val < win0_14.index t a * S256x1024.size a + S256x1024.size a := by
  show i ∈ ((View.whole main_v5_2).slice (win0_14.rect t)).set ↔ _
  rw [View.set_slice_whole, Rect.mem_set_unit]
  exact Iff.rfl

theorem onto_14 : ∀ p : Fin 8, ∃ t : Fin cfg0.N, (cfg0.win 14).flush t = true ∧ win0_14.index t = ![p.val, 0] :=
  (by decide +kernel : ∀ p : Fin 8, ∃ t : Fin grid0.N, win0_14.flush t = true ∧ win0_14.index t = ![p.val, 0])

theorem final_14 : (dats m 0 c).arrAt 14 cfg0.N = G14 m c :=
  (dats m 0 c).arrAt_eq_of_cover 14 (G14 m c) (fun t _ => flushed_14 m c t) fun i => by
    have h0 : (i 0).val < 2048 := (i 0).isLt
    have h1 : (i 1).val < 1024 := (i 1).isLt
    obtain ⟨t, hf, ht⟩ := onto_14 ⟨(i 0).val / 256, by omega⟩
    refine ⟨t, hf, ?_⟩
    rw [mem_14]
    intro a
    match a with
    | ⟨0, _⟩ => rw [ht]; show (i 0).val / 256 * 256 ≤ (i 0).val ∧ (i 0).val < (i 0).val / 256 * 256 + 256; omega
    | ⟨1, _⟩ => rw [ht]; show 0 * 1024 ≤ (i 1).val ∧ (i 1).val < 0 * 1024 + 1024; omega

theorem flushed_15 (t : Fin cfg0.N) : (dats m 0 c).flushed 15 t = ((cfg0.win 15).blk t).view.read (Elt Ideal) (G15 m c) := by
  rw [Value.flushed15_A, out_15]
  funext y
  refine (pay8_apply _ _ y).trans (sum_15 m c t y _ ?_ ?_)
  · refine (Window.rect_emb_val (cfg0.win 15) t y 0).trans ?_
    rw [show (cfg0.win 15).index t = ![t.val, 0] from index_15 t]; rfl
  · refine (Window.rect_emb_val (cfg0.win 15) t y 1).trans ?_
    rw [show (cfg0.win 15).index t = ![t.val, 0] from index_15 t]; show 0 * 1024 + (y 1).val = (y 1).val; omega

theorem mem_15 (t : Fin cfg0.N) (i : S2048x1024.Idx) :
    i ∈ ((cfg0.win 15).blk t).view.set ↔ ∀ a : Fin 2, win0_15.index t a * S256x1024.size a ≤ (i a).val ∧ (i a).val < win0_15.index t a * S256x1024.size a + S256x1024.size a := by
  show i ∈ ((View.whole main_v5_3).slice (win0_15.rect t)).set ↔ _
  rw [View.set_slice_whole, Rect.mem_set_unit]
  exact Iff.rfl

theorem onto_15 : ∀ p : Fin 8, ∃ t : Fin cfg0.N, (cfg0.win 15).flush t = true ∧ win0_15.index t = ![p.val, 0] :=
  (by decide +kernel : ∀ p : Fin 8, ∃ t : Fin grid0.N, win0_15.flush t = true ∧ win0_15.index t = ![p.val, 0])

theorem final_15 : (dats m 0 c).arrAt 15 cfg0.N = G15 m c :=
  (dats m 0 c).arrAt_eq_of_cover 15 (G15 m c) (fun t _ => flushed_15 m c t) fun i => by
    have h0 : (i 0).val < 2048 := (i 0).isLt
    have h1 : (i 1).val < 1024 := (i 1).isLt
    obtain ⟨t, hf, ht⟩ := onto_15 ⟨(i 0).val / 256, by omega⟩
    refine ⟨t, hf, ?_⟩
    rw [mem_15]
    intro a
    match a with
    | ⟨0, _⟩ => rw [ht]; show (i 0).val / 256 * 256 ≤ (i 0).val ∧ (i 0).val < (i 0).val / 256 * 256 + 256; omega
    | ⟨1, _⟩ => rw [ht]; show 0 * 1024 ≤ (i 1).val ∧ (i 1).val < 0 * 1024 + 1024; omega

theorem flushed_16 (t : Fin cfg0.N) : (dats m 0 c).flushed 16 t = ((cfg0.win 16).blk t).view.read (Elt Ideal) (G16 m c) := by
  rw [Value.flushed16_A, out_16]
  funext y
  refine (pay2_apply _ _ y).trans (sum_16 m c t y _ ?_ ?_)
  · refine (Window.rect_emb_val (cfg0.win 16) t y 0).trans ?_
    rw [show (cfg0.win 16).index t = ![t.val, 0] from index_16 t]; rfl
  · refine (Window.rect_emb_val (cfg0.win 16) t y 1).trans ?_
    rw [show (cfg0.win 16).index t = ![t.val, 0] from index_16 t]; show 0 * 1024 + (y 1).val = (y 1).val; omega

theorem mem_16 (t : Fin cfg0.N) (i : S2048x1024.Idx) :
    i ∈ ((cfg0.win 16).blk t).view.set ↔ ∀ a : Fin 2, win0_16.index t a * S256x1024.size a ≤ (i a).val ∧ (i a).val < win0_16.index t a * S256x1024.size a + S256x1024.size a := by
  show i ∈ ((View.whole main_v5_4).slice (win0_16.rect t)).set ↔ _
  rw [View.set_slice_whole, Rect.mem_set_unit]
  exact Iff.rfl

theorem onto_16 : ∀ p : Fin 8, ∃ t : Fin cfg0.N, (cfg0.win 16).flush t = true ∧ win0_16.index t = ![p.val, 0] :=
  (by decide +kernel : ∀ p : Fin 8, ∃ t : Fin grid0.N, win0_16.flush t = true ∧ win0_16.index t = ![p.val, 0])

theorem final_16 : (dats m 0 c).arrAt 16 cfg0.N = G16 m c :=
  (dats m 0 c).arrAt_eq_of_cover 16 (G16 m c) (fun t _ => flushed_16 m c t) fun i => by
    have h0 : (i 0).val < 2048 := (i 0).isLt
    have h1 : (i 1).val < 1024 := (i 1).isLt
    obtain ⟨t, hf, ht⟩ := onto_16 ⟨(i 0).val / 256, by omega⟩
    refine ⟨t, hf, ?_⟩
    rw [mem_16]
    intro a
    match a with
    | ⟨0, _⟩ => rw [ht]; show (i 0).val / 256 * 256 ≤ (i 0).val ∧ (i 0).val < (i 0).val / 256 * 256 + 256; omega
    | ⟨1, _⟩ => rw [ht]; show 0 * 1024 ≤ (i 1).val ∧ (i 1).val < 0 * 1024 + 1024; omega

/-- The reference declares no semaphore. -/
theorem frame_reference : Cert.quiescent_Reference16Ideal := fun m ρ _ =>
  (θ_run _ _ _).mono (fun r h => ⟨fun c => (h c).2.2.2.2.2, sem_eq_zero_of_no_sems (by decide) r.2⟩) (Cert.Reference16Ideal.Value.run (F := Ideal) m ρ)

/-- The kernel and the reference end with equal results. -/
theorem algebraic : Cert.algebraic_Kernel16Ideal_Reference16Ideal := fun m ρ m' ρ' _ hargs => by
  refine ⟨fun c => G12 m c, fun c => G13 m c, fun c => G14 m c, fun c => G15 m c, fun c => G16 m c,
    (θ_run _ _ _).mono (fun r h c => ⟨(h c).1.trans (final_12 m c), (h c).2.1.trans (final_13 m c), (h c).2.2.1.trans (final_14 m c), (h c).2.2.2.1.trans (final_15 m c), (h c).2.2.2.2.1.trans (final_16 m c), (h c).2.2.2.2.2⟩) (Value.run_blocks m ρ),
    (θ_run _ _ _).mono (fun r h c => ⟨(h c).1.trans ?_, (h c).2.1.trans ?_, (h c).2.2.1.trans ?_, (h c).2.2.2.1.trans ?_, (h c).2.2.2.2.1.trans ?_, (h c).2.2.2.2.2⟩) (Cert.Reference16Ideal.Value.run (F := Ideal) m' ρ')⟩
  · obtain ⟨e0, e1, e2, e3, e4, e5, e6, e7, e8, e9⟩ := hargs c
    rw [e0, e1, e2, e3, e4, e5, e6, e7, e8, e9]; rfl
  · obtain ⟨e0, e1, e2, e3, e4, e5, e6, e7, e8, e9⟩ := hargs c
    rw [e1, e2, e3, e4, e5, e6, e7, e8]; rfl
  · obtain ⟨e0, e1, e2, e3, e4, e5, e6, e7, e8, e9⟩ := hargs c
    rw [e1, e4]; rfl
  · obtain ⟨e0, e1, e2, e3, e4, e5, e6, e7, e8, e9⟩ := hargs c
    rw [e2, e5]; rfl
  · obtain ⟨e0, e1, e2, e3, e4, e5, e6, e7, e8, e9⟩ := hargs c
    rw [e3, e6]; rfl

end Cert.Kernel16Ideal.Merge

end
-- ==== Proof.Taps.lean ====
/- A causal convolution of three taps along the sequence, as two programs write it: the kernels' columns rotated with
   their first places set to zero, and the references' slices of the column with two zeros before it. Both are the
   column moved later. -/
module

public import proofs.«01_k».proof.Proof.Gen.Kernel17Ideal.Frame
public import Idealize.ShloMosaic.Lib.Pipeline.Value
public import Idealize.ShloMosaic.Lib.Pipeline.ValueKit
public import Idealize.ShloMosaic.Lib.IdealHost
public import Idealize.ShloMosaic.Lib.KernelVsHost
public import Idealize.ShloMosaic.Lib.Pointwise
public import Idealize.ShloMosaic.Lib.WordCmp
public import Idealize.ShloMosaic.Lib.StableHlo.Run
public import Idealize.ShloMosaic.Lib.Tactic
public import Idealize.ShloMosaic.Lib.Quiescent

@[expose] public section

set_option maxRecDepth 65536

noncomputable section

open Idealize.ShloMosaic Idealize.ShloMosaic.TcCoe Idealize.SL.Sem
open Idealize.ShloMosaic.Pipeline (Dat Cfg Window)

namespace Cert.Taps

open Cert.Kernel17Ideal Cert.Kernel17Ideal.Gen

/-! ## A convolution of three taps -/

/-- A column moved `k` places later, zeros before it. -/
def later (k : ℕ) (f : Fin 2048 → EReal) (r : Fin 2048) : EReal := if r.val < k then 0 else f ⟨r.val - k, by omega⟩

/-- The three taps' sum at a place. -/
def taps (w : Fin 3 → EReal) (f : Fin 2048 → EReal) (r : Fin 2048) : EReal :=
  w 0 * later 2 f r + w 1 * later 1 f r + w 2 * f r

theorem iota_apply (y : S2048x256.Idx) : iota .tc S2048x256 32 [0] iota_S2048x256_d0_w32 y = BitVec.ofNat 32 (y 0).val := by
  pointwise
theorem zero_apply : (Scalar.ofBits .f32 0x00000000#32 : Ideal .f32) = (0 : EReal) := Ideal.ofBits_zero_f32

/-- The rotated column with its first places set to zero is the column moved later. -/
theorem down_apply (k : ℕ) (hk : k < 2048) (hk0 : 0 < k) (x : FVec Ideal S2048x256 .f32) (y : S2048x256.Idx) :
    select (cmpi .slt (iota .tc S2048x256 32 [0] iota_S2048x256_d0_w32) (broadcast S2048x256 (BitVec.ofNat 32 k))) (broadcast S2048x256 (Scalar.ofBits .f32 0x00000000#32 : Ideal .f32))
      (dynamicRotate 0 (BitVec.ofNat 32 k) none x rotates_S2048x256_d0) y = later k (fun r => x (ix2 r (y 1))) (y 0) := by
  have h0 : (y 0).val < 2048 := (y 0).isLt
  refine Eq.trans (b := Scalar.select (IntOp.cmpi .slt (BitVec.ofNat 32 (y 0).val) (BitVec.ofNat 32 k)) (Scalar.ofBits .f32 0x00000000#32 : Ideal .f32)
    (dynamicRotate 0 (BitVec.ofNat 32 k) none x rotates_S2048x256_d0 y)) (by rw [← iota_apply]; rfl) ?_
  rw [WordCmp.cmpi_slt_ofNat (by omega) (by omega), WordCmp.select_ofBool]
  unfold later
  by_cases h : (y 0).val < k
  · rw [if_pos (by simpa using h), if_pos h]; exact zero_apply
  · rw [if_neg (by simpa using h), if_neg h]
    refine dynamicRotate_apply 0 (BitVec.ofNat 32 k) x _ y (ix2 (⟨(y 0).val - k, by omega⟩ : Fin 2048) (y 1)) fun b => ?_
    have e : (BitVec.ofNat 32 k).toNat = k := by rw [BitVec.toNat_ofNat]; omega
    match b with
    | ⟨0, _⟩ => show (y 0).val - k = ((y 0).val + 2048 - (BitVec.ofNat 32 k).toNat % 2048) % 2048
                rw [e]; omega
    | ⟨1, _⟩ => rfl

/-! A row of the taps, along every place. -/
theorem row0 (w : Vec Ideal S3x256 .f32) (y : S2048x256.Idx) : broadcastTo S2048x256 (extractStridedSlice S1x256 ![0, 0] w slices_S3x256_o0_0_S1x256) broadcasts_S1x256_S2048x256 y = w (ix2 (0 : Fin 3) (y 1)) := by
  pointwise
theorem row1 (w : Vec Ideal S3x256 .f32) (y : S2048x256.Idx) : broadcastTo S2048x256 (extractStridedSlice S1x256 ![1, 0] w slices_S3x256_o1_0_S1x256) broadcasts_S1x256_S2048x256 y = w (ix2 (1 : Fin 3) (y 1)) := by
  pointwise
theorem row2 (w : Vec Ideal S3x256 .f32) (y : S2048x256.Idx) : broadcastTo S2048x256 (extractStridedSlice S1x256 ![2, 0] w slices_S3x256_o2_0_S1x256) broadcasts_S1x256_S2048x256 y = w (ix2 (2 : Fin 3) (y 1)) := by
  pointwise

/-! The references' columns. -/
abbrev T (a b : ℕ) : Shape := ⟨2, ![a, b]⟩
abbrev col {D : ℕ} (x : FVec Ideal (T 2048 D) .f32) (q : Fin D) : Fin 2048 → EReal := fun r => x (ix2 r q)

/-- Two rows of zeros and the column after them, read `k` places before the end of the zeros. -/
theorem cat_apply {D : ℕ} (k : ℕ) (hk : k ≤ 2) (x : FVec Ideal (T 2048 D) .f32) (z : FVec Ideal (T 2 D) .f32) (hz : ∀ i, z i = (0 : EReal)) (h : Shape.Concatenates [T 2 D, T 2048 D] (T 2050 D) 0)
    (i : (T 2048 D).Idx) (q : (T 2050 D).Idx) (e0 : (q 0).val = (i 0).val + (2 - k)) (e1 : (q 1).val = (i 1).val) :
    concatenate (T 2050 D) 0 [⟨T 2 D, z⟩, ⟨T 2048 D, x⟩] h q = later k (col x (i 1)) (i 0) := by
  have h0 : (i 0).val < 2048 := (i 0).isLt
  unfold later
  by_cases hc : (i 0).val < k
  · rw [if_pos hc]
    refine (concatenate_pair_apply_left 0 z x h q rfl (ix2 (⟨(q 0).val, by omega⟩ : Fin 2) (⟨(q 1).val, (q 1).isLt⟩ : Fin D)) fun b => ?_).trans (hz _)
    match b with
    | ⟨0, _⟩ => rfl
    | ⟨1, _⟩ => rfl
  · rw [if_neg hc]
    refine concatenate_pair_apply_right 0 z x h q rfl rfl (ix2 (⟨(i 0).val - k, by omega⟩ : Fin 2048) (i 1)) (fun b hb => ?_) ?_
    · match b with
      | ⟨0, _⟩ => exact absurd rfl hb
      | ⟨1, _⟩ => exact e1.symm
    · show (i 0).val - k + 2 = (q 0).val
      omega

/-- No place moved is the column itself. -/
theorem later_zero (f : Fin 2048 → EReal) (r : Fin 2048) : later 0 f r = f r := by
  unfold later; rw [if_neg (by omega)]; rfl

end Cert.Taps

end
-- ==== Proof.Mix17.lean ====
/- The first branch of the forward pass: a short causal convolution along the sequence between two products. The
   kernel's moved columns are rotations with their first places set to zero, the reference's are slices of the column
   with two zeros before it; both are the column moved later, and the three taps' sums agree. -/
module

public import proofs.«01_k».proof.Defs
public import proofs.«01_k».proof.Proof.Taps
public import proofs.«01_k».proof.Proof.Gen.Kernel17Ideal.Value
public import proofs.«01_k».proof.Proof.Gen.Reference17Ideal.Run
public import proofs.«01_k».proof.Proof.Gen.Reference17Ideal.Read
public import Idealize.ShloMosaic.Lib.Pipeline.Value
public import Idealize.ShloMosaic.Lib.Pipeline.ValueKit
public import Idealize.ShloMosaic.Lib.IdealHost
public import Idealize.ShloMosaic.Lib.KernelVsHost
public import Idealize.ShloMosaic.Lib.Pointwise
public import Idealize.ShloMosaic.Lib.WordCmp
public import Idealize.ShloMosaic.Lib.StableHlo.Run
public import Idealize.ShloMosaic.Lib.Tactic
public import Idealize.ShloMosaic.Lib.Quiescent

@[expose] public section

set_option maxRecDepth 65536

noncomputable section

open Idealize.ShloMosaic Idealize.ShloMosaic.TcCoe Idealize.SL.Sem
open Idealize.ShloMosaic.Pipeline (Dat Cfg Window)

namespace Cert.Kernel17Ideal.Mix

open Cert.Kernel17Ideal Cert.Kernel17Ideal.Gen
open Cert.Taps (later taps later_zero down_apply row0 row1 row2 col cat_apply)

theorem zeros : (![0, 0] : Fin 2 → Nat) = fun _ => 0 := funext fun a => by fin_cases a <;> rfl

/-- The body's result, entry by entry. -/
theorem pay_apply (c h : Vec Ideal S2048x256 .bf16) (w : Vec Ideal S3x256 .f32) (b : Vec Ideal S2048x256 .bf16) (y : S2048x256.Idx) :
    k0_pay1 c h w b y = (b y * taps (fun k => w (ix2 k (y 1))) (fun r => (c (ix2 r (y 1)) * h (ix2 r (y 1)) : EReal)) (y 0) : EReal) := by
  have d2 := down_apply 2 (by omega) (by omega) (fun z => (c z * h z : EReal)) y
  have d1 := down_apply 1 (by omega) (by omega) (fun z => (c z * h z : EReal)) y
  refine congrArg (fun z : EReal => b y * z) (congrArg₂ (fun a b : EReal => a + b) (congrArg₂ (fun a b : EReal => a + b)
    (congrArg₂ (fun a b : EReal => a * b) (row0 w y) d2) (congrArg₂ (fun a b : EReal => a * b) (row1 w y) d1)) (congrArg₂ (fun a b : EReal => a * b) (row2 w y) ?_))
  exact congrArg (fun z => (c z * h z : EReal)) (eq_ix2 y)

theorem out_4 (x0 x1 x2 : Vec Ideal S2048x256 .bf16) (x3 : Vec Ideal S3x256 .f32) : out0_4 x0 x1 x2 x3 = k0_pay1 x1 x2 x3 x0 := by
  unfold out0_4
  rw [View.canon_unit_zero (S := S2048x256) zeros, View.ld_unit_zero zeros, View.ld_unit_zero zeros, View.ld_unit_zero zeros, View.ld_unit_zero zeros]

/-! ## The reference, entry by entry -/

variable (m : (ℓ : Loc nD τ sig) → Buf (Elt Ideal) ℓ) (ρ : Dev nD → PrngReg) (c : Dev nD)

abbrev proj : Vec Ideal S2048x7680 .bf16 := m ((c : Thread nD τ).loc main_arg0)
abbrev cw : Vec Ideal S3x512 .f32 := m ((c : Thread nD τ).loc main_arg1)
/-- The column the taps read: the product of two of the projection's parts. -/
abbrev u : FVec Ideal S2048x512 .f32 := Cert.Reference17Ideal.Read.val_main_v5 (F := Ideal) (proj m c)
abbrev G4 : Buf (Elt Ideal) ((c : Thread nD τ).loc main_v0) :=
  Cert.Reference17Ideal.Read.val_main_v31 (F := Ideal) (proj m c) (cw m c)

theorem ref_row0 (i : S2048x512.Idx) : Cert.Reference17Ideal.Read.val_main_v12 (F := Ideal) (cw m c) i = cw m c (ix2 (0 : Fin 3) (i 1)) := by
  rw [Cert.Reference17Ideal.Read.val_main_v12_apply, Cert.Reference17Ideal.Read.val_main_v11_apply, Cert.Reference17Ideal.Read.val_main_v9_apply, Cert.Reference17Ideal.Read.val_main_v8_apply]
  exact congrArg (cw m c) (funext fun a => by match a with | ⟨0, _⟩ => rfl | ⟨1, _⟩ => exact Fin.ext (Nat.mod_eq_of_lt (i 1).isLt))
theorem ref_col0 (i : S2048x512.Idx) : Cert.Reference17Ideal.Read.val_main_v10 (F := Ideal) (proj m c) i = later 2 (col (u m c) (i 1)) (i 0) := by
  rw [Cert.Reference17Ideal.Read.val_main_v10_apply]
  exact cat_apply 2 (by omega) (u m c) _ (fun q => Ideal.ofBits_zero_f32) _ i _ (by show (i 0).val = (i 0).val + (2 - 2); omega) rfl

theorem ref_row1 (i : S2048x512.Idx) : Cert.Reference17Ideal.Read.val_main_v20 (F := Ideal) (cw m c) i = cw m c (ix2 (1 : Fin 3) (i 1)) := by
  rw [Cert.Reference17Ideal.Read.val_main_v20_apply, Cert.Reference17Ideal.Read.val_main_v19_apply, Cert.Reference17Ideal.Read.val_main_v17_apply, Cert.Reference17Ideal.Read.val_main_v16_apply]
  exact congrArg (cw m c) (funext fun a => by match a with | ⟨0, _⟩ => rfl | ⟨1, _⟩ => exact Fin.ext (Nat.mod_eq_of_lt (i 1).isLt))
theorem ref_col1 (i : S2048x512.Idx) : Cert.Reference17Ideal.Read.val_main_v18 (F := Ideal) (proj m c) i = later 1 (col (u m c) (i 1)) (i 0) := by
  rw [Cert.Reference17Ideal.Read.val_main_v18_apply]
  exact cat_apply 1 (by omega) (u m c) _ (fun q => Ideal.ofBits_zero_f32) _ i _ (by show 1 + (i 0).val = (i 0).val + (2 - 1); omega) rfl

theorem ref_row2 (i : S2048x512.Idx) : Cert.Reference17Ideal.Read.val_main_v27 (F := Ideal) (cw m c) i = cw m c (ix2 (2 : Fin 3) (i 1)) := by
  rw [Cert.Reference17Ideal.Read.val_main_v27_apply, Cert.Reference17Ideal.Read.val_main_v26_apply, Cert.Reference17Ideal.Read.val_main_v24_apply, Cert.Reference17Ideal.Read.val_main_v23_apply]
  exact congrArg (cw m c) (funext fun a => by match a with | ⟨0, _⟩ => rfl | ⟨1, _⟩ => exact Fin.ext (Nat.mod_eq_of_lt (i 1).isLt))
theorem ref_col2 (i : S2048x512.Idx) : Cert.Reference17Ideal.Read.val_main_v25 (F := Ideal) (proj m c) i = later 0 (col (u m c) (i 1)) (i 0) := by
  rw [Cert.Reference17Ideal.Read.val_main_v25_apply]
  exact cat_apply 0 (by omega) (u m c) _ (fun q => Ideal.ofBits_zero_f32) _ i _ (by show 2 + (i 0).val = (i 0).val + (2 - 0); omega) rfl

theorem G4_apply (i : S2048x512.Idx) : G4 m c i = (Cert.Reference17Ideal.Read.val_main_v2 (F := Ideal) (proj m c) i * taps (fun k => cw m c (ix2 k (i 1))) (col (u m c) (i 1)) (i 0) : EReal) := by
  refine congrArg (fun z : EReal => Cert.Reference17Ideal.Read.val_main_v2 (F := Ideal) (proj m c) i * z) (congrArg₂ (fun a b : EReal => a + b) (congrArg₂ (fun a b : EReal => a + b) (((congrArg₂ (fun a b : EReal => a + b) (Ideal.ofBits_zero_f32 : _ = (0 : EReal))
    (congrArg₂ (fun a b : EReal => a * b) (ref_row0 m c i) (ref_col0 m c i))).trans (zero_add _))) (congrArg₂ (fun a b : EReal => a * b) (ref_row1 m c i) (ref_col1 m c i))) (congrArg₂ (fun a b : EReal => a * b) (ref_row2 m c i) ((ref_col2 m c i).trans (later_zero _ _))))

theorem b_apply (i : S2048x512.Idx) (q : S2048x7680.Idx) (e0 : (q 0).val = (i 0).val) (e1 : (q 1).val = 3072 + (i 1).val) : Cert.Reference17Ideal.Read.val_main_v2 (F := Ideal) (proj m c) i = proj m c q := by
  rw [Cert.Reference17Ideal.Read.val_main_v2_apply]
  show Cert.Reference17Ideal.Read.val_main_v0 (F := Ideal) (proj m c) _ = _
  rw [Cert.Reference17Ideal.Read.val_main_v0_apply]
  exact congrArg (proj m c) (funext fun a => Fin.ext (by match a with | ⟨0, _⟩ => exact e0.symm | ⟨1, _⟩ => (refine Eq.trans ?_ e1.symm; rfl)))
theorem c_apply (i : S2048x512.Idx) (q : S2048x7680.Idx) (e0 : (q 0).val = (i 0).val) (e1 : (q 1).val = 3072 + (512 + (i 1).val)) : Cert.Reference17Ideal.Read.val_main_v3 (F := Ideal) (proj m c) i = proj m c q := by
  rw [Cert.Reference17Ideal.Read.val_main_v3_apply]
  show Cert.Reference17Ideal.Read.val_main_v0 (F := Ideal) (proj m c) _ = _
  rw [Cert.Reference17Ideal.Read.val_main_v0_apply]
  exact congrArg (proj m c) (funext fun a => Fin.ext (by match a with | ⟨0, _⟩ => exact e0.symm | ⟨1, _⟩ => (refine Eq.trans ?_ e1.symm; rfl)))
theorem h_apply (i : S2048x512.Idx) (q : S2048x7680.Idx) (e0 : (q 0).val = (i 0).val) (e1 : (q 1).val = 3072 + (1024 + (i 1).val)) : Cert.Reference17Ideal.Read.val_main_v4 (F := Ideal) (proj m c) i = proj m c q := by
  rw [Cert.Reference17Ideal.Read.val_main_v4_apply]
  show Cert.Reference17Ideal.Read.val_main_v0 (F := Ideal) (proj m c) _ = _
  rw [Cert.Reference17Ideal.Read.val_main_v0_apply]
  exact congrArg (proj m c) (funext fun a => Fin.ext (by match a with | ⟨0, _⟩ => exact e0.symm | ⟨1, _⟩ => (refine Eq.trans ?_ e1.symm; rfl)))

/-! ## The blocks -/

theorem index_0 : ∀ t : Fin grid0.N, win0_0.index t = ![0, t.val + 12] := by decide +kernel
theorem index_1 : ∀ t : Fin grid0.N, win0_1.index t = ![0, t.val + 14] := by decide +kernel
theorem index_2 : ∀ t : Fin grid0.N, win0_2.index t = ![0, t.val + 16] := by decide +kernel
theorem index_3 : ∀ t : Fin grid0.N, win0_3.index t = ![0, t.val] := by decide +kernel
theorem index_4 : ∀ t : Fin grid0.N, win0_4.index t = ![0, t.val] := by decide +kernel

theorem blk0 (t : Fin cfg0.N) (y : S2048x256.Idx) (i : S2048x7680.Idx) (e0 : (i 0).val = (y 0).val) (e1 : (i 1).val = (t.val + 12) * 256 + (y 1).val) :
    (iblk m c 0 t : Vec Ideal S2048x256 .bf16) y = proj m c i := by
  refine (congrFun (V_main_arg0 m c) _).trans (congrArg (proj m c) (funext fun a => Fin.ext ?_))
  match a with
  | ⟨0, _⟩ => refine (Window.rect_emb_val (cfg0.win 0) t _ 0).trans ?_
              rw [show (cfg0.win 0).index t = ![0, t.val + 12] from index_0 t]; refine Eq.trans ?_ e0.symm; show 0 * 2048 + (y 0).val = (y 0).val; omega
  | ⟨1, _⟩ => refine (Window.rect_emb_val (cfg0.win 0) t _ 1).trans ?_
              rw [show (cfg0.win 0).index t = ![0, t.val + 12] from index_0 t]; exact e1.symm

theorem blk1 (t : Fin cfg0.N) (y : S2048x256.Idx) (i : S2048x7680.Idx) (e0 : (i 0).val = (y 0).val) (e1 : (i 1).val = (t.val + 14) * 256 + (y 1).val) :
    (iblk m c 1 t : Vec Ideal S2048x256 .bf16) y = proj m c i := by
  refine (congrFun (V_main_arg0 m c) _).trans (congrArg (proj m c) (funext fun a => Fin.ext ?_))
  match a with
  | ⟨0, _⟩ => refine (Window.rect_emb_val (cfg0.win 1) t _ 0).trans ?_
              rw [show (cfg0.win 1).index t = ![0, t.val + 14] from index_1 t]; refine Eq.trans ?_ e0.symm; show 0 * 2048 + (y 0).val = (y 0).val; omega
  | ⟨1, _⟩ => refine (Window.rect_emb_val (cfg0.win 1) t _ 1).trans ?_
              rw [show (cfg0.win 1).index t = ![0, t.val + 14] from index_1 t]; exact e1.symm

theorem blk2 (t : Fin cfg0.N) (y : S2048x256.Idx) (i : S2048x7680.Idx) (e0 : (i 0).val = (y 0).val) (e1 : (i 1).val = (t.val + 16) * 256 + (y 1).val) :
    (iblk m c 2 t : Vec Ideal S2048x256 .bf16) y = proj m c i := by
  refine (congrFun (V_main_arg0 m c) _).trans (congrArg (proj m c) (funext fun a => Fin.ext ?_))
  match a with
  | ⟨0, _⟩ => refine (Window.rect_emb_val (cfg0.win 2) t _ 0).trans ?_
              rw [show (cfg0.win 2).index t = ![0, t.val + 16] from index_2 t]; refine Eq.trans ?_ e0.symm; show 0 * 2048 + (y 0).val = (y 0).val; omega
  | ⟨1, _⟩ => refine (Window.rect_emb_val (cfg0.win 2) t _ 1).trans ?_
              rw [show (cfg0.win 2).index t = ![0, t.val + 16] from index_2 t]; exact e1.symm

theorem blk3 (t : Fin cfg0.N) (y : S3x256.Idx) (i : S3x512.Idx) (e0 : (i 0).val = (y 0).val) (e1 : (i 1).val = (t.val) * 256 + (y 1).val) :
    (iblk m c 3 t : Vec Ideal S3x256 .f32) y = cw m c i := by
  refine (congrFun (V_main_arg1 m c) _).trans (congrArg (cw m c) (funext fun a => Fin.ext ?_))
  match a with
  | ⟨0, _⟩ => refine (Window.rect_emb_val (cfg0.win 3) t _ 0).trans ?_
              rw [show (cfg0.win 3).index t = ![0, t.val] from index_3 t]; refine Eq.trans ?_ e0.symm; show 0 * 3 + (y 0).val = (y 0).val; omega
  | ⟨1, _⟩ => refine (Window.rect_emb_val (cfg0.win 3) t _ 1).trans ?_
              rw [show (cfg0.win 3).index t = ![0, t.val] from index_3 t]; exact e1.symm

/-! The two factors' blocks, as arrays of numbers. -/
abbrev part1 (t : Fin cfg0.N) : Vec Ideal S2048x256 .bf16 := iblk m c 1 t
abbrev part2 (t : Fin cfg0.N) : Vec Ideal S2048x256 .bf16 := iblk m c 2 t
/-- What a point writes back is the reference's, entry by entry. -/
theorem entry (t : Fin cfg0.N) (y : S2048x256.Idx) (i : S2048x512.Idx) (e0 : (i 0).val = (y 0).val) (e1 : (i 1).val = t.val * 256 + (y 1).val) :
    k0_pay1 (iblk m c 1 t) (iblk m c 2 t) (iblk m c 3 t) (iblk m c 0 t) y = G4 m c i := by
  have h0 : (i 0).val < 2048 := (i 0).isLt
  have h1 : (i 1).val < 512 := (i 1).isLt
  have r0 : i 0 = y 0 := Fin.ext e0
  have ew : (fun k : Fin 3 => (iblk m c 3 t : Vec Ideal S3x256 .f32) (ix2 k (y 1))) = fun k => cw m c (ix2 k (i 1)) := funext fun k => blk3 m c t (ix2 k (y 1)) (ix2 k (i 1)) rfl e1
  have eu : (fun r : Fin 2048 => (part1 m c t (ix2 r (y 1)) * part2 m c t (ix2 r (y 1)) : EReal)) = col (u m c) (i 1) := funext fun r =>
    congrArg₂ (fun a b : EReal => a * b)
      ((blk1 m c t (ix2 r (y 1)) (ix2 r (⟨3072 + (512 + (i 1).val), by omega⟩ : Fin 7680)) rfl (by show 3072 + (512 + (i 1).val) = (t.val + 14) * 256 + (y 1).val; omega)).trans (c_apply m c (ix2 r (i 1)) _ rfl rfl).symm)
      ((blk2 m c t (ix2 r (y 1)) (ix2 r (⟨3072 + (1024 + (i 1).val), by omega⟩ : Fin 7680)) rfl (by show 3072 + (1024 + (i 1).val) = (t.val + 16) * 256 + (y 1).val; omega)).trans (h_apply m c (ix2 r (i 1)) _ rfl rfl).symm)
  rw [pay_apply, ew, eu, G4_apply, r0]
  exact congrArg (fun z : EReal => z * taps (fun k => cw m c (ix2 k (i 1))) (col (u m c) (i 1)) (y 0))
    ((blk0 m c t y (ix2 (y 0) (⟨3072 + (i 1).val, by omega⟩ : Fin 7680)) rfl (by show 3072 + (i 1).val = (t.val + 12) * 256 + (y 1).val; omega)).trans (b_apply m c i _ (by show (y 0).val = _; omega) rfl).symm)

theorem flushed_4 (t : Fin cfg0.N) : (dats m 0 c).flushed 4 t = ((cfg0.win 4).blk t).view.read (Elt Ideal) (G4 m c) := by
  rw [Value.flushed4, out_4]
  funext y
  refine entry m c t y _ ?_ ?_
  · refine (Window.rect_emb_val (cfg0.win 4) t y 0).trans ?_
    rw [show (cfg0.win 4).index t = ![0, t.val] from index_4 t]; show 0 * 2048 + (y 0).val = (y 0).val; omega
  · refine (Window.rect_emb_val (cfg0.win 4) t y 1).trans ?_
    rw [show (cfg0.win 4).index t = ![0, t.val] from index_4 t]; rfl

theorem mem_4 (t : Fin cfg0.N) (i : S2048x512.Idx) :
    i ∈ ((cfg0.win 4).blk t).view.set ↔ ∀ a : Fin 2, win0_4.index t a * S2048x256.size a ≤ (i a).val ∧ (i a).val < win0_4.index t a * S2048x256.size a + S2048x256.size a := by
  show i ∈ ((View.whole main_v0).slice (win0_4.rect t)).set ↔ _
  rw [View.set_slice_whole, Rect.mem_set_unit]
  exact Iff.rfl

theorem onto_4 : ∀ p : Fin 2, ∃ t : Fin cfg0.N, (cfg0.win 4).flush t = true ∧ win0_4.index t = ![0, p.val] :=
  (by decide +kernel : ∀ p : Fin 2, ∃ t : Fin grid0.N, win0_4.flush t = true ∧ win0_4.index t = ![0, p.val])

theorem final_4 : (dats m 0 c).arrAt 4 cfg0.N = G4 m c :=
  (dats m 0 c).arrAt_eq_of_cover 4 (G4 m c) (fun t _ => flushed_4 m c t) fun i => by
    have h0 : (i 0).val < 2048 := (i 0).isLt
    have h1 : (i 1).val < 512 := (i 1).isLt
    obtain ⟨t, hf, ht⟩ := onto_4 ⟨(i 1).val / 256, by omega⟩
    refine ⟨t, hf, ?_⟩
    rw [mem_4]
    intro a
    match a with
    | ⟨0, _⟩ => rw [ht]; show 0 * 2048 ≤ (i 0).val ∧ (i 0).val < 0 * 2048 + 2048; omega
    | ⟨1, _⟩ => rw [ht]; show (i 1).val / 256 * 256 ≤ (i 1).val ∧ (i 1).val < (i 1).val / 256 * 256 + 256; omega

/-- The reference declares no semaphore. -/
theorem frame_reference : Cert.quiescent_Reference17Ideal := fun m ρ _ =>
  (θ_run _ _ _).mono (fun r h => ⟨fun c => (h c).2, sem_eq_zero_of_no_sems (by decide) r.2⟩) (Cert.Reference17Ideal.Value.run (F := Ideal) m ρ)

/-- The kernel and the reference end with equal results. -/
theorem algebraic : Cert.algebraic_Kernel17Ideal_Reference17Ideal := fun m ρ m' ρ' _ hargs => by
  refine ⟨fun c => G4 m c, (θ_run _ _ _).mono (fun r h c => ⟨(h c).1.trans (final_4 m c), (h c).2⟩) (Value.run_blocks m ρ),
    (θ_run _ _ _).mono (fun r h c => ⟨(h c).1.trans ?_, (h c).2⟩) (Cert.Reference17Ideal.Value.run (F := Ideal) m' ρ')⟩
  obtain ⟨e0, e1⟩ := hargs c
  rw [e0, e1]; rfl

end Cert.Kernel17Ideal.Mix

end
-- ==== Proof.Glu18.lean ====
/- The feed-forward's gated unit: the gate's short causal convolution with its bias, the gate times its own logistic, and
   the product with the value. The kernel's moved columns and the reference's are the column moved later, the taps' sums
   agree, and the activation is the same function of them. -/
module

public import proofs.«01_k».proof.Defs
public import proofs.«01_k».proof.Proof.Taps
public import proofs.«01_k».proof.Proof.Gen.Kernel18Ideal.Value
public import proofs.«01_k».proof.Proof.Gen.Reference18Ideal.Run
public import proofs.«01_k».proof.Proof.Gen.Reference18Ideal.Read
public import Idealize.ShloMosaic.Lib.Pipeline.Value
public import Idealize.ShloMosaic.Lib.Pipeline.ValueKit
public import Idealize.ShloMosaic.Lib.IdealHost
public import Idealize.ShloMosaic.Lib.KernelVsHost
public import Idealize.ShloMosaic.Lib.Pointwise
public import Idealize.ShloMosaic.Lib.WordCmp
public import Idealize.ShloMosaic.Lib.StableHlo.Run
public import Idealize.ShloMosaic.Lib.Tactic
public import Idealize.ShloMosaic.Lib.Quiescent

@[expose] public section

set_option maxRecDepth 65536

noncomputable section

open Idealize.ShloMosaic Idealize.ShloMosaic.TcCoe Idealize.SL.Sem
open Idealize.ShloMosaic.Pipeline (Dat Cfg Window)

namespace Cert.Kernel18Ideal.Glu

open Cert.Kernel18Ideal Cert.Kernel18Ideal.Gen
open Cert.Taps (later taps later_zero down_apply row0 row1 row2 col cat_apply)

theorem zeros : (![0, 0] : Fin 2 → Nat) = fun _ => 0 := funext fun a => by fin_cases a <;> rfl

theorem bias_apply (w : Vec Ideal S1x256 .f32) (y : S2048x256.Idx) : broadcastTo S2048x256 (shapeCast S1x256 w shapeCasts_S1x256_S1x256) broadcasts_S1x256_S2048x256 y = w (ix2 (0 : Fin 1) (y 1)) := by
  pointwise

/-- The gate before its activation: three taps and a bias. -/
abbrev gate (w : Fin 3 → EReal) (b : EReal) (f : Fin 2048 → EReal) (r : Fin 2048) : EReal := taps w f r + b

/-- The body's result, entry by entry. -/
theorem pay_apply (g : Vec Ideal S2048x256 .bf16) (w : Vec Ideal S3x256 .f32) (b : Vec Ideal S1x256 .f32) (v : Vec Ideal S2048x256 .bf16) (y : S2048x256.Idx) :
    k0_pay1 g w b v y = (gate (fun k => w (ix2 k (y 1))) (b (ix2 (0 : Fin 1) (y 1))) (fun r => g (ix2 r (y 1))) (y 0)
      * Ideal.logistic (gate (fun k => w (ix2 k (y 1))) (b (ix2 (0 : Fin 1) (y 1))) (fun r => g (ix2 r (y 1))) (y 0)) * v y : EReal) := by
  have d2 := down_apply 2 (by omega) (by omega) (fun z => (g z : EReal)) y
  have d1 := down_apply 1 (by omega) (by omega) (fun z => (g z : EReal)) y
  refine congrArg (fun z : EReal => z * Ideal.logistic z * v y) (congrArg₂ (fun a b : EReal => a + b) (congrArg₂ (fun a b : EReal => a + b) (congrArg₂ (fun a b : EReal => a + b)
    (congrArg₂ (fun a b : EReal => a * b) (row0 w y) d2) (congrArg₂ (fun a b : EReal => a * b) (row1 w y) d1)) (congrArg₂ (fun a b : EReal => a * b) (row2 w y) ?_)) (bias_apply b y))
  exact congrArg (fun z => (g z : EReal)) (eq_ix2 y)

theorem out_4 (x0 x1 : Vec Ideal S2048x256 .bf16) (x2 : Vec Ideal S3x256 .f32) (x3 : Vec Ideal S1x256 .f32) : out0_4 x0 x1 x2 x3 = k0_pay1 x0 x2 x3 x1 := by
  unfold out0_4
  rw [View.canon_unit_zero (S := S2048x256) zeros, View.ld_unit_zero zeros, View.ld_unit_zero zeros, View.ld_unit_zero zeros, View.ld_unit_zero zeros]

/-! ## The reference, entry by entry -/

variable (m : (ℓ : Loc nD τ sig) → Buf (Elt Ideal) ℓ) (ρ : Dev nD → PrngReg) (c : Dev nD)

abbrev up : Vec Ideal S2048x5632 .bf16 := m ((c : Thread nD τ).loc main_arg0)
abbrev cw : Vec Ideal S3x2816 .f32 := m ((c : Thread nD τ).loc main_arg1)
abbrev cb : Vec Ideal S2816 .f32 := m ((c : Thread nD τ).loc main_arg2)
/-- The column the taps read: the gate's half. -/
abbrev u : FVec Ideal S2048x2816 .f32 := Cert.Reference18Ideal.Read.val_main_v1 (F := Ideal) (up m c)
abbrev G4 : Buf (Elt Ideal) ((c : Thread nD τ).loc main_v1) :=
  Cert.Reference18Ideal.Read.val_main_v32 (F := Ideal) (up m c) (cw m c) (cb m c)

theorem ref_row0 (i : S2048x2816.Idx) : Cert.Reference18Ideal.Read.val_main_v9 (F := Ideal) (cw m c) i = cw m c (ix2 (0 : Fin 3) (i 1)) := by
  rw [Cert.Reference18Ideal.Read.val_main_v9_apply, Cert.Reference18Ideal.Read.val_main_v8_apply, Cert.Reference18Ideal.Read.val_main_v6_apply, Cert.Reference18Ideal.Read.val_main_v5_apply]
  exact congrArg (cw m c) (funext fun a => by match a with | ⟨0, _⟩ => rfl | ⟨1, _⟩ => exact Fin.ext (Nat.mod_eq_of_lt (i 1).isLt))
theorem ref_col0 (i : S2048x2816.Idx) : Cert.Reference18Ideal.Read.val_main_v7 (F := Ideal) (up m c) i = later 2 (col (u m c) (i 1)) (i 0) := by
  rw [Cert.Reference18Ideal.Read.val_main_v7_apply]
  exact cat_apply 2 (by omega) (u m c) _ (fun q => Ideal.ofBits_zero_f32) _ i _ (by show (i 0).val = (i 0).val + (2 - 2); omega) rfl

theorem ref_row1 (i : S2048x2816.Idx) : Cert.Reference18Ideal.Read.val_main_v17 (F := Ideal) (cw m c) i = cw m c (ix2 (1 : Fin 3) (i 1)) := by
  rw [Cert.Reference18Ideal.Read.val_main_v17_apply, Cert.Reference18Ideal.Read.val_main_v16_apply, Cert.Reference18Ideal.Read.val_main_v14_apply, Cert.Reference18Ideal.Read.val_main_v13_apply]
  exact congrArg (cw m c) (funext fun a => by match a with | ⟨0, _⟩ => rfl | ⟨1, _⟩ => exact Fin.ext (Nat.mod_eq_of_lt (i 1).isLt))
theorem ref_col1 (i : S2048x2816.Idx) : Cert.Reference18Ideal.Read.val_main_v15 (F := Ideal) (up m c) i = later 1 (col (u m c) (i 1)) (i 0) := by
  rw [Cert.Reference18Ideal.Read.val_main_v15_apply]
  exact cat_apply 1 (by omega) (u m c) _ (fun q => Ideal.ofBits_zero_f32) _ i _ (by show 1 + (i 0).val = (i 0).val + (2 - 1); omega) rfl

theorem ref_row2 (i : S2048x2816.Idx) : Cert.Reference18Ideal.Read.val_main_v24 (F := Ideal) (cw m c) i = cw m c (ix2 (2 : Fin 3) (i 1)) := by
  rw [Cert.Reference18Ideal.Read.val_main_v24_apply, Cert.Reference18Ideal.Read.val_main_v23_apply, Cert.Reference18Ideal.Read.val_main_v21_apply, Cert.Reference18Ideal.Read.val_main_v20_apply]
  exact congrArg (cw m c) (funext fun a => by match a with | ⟨0, _⟩ => rfl | ⟨1, _⟩ => exact Fin.ext (Nat.mod_eq_of_lt (i 1).isLt))
theorem ref_col2 (i : S2048x2816.Idx) : Cert.Reference18Ideal.Read.val_main_v22 (F := Ideal) (up m c) i = later 0 (col (u m c) (i 1)) (i 0) := by
  rw [Cert.Reference18Ideal.Read.val_main_v22_apply]
  exact cat_apply 0 (by omega) (u m c) _ (fun q => Ideal.ofBits_zero_f32) _ i _ (by show 2 + (i 0).val = (i 0).val + (2 - 0); omega) rfl

theorem ref_bias (i : S2048x2816.Idx) : Cert.Reference18Ideal.Read.val_main_v28 (F := Ideal) (cb m c) i = cb m c (ix1 (i 1)) := by
  rw [Cert.Reference18Ideal.Read.val_main_v28_apply, Cert.Reference18Ideal.Read.val_main_v27_apply]
  exact congrArg (cb m c) (funext fun a => by match a with | ⟨0, _⟩ => rfl)

theorem gate_apply (i : S2048x2816.Idx) : Cert.Reference18Ideal.Read.val_main_v29 (F := Ideal) (up m c) (cw m c) (cb m c) i = gate (fun k => cw m c (ix2 k (i 1))) (cb m c (ix1 (i 1))) (col (u m c) (i 1)) (i 0) := by
  exact congrArg₂ (fun a b : EReal => a + b) (congrArg₂ (fun a b : EReal => a + b) (congrArg₂ (fun a b : EReal => a + b) (((congrArg₂ (fun a b : EReal => a + b) (Ideal.ofBits_zero_f32 : _ = (0 : EReal))
    (congrArg₂ (fun a b : EReal => a * b) (ref_row0 m c i) (ref_col0 m c i))).trans (zero_add _))) (congrArg₂ (fun a b : EReal => a * b) (ref_row1 m c i) (ref_col1 m c i))) (congrArg₂ (fun a b : EReal => a * b) (ref_row2 m c i) ((ref_col2 m c i).trans (later_zero _ _)))) (ref_bias m c i)

/-- The reference's logistic, spelled out there, is the named one. -/
theorem sigmoid_apply (i : S2048x2816.Idx) : Cert.Reference18Ideal.Read.val_main_call0_v5 (F := Ideal) (up m c) (cw m c) (cb m c) i = Ideal.logistic (Cert.Reference18Ideal.Read.val_main_v29 (F := Ideal) (up m c) (cw m c) (cb m c) i) := by
  unfold Ideal.logistic
  rw [← Ideal.ofBits_one_f32]
  rfl

theorem G4_apply (i : S2048x2816.Idx) : G4 m c i = (gate (fun k => cw m c (ix2 k (i 1))) (cb m c (ix1 (i 1))) (col (u m c) (i 1)) (i 0)
    * Ideal.logistic (gate (fun k => cw m c (ix2 k (i 1))) (cb m c (ix1 (i 1))) (col (u m c) (i 1)) (i 0)) * Cert.Reference18Ideal.Read.val_main_v2 (F := Ideal) (up m c) i : EReal) :=
  congrArg (fun z : EReal => z * Cert.Reference18Ideal.Read.val_main_v2 (F := Ideal) (up m c) i) (congrArg₂ (fun a b : EReal => a * b) (gate_apply m c i) ((sigmoid_apply m c i).trans (congrArg Ideal.logistic (gate_apply m c i))))

theorem g_apply (i : S2048x2816.Idx) (q : S2048x5632.Idx) (e0 : (q 0).val = (i 0).val) (e1 : (q 1).val = (i 1).val) : u m c i = up m c q := by
  show Cert.Reference18Ideal.Read.val_main_v1 (F := Ideal) (up m c) i = _
  rw [Cert.Reference18Ideal.Read.val_main_v1_apply]
  exact congrArg (up m c) (funext fun a => Fin.ext (by match a with | ⟨0, _⟩ => exact e0.symm | ⟨1, _⟩ => exact e1.symm))
theorem v_apply (i : S2048x2816.Idx) (q : S2048x5632.Idx) (e0 : (q 0).val = (i 0).val) (e1 : (q 1).val = 2816 + (i 1).val) : Cert.Reference18Ideal.Read.val_main_v2 (F := Ideal) (up m c) i = up m c q := by
  rw [Cert.Reference18Ideal.Read.val_main_v2_apply]
  exact congrArg (up m c) (funext fun a => Fin.ext (by match a with | ⟨0, _⟩ => exact e0.symm | ⟨1, _⟩ => (refine Eq.trans ?_ e1.symm; rfl)))

/-! ## The blocks -/

theorem index_0 : ∀ t : Fin grid0.N, win0_0.index t = ![0, t.val] := by decide +kernel
theorem index_1 : ∀ t : Fin grid0.N, win0_1.index t = ![0, t.val + 11] := by decide +kernel
theorem index_2 : ∀ t : Fin grid0.N, win0_2.index t = ![0, t.val] := by decide +kernel
theorem index_3 : ∀ t : Fin grid0.N, win0_3.index t = ![0, t.val] := by decide +kernel
theorem index_4 : ∀ t : Fin grid0.N, win0_4.index t = ![0, t.val] := by decide +kernel

theorem blk0 (t : Fin cfg0.N) (y : S2048x256.Idx) (i : S2048x5632.Idx) (e0 : (i 0).val = (y 0).val) (e1 : (i 1).val = (t.val) * 256 + (y 1).val) :
    (iblk m c 0 t : Vec Ideal S2048x256 .bf16) y = up m c i := by
  refine (congrFun (V_main_arg0 m c) _).trans (congrArg (up m c) (funext fun a => Fin.ext ?_))
  match a with
  | ⟨0, _⟩ => refine (Window.rect_emb_val (cfg0.win 0) t _ 0).trans ?_
              rw [show (cfg0.win 0).index t = ![0, t.val] from index_0 t]; refine Eq.trans ?_ e0.symm; show 0 * 2048 + (y 0).val = (y 0).val; omega
  | ⟨1, _⟩ => refine (Window.rect_emb_val (cfg0.win 0) t _ 1).trans ?_
              rw [show (cfg0.win 0).index t = ![0, t.val] from index_0 t]; exact e1.symm

theorem blk1 (t : Fin cfg0.N) (y : S2048x256.Idx) (i : S2048x5632.Idx) (e0 : (i 0).val = (y 0).val) (e1 : (i 1).val = (t.val + 11) * 256 + (y 1).val) :
    (iblk m c 1 t : Vec Ideal S2048x256 .bf16) y = up m c i := by
  refine (congrFun (V_main_arg0 m c) _).trans (congrArg (up m c) (funext fun a => Fin.ext ?_))
  match a with
  | ⟨0, _⟩ => refine (Window.rect_emb_val (cfg0.win 1) t _ 0).trans ?_
              rw [show (cfg0.win 1).index t = ![0, t.val + 11] from index_1 t]; refine Eq.trans ?_ e0.symm; show 0 * 2048 + (y 0).val = (y 0).val; omega
  | ⟨1, _⟩ => refine (Window.rect_emb_val (cfg0.win 1) t _ 1).trans ?_
              rw [show (cfg0.win 1).index t = ![0, t.val + 11] from index_1 t]; exact e1.symm

theorem blk2 (t : Fin cfg0.N) (y : S3x256.Idx) (i : S3x2816.Idx) (e0 : (i 0).val = (y 0).val) (e1 : (i 1).val = (t.val) * 256 + (y 1).val) :
    (iblk m c 2 t : Vec Ideal S3x256 .f32) y = cw m c i := by
  refine (congrFun (V_main_arg1 m c) _).trans (congrArg (cw m c) (funext fun a => Fin.ext ?_))
  match a with
  | ⟨0, _⟩ => refine (Window.rect_emb_val (cfg0.win 2) t _ 0).trans ?_
              rw [show (cfg0.win 2).index t = ![0, t.val] from index_2 t]; refine Eq.trans ?_ e0.symm; show 0 * 3 + (y 0).val = (y 0).val; omega
  | ⟨1, _⟩ => refine (Window.rect_emb_val (cfg0.win 2) t _ 1).trans ?_
              rw [show (cfg0.win 2).index t = ![0, t.val] from index_2 t]; exact e1.symm

/-- The bias as a row is the bias. -/
theorem V_cb (i : S1x2816.Idx) : V m c main_v0 i = cb m c (ix1 (i 1)) := by
  have e : V m c main_v0 = (shapeCast S1x2816 (cb m c) shapeCasts_S2816_S1x2816 : FVec Ideal S1x2816 .f32) := by
    unfold V; after_results
    try rfl
  rw [e]
  pointwise
theorem blk3 (t : Fin cfg0.N) (y : S1x256.Idx) (q : Fin 2816) (e1 : q.val = t.val * 256 + (y 1).val) :
    (iblk m c 3 t : Vec Ideal S1x256 .f32) y = cb m c (ix1 q) := by
  refine (V_cb m c _).trans (congrArg (fun q => cb m c (ix1 q)) (Fin.ext ?_))
  refine (Window.rect_emb_val (cfg0.win 3) t _ 1).trans ?_
  rw [show (cfg0.win 3).index t = ![0, t.val] from index_3 t]; exact e1.symm

/-- What a point writes back is the reference's, entry by entry. -/
theorem entry (t : Fin cfg0.N) (y : S2048x256.Idx) (i : S2048x2816.Idx) (e0 : (i 0).val = (y 0).val) (e1 : (i 1).val = t.val * 256 + (y 1).val) :
    k0_pay1 (iblk m c 0 t) (iblk m c 2 t) (iblk m c 3 t) (iblk m c 1 t) y = G4 m c i := by
  have h0 : (i 0).val < 2048 := (i 0).isLt
  have h1 : (i 1).val < 2816 := (i 1).isLt
  have r0 : i 0 = y 0 := Fin.ext e0
  have ew : (fun k : Fin 3 => (iblk m c 2 t : Vec Ideal S3x256 .f32) (ix2 k (y 1))) = fun k => cw m c (ix2 k (i 1)) := funext fun k => blk2 m c t (ix2 k (y 1)) (ix2 k (i 1)) rfl e1
  have eu : (fun r : Fin 2048 => ((iblk m c 0 t : Vec Ideal S2048x256 .bf16) (ix2 r (y 1)) : EReal)) = col (u m c) (i 1) := funext fun r =>
    (blk0 m c t (ix2 r (y 1)) (ix2 r (⟨(i 1).val, by omega⟩ : Fin 5632)) rfl (by show (i 1).val = t.val * 256 + (y 1).val; omega)).trans (g_apply m c (ix2 r (i 1)) _ rfl rfl).symm
  have eb : (iblk m c 3 t : Vec Ideal S1x256 .f32) (ix2 (0 : Fin 1) (y 1)) = cb m c (ix1 (i 1)) := blk3 m c t (ix2 (0 : Fin 1) (y 1)) (i 1) e1
  have ev : (iblk m c 1 t : Vec Ideal S2048x256 .bf16) y = Cert.Reference18Ideal.Read.val_main_v2 (F := Ideal) (up m c) i :=
    (blk1 m c t y (ix2 (y 0) (⟨2816 + (i 1).val, by omega⟩ : Fin 5632)) rfl (by show 2816 + (i 1).val = (t.val + 11) * 256 + (y 1).val; omega)).trans (v_apply m c i _ (by show (y 0).val = _; omega) rfl).symm
  rw [pay_apply, ew, eu, eb, ev, G4_apply, r0]

theorem flushed_4 (t : Fin cfg0.N) : (dats m 0 c).flushed 4 t = ((cfg0.win 4).blk t).view.read (Elt Ideal) (G4 m c) := by
  rw [Value.flushed4, out_4]
  funext y
  refine entry m c t y _ ?_ ?_
  · refine (Window.rect_emb_val (cfg0.win 4) t y 0).trans ?_
    rw [show (cfg0.win 4).index t = ![0, t.val] from index_4 t]; show 0 * 2048 + (y 0).val = (y 0).val; omega
  · refine (Window.rect_emb_val (cfg0.win 4) t y 1).trans ?_
    rw [show (cfg0.win 4).index t = ![0, t.val] from index_4 t]; rfl

theorem mem_4 (t : Fin cfg0.N) (i : S2048x2816.Idx) :
    i ∈ ((cfg0.win 4).blk t).view.set ↔ ∀ a : Fin 2, win0_4.index t a * S2048x256.size a ≤ (i a).val ∧ (i a).val < win0_4.index t a * S2048x256.size a + S2048x256.size a := by
  show i ∈ ((View.whole main_v1).slice (win0_4.rect t)).set ↔ _
  rw [View.set_slice_whole, Rect.mem_set_unit]
  exact Iff.rfl

theorem onto_4 : ∀ p : Fin 11, ∃ t : Fin cfg0.N, (cfg0.win 4).flush t = true ∧ win0_4.index t = ![0, p.val] :=
  (by decide +kernel : ∀ p : Fin 11, ∃ t : Fin grid0.N, win0_4.flush t = true ∧ win0_4.index t = ![0, p.val])

theorem final_4 : (dats m 0 c).arrAt 4 cfg0.N = G4 m c :=
  (dats m 0 c).arrAt_eq_of_cover 4 (G4 m c) (fun t _ => flushed_4 m c t) fun i => by
    have h0 : (i 0).val < 2048 := (i 0).isLt
    have h1 : (i 1).val < 2816 := (i 1).isLt
    obtain ⟨t, hf, ht⟩ := onto_4 ⟨(i 1).val / 256, by omega⟩
    refine ⟨t, hf, ?_⟩
    rw [mem_4]
    intro a
    match a with
    | ⟨0, _⟩ => rw [ht]; show 0 * 2048 ≤ (i 0).val ∧ (i 0).val < 0 * 2048 + 2048; omega
    | ⟨1, _⟩ => rw [ht]; show (i 1).val / 256 * 256 ≤ (i 1).val ∧ (i 1).val < (i 1).val / 256 * 256 + 256; omega

/-- The reference declares no semaphore. -/
theorem frame_reference : Cert.quiescent_Reference18Ideal := fun m ρ _ =>
  (θ_run _ _ _).mono (fun r h => ⟨fun c => (h c).2, sem_eq_zero_of_no_sems (by decide) r.2⟩) (Cert.Reference18Ideal.Value.run (F := Ideal) m ρ)

/-- The kernel and the reference end with equal results. -/
theorem algebraic : Cert.algebraic_Kernel18Ideal_Reference18Ideal := fun m ρ m' ρ' _ hargs => by
  refine ⟨fun c => G4 m c, (θ_run _ _ _).mono (fun r h c => ⟨(h c).1.trans (final_4 m c), (h c).2⟩) (Value.run_blocks m ρ),
    (θ_run _ _ _).mono (fun r h c => ⟨(h c).1.trans ?_, (h c).2⟩) (Cert.Reference18Ideal.Value.run (F := Ideal) m' ρ')⟩
  obtain ⟨e0, e1, e2⟩ := hargs c
  rw [Cert.Reference18Ideal.Read.val_main_v32_eq]
  rw [e0, e1, e2]

end Cert.Kernel18Ideal.Glu

end
-- ==== Proof.lean ====
/- The claims. Of the stick-breaking attention's gradient: both frames of the kernel, with and without the precondition,
   the reference's, that the idealization rewrites nothing, and that on finite inputs the kernel's three gradients are
   the reference's. Of each of the eleven matrix products of the backward pass: the frames, that the idealization rewrites
   nothing, and that on all inputs the kernel's result is the reference's. The same of three products of the forward
   pass, the one with the residual and the two whose operand is normed on the way, of the merge of the three branches,
   with its five results, and of the two short convolutions with their products. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Gen.ReferenceIdeal.Read
public import proofs.«01_k».proof.Proof.Frames
public import proofs.«01_k».proof.Proof.Bits.Frames
public import proofs.«01_k».proof.Proof.Value
public import proofs.«01_k».proof.Proof.ProductFrames
public import proofs.«01_k».proof.Proof.Product2
public import proofs.«01_k».proof.Proof.Product3
public import proofs.«01_k».proof.Proof.Product4
public import proofs.«01_k».proof.Proof.Product5
public import proofs.«01_k».proof.Proof.Product6
public import proofs.«01_k».proof.Proof.Product7
public import proofs.«01_k».proof.Proof.Product8
public import proofs.«01_k».proof.Proof.Product9
public import proofs.«01_k».proof.Proof.Product10
public import proofs.«01_k».proof.Proof.Product11
public import proofs.«01_k».proof.Proof.Product12
public import proofs.«01_k».proof.Proof.NormValue13
public import proofs.«01_k».proof.Proof.NormValue14
public import proofs.«01_k».proof.Proof.Product15
public import proofs.«01_k».proof.Proof.Merge16
public import proofs.«01_k».proof.Proof.Mix17
public import proofs.«01_k».proof.Proof.Glu18
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.KernelIdeal.SB.pre_facts,
  Cert.Kernel.SB.frame_kernel, Cert.KernelIdeal.SB.frame_ideal, fun m ρ _ => Cert.KernelIdeal.SB.frame_ideal m ρ trivial,
  Cert.ReferenceIdeal.SB.frame_reference, fun m ρ _ => Cert.ReferenceIdeal.SB.frame_reference m ρ trivial,
  fun m ρ _ => Cert.Kernel2.Gen.frame m ρ, fun m ρ _ => Cert.Kernel2Ideal.Gen.frame m ρ, Cert.Kernel2Ideal.Product.frame_reference,
  fun m ρ _ => Cert.Kernel3.Gen.frame m ρ, fun m ρ _ => Cert.Kernel3Ideal.Gen.frame m ρ, Cert.Kernel3Ideal.Product.frame_reference,
  fun m ρ _ => Cert.Kernel4.Gen.frame m ρ, fun m ρ _ => Cert.Kernel4Ideal.Gen.frame m ρ, Cert.Kernel4Ideal.Product.frame_reference,
  fun m ρ _ => Cert.Kernel5.Gen.frame m ρ, fun m ρ _ => Cert.Kernel5Ideal.Gen.frame m ρ, Cert.Kernel5Ideal.Product.frame_reference,
  fun m ρ _ => Cert.Kernel6.Gen.frame m ρ, fun m ρ _ => Cert.Kernel6Ideal.Gen.frame m ρ, Cert.Kernel6Ideal.Product.frame_reference,
  fun m ρ _ => Cert.Kernel7.Gen.frame m ρ, fun m ρ _ => Cert.Kernel7Ideal.Gen.frame m ρ, Cert.Kernel7Ideal.Product.frame_reference,
  fun m ρ _ => Cert.Kernel8.Gen.frame m ρ, fun m ρ _ => Cert.Kernel8Ideal.Gen.frame m ρ, Cert.Kernel8Ideal.Product.frame_reference,
  fun m ρ _ => Cert.Kernel9.Gen.frame m ρ, fun m ρ _ => Cert.Kernel9Ideal.Gen.frame m ρ, Cert.Kernel9Ideal.Product.frame_reference,
  fun m ρ _ => Cert.Kernel10.Gen.frame m ρ, fun m ρ _ => Cert.Kernel10Ideal.Gen.frame m ρ, Cert.Kernel10Ideal.Product.frame_reference,
  fun m ρ _ => Cert.Kernel11.Gen.frame m ρ, fun m ρ _ => Cert.Kernel11Ideal.Gen.frame m ρ, Cert.Kernel11Ideal.Product.frame_reference,
  fun m ρ _ => Cert.Kernel12.Gen.frame m ρ, fun m ρ _ => Cert.Kernel12Ideal.Gen.frame m ρ, Cert.Kernel12Ideal.Product.frame_reference,
  Cert.Kernel13Ideal.Norm.frame_kernel, Cert.Kernel13Ideal.Norm.frame_ideal, Cert.Kernel13Ideal.Norm.frame_reference,
  Cert.Kernel14Ideal.Norm.frame_kernel, Cert.Kernel14Ideal.Norm.frame_ideal, Cert.Kernel14Ideal.Norm.frame_reference,
  fun m ρ _ => Cert.Kernel15.Gen.frame m ρ, fun m ρ _ => Cert.Kernel15Ideal.Gen.frame m ρ, Cert.Kernel15Ideal.Product.frame_reference,
  fun m ρ _ => Cert.Kernel16.Gen.frame m ρ, fun m ρ _ => Cert.Kernel16Ideal.Gen.frame m ρ, Cert.Kernel16Ideal.Merge.frame_reference,
  fun m ρ _ => Cert.Kernel17.Gen.frame m ρ, fun m ρ _ => Cert.Kernel17Ideal.Gen.frame m ρ, Cert.Kernel17Ideal.Mix.frame_reference,
  fun m ρ _ => Cert.Kernel18.Gen.frame m ρ, fun m ρ _ => Cert.Kernel18Ideal.Gen.frame m ρ, Cert.Kernel18Ideal.Glu.frame_reference,
  trivial, Cert.KernelIdeal.SB.algebraic,
  trivial, Cert.Kernel2Ideal.Product.algebraic,
  trivial, Cert.Kernel3Ideal.Product.algebraic,
  trivial, Cert.Kernel4Ideal.Product.algebraic,
  trivial, Cert.Kernel5Ideal.Product.algebraic,
  trivial, Cert.Kernel6Ideal.Product.algebraic,
  trivial, Cert.Kernel7Ideal.Product.algebraic,
  trivial, Cert.Kernel8Ideal.Product.algebraic,
  trivial, Cert.Kernel9Ideal.Product.algebraic,
  trivial, Cert.Kernel10Ideal.Product.algebraic,
  trivial, Cert.Kernel11Ideal.Product.algebraic,
  trivial, Cert.Kernel12Ideal.Product.algebraic,
  trivial, Cert.Kernel13Ideal.Norm.algebraic,
  trivial, Cert.Kernel14Ideal.Norm.algebraic,
  trivial, Cert.Kernel15Ideal.Product.algebraic,
  trivial, Cert.Kernel16Ideal.Merge.algebraic,
  trivial, Cert.Kernel17Ideal.Mix.algebraic,
  trivial, Cert.Kernel18Ideal.Glu.algebraic⟩

end Cert.Proof

end
